-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5)
      ∧ r.2.mem ((c.tc : Thread Cert.Kernel35.nD Cert.Kernel35.τ).loc Cert.Kernel35.main_arg6) = m ((c.tc : Thread Cert.Kernel35.nD Cert.Kernel35.τ).loc Cert.Kernel35.main_arg6)
      ∧ r.2.mem ((c.tc : Thread Cert.Kernel35.nD Cert.Kernel35.τ).loc Cert.Kernel35.main_arg7) = m ((c.tc : Thread Cert.Kernel35.nD Cert.Kernel35.τ).loc Cert.Kernel35.main_arg7))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
      ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6)
      ∧ r.2.mem ((c.tc : Thread Cert.Kernel35Ideal.nD Cert.Kernel35Ideal.τ).loc Cert.Kernel35Ideal.main_arg7) = m ((c.tc : Thread Cert.Kernel35Ideal.nD Cert.Kernel35Ideal.τ).loc Cert.Kernel35Ideal.main_arg7))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5)
      ∧ r.2.mem ((c.tc : Thread Cert.Reference35Ideal.nD Cert.Reference35Ideal.τ).loc Cert.Reference35Ideal.main_arg6) = m ((c.tc : Thread Cert.Reference35Ideal.nD Cert.Reference35Ideal.τ).loc Cert.Reference35Ideal.main_arg6)
      ∧ r.2.mem ((c.tc : Thread Cert.Reference35Ideal.nD Cert.Reference35Ideal.τ).loc Cert.Reference35Ideal.main_arg7) = m ((c.tc : Thread Cert.Reference35Ideal.nD Cert.Reference35Ideal.τ).loc Cert.Reference35Ideal.main_arg7))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v0_1) i = v1 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v0_2) i = v2 c i)
          ∧ (∀ i : (⟨3, ![16, 1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v107) i = v0 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v105) i = v1 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v104) i = v2 c i)
          ∧ (∀ i : (⟨3, ![16, 1, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.ReferenceIdeal.nD Cert.ReferenceIdeal.τ).loc Cert.ReferenceIdeal.main_v103) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v8) = v0 c
          ∧ r.2.mem ((c.tc : Thread Cert.Reference33Ideal.nD Cert.Reference33Ideal.τ).loc Cert.Reference33Ideal.main_v9) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v34) = v0 c
          ∧ r.2.mem ((c.tc : Thread Cert.Reference34Ideal.nD Cert.Reference34Ideal.τ).loc Cert.Reference34Ideal.main_v17) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)
      ∧ m' ((c.tc : Thread Cert.Reference35Ideal.nD Cert.Reference35Ideal.τ).loc Cert.Reference35Ideal.main_arg6) = m ((c.tc : Thread Cert.Kernel35Ideal.nD Cert.Kernel35Ideal.τ).loc Cert.Kernel35Ideal.main_arg6)
      ∧ m' ((c.tc : Thread Cert.Reference35Ideal.nD Cert.Reference35Ideal.τ).loc Cert.Reference35Ideal.main_arg7) = m ((c.tc : Thread Cert.Kernel35Ideal.nD Cert.Kernel35Ideal.τ).loc Cert.Kernel35Ideal.main_arg7)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)) (v4 : (c : Dev Cert.Kernel35Ideal.nD) → Buf (Elt Ideal) ((c.tc : Thread Cert.Kernel35Ideal.nD Cert.Kernel35Ideal.τ).loc Cert.Kernel35Ideal.main_v0_4)) (v5 : (c : Dev Cert.Kernel35Ideal.nD) → Buf (Elt Ideal) ((c.tc : Thread Cert.Kernel35Ideal.nD Cert.Kernel35Ideal.τ).loc Cert.Kernel35Ideal.main_v0_5)) (v6 : (c : Dev Cert.Kernel35Ideal.nD) → Buf (Elt Ideal) ((c.tc : Thread Cert.Kernel35Ideal.nD Cert.Kernel35Ideal.τ).loc Cert.Kernel35Ideal.main_v0_6)) (v7 : (c : Dev Cert.Kernel35Ideal.nD) → Buf (Elt Ideal) ((c.tc : Thread Cert.Kernel35Ideal.nD Cert.Kernel35Ideal.τ).loc Cert.Kernel35Ideal.main_v0_7)) (v8 : (c : Dev Cert.Kernel35Ideal.nD) → Buf (Elt Ideal) ((c.tc : Thread Cert.Kernel35Ideal.nD Cert.Kernel35Ideal.τ).loc Cert.Kernel35Ideal.main_v0_8)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_v0_4) = v4 c
          ∧ r.2.mem ((c.tc : Thread Cert.Kernel35Ideal.nD Cert.Kernel35Ideal.τ).loc Cert.Kernel35Ideal.main_v0_5) = v5 c
          ∧ r.2.mem ((c.tc : Thread Cert.Kernel35Ideal.nD Cert.Kernel35Ideal.τ).loc Cert.Kernel35Ideal.main_v0_6) = v6 c
          ∧ r.2.mem ((c.tc : Thread Cert.Kernel35Ideal.nD Cert.Kernel35Ideal.τ).loc Cert.Kernel35Ideal.main_v0_7) = v7 c
          ∧ r.2.mem ((c.tc : Thread Cert.Kernel35Ideal.nD Cert.Kernel35Ideal.τ).loc Cert.Kernel35Ideal.main_v0_8) = v8 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
          ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6)
          ∧ r.2.mem ((c.tc : Thread Cert.Kernel35Ideal.nD Cert.Kernel35Ideal.τ).loc Cert.Kernel35Ideal.main_arg7) = m ((c.tc : Thread Cert.Kernel35Ideal.nD Cert.Kernel35Ideal.τ).loc Cert.Kernel35Ideal.main_arg7))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v61) = v0 c
          ∧ r.2.mem ((c.tc : Thread Cert.Reference35Ideal.nD Cert.Reference35Ideal.τ).loc Cert.Reference35Ideal.main_v62) = v1 c
          ∧ r.2.mem ((c.tc : Thread Cert.Reference35Ideal.nD Cert.Reference35Ideal.τ).loc Cert.Reference35Ideal.main_v63) = v2 c
          ∧ r.2.mem ((c.tc : Thread Cert.Reference35Ideal.nD Cert.Reference35Ideal.τ).loc Cert.Reference35Ideal.main_v64) = v3 c
          ∧ r.2.mem ((c.tc : Thread Cert.Reference35Ideal.nD Cert.Reference35Ideal.τ).loc Cert.Reference35Ideal.main_v65) = v4 c
          ∧ r.2.mem ((c.tc : Thread Cert.Reference35Ideal.nD Cert.Reference35Ideal.τ).loc Cert.Reference35Ideal.main_v66) = v5 c
          ∧ r.2.mem ((c.tc : Thread Cert.Reference35Ideal.nD Cert.Reference35Ideal.τ).loc Cert.Reference35Ideal.main_v60) = v6 c
          ∧ r.2.mem ((c.tc : Thread Cert.Reference35Ideal.nD Cert.Reference35Ideal.τ).loc Cert.Reference35Ideal.main_v55) = v7 c
          ∧ r.2.mem ((c.tc : Thread Cert.Reference35Ideal.nD Cert.Reference35Ideal.τ).loc Cert.Reference35Ideal.main_v50) = v8 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5)
          ∧ r.2.mem ((c.tc : Thread Cert.Reference35Ideal.nD Cert.Reference35Ideal.τ).loc Cert.Reference35Ideal.main_arg6) = m' ((c.tc : Thread Cert.Reference35Ideal.nD Cert.Reference35Ideal.τ).loc Cert.Reference35Ideal.main_arg6)
          ∧ r.2.mem ((c.tc : Thread Cert.Reference35Ideal.nD Cert.Reference35Ideal.τ).loc Cert.Reference35Ideal.main_arg7) = m' ((c.tc : Thread Cert.Reference35Ideal.nD Cert.Reference35Ideal.τ).loc Cert.Reference35Ideal.main_arg7))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v34) = v0 c
          ∧ r.2.mem ((c.tc : Thread Cert.Reference36Ideal.nD Cert.Reference36Ideal.τ).loc Cert.Reference36Ideal.main_v17) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v34) = v0 c
          ∧ r.2.mem ((c.tc : Thread Cert.Reference37Ideal.nD Cert.Reference37Ideal.τ).loc Cert.Reference37Ideal.main_v17) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v14) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v53) = v0 c
          ∧ r.2.mem ((c.tc : Thread Cert.Reference39Ideal.nD Cert.Reference39Ideal.τ).loc Cert.Reference39Ideal.main_v29) = v1 c
          ∧ r.2.mem ((c.tc : Thread Cert.Reference39Ideal.nD Cert.Reference39Ideal.τ).loc Cert.Reference39Ideal.main_v26) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v49) = v0 c
          ∧ r.2.mem ((c.tc : Thread Cert.Reference40Ideal.nD Cert.Reference40Ideal.τ).loc Cert.Reference40Ideal.main_v48) = v1 c
          ∧ r.2.mem ((c.tc : Thread Cert.Reference40Ideal.nD Cert.Reference40Ideal.τ).loc Cert.Reference40Ideal.main_v32) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite : Cert.Pre_finite.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== On_written.lean ====
abbrev S2048x3072 : Shape := ⟨2, ![2048, 3072]⟩
abbrev S16x1x2048 : Shape := ⟨3, ![16, 1, 2048]⟩
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  bcast_S_S16x1x2048 : S_.BroadcastsInDim S16x1x2048 (![] : Fin 0 → Fin S16x1x2048.rank)

variable [Facts]

def fn {F : FTy → Type} [FloatOps F] (main_arg0 : FVec F S2048x3072 .bf16) (main_arg1 : FVec F S16x1x2048 .f32) (main_arg2 : FVec F S2048x1024 .f32) : IVec S2048x1024 1 × IVec S2048x1024 1 × IVec S2048x1024 1 × IVec S16x1x2048 1 :=
  let main_v0 : IVec S2048x1024 32 := iotaInDim S2048x1024 32 0
  let main_c : IVec S_ 32 := constantI S_ 32 1792#32
  let main_v1 : IVec S2048x1024 32 := broadcastInDim S2048x1024 ![] bcast_S_S2048x1024 main_c
  let main_v2 : IVec S2048x1024 1 := cmpi .sge main_v0 main_v1
  let main_c_0 : IVec S_ 32 := constantI S_ 32 0#32
  let main_v3 : IVec S2048x1024 32 := broadcastInDim S2048x1024 ![] bcast_S_S2048x1024 main_c_0
  let main_v4 : IVec S2048x1024 1 := cmpi .sge main_v0 main_v3
  let main_c_1 : IVec S_ 32 := constantI S_ 32 0#32
  let main_v5 : IVec S2048x1024 32 := broadcastInDim S2048x1024 ![] bcast_S_S2048x1024 main_c_1
  let main_v6 : IVec S2048x1024 1 := cmpi .sge main_v0 main_v5
  let main_v7 : IVec S16x1x2048 32 := iotaInDim S16x1x2048 32 0
  let main_c_2 : IVec S_ 32 := constantI S_ 32 0#32
  let main_v8 : IVec S16x1x2048 32 := broadcastInDim S16x1x2048 ![] bcast_S_S16x1x2048 main_c_2
  let main_v9 : IVec S16x1x2048 1 := cmpi .sge main_v7 main_v8
  (main_v2, main_v4, main_v6, main_v9)
-- ==== Pre_finite.lean ====
abbrev S2048x3072 : Shape := ⟨2, ![2048, 3072]⟩
abbrev S16x1x2048 : Shape := ⟨3, ![16, 1, 2048]⟩
abbrev S2048x1024 : Shape := ⟨2, ![2048, 1024]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S16x1x2048 : S_.BroadcastsInDim S16x1x2048 (![] : Fin 0 → Fin S16x1x2048.rank)
  reducesTo_S16x1x2048_S_d0_1_2 : S16x1x2048.ReducesTo [0, 1, 2] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x3072 .bf16) (main_arg1 : FVec F S16x1x2048 .f32) (main_arg2 : FVec F S2048x1024 .f32) : IVec S_ 1 :=
  let main_v0 : FVec F S2048x3072 .bf16 := Host.absf main_arg0
  let main_cst : FVec F S_ .bf16 := constant S_ .bf16 0x7F80#16
  let main_v1 : FVec F S2048x3072 .bf16 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S16x1x2048 .f32 := Host.absf main_arg1
  let main_cst_0 : FVec F S_ .f32 := constant S_ .f32 0x7F800000#32
  let main_v5 : FVec F S16x1x2048 .f32 := broadcastInDim S16x1x2048 ![] bcast_S_S16x1x2048 main_cst_0
  let main_v6 : IVec S16x1x2048 1 := cmpf .olt main_v4 main_v5
  let main_c_1 : IVec S_ 1 := constantI S_ 1 1#1
  let main_v7 : IVec S_ 1 := (fun x v => Host.reduce IntOp.andi x v reducesTo_S16x1x2048_S_d0_1_2 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Kernel.lean ====
abbrev S2048x3072 : Shape := ⟨2, ![2048, 3072]⟩
abbrev S16x1x2048 : Shape := ⟨3, ![16, 1, 2048]⟩
abbrev S2048x1024 : Shape := ⟨2, ![2048, 1024]⟩
abbrev S256x128 : Shape := ⟨2, ![256, 128]⟩
abbrev S2048x128 : Shape := ⟨2, ![2048, 128]⟩
abbrev S2x1x2048 : Shape := ⟨3, ![2, 1, 2048]⟩
abbrev S1x128 : Shape := ⟨2, ![1, 128]⟩
abbrev S256x2048 : Shape := ⟨2, ![256, 2048]⟩
abbrev S1x1x2048 : Shape := ⟨3, ![1, 1, 2048]⟩
abbrev S1x2048 : Shape := ⟨2, ![1, 2048]⟩
abbrev S1x1 : Shape := ⟨2, ![1, 1]⟩
abbrev S256 : Shape := ⟨1, ![256]⟩
abbrev S256x1 : Shape := ⟨2, ![256, 1]⟩
abbrev S128x2048 : Shape := ⟨2, ![128, 2048]⟩
abbrev S2048 : Shape := ⟨1, ![2048]⟩

abbrev nBuf : Space → Nat
  | .hbm => 7
  | .vmem => 18
  | .smem => 0
  | _ => 0

abbrev bufTy : (tb : Table) → Fin (tcTables nBuf tb) → BufTy
  | .hbm, ⟨0, _⟩ => ⟨S2048x3072, .bf16⟩
  | .hbm, ⟨1, _⟩ => ⟨S16x1x2048, .f32⟩
  | .hbm, ⟨2, _⟩ => ⟨S2048x1024, .f32⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S16x1x2048, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x1x2048, .f32⟩
  | .local _ .vmem, ⟨7, _⟩ => ⟨S2x1x2048, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2x1x2048, .f32⟩
  | .local _ .vmem, ⟨17, _⟩ => ⟨S2x1x2048, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![c7_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c7_i32 : BitVec 32 := 7#32
  let c0_i32 : BitVec 32 := 0#32
  ![c7_i32.toNat, arg0.toNat]

def cc0_transform_5 (i : grid0.Coords) : Fin 2 → Nat :=
  let arg0 : BitVec 32 := BitVec.ofNat 32 (i 0).val
  let c7_i32 : BitVec 32 := 7#32
  let c0_i32 : BitVec 32 := 0#32
  ![c7_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x3072 : Shape := ⟨2, ![2048, 3072]⟩
abbrev S16x1x2048 : Shape := ⟨3, ![16, 1, 2048]⟩
abbrev S2048x1024 : Shape := ⟨2, ![2048, 1024]⟩
abbrev S2048x16x64 : Shape := ⟨3, ![2048, 16, 64]⟩
abbrev S16x2048 : Shape := ⟨2, ![16, 2048]⟩
abbrev S256x16x64 : Shape := ⟨3, ![256, 16, 64]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S16x64x256 : Shape := ⟨3, ![16, 64, 256]⟩
abbrev S256x1024 : Shape := ⟨2, ![256, 1024]⟩
abbrev S16x64x2048 : Shape := ⟨3, ![16, 64, 2048]⟩
abbrev S16x2048x64 : Shape := ⟨3, ![16, 2048, 64]⟩
abbrev S16x256x64 : Shape := ⟨3, ![16, 256, 64]⟩

abbrev nBuf : Space → Nat
  | .hbm => 140
  | .vmem => 0
  | .smem => 0
  | _ => 0

abbrev hbmTy0_0 (i : Nat) : BufTy := match i % 128 with
  | 0 => ⟨S2048x3072, .bf16⟩
  | 1 => ⟨S16x1x2048, .f32⟩
  | 2 => ⟨S2048x1024, .f32⟩
  | 3 => ⟨S2048x3072, .f32⟩
  | 4 => ⟨S2048x1024, .f32⟩
  | 5 => ⟨S2048x1024, .f32⟩
  | 6 => ⟨S2048x1024, .f32⟩
  | 7 => ⟨S2048x16x64, .f32⟩
  | 8 => ⟨S2048x16x64, .f32⟩
  | 9 => ⟨S2048x16x64, .f32⟩
  | 10 => ⟨S16x2048, .f32⟩
  | 11 => ⟨S256x16x64, .f32⟩
  | 12 => ⟨S16x256x2048, .f32⟩
  | 13 => ⟨S16x256x2048, .bf16⟩
  | 14 => ⟨S16x256x2048, .f32⟩
  | 15 => ⟨S_, .f32⟩
  | 16 => ⟨S16x256x2048, .f32⟩
  | 17 => ⟨S16x256x2048, .f32⟩
  | 18 => ⟨S16x256, .f32⟩
  | 19 => ⟨S16x256x1, .f32⟩
  | 20 => ⟨S16x1x2048, .f32⟩
  | 21 => ⟨S16x256x2048, .f32⟩
  | 22 => ⟨S16x256x2048, .f32⟩
  | 23 => ⟨S16x256x2048, .f32⟩
  | 24 => ⟨S256, .i32⟩
  | 25 => ⟨S_, .i32⟩
  | 26 => ⟨S256, .i32⟩
  | 27 => ⟨S256, .i32⟩
  | 28 => ⟨S256x1, .i32⟩
  | 29 => ⟨S2048, .i32⟩
  | 30 => ⟨S1x2048, .i32⟩
  | 31 => ⟨S256x2048, .i32⟩
  | 32 => ⟨S256x2048, .i32⟩
  | 33 => ⟨S256x2048, .i1⟩
  | 34 => ⟨S16x256x2048, .f32⟩
  | 35 => ⟨S_, .f32⟩
  | 36 => ⟨S_, .f32⟩
  | 37 => ⟨S16x256x2048, .i1⟩
  | 38 => ⟨S16x256x2048, .f32⟩
  | 39 => ⟨S16x256x2048, .f32⟩
  | 40 => ⟨S_, .f32⟩
  | 41 => ⟨S16x256x2048, .f32⟩
  | 42 => ⟨S_, .f32⟩
  | 43 => ⟨S16x256, .f32⟩
  | 44 => ⟨S16x256x1, .f32⟩
  | 45 => ⟨S16x256x2048, .f32⟩
  | 46 => ⟨S16x256x2048, .i1⟩
  | 47 => ⟨S16x256x2048, .f32⟩
  | 48 => ⟨S_, .f32⟩
  | 49 => ⟨S16x256, .f32⟩
  | 50 => ⟨S_, .f32⟩
  | 51 => ⟨S16x256, .f32⟩
  | 52 => ⟨S16x256, .f32⟩
  | 53 => ⟨S_, .f32⟩
  | 54 => ⟨S16x256, .f32⟩
  | 55 => ⟨S16x256, .i1⟩
  | 56 => ⟨S_, .f32⟩
  | 57 => ⟨S16x256, .f32⟩
  | 58 => ⟨S16x256, .i1⟩
  | 59 => ⟨S_, .f32⟩
  | 60 => ⟨S16x256, .f32⟩
  | 61 => ⟨S_, .f32⟩
  | 62 => ⟨S16x256, .f32⟩
  | 63 => ⟨S_, .f32⟩
  | 64 => ⟨S16x256, .f32⟩
  | 65 => ⟨S16x256, .f32⟩
  | 66 => ⟨S16x256, .f32⟩
  | 67 => ⟨S16x256x1, .f32⟩
  | 68 => ⟨S16x256x2048, .f32⟩
  | 69 => ⟨S16x256x2048, .f32⟩
  | 70 => ⟨S16x256x2048, .f32⟩
  | 71 => ⟨S_, .f32⟩
  | 72 => ⟨S16x256, .f32⟩
  | 73 => ⟨S16x256x1, .f32⟩
  | 74 => ⟨S16x256x2048, .f32⟩
  | 75 => ⟨S16x256x2048, .f32⟩
  | 76 => ⟨S16x256x1, .f32⟩
  | 77 => ⟨S_, .f32⟩
  | 78 => ⟨S16x256x1, .f32⟩
  | 79 => ⟨S16x256x1, .f32⟩
  | 80 => ⟨S16x256x2048, .bf16⟩
  | 81 => ⟨S16x256x2048, .f32⟩
  | 82 => ⟨S16x64x256, .f32⟩
  | 83 => ⟨S256x16x64, .f32⟩
  | 84 => ⟨S256x1024, .f32⟩
  | 85 => ⟨S256x1024, .f32⟩
  | 86 => ⟨S256x16x64, .f32⟩
  | 87 => ⟨S16x64x256, .f32⟩
  | 88 => ⟨S16x256x2048, .f32⟩
  | 89 => ⟨S16x64x2048, .f32⟩
  | 90 => ⟨S2048x16x64, .f32⟩
  | 91 => ⟨S16x256x2048, .bf16⟩
  | 92 => ⟨S16x256x2048, .f32⟩
  | 93 => ⟨S16x256x2048, .f32⟩
  | 94 => ⟨S16x256x2048, .f32⟩
  | 95 => ⟨S16x256x2048, .f32⟩
  | 96 => ⟨S_, .f32⟩
  | 97 => ⟨S16x256, .f32⟩
  | 98 => ⟨S16x256x1, .f32⟩
  | 99 => ⟨S16x256x1, .f32⟩
  | 100 => ⟨S16x256x2048, .f32⟩
  | 101 => ⟨S16x256x2048, .f32⟩
  | 102 => ⟨S_, .f32⟩
  | 103 => ⟨S16x256, .f32⟩
  | 104 => ⟨S16x256x2048, .f32⟩
  | 105 => ⟨S16x256x2048, .f32⟩
  | 106 => ⟨S16x256x2048, .f32⟩
  | 107 => ⟨S_, .f32⟩
  | 108 => ⟨S16x256x2048, .f32⟩
  | 109 => ⟨S16x256x2048, .f32⟩
  | 110 => ⟨S_, .f32⟩
  | 111 => ⟨S16x256, .f32⟩
  | 112 => ⟨S16x256x1, .f32⟩
  | 113 => ⟨S16x256x2048, .f32⟩
  | 114 => ⟨S_, .f32⟩
  | 115 => ⟨S16x2048, .f32⟩
  | 116 => ⟨S16x1x2048, .f32⟩
  | 117 => ⟨S_, .f32⟩
  | 118 => ⟨S16x2048, .f32⟩
  | 119 => ⟨S_, .f32⟩
  | 120 => ⟨S16x256, .f32⟩
  | 121 => ⟨S_, .f32⟩
  | 122 => ⟨S16x2048, .f32⟩
  | 123 => ⟨S16x2048, .f32⟩
  | 124 => ⟨S_, .f32⟩
  | 125 => ⟨S16x256x2048, .f32⟩
  | 126 => ⟨S16x256x2048, .f32⟩
  | 127 => ⟨S16x256x2048, .bf16⟩
  | _ => ⟨S2048x3072, .bf16⟩

abbrev hbmTy0_1 (i : Nat) : BufTy := match i % 128 with
  | 0 => ⟨S16x256x2048, .f32⟩
  | 1 => ⟨S16x2048x64, .f32⟩
  | 2 => ⟨S2048x16x64, .f32⟩
  | 3 => ⟨S16x256x64, .f32⟩
  | 4 => ⟨S256x16x64, .f32⟩
  | 5 => ⟨S_, .f32⟩
  | 6 => ⟨S2048x16x64, .f32⟩
  | 7 => ⟨S16x1x2048, .f32⟩
  | 8 => ⟨S2048x1024, .f32⟩
  | 9 => ⟨S2048x1024, .f32⟩
  | 10 => ⟨S2048x1024, .f32⟩
  | 11 => ⟨S2048x1024, .bf16⟩
  | _ => ⟨S2048x3072, .bf16⟩

abbrev hbmTy (i : Nat) : BufTy := match i / 128 with
  | 0 => hbmTy0_0 i
  | 1 => hbmTy0_1 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_call0_v0 : Ref sig .tc := ⟨.hbm, 36, rfl⟩
abbrev main_v30_1 : Ref sig .tc := ⟨.hbm, 37, rfl⟩
abbrev main_call0_v2 : Ref sig .tc := ⟨.hbm, 38, rfl⟩
abbrev main_v30_0 : Ref sig .tc := ⟨.hbm, 39, rfl⟩
abbrev main_call0_cst : Ref sig .tc := ⟨.hbm, 40, rfl⟩
abbrev main_v30_2 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_call1_cst : Ref sig .tc := ⟨.hbm, 107, rfl⟩
abbrev main_call1_v0 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_cst_15 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_cst_17 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_19 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩

abbrev nD : Nat := 1
abbrev τ : Topo := Topo.v7x

variable {F : FTy → Type} [FloatOps F]
-- ==== Kernel2.lean ====
abbrev S2048x1024 : Shape := ⟨2, ![2048, 1024]⟩
abbrev S1024x11264 : Shape := ⟨2, ![1024, 11264]⟩
abbrev S512x1024 : Shape := ⟨2, ![512, 1024]⟩
abbrev S1024x1024 : Shape := ⟨2, ![1024, 1024]⟩

abbrev nBuf : Space → Nat
  | .hbm => 14
  | .vmem => 29
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S1024x11264, .bf16⟩
  | .hbm, ⟨12, _⟩ => ⟨S2048x1024, .f32⟩
  | .hbm, ⟨13, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 1, 11], ![false, false, false]⟩

def k0_cond34 (i : grid0.Coords) : BitVec 1 :=
  let arg2 : BitVec 32 := BitVec.ofNat 32 (i 2).val
  let c10_i32_175 : BitVec 32 := 10#32
  let v429 : BitVec 1 := Scalar.cmpi .eq arg2 c10_i32_175
  let v430 : BitVec 32 := Scalar.extui v429
  let c0_i32_176 : BitVec 32 := 0#32
  let v431 : BitVec 1 := Scalar.cmpi .ne v430 c0_i32_176
  v431

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg0 c0_i32_6
  let c0_i32_7 : BitVec 32 := 0#32
  let v19 : BitVec 32 := Scalar.subi arg2 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg0 c0_i32_6
  let c1_i32_7 : BitVec 32 := 1#32
  let v19 : BitVec 32 := Scalar.subi arg2 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg0 c0_i32_5
  let c2_i32_6 : BitVec 32 := 2#32
  let v19 : BitVec 32 := Scalar.subi arg2 c2_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg0 c0_i32_5
  let c3_i32_6 : BitVec 32 := 3#32
  let v19 : BitVec 32 := Scalar.subi arg2 c3_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 1 := Scalar.cmpi .eq v16 c4_i32
  let c0_i32_5 : BitVec 32 := 0#32
  let v18 : BitVec 32 := Scalar.select v17 arg0 c0_i32_5
  let c4_i32_6 : BitVec 32 := 4#32
  let v19 : BitVec 32 := Scalar.subi arg2 c4_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c5_i32 : BitVec 32 := 5#32
  let v17 : BitVec 1 := Scalar.cmpi .eq v16 c5_i32
  let c0_i32_5 : BitVec 32 := 0#32
  let v18 : BitVec 32 := Scalar.select v17 arg0 c0_i32_5
  let c5_i32_6 : BitVec 32 := 5#32
  let v19 : BitVec 32 := Scalar.subi arg2 c5_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c6_i32 : BitVec 32 := 6#32
  let v17 : BitVec 1 := Scalar.cmpi .eq v16 c6_i32
  let c0_i32_5 : BitVec 32 := 0#32
  let v18 : BitVec 32 := Scalar.select v17 arg0 c0_i32_5
  let c6_i32_6 : BitVec 32 := 6#32
  let v19 : BitVec 32 := Scalar.subi arg2 c6_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c7_i32 : BitVec 32 := 7#32
  let v17 : BitVec 1 := Scalar.cmpi .eq v16 c7_i32
  let c0_i32_5 : BitVec 32 := 0#32
  let v18 : BitVec 32 := Scalar.select v17 arg0 c0_i32_5
  let c7_i32_6 : BitVec 32 := 7#32
  let v19 : BitVec 32 := Scalar.subi arg2 c7_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 1 := Scalar.cmpi .eq v16 c8_i32
  let c0_i32_5 : BitVec 32 := 0#32
  let v18 : BitVec 32 := Scalar.select v17 arg0 c0_i32_5
  let c8_i32_6 : BitVec 32 := 8#32
  let v19 : BitVec 32 := Scalar.subi arg2 c8_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c9_i32 : BitVec 32 := 9#32
  let v17 : BitVec 1 := Scalar.cmpi .eq v16 c9_i32
  let c0_i32_5 : BitVec 32 := 0#32
  let v18 : BitVec 32 := Scalar.select v17 arg0 c0_i32_5
  let c9_i32_6 : BitVec 32 := 9#32
  let v19 : BitVec 32 := Scalar.subi arg2 c9_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c10_i32 : BitVec 32 := 10#32
  let v17 : BitVec 1 := Scalar.cmpi .eq v16 c10_i32
  let c0_i32_5 : BitVec 32 := 0#32
  let v18 : BitVec 32 := Scalar.select v17 arg0 c0_i32_5
  let c10_i32_6 : BitVec 32 := 10#32
  let v19 : BitVec 32 := Scalar.subi arg2 c10_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== Reference2Ideal.lean ====
abbrev S2048x1024 : Shape := ⟨2, ![2048, 1024]⟩
abbrev S1024x11264 : Shape := ⟨2, ![1024, 11264]⟩
abbrev S2048x11264 : Shape := ⟨2, ![2048, 11264]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S1024x11264, .bf16⟩
  | .hbm, ⟨12, _⟩ => ⟨S2048x1024, .f32⟩
  | .hbm, ⟨13, _⟩ => ⟨S2048x1024, .bf16⟩
  | .hbm, ⟨14, _⟩ => ⟨S2048x1024, .bf16⟩
  | .hbm, ⟨15, _⟩ => ⟨S2048x11264, .bf16⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel3.lean ====
abbrev S2048x1024 : Shape := ⟨2, ![2048, 1024]⟩
abbrev S1024x6144 : Shape := ⟨2, ![1024, 6144]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S1024x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 6, 2], ![false, false, false]⟩

def k0_cond19 (i : grid0.Coords) : BitVec 1 :=
  let arg2 : BitVec 32 := BitVec.ofNat 32 (i 2).val
  let c1_i32_96 : BitVec 32 := 1#32
  let v234 : BitVec 1 := Scalar.cmpi .eq arg2 c1_i32_96
  let v235 : BitVec 32 := Scalar.extui v234
  let c0_i32_97 : BitVec 32 := 0#32
  let v236 : BitVec 1 := Scalar.cmpi .ne v235 c0_i32_97
  v236

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c0_i32_7 : BitVec 32 := 0#32
  let v19 : BitVec 32 := Scalar.subi arg1 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.subi arg1 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c2_i32_6 : BitVec 32 := 2#32
  let v19 : BitVec 32 := Scalar.subi arg1 c2_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c3_i32_6 : BitVec 32 := 3#32
  let v19 : BitVec 32 := Scalar.subi arg1 c3_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 1 := Scalar.cmpi .eq v16 c4_i32
  let c0_i32_5 : BitVec 32 := 0#32
  let v18 : BitVec 32 := Scalar.select v17 arg2 c0_i32_5
  let c4_i32_6 : BitVec 32 := 4#32
  let v19 : BitVec 32 := Scalar.subi arg1 c4_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c5_i32 : BitVec 32 := 5#32
  let v17 : BitVec 1 := Scalar.cmpi .eq v16 c5_i32
  let c0_i32_5 : BitVec 32 := 0#32
  let v18 : BitVec 32 := Scalar.select v17 arg2 c0_i32_5
  let c5_i32_6 : BitVec 32 := 5#32
  let v19 : BitVec 32 := Scalar.subi arg1 c5_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference3Ideal.lean ====
abbrev S2048x1024 : Shape := ⟨2, ![2048, 1024]⟩
abbrev S2048x6144 : Shape := ⟨2, ![2048, 6144]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S2048x6144, .bf16⟩
  | .hbm, ⟨10, _⟩ => ⟨S1024x6144, .f32⟩
  | .hbm, ⟨11, _⟩ => ⟨S1024x6144, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Kernel4.lean ====
abbrev S2048x1024 : Shape := ⟨2, ![2048, 1024]⟩
abbrev S1024x5120 : Shape := ⟨2, ![1024, 5120]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S1024x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 5, 2], ![false, false, false]⟩

def k0_cond16 (i : grid0.Coords) : BitVec 1 :=
  let arg2 : BitVec 32 := BitVec.ofNat 32 (i 2).val
  let c1_i32_80 : BitVec 32 := 1#32
  let v195 : BitVec 1 := Scalar.cmpi .eq arg2 c1_i32_80
  let v196 : BitVec 32 := Scalar.extui v195
  let c0_i32_81 : BitVec 32 := 0#32
  let v197 : BitVec 1 := Scalar.cmpi .ne v196 c0_i32_81
  v197

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c0_i32_7 : BitVec 32 := 0#32
  let v19 : BitVec 32 := Scalar.subi arg1 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.subi arg1 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c2_i32_6 : BitVec 32 := 2#32
  let v19 : BitVec 32 := Scalar.subi arg1 c2_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c3_i32_6 : BitVec 32 := 3#32
  let v19 : BitVec 32 := Scalar.subi arg1 c3_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 1 := Scalar.cmpi .eq v16 c4_i32
  let c0_i32_5 : BitVec 32 := 0#32
  let v18 : BitVec 32 := Scalar.select v17 arg2 c0_i32_5
  let c4_i32_6 : BitVec 32 := 4#32
  let v19 : BitVec 32 := Scalar.subi arg1 c4_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c0_i32_10 : BitVec 32 := 0#32
  ![v18.toNat, v22.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference4Ideal.lean ====
abbrev S2048x1024 : Shape := ⟨2, ![2048, 1024]⟩
abbrev S2048x5120 : Shape := ⟨2, ![2048, 5120]⟩
abbrev S1024x5120 : Shape := ⟨2, ![1024, 5120]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x5120, .bf16⟩
  | .hbm, ⟨7, _⟩ => ⟨S1024x5120, .f32⟩
  | .hbm, ⟨8, _⟩ => ⟨S1024x5120, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Kernel5.lean ====
abbrev S2048x2816 : Shape := ⟨2, ![2048, 2816]⟩
abbrev S4x1024x1408 : Shape := ⟨3, ![4, 1024, 1408]⟩
abbrev S2048x1024 : Shape := ⟨2, ![2048, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 4
  | .vmem => 15
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S4x1024x1408, .bf16⟩
  | .hbm, ⟨3, _⟩ => ⟨S2048x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 4], ![false, false, false]⟩

def k0_cond25 (i : grid0.Coords) : BitVec 1 :=
  let arg2 : BitVec 32 := BitVec.ofNat 32 (i 2).val
  let c3_i32_132 : BitVec 32 := 3#32
  let v312 : BitVec 1 := Scalar.cmpi .eq arg2 c3_i32_132
  let v313 : BitVec 32 := Scalar.extui v312
  let c0_i32_133 : BitVec 32 := 0#32
  let v314 : BitVec 1 := Scalar.cmpi .ne v313 c0_i32_133
  v314

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg0 c0_i32_5
  let c0_i32_6 : BitVec 32 := 0#32
  let v19 : BitVec 32 := Scalar.subi arg2 c0_i32_6
  let c0_i32_7 : BitVec 32 := 0#32
  let c1_i32_8 : BitVec 32 := 1#32
  let v20 : BitVec 32 := Scalar.maxsi c0_i32_7 v19
  let v21 : BitVec 32 := Scalar.minsi c1_i32_8 v20
  let c0_i32_9 : BitVec 32 := 0#32
  let v22 : BitVec 32 := Scalar.addi c0_i32_9 v21
  let c0_i32_10 : BitVec 32 := 0#32
  ![v18.toNat, v22.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg0 c0_i32_5
  let c2_i32_6 : BitVec 32 := 2#32
  let v19 : BitVec 32 := Scalar.subi arg2 c2_i32_6
  let c0_i32_7 : BitVec 32 := 0#32
  let c1_i32_8 : BitVec 32 := 1#32
  let v20 : BitVec 32 := Scalar.maxsi c0_i32_7 v19
  let v21 : BitVec 32 := Scalar.minsi c1_i32_8 v20
  let c0_i32_9 : BitVec 32 := 0#32
  let v22 : BitVec 32 := Scalar.addi c0_i32_9 v21
  let c0_i32_10 : BitVec 32 := 0#32
  ![v18.toNat, v22.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg1 c0_i32_6
  let c0_i32_7 : BitVec 32 := 0#32
  let v19 : BitVec 32 := Scalar.subi arg2 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  let c0_i32_12 : BitVec 32 := 0#32
  ![c0_i32_11.toNat, v18.toNat, v22.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg1 c0_i32_6
  let c1_i32_7 : BitVec 32 := 1#32
  let v19 : BitVec 32 := Scalar.subi arg2 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c1_i32_11 : BitVec 32 := 1#32
  let c0_i32_12 : BitVec 32 := 0#32
  ![c1_i32_11.toNat, v18.toNat, v22.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg1 c0_i32_5
  let c2_i32_6 : BitVec 32 := 2#32
  let v19 : BitVec 32 := Scalar.subi arg2 c2_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c2_i32_10 : BitVec 32 := 2#32
  let c0_i32_11 : BitVec 32 := 0#32
  ![c2_i32_10.toNat, v18.toNat, v22.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg1 c0_i32_5
  let c3_i32_6 : BitVec 32 := 3#32
  let v19 : BitVec 32 := Scalar.subi arg2 c3_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c3_i32_10 : BitVec 32 := 3#32
  let c0_i32_11 : BitVec 32 := 0#32
  ![c3_i32_10.toNat, v18.toNat, v22.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference5Ideal.lean ====
abbrev S2048x2816 : Shape := ⟨2, ![2048, 2816]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S4x1024x1408, .bf16⟩
  | .hbm, ⟨3, _⟩ => ⟨S1024x4x1408, .bf16⟩
  | .hbm, ⟨4, _⟩ => ⟨S1024x5632, .bf16⟩
  | .hbm, ⟨5, _⟩ => ⟨S2048x5632, .bf16⟩
  | .hbm, ⟨6, _⟩ => ⟨S2048x1024, .f32⟩
  | .hbm, ⟨7, _⟩ => ⟨S2048x1024, .bf16⟩
  | .hbm, ⟨8, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S2048x2816 : Shape := ⟨2, ![2048, 2816]⟩
abbrev S1x4x1024x1408 : Shape := ⟨4, ![1, 4, 1024, 1408]⟩
abbrev S1024x1024 : Shape := ⟨2, ![1024, 1024]⟩
abbrev S1024x1408 : Shape := ⟨2, ![1024, 1408]⟩
abbrev S1x1x1024x1408 : Shape := ⟨4, ![1, 1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S1x4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond7 (i : grid0.Coords) : BitVec 1 :=
  let arg2 : BitVec 32 := BitVec.ofNat 32 (i 2).val
  let c1_i32_31 : BitVec 32 := 1#32
  let v78 : BitVec 1 := Scalar.cmpi .eq arg2 c1_i32_31
  let v79 : BitVec 32 := Scalar.extui v78
  let c0_i32_32 : BitVec 32 := 0#32
  let v80 : BitVec 1 := Scalar.cmpi .ne v79 c0_i32_32
  v80

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c0_i32_6 : BitVec 32 := 0#32
  let v19 : BitVec 32 := Scalar.subi arg1 c0_i32_6
  let c0_i32_7 : BitVec 32 := 0#32
  let c1_i32_8 : BitVec 32 := 1#32
  let v20 : BitVec 32 := Scalar.maxsi c0_i32_7 v19
  let v21 : BitVec 32 := Scalar.minsi c1_i32_8 v20
  let c0_i32_9 : BitVec 32 := 0#32
  let v22 : BitVec 32 := Scalar.addi c0_i32_9 v21
  let c0_i32_10 : BitVec 32 := 0#32
  ![v18.toNat, v22.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg2 c0_i32_5
  let c2_i32_6 : BitVec 32 := 2#32
  let v19 : BitVec 32 := Scalar.subi arg1 c2_i32_6
  let c0_i32_7 : BitVec 32 := 0#32
  let c1_i32_8 : BitVec 32 := 1#32
  let v20 : BitVec 32 := Scalar.maxsi c0_i32_7 v19
  let v21 : BitVec 32 := Scalar.minsi c1_i32_8 v20
  let c0_i32_9 : BitVec 32 := 0#32
  let v22 : BitVec 32 := Scalar.addi c0_i32_9 v21
  let c0_i32_10 : BitVec 32 := 0#32
  ![v18.toNat, v22.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x1024 : Shape := ⟨2, ![2048, 1024]⟩
abbrev S2048x2816 : Shape := ⟨2, ![2048, 2816]⟩
abbrev S2048x5632 : Shape := ⟨2, ![2048, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S2048x5632, .bf16⟩
  | .hbm, ⟨4, _⟩ => ⟨S1024x5632, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S1x4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S2816x1024 : Shape := ⟨2, ![2816, 1024]⟩
abbrev S2048x2816 : Shape := ⟨2, ![2048, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x1024, .bf16⟩
  | .hbm, ⟨3, _⟩ => ⟨S2048x2816, .f32⟩
  | .hbm, ⟨4, _⟩ => ⟨S2048x2816, .bf16⟩
  | .hbm, ⟨5, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S2048x2816 : Shape := ⟨2, ![2048, 2816]⟩
abbrev S2048x1024 : Shape := ⟨2, ![2048, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S1x2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2816 : Shape := ⟨2, ![2048, 2816]⟩
abbrev S2048x1024 : Shape := ⟨2, ![2048, 1024]⟩
abbrev S2816x1024 : Shape := ⟨2, ![2816, 1024]⟩
abbrev S1x2816x1024 : Shape := ⟨3, ![1, 2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x1024, .bf16⟩
  | .hbm, ⟨3, _⟩ => ⟨S2816x1024, .f32⟩
  | .hbm, ⟨4, _⟩ => ⟨S2816x1024, .bf16⟩
  | .hbm, ⟨5, _⟩ => ⟨S1x2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S1024x11264 : Shape := ⟨2, ![1024, 11264]⟩
abbrev S2048x3072 : Shape := ⟨2, ![2048, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x11264, .bf16⟩
  | .hbm, ⟨2, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S1024x11264 : Shape := ⟨2, ![1024, 11264]⟩
abbrev S1024x3072 : Shape := ⟨2, ![1024, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x11264, .bf16⟩
  | .hbm, ⟨2, _⟩ => ⟨S1024x3072, .bf16⟩
  | .hbm, ⟨3, _⟩ => ⟨S2048x3072, .f32⟩
  | .hbm, ⟨4, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x1024 : Shape := ⟨2, ![2048, 1024]⟩
abbrev S1024x11264 : Shape := ⟨2, ![1024, 11264]⟩
abbrev S2048x3072 : Shape := ⟨2, ![2048, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x11264, .bf16⟩
  | .hbm, ⟨2, _⟩ => ⟨S2048x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S1024x11264 : Shape := ⟨2, ![1024, 11264]⟩
abbrev S1024x3072 : Shape := ⟨2, ![1024, 3072]⟩
abbrev S2048x3072 : Shape := ⟨2, ![2048, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x11264, .bf16⟩
  | .hbm, ⟨2, _⟩ => ⟨S1024x3072, .bf16⟩
  | .hbm, ⟨3, _⟩ => ⟨S2048x3072, .f32⟩
  | .hbm, ⟨4, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S2048x1024 : Shape := ⟨2, ![2048, 1024]⟩
abbrev S1024x11264 : Shape := ⟨2, ![1024, 11264]⟩
abbrev S2048x5120 : Shape := ⟨2, ![2048, 5120]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x11264, .bf16⟩
  | .hbm, ⟨2, _⟩ => ⟨S2048x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S1024x11264 : Shape := ⟨2, ![1024, 11264]⟩
abbrev S1024x5120 : Shape := ⟨2, ![1024, 5120]⟩
abbrev S2048x5120 : Shape := ⟨2, ![2048, 5120]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x11264, .bf16⟩
  | .hbm, ⟨2, _⟩ => ⟨S1024x5120, .bf16⟩
  | .hbm, ⟨3, _⟩ => ⟨S2048x5120, .f32⟩
  | .hbm, ⟨4, _⟩ => ⟨S2048x5120, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2048x1024 : Shape := ⟨2, ![2048, 1024]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1024x1408, .bf16⟩
  | .local _ .vmem, ⟨11, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let arg1 : BitVec 32 := BitVec.ofNat 32 (i 1).val
  let c0_i32_7 : BitVec 32 := 0#32
  let v19 : BitVec 1 := Scalar.cmpi .sgt arg1 c0_i32_7
  let v20 : BitVec 32 := Scalar.extui v19
  let c0_i32_8 : BitVec 32 := 0#32
  let v21 : BitVec 1 := Scalar.cmpi .slt arg1 c0_i32_8
  let v22 : BitVec 32 := Scalar.extui v21
  let v23 : BitVec 32 := Scalar.subi v20 v22
  let c1_i32_6 : BitVec 32 := 1#32
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg1 c1_i32_6
  let c0_i32_11 : BitVec 32 := 0#32
  let v31 : BitVec 1 := Scalar.cmpi .ne v30 c0_i32_11
  let v32 : BitVec 1 := Scalar.andi v29 v31
  let v18 : BitVec 32 := Scalar.divsi arg1 c1_i32_6
  let c1_i32_12 : BitVec 32 := 1#32
  let v33 : BitVec 32 := Scalar.subi v18 c1_i32_12
  let v34 : BitVec 32 := Scalar.select v32 v33 v18
  let c0_i32_13 : BitVec 32 := 0#32
  let v35 : BitVec 1 := Scalar.cmpi .eq v34 c0_i32_13
  let v36 : BitVec 1 := Scalar.andi v17 v35
  let v37 : BitVec 32 := Scalar.extui v36
  let c0_i32_14 : BitVec 32 := 0#32
  let v38 : BitVec 1 := Scalar.cmpi .ne v37 c0_i32_14
  v38

def k0_cond2 (i : grid0.Coords) : BitVec 1 :=
  let arg2 : BitVec 32 := BitVec.ofNat 32 (i 2).val
  let c0_i32_16 : BitVec 32 := 0#32
  let v40 : BitVec 1 := Scalar.cmpi .sgt arg2 c0_i32_16
  let v41 : BitVec 32 := Scalar.extui v40
  let c0_i32_17 : BitVec 32 := 0#32
  let v42 : BitVec 1 := Scalar.cmpi .slt arg2 c0_i32_17
  let v43 : BitVec 32 := Scalar.extui v42
  let v44 : BitVec 32 := Scalar.subi v41 v43
  let c1_i32_15 : BitVec 32 := 1#32
  let c0_i32_18 : BitVec 32 := 0#32
  let v45 : BitVec 1 := Scalar.cmpi .sgt c1_i32_15 c0_i32_18
  let v46 : BitVec 32 := Scalar.extui v45
  let c0_i32_19 : BitVec 32 := 0#32
  let v47 : BitVec 1 := Scalar.cmpi .slt c1_i32_15 c0_i32_19
  let v48 : BitVec 32 := Scalar.extui v47
  let v49 : BitVec 32 := Scalar.subi v46 v48
  let v50 : BitVec 1 := Scalar.cmpi .ne v44 v49
  let v51 : BitVec 32 := Scalar.remsi arg2 c1_i32_15
  let c0_i32_20 : BitVec 32 := 0#32
  let v52 : BitVec 1 := Scalar.cmpi .ne v51 c0_i32_20
  let v53 : BitVec 1 := Scalar.andi v50 v52
  let v39 : BitVec 32 := Scalar.divsi arg2 c1_i32_15
  let c1_i32_21 : BitVec 32 := 1#32
  let v54 : BitVec 32 := Scalar.subi v39 c1_i32_21
  let v55 : BitVec 32 := Scalar.select v53 v54 v39
  let c0_i32_22 : BitVec 32 := 0#32
  let v56 : BitVec 1 := Scalar.cmpi .eq v55 c0_i32_22
  let arg1 : BitVec 32 := BitVec.ofNat 32 (i 1).val
  let c0_i32_24 : BitVec 32 := 0#32
  let v58 : BitVec 1 := Scalar.cmpi .sgt arg1 c0_i32_24
  let v59 : BitVec 32 := Scalar.extui v58
  let c0_i32_25 : BitVec 32 := 0#32
  let v60 : BitVec 1 := Scalar.cmpi .slt arg1 c0_i32_25
  let v61 : BitVec 32 := Scalar.extui v60
  let v62 : BitVec 32 := Scalar.subi v59 v61
  let c1_i32_23 : BitVec 32 := 1#32
  let c0_i32_26 : BitVec 32 := 0#32
  let v63 : BitVec 1 := Scalar.cmpi .sgt c1_i32_23 c0_i32_26
  let v64 : BitVec 32 := Scalar.extui v63
  let c0_i32_27 : BitVec 32 := 0#32
  let v65 : BitVec 1 := Scalar.cmpi .slt c1_i32_23 c0_i32_27
  let v66 : BitVec 32 := Scalar.extui v65
  let v67 : BitVec 32 := Scalar.subi v64 v66
  let v68 : BitVec 1 := Scalar.cmpi .ne v62 v67
  let v69 : BitVec 32 := Scalar.remsi arg1 c1_i32_23
  let c0_i32_28 : BitVec 32 := 0#32
  let v70 : BitVec 1 := Scalar.cmpi .ne v69 c0_i32_28
  let v71 : BitVec 1 := Scalar.andi v68 v70
  let v57 : BitVec 32 := Scalar.divsi arg1 c1_i32_23
  let c1_i32_29 : BitVec 32 := 1#32
  let v72 : BitVec 32 := Scalar.subi v57 c1_i32_29
  let v73 : BitVec 32 := Scalar.select v71 v72 v57
  let c1_i32_30 : BitVec 32 := 1#32
  let v74 : BitVec 1 := Scalar.cmpi .eq v73 c1_i32_30
  let v75 : BitVec 1 := Scalar.andi v56 v74
  let v76 : BitVec 32 := Scalar.extui v75
  let c0_i32_31 : BitVec 32 := 0#32
  let v77 : BitVec 1 := Scalar.cmpi .ne v76 c0_i32_31
  v77

def k0_cond3 (i : grid0.Coords) : BitVec 1 :=
  let arg2 : BitVec 32 := BitVec.ofNat 32 (i 2).val
  let c0_i32_33 : BitVec 32 := 0#32
  let v79 : BitVec 1 := Scalar.cmpi .sgt arg2 c0_i32_33
  let v80 : BitVec 32 := Scalar.extui v79
  let c0_i32_34 : BitVec 32 := 0#32
  let v81 : BitVec 1 := Scalar.cmpi .slt arg2 c0_i32_34
  let v82 : BitVec 32 := Scalar.extui v81
  let v83 : BitVec 32 := Scalar.subi v80 v82
  let c1_i32_32 : BitVec 32 := 1#32
  let c0_i32_35 : BitVec 32 := 0#32
  let v84 : BitVec 1 := Scalar.cmpi .sgt c1_i32_32 c0_i32_35
  let v85 : BitVec 32 := Scalar.extui v84
  let c0_i32_36 : BitVec 32 := 0#32
  let v86 : BitVec 1 := Scalar.cmpi .slt c1_i32_32 c0_i32_36
  let v87 : BitVec 32 := Scalar.extui v86
  let v88 : BitVec 32 := Scalar.subi v85 v87
  let v89 : BitVec 1 := Scalar.cmpi .ne v83 v88
  let v90 : BitVec 32 := Scalar.remsi arg2 c1_i32_32
  let c0_i32_37 : BitVec 32 := 0#32
  let v91 : BitVec 1 := Scalar.cmpi .ne v90 c0_i32_37
  let v92 : BitVec 1 := Scalar.andi v89 v91
  let v78 : BitVec 32 := Scalar.divsi arg2 c1_i32_32
  let c1_i32_38 : BitVec 32 := 1#32
  let v93 : BitVec 32 := Scalar.subi v78 c1_i32_38
  let v94 : BitVec 32 := Scalar.select v92 v93 v78
  let c0_i32_39 : BitVec 32 := 0#32
  let v95 : BitVec 1 := Scalar.cmpi .eq v94 c0_i32_39
  let arg1 : BitVec 32 := BitVec.ofNat 32 (i 1).val
  let c0_i32_41 : BitVec 32 := 0#32
  let v97 : BitVec 1 := Scalar.cmpi .sgt arg1 c0_i32_41
  let v98 : BitVec 32 := Scalar.extui v97
  let c0_i32_42 : BitVec 32 := 0#32
  let v99 : BitVec 1 := Scalar.cmpi .slt arg1 c0_i32_42
  let v100 : BitVec 32 := Scalar.extui v99
  let v101 : BitVec 32 := Scalar.subi v98 v100
  let c1_i32_40 : BitVec 32 := 1#32
  let c0_i32_43 : BitVec 32 := 0#32
  let v102 : BitVec 1 := Scalar.cmpi .sgt c1_i32_40 c0_i32_43
  let v103 : BitVec 32 := Scalar.extui v102
  let c0_i32_44 : BitVec 32 := 0#32
  let v104 : BitVec 1 := Scalar.cmpi .slt c1_i32_40 c0_i32_44
  let v105 : BitVec 32 := Scalar.extui v104
  let v106 : BitVec 32 := Scalar.subi v103 v105
  let v107 : BitVec 1 := Scalar.cmpi .ne v101 v106
  let v108 : BitVec 32 := Scalar.remsi arg1 c1_i32_40
  let c0_i32_45 : BitVec 32 := 0#32
  let v109 : BitVec 1 := Scalar.cmpi .ne v108 c0_i32_45
  let v110 : BitVec 1 := Scalar.andi v107 v109
  let v96 : BitVec 32 := Scalar.divsi arg1 c1_i32_40
  let c1_i32_46 : BitVec 32 := 1#32
  let v111 : BitVec 32 := Scalar.subi v96 c1_i32_46
  let v112 : BitVec 32 := Scalar.select v110 v111 v96
  let c2_i32 : BitVec 32 := 2#32
  let v113 : BitVec 1 := Scalar.cmpi .eq v112 c2_i32
  let v114 : BitVec 1 := Scalar.andi v95 v113
  let v115 : BitVec 32 := Scalar.extui v114
  let c0_i32_47 : BitVec 32 := 0#32
  let v116 : BitVec 1 := Scalar.cmpi .ne v115 c0_i32_47
  v116

def k0_cond4 (i : grid0.Coords) : BitVec 1 :=
  let arg2 : BitVec 32 := BitVec.ofNat 32 (i 2).val
  let c0_i32_49 : BitVec 32 := 0#32
  let v118 : BitVec 1 := Scalar.cmpi .sgt arg2 c0_i32_49
  let v119 : BitVec 32 := Scalar.extui v118
  let c0_i32_50 : BitVec 32 := 0#32
  let v120 : BitVec 1 := Scalar.cmpi .slt arg2 c0_i32_50
  let v121 : BitVec 32 := Scalar.extui v120
  let v122 : BitVec 32 := Scalar.subi v119 v121
  let c1_i32_48 : BitVec 32 := 1#32
  let c0_i32_51 : BitVec 32 := 0#32
  let v123 : BitVec 1 := Scalar.cmpi .sgt c1_i32_48 c0_i32_51
  let v124 : BitVec 32 := Scalar.extui v123
  let c0_i32_52 : BitVec 32 := 0#32
  let v125 : BitVec 1 := Scalar.cmpi .slt c1_i32_48 c0_i32_52
  let v126 : BitVec 32 := Scalar.extui v125
  let v127 : BitVec 32 := Scalar.subi v124 v126
  let v128 : BitVec 1 := Scalar.cmpi .ne v122 v127
  let v129 : BitVec 32 := Scalar.remsi arg2 c1_i32_48
  let c0_i32_53 : BitVec 32 := 0#32
  let v130 : BitVec 1 := Scalar.cmpi .ne v129 c0_i32_53
  let v131 : BitVec 1 := Scalar.andi v128 v130
  let v117 : BitVec 32 := Scalar.divsi arg2 c1_i32_48
  let c1_i32_54 : BitVec 32 := 1#32
  let v132 : BitVec 32 := Scalar.subi v117 c1_i32_54
  let v133 : BitVec 32 := Scalar.select v131 v132 v117
  let c0_i32_55 : BitVec 32 := 0#32
  let v134 : BitVec 1 := Scalar.cmpi .eq v133 c0_i32_55
  let arg1 : BitVec 32 := BitVec.ofNat 32 (i 1).val
  let c0_i32_57 : BitVec 32 := 0#32
  let v136 : BitVec 1 := Scalar.cmpi .sgt arg1 c0_i32_57
  let v137 : BitVec 32 := Scalar.extui v136
  let c0_i32_58 : BitVec 32 := 0#32
  let v138 : BitVec 1 := Scalar.cmpi .slt arg1 c0_i32_58
  let v139 : BitVec 32 := Scalar.extui v138
  let v140 : BitVec 32 := Scalar.subi v137 v139
  let c1_i32_56 : BitVec 32 := 1#32
  let c0_i32_59 : BitVec 32 := 0#32
  let v141 : BitVec 1 := Scalar.cmpi .sgt c1_i32_56 c0_i32_59
  let v142 : BitVec 32 := Scalar.extui v141
  let c0_i32_60 : BitVec 32 := 0#32
  let v143 : BitVec 1 := Scalar.cmpi .slt c1_i32_56 c0_i32_60
  let v144 : BitVec 32 := Scalar.extui v143
  let v145 : BitVec 32 := Scalar.subi v142 v144
  let v146 : BitVec 1 := Scalar.cmpi .ne v140 v145
  let v147 : BitVec 32 := Scalar.remsi arg1 c1_i32_56
  let c0_i32_61 : BitVec 32 := 0#32
  let v148 : BitVec 1 := Scalar.cmpi .ne v147 c0_i32_61
  let v149 : BitVec 1 := Scalar.andi v146 v148
  let v135 : BitVec 32 := Scalar.divsi arg1 c1_i32_56
  let c1_i32_62 : BitVec 32 := 1#32
  let v150 : BitVec 32 := Scalar.subi v135 c1_i32_62
  let v151 : BitVec 32 := Scalar.select v149 v150 v135
  let c3_i32 : BitVec 32 := 3#32
  let v152 : BitVec 1 := Scalar.cmpi .eq v151 c3_i32
  let v153 : BitVec 1 := Scalar.andi v134 v152
  let v154 : BitVec 32 := Scalar.extui v153
  let c0_i32_63 : BitVec 32 := 0#32
  let v155 : BitVec 1 := Scalar.cmpi .ne v154 c0_i32_63
  v155

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c0_i32_7 : BitVec 32 := 0#32
  let v19 : BitVec 32 := Scalar.subi arg1 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  let c0_i32_12 : BitVec 32 := 0#32
  ![c0_i32_11.toNat, v18.toNat, v22.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.subi arg1 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c1_i32_11 : BitVec 32 := 1#32
  let c0_i32_12 : BitVec 32 := 0#32
  ![c1_i32_11.toNat, v18.toNat, v22.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c2_i32_6 : BitVec 32 := 2#32
  let v19 : BitVec 32 := Scalar.subi arg1 c2_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c2_i32_10 : BitVec 32 := 2#32
  let c0_i32_11 : BitVec 32 := 0#32
  ![c2_i32_10.toNat, v18.toNat, v22.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c3_i32_6 : BitVec 32 := 3#32
  let v19 : BitVec 32 := Scalar.subi arg1 c3_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c3_i32_10 : BitVec 32 := 3#32
  let c0_i32_11 : BitVec 32 := 0#32
  ![c3_i32_10.toNat, v18.toNat, v22.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S2048x1024 : Shape := ⟨2, ![2048, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x1408, .bf16⟩
  | .hbm, ⟨2, _⟩ => ⟨S1024x4x1408, .bf16⟩
  | .hbm, ⟨3, _⟩ => ⟨S1024x5632, .bf16⟩
  | .hbm, ⟨4, _⟩ => ⟨S2048x5632, .f32⟩
  | .hbm, ⟨5, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .bf16⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .bf16⟩
  | .hbm, ⟨3, _⟩ => ⟨S2048x1024, .f32⟩
  | .hbm, ⟨4, _⟩ => ⟨S2048x1024, .bf16⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .hbm, ⟨3, _⟩ => ⟨S1024x1024, .bf16⟩
  | .hbm, ⟨4, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .bf16⟩
  | .hbm, ⟨3, _⟩ => ⟨S1024x1024, .f32⟩
  | .hbm, ⟨4, _⟩ => ⟨S1024x1024, .bf16⟩
  | .hbm, ⟨5, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .bf16⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S2048x1024 : Shape := ⟨2, ![2048, 1024]⟩
abbrev S4x512x256 : Shape := ⟨3, ![4, 512, 256]⟩
abbrev S2048x512 : Shape := ⟨2, ![2048, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 3
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S4x512x256, .bf16⟩
  | .hbm, ⟨2, _⟩ => ⟨S2048x512, .f32⟩
  | .local _ .vmem, ⟨0, _⟩ => ⟨S1024x256, .f32⟩
  | .local _ .vmem, ⟨1, _⟩ => ⟨S1024x256, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 1, 4], ![false, false, false]⟩

def k0_cond13 (i : grid0.Coords) : BitVec 1 :=
  let arg2 : BitVec 32 := BitVec.ofNat 32 (i 2).val
  let c3_i32_63 : BitVec 32 := 3#32
  let v156 : BitVec 1 := Scalar.cmpi .eq arg2 c3_i32_63
  let v157 : BitVec 32 := Scalar.extui v156
  let c0_i32_64 : BitVec 32 := 0#32
  let v158 : BitVec 1 := Scalar.cmpi .ne v157 c0_i32_64
  v158

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg1 c0_i32_6
  let c0_i32_7 : BitVec 32 := 0#32
  let v19 : BitVec 32 := Scalar.subi arg2 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  let c0_i32_12 : BitVec 32 := 0#32
  ![c0_i32_11.toNat, v18.toNat, v22.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg1 c0_i32_6
  let c1_i32_7 : BitVec 32 := 1#32
  let v19 : BitVec 32 := Scalar.subi arg2 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c1_i32_11 : BitVec 32 := 1#32
  let c0_i32_12 : BitVec 32 := 0#32
  ![c1_i32_11.toNat, v18.toNat, v22.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg1 c0_i32_5
  let c2_i32_6 : BitVec 32 := 2#32
  let v19 : BitVec 32 := Scalar.subi arg2 c2_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c2_i32_10 : BitVec 32 := 2#32
  let c0_i32_11 : BitVec 32 := 0#32
  ![c2_i32_10.toNat, v18.toNat, v22.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg1 c0_i32_5
  let c3_i32_6 : BitVec 32 := 3#32
  let v19 : BitVec 32 := Scalar.subi arg2 c3_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c3_i32_10 : BitVec 32 := 3#32
  let c0_i32_11 : BitVec 32 := 0#32
  ![c3_i32_10.toNat, v18.toNat, v22.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference20Ideal.lean ====
abbrev S2048x1024 : Shape := ⟨2, ![2048, 1024]⟩
abbrev S4x512x256 : Shape := ⟨3, ![4, 512, 256]⟩
abbrev S512x4x256 : Shape := ⟨3, ![512, 4, 256]⟩
abbrev S512x1024 : Shape := ⟨2, ![512, 1024]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x512x256, .bf16⟩
  | .hbm, ⟨2, _⟩ => ⟨S512x4x256, .bf16⟩
  | .hbm, ⟨3, _⟩ => ⟨S512x1024, .bf16⟩
  | .hbm, ⟨4, _⟩ => ⟨S2048x1024, .bf16⟩
  | .hbm, ⟨5, _⟩ => ⟨S2048x512, .f32⟩
  | .hbm, ⟨6, _⟩ => ⟨S2048x512, .bf16⟩
  | .hbm, ⟨7, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel21.lean ====
abbrev S2048x512 : Shape := ⟨2, ![2048, 512]⟩
abbrev S2048x1024 : Shape := ⟨2, ![2048, 1024]⟩
abbrev S1x4x512x256 : Shape := ⟨4, ![1, 4, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S2048x1024, .f32⟩
  | .hbm, ⟨2, _⟩ => ⟨S1x4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .f32⟩
  | .local _ .vmem, ⟨3, _⟩ => ⟨S1024x256, .f32⟩
  | .local _ .vmem, ⟨4, _⟩ => ⟨S1x1x512x256, .bf16⟩
  | .local _ .vmem, ⟨5, _⟩ => ⟨S1x1x512x256, .bf16⟩
  | .local _ .vmem, ⟨6, _⟩ => ⟨S512x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x512 : Shape := ⟨2, ![2048, 512]⟩
abbrev S2048x1024 : Shape := ⟨2, ![2048, 1024]⟩
abbrev S512x1024 : Shape := ⟨2, ![512, 1024]⟩
abbrev S512x4x256 : Shape := ⟨3, ![512, 4, 256]⟩
abbrev S4x512x256 : Shape := ⟨3, ![4, 512, 256]⟩
abbrev S1x4x512x256 : Shape := ⟨4, ![1, 4, 512, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .f32⟩
  | .hbm, ⟨2, _⟩ => ⟨S2048x1024, .bf16⟩
  | .hbm, ⟨3, _⟩ => ⟨S512x1024, .f32⟩
  | .hbm, ⟨4, _⟩ => ⟨S512x1024, .bf16⟩
  | .hbm, ⟨5, _⟩ => ⟨S512x4x256, .bf16⟩
  | .hbm, ⟨6, _⟩ => ⟨S4x512x256, .bf16⟩
  | .hbm, ⟨7, _⟩ => ⟨S1x4x512x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel22.lean ====
abbrev S2048x512 : Shape := ⟨2, ![2048, 512]⟩
abbrev S1024x512 : Shape := ⟨2, ![1024, 512]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S2048x1024, .f32⟩
  | .hbm, ⟨3, _⟩ => ⟨S2048x1024, .bf16⟩
  | .hbm, ⟨4, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S2048x1024 : Shape := ⟨2, ![2048, 1024]⟩
abbrev S2048x512 : Shape := ⟨2, ![2048, 512]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S2048x1024 : Shape := ⟨2, ![2048, 1024]⟩
abbrev S2048x512 : Shape := ⟨2, ![2048, 512]⟩
abbrev S1024x512 : Shape := ⟨2, ![1024, 512]⟩
abbrev S1x1024x512 : Shape := ⟨3, ![1, 1024, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .f32⟩
  | .hbm, ⟨3, _⟩ => ⟨S1024x512, .bf16⟩
  | .hbm, ⟨4, _⟩ => ⟨S1x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S256x512 : Shape := ⟨2, ![256, 512]⟩
abbrev S1024x1024 : Shape := ⟨2, ![1024, 1024]⟩
abbrev S256x1024 : Shape := ⟨2, ![256, 1024]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x1024, .bf16⟩
  | .hbm, ⟨3, _⟩ => ⟨S256x1024, .f32⟩
  | .hbm, ⟨4, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1024x512, .bf16⟩
  | .local _ .vmem, ⟨5, _⟩ => ⟨S1024x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨3, ![1, 1, 2], ![false, false, false]⟩

def k0_cond7 (i : grid0.Coords) : BitVec 1 :=
  let arg2 : BitVec 32 := BitVec.ofNat 32 (i 2).val
  let c1_i32_31 : BitVec 32 := 1#32
  let v78 : BitVec 1 := Scalar.cmpi .eq arg2 c1_i32_31
  let v79 : BitVec 32 := Scalar.extui v78
  let c0_i32_32 : BitVec 32 := 0#32
  let v80 : BitVec 1 := Scalar.cmpi .ne v79 c0_i32_32
  v80

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg0 c0_i32_6
  let c0_i32_7 : BitVec 32 := 0#32
  let v19 : BitVec 32 := Scalar.subi arg2 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg0 c0_i32_6
  let c1_i32_7 : BitVec 32 := 1#32
  let v19 : BitVec 32 := Scalar.subi arg2 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]
-- ==== Reference24Ideal.lean ====
abbrev S256x512 : Shape := ⟨2, ![256, 512]⟩
abbrev S1024x1024 : Shape := ⟨2, ![1024, 1024]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x1024, .bf16⟩
  | .hbm, ⟨3, _⟩ => ⟨S256x1024, .f32⟩
  | .hbm, ⟨4, _⟩ => ⟨S256x1024, .f32⟩
  | .hbm, ⟨5, _⟩ => ⟨S256x1024, .bf16⟩
  | .hbm, ⟨6, _⟩ => ⟨S256x1024, .f32⟩
  | .hbm, ⟨7, _⟩ => ⟨S256x1024, .bf16⟩
  | .hbm, ⟨8, _⟩ => ⟨S256x1024, .f32⟩
  | .hbm, ⟨9, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel25.lean ====
abbrev S256x1024 : Shape := ⟨2, ![256, 1024]⟩
abbrev S256x512 : Shape := ⟨2, ![256, 512]⟩
abbrev S1x1024x1024 : Shape := ⟨3, ![1, 1024, 1024]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S256x512, .f32⟩
  | .hbm, ⟨3, _⟩ => ⟨S1x1024x1024, .bf16⟩
  | .local _ .vmem, ⟨0, _⟩ => ⟨S256x1024, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S1x1024x512, .bf16⟩
  | .local _ .vmem, ⟨6, _⟩ => ⟨S1x1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let arg1 : BitVec 32 := BitVec.ofNat 32 (i 1).val
  let c0_i32_7 : BitVec 32 := 0#32
  let v19 : BitVec 1 := Scalar.cmpi .sgt arg1 c0_i32_7
  let v20 : BitVec 32 := Scalar.extui v19
  let c0_i32_8 : BitVec 32 := 0#32
  let v21 : BitVec 1 := Scalar.cmpi .slt arg1 c0_i32_8
  let v22 : BitVec 32 := Scalar.extui v21
  let v23 : BitVec 32 := Scalar.subi v20 v22
  let c1_i32_6 : BitVec 32 := 1#32
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg1 c1_i32_6
  let c0_i32_11 : BitVec 32 := 0#32
  let v31 : BitVec 1 := Scalar.cmpi .ne v30 c0_i32_11
  let v32 : BitVec 1 := Scalar.andi v29 v31
  let v18 : BitVec 32 := Scalar.divsi arg1 c1_i32_6
  let c1_i32_12 : BitVec 32 := 1#32
  let v33 : BitVec 32 := Scalar.subi v18 c1_i32_12
  let v34 : BitVec 32 := Scalar.select v32 v33 v18
  let c0_i32_13 : BitVec 32 := 0#32
  let v35 : BitVec 1 := Scalar.cmpi .eq v34 c0_i32_13
  let v36 : BitVec 1 := Scalar.andi v17 v35
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_16 : BitVec 32 := 0#32
  let v40 : BitVec 1 := Scalar.cmpi .sgt arg0 c0_i32_16
  let v41 : BitVec 32 := Scalar.extui v40
  let c0_i32_17 : BitVec 32 := 0#32
  let v42 : BitVec 1 := Scalar.cmpi .slt arg0 c0_i32_17
  let v43 : BitVec 32 := Scalar.extui v42
  let v44 : BitVec 32 := Scalar.subi v41 v43
  let c1_i32_15 : BitVec 32 := 1#32
  let c0_i32_18 : BitVec 32 := 0#32
  let v45 : BitVec 1 := Scalar.cmpi .sgt c1_i32_15 c0_i32_18
  let v46 : BitVec 32 := Scalar.extui v45
  let c0_i32_19 : BitVec 32 := 0#32
  let v47 : BitVec 1 := Scalar.cmpi .slt c1_i32_15 c0_i32_19
  let v48 : BitVec 32 := Scalar.extui v47
  let v49 : BitVec 32 := Scalar.subi v46 v48
  let v50 : BitVec 1 := Scalar.cmpi .ne v44 v49
  let v51 : BitVec 32 := Scalar.remsi arg0 c1_i32_15
  let c0_i32_20 : BitVec 32 := 0#32
  let v52 : BitVec 1 := Scalar.cmpi .ne v51 c0_i32_20
  let v53 : BitVec 1 := Scalar.andi v50 v52
  let v39 : BitVec 32 := Scalar.divsi arg0 c1_i32_15
  let c1_i32_21 : BitVec 32 := 1#32
  let v54 : BitVec 32 := Scalar.subi v39 c1_i32_21
  let v55 : BitVec 32 := Scalar.select v53 v54 v39
  let c0_i32_22 : BitVec 32 := 0#32
  let v56 : BitVec 1 := Scalar.cmpi .eq v55 c0_i32_22
  let arg1 : BitVec 32 := BitVec.ofNat 32 (i 1).val
  let c0_i32_24 : BitVec 32 := 0#32
  let v58 : BitVec 1 := Scalar.cmpi .sgt arg1 c0_i32_24
  let v59 : BitVec 32 := Scalar.extui v58
  let c0_i32_25 : BitVec 32 := 0#32
  let v60 : BitVec 1 := Scalar.cmpi .slt arg1 c0_i32_25
  let v61 : BitVec 32 := Scalar.extui v60
  let v62 : BitVec 32 := Scalar.subi v59 v61
  let c1_i32_23 : BitVec 32 := 1#32
  let c0_i32_26 : BitVec 32 := 0#32
  let v63 : BitVec 1 := Scalar.cmpi .sgt c1_i32_23 c0_i32_26
  let v64 : BitVec 32 := Scalar.extui v63
  let c0_i32_27 : BitVec 32 := 0#32
  let v65 : BitVec 1 := Scalar.cmpi .slt c1_i32_23 c0_i32_27
  let v66 : BitVec 32 := Scalar.extui v65
  let v67 : BitVec 32 := Scalar.subi v64 v66
  let v68 : BitVec 1 := Scalar.cmpi .ne v62 v67
  let v69 : BitVec 32 := Scalar.remsi arg1 c1_i32_23
  let c0_i32_28 : BitVec 32 := 0#32
  let v70 : BitVec 1 := Scalar.cmpi .ne v69 c0_i32_28
  let v71 : BitVec 1 := Scalar.andi v68 v70
  let v57 : BitVec 32 := Scalar.divsi arg1 c1_i32_23
  let c1_i32_29 : BitVec 32 := 1#32
  let v72 : BitVec 32 := Scalar.subi v57 c1_i32_29
  let v73 : BitVec 32 := Scalar.select v71 v72 v57
  let c1_i32_30 : BitVec 32 := 1#32
  let v74 : BitVec 1 := Scalar.cmpi .eq v73 c1_i32_30
  let v75 : BitVec 1 := Scalar.andi v56 v74
  let v76 : BitVec 32 := Scalar.extui v75
  let c0_i32_31 : BitVec 32 := 0#32
  let v77 : BitVec 1 := Scalar.cmpi .ne v76 c0_i32_31
  v77

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c0_i32_7 : BitVec 32 := 0#32
  let v19 : BitVec 32 := Scalar.subi arg1 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.subi arg1 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S256x1024 : Shape := ⟨2, ![256, 1024]⟩
abbrev S256x512 : Shape := ⟨2, ![256, 512]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S256x512, .f32⟩
  | .hbm, ⟨3, _⟩ => ⟨S256x1024, .f32⟩
  | .hbm, ⟨4, _⟩ => ⟨S256x1024, .bf16⟩
  | .hbm, ⟨5, _⟩ => ⟨S1024x1024, .f32⟩
  | .hbm, ⟨6, _⟩ => ⟨S1024x1024, .bf16⟩
  | .hbm, ⟨7, _⟩ => ⟨S1x1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S2048x128 : Shape := ⟨2, ![2048, 128]⟩
abbrev S1024x128 : Shape := ⟨2, ![1024, 128]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .bf16⟩
  | .hbm, ⟨1, _⟩ => ⟨S1024x128, .bf16⟩
  | .hbm, ⟨2, _⟩ => ⟨S2048x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S2048x128 : Shape := ⟨2, ![2048, 128]⟩
abbrev S1024x128 : Shape := ⟨2, ![1024, 128]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S1024x128, .bf16⟩
  | .hbm, ⟨2, _⟩ => ⟨S2048x1024, .f32⟩
  | .hbm, ⟨3, _⟩ => ⟨S2048x1024, .bf16⟩
  | .hbm, ⟨4, _⟩ => ⟨S2048x1024, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S2048x1024 : Shape := ⟨2, ![2048, 1024]⟩
abbrev S2048x128 : Shape := ⟨2, ![2048, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x128, .bf16⟩
  | .hbm, ⟨2, _⟩ => ⟨S1024x128, .f32⟩
  | .hbm, ⟨3, _⟩ => ⟨S1024x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S2048x512 : Shape := ⟨2, ![2048, 512]⟩
abbrev S4x512x256 : Shape := ⟨3, ![4, 512, 256]⟩
abbrev S2048x1024 : Shape := ⟨2, ![2048, 1024]⟩
abbrev S1024x512 : Shape := ⟨2, ![1024, 512]⟩
abbrev S1x512x256 : Shape := ⟨3, ![1, 512, 256]⟩
abbrev S1024x256 : Shape := ⟨2, ![1024, 256]⟩
abbrev S512x256 : Shape := ⟨2, ![512, 256]⟩

abbrev nBuf : Space → Nat
  | .hbm => 4
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x1024, .f32⟩
  | .hbm, ⟨3, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let arg1 : BitVec 32 := BitVec.ofNat 32 (i 1).val
  let c0_i32_7 : BitVec 32 := 0#32
  let v19 : BitVec 1 := Scalar.cmpi .sgt arg1 c0_i32_7
  let v20 : BitVec 32 := Scalar.extui v19
  let c0_i32_8 : BitVec 32 := 0#32
  let v21 : BitVec 1 := Scalar.cmpi .slt arg1 c0_i32_8
  let v22 : BitVec 32 := Scalar.extui v21
  let v23 : BitVec 32 := Scalar.subi v20 v22
  let c1_i32_6 : BitVec 32 := 1#32
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg1 c1_i32_6
  let c0_i32_11 : BitVec 32 := 0#32
  let v31 : BitVec 1 := Scalar.cmpi .ne v30 c0_i32_11
  let v32 : BitVec 1 := Scalar.andi v29 v31
  let v18 : BitVec 32 := Scalar.divsi arg1 c1_i32_6
  let c1_i32_12 : BitVec 32 := 1#32
  let v33 : BitVec 32 := Scalar.subi v18 c1_i32_12
  let v34 : BitVec 32 := Scalar.select v32 v33 v18
  let c0_i32_13 : BitVec 32 := 0#32
  let v35 : BitVec 1 := Scalar.cmpi .eq v34 c0_i32_13
  let v36 : BitVec 1 := Scalar.andi v17 v35
  let v37 : BitVec 32 := Scalar.extui v36
  let c0_i32_14 : BitVec 32 := 0#32
  let v38 : BitVec 1 := Scalar.cmpi .ne v37 c0_i32_14
  v38

def k0_cond2 (i : grid0.Coords) : BitVec 1 :=
  let arg2 : BitVec 32 := BitVec.ofNat 32 (i 2).val
  let c0_i32_16 : BitVec 32 := 0#32
  let v40 : BitVec 1 := Scalar.cmpi .sgt arg2 c0_i32_16
  let v41 : BitVec 32 := Scalar.extui v40
  let c0_i32_17 : BitVec 32 := 0#32
  let v42 : BitVec 1 := Scalar.cmpi .slt arg2 c0_i32_17
  let v43 : BitVec 32 := Scalar.extui v42
  let v44 : BitVec 32 := Scalar.subi v41 v43
  let c1_i32_15 : BitVec 32 := 1#32
  let c0_i32_18 : BitVec 32 := 0#32
  let v45 : BitVec 1 := Scalar.cmpi .sgt c1_i32_15 c0_i32_18
  let v46 : BitVec 32 := Scalar.extui v45
  let c0_i32_19 : BitVec 32 := 0#32
  let v47 : BitVec 1 := Scalar.cmpi .slt c1_i32_15 c0_i32_19
  let v48 : BitVec 32 := Scalar.extui v47
  let v49 : BitVec 32 := Scalar.subi v46 v48
  let v50 : BitVec 1 := Scalar.cmpi .ne v44 v49
  let v51 : BitVec 32 := Scalar.remsi arg2 c1_i32_15
  let c0_i32_20 : BitVec 32 := 0#32
  let v52 : BitVec 1 := Scalar.cmpi .ne v51 c0_i32_20
  let v53 : BitVec 1 := Scalar.andi v50 v52
  let v39 : BitVec 32 := Scalar.divsi arg2 c1_i32_15
  let c1_i32_21 : BitVec 32 := 1#32
  let v54 : BitVec 32 := Scalar.subi v39 c1_i32_21
  let v55 : BitVec 32 := Scalar.select v53 v54 v39
  let c0_i32_22 : BitVec 32 := 0#32
  let v56 : BitVec 1 := Scalar.cmpi .eq v55 c0_i32_22
  let arg1 : BitVec 32 := BitVec.ofNat 32 (i 1).val
  let c0_i32_24 : BitVec 32 := 0#32
  let v58 : BitVec 1 := Scalar.cmpi .sgt arg1 c0_i32_24
  let v59 : BitVec 32 := Scalar.extui v58
  let c0_i32_25 : BitVec 32 := 0#32
  let v60 : BitVec 1 := Scalar.cmpi .slt arg1 c0_i32_25
  let v61 : BitVec 32 := Scalar.extui v60
  let v62 : BitVec 32 := Scalar.subi v59 v61
  let c1_i32_23 : BitVec 32 := 1#32
  let c0_i32_26 : BitVec 32 := 0#32
  let v63 : BitVec 1 := Scalar.cmpi .sgt c1_i32_23 c0_i32_26
  let v64 : BitVec 32 := Scalar.extui v63
  let c0_i32_27 : BitVec 32 := 0#32
  let v65 : BitVec 1 := Scalar.cmpi .slt c1_i32_23 c0_i32_27
  let v66 : BitVec 32 := Scalar.extui v65
  let v67 : BitVec 32 := Scalar.subi v64 v66
  let v68 : BitVec 1 := Scalar.cmpi .ne v62 v67
  let v69 : BitVec 32 := Scalar.remsi arg1 c1_i32_23
  let c0_i32_28 : BitVec 32 := 0#32
  let v70 : BitVec 1 := Scalar.cmpi .ne v69 c0_i32_28
  let v71 : BitVec 1 := Scalar.andi v68 v70
  let v57 : BitVec 32 := Scalar.divsi arg1 c1_i32_23
  let c1_i32_29 : BitVec 32 := 1#32
  let v72 : BitVec 32 := Scalar.subi v57 c1_i32_29
  let v73 : BitVec 32 := Scalar.select v71 v72 v57
  let c1_i32_30 : BitVec 32 := 1#32
  let v74 : BitVec 1 := Scalar.cmpi .eq v73 c1_i32_30
  let v75 : BitVec 1 := Scalar.andi v56 v74
  let v76 : BitVec 32 := Scalar.extui v75
  let c0_i32_31 : BitVec 32 := 0#32
  let v77 : BitVec 1 := Scalar.cmpi .ne v76 c0_i32_31
  v77

def k0_cond3 (i : grid0.Coords) : BitVec 1 :=
  let arg2 : BitVec 32 := BitVec.ofNat 32 (i 2).val
  let c0_i32_33 : BitVec 32 := 0#32
  let v79 : BitVec 1 := Scalar.cmpi .sgt arg2 c0_i32_33
  let v80 : BitVec 32 := Scalar.extui v79
  let c0_i32_34 : BitVec 32 := 0#32
  let v81 : BitVec 1 := Scalar.cmpi .slt arg2 c0_i32_34
  let v82 : BitVec 32 := Scalar.extui v81
  let v83 : BitVec 32 := Scalar.subi v80 v82
  let c1_i32_32 : BitVec 32 := 1#32
  let c0_i32_35 : BitVec 32 := 0#32
  let v84 : BitVec 1 := Scalar.cmpi .sgt c1_i32_32 c0_i32_35
  let v85 : BitVec 32 := Scalar.extui v84
  let c0_i32_36 : BitVec 32 := 0#32
  let v86 : BitVec 1 := Scalar.cmpi .slt c1_i32_32 c0_i32_36
  let v87 : BitVec 32 := Scalar.extui v86
  let v88 : BitVec 32 := Scalar.subi v85 v87
  let v89 : BitVec 1 := Scalar.cmpi .ne v83 v88
  let v90 : BitVec 32 := Scalar.remsi arg2 c1_i32_32
  let c0_i32_37 : BitVec 32 := 0#32
  let v91 : BitVec 1 := Scalar.cmpi .ne v90 c0_i32_37
  let v92 : BitVec 1 := Scalar.andi v89 v91
  let v78 : BitVec 32 := Scalar.divsi arg2 c1_i32_32
  let c1_i32_38 : BitVec 32 := 1#32
  let v93 : BitVec 32 := Scalar.subi v78 c1_i32_38
  let v94 : BitVec 32 := Scalar.select v92 v93 v78
  let c0_i32_39 : BitVec 32 := 0#32
  let v95 : BitVec 1 := Scalar.cmpi .eq v94 c0_i32_39
  let arg1 : BitVec 32 := BitVec.ofNat 32 (i 1).val
  let c0_i32_41 : BitVec 32 := 0#32
  let v97 : BitVec 1 := Scalar.cmpi .sgt arg1 c0_i32_41
  let v98 : BitVec 32 := Scalar.extui v97
  let c0_i32_42 : BitVec 32 := 0#32
  let v99 : BitVec 1 := Scalar.cmpi .slt arg1 c0_i32_42
  let v100 : BitVec 32 := Scalar.extui v99
  let v101 : BitVec 32 := Scalar.subi v98 v100
  let c1_i32_40 : BitVec 32 := 1#32
  let c0_i32_43 : BitVec 32 := 0#32
  let v102 : BitVec 1 := Scalar.cmpi .sgt c1_i32_40 c0_i32_43
  let v103 : BitVec 32 := Scalar.extui v102
  let c0_i32_44 : BitVec 32 := 0#32
  let v104 : BitVec 1 := Scalar.cmpi .slt c1_i32_40 c0_i32_44
  let v105 : BitVec 32 := Scalar.extui v104
  let v106 : BitVec 32 := Scalar.subi v103 v105
  let v107 : BitVec 1 := Scalar.cmpi .ne v101 v106
  let v108 : BitVec 32 := Scalar.remsi arg1 c1_i32_40
  let c0_i32_45 : BitVec 32 := 0#32
  let v109 : BitVec 1 := Scalar.cmpi .ne v108 c0_i32_45
  let v110 : BitVec 1 := Scalar.andi v107 v109
  let v96 : BitVec 32 := Scalar.divsi arg1 c1_i32_40
  let c1_i32_46 : BitVec 32 := 1#32
  let v111 : BitVec 32 := Scalar.subi v96 c1_i32_46
  let v112 : BitVec 32 := Scalar.select v110 v111 v96
  let c2_i32 : BitVec 32 := 2#32
  let v113 : BitVec 1 := Scalar.cmpi .eq v112 c2_i32
  let v114 : BitVec 1 := Scalar.andi v95 v113
  let v115 : BitVec 32 := Scalar.extui v114
  let c0_i32_47 : BitVec 32 := 0#32
  let v116 : BitVec 1 := Scalar.cmpi .ne v115 c0_i32_47
  v116

def k0_cond4 (i : grid0.Coords) : BitVec 1 :=
  let arg2 : BitVec 32 := BitVec.ofNat 32 (i 2).val
  let c0_i32_49 : BitVec 32 := 0#32
  let v118 : BitVec 1 := Scalar.cmpi .sgt arg2 c0_i32_49
  let v119 : BitVec 32 := Scalar.extui v118
  let c0_i32_50 : BitVec 32 := 0#32
  let v120 : BitVec 1 := Scalar.cmpi .slt arg2 c0_i32_50
  let v121 : BitVec 32 := Scalar.extui v120
  let v122 : BitVec 32 := Scalar.subi v119 v121
  let c1_i32_48 : BitVec 32 := 1#32
  let c0_i32_51 : BitVec 32 := 0#32
  let v123 : BitVec 1 := Scalar.cmpi .sgt c1_i32_48 c0_i32_51
  let v124 : BitVec 32 := Scalar.extui v123
  let c0_i32_52 : BitVec 32 := 0#32
  let v125 : BitVec 1 := Scalar.cmpi .slt c1_i32_48 c0_i32_52
  let v126 : BitVec 32 := Scalar.extui v125
  let v127 : BitVec 32 := Scalar.subi v124 v126
  let v128 : BitVec 1 := Scalar.cmpi .ne v122 v127
  let v129 : BitVec 32 := Scalar.remsi arg2 c1_i32_48
  let c0_i32_53 : BitVec 32 := 0#32
  let v130 : BitVec 1 := Scalar.cmpi .ne v129 c0_i32_53
  let v131 : BitVec 1 := Scalar.andi v128 v130
  let v117 : BitVec 32 := Scalar.divsi arg2 c1_i32_48
  let c1_i32_54 : BitVec 32 := 1#32
  let v132 : BitVec 32 := Scalar.subi v117 c1_i32_54
  let v133 : BitVec 32 := Scalar.select v131 v132 v117
  let c0_i32_55 : BitVec 32 := 0#32
  let v134 : BitVec 1 := Scalar.cmpi .eq v133 c0_i32_55
  let arg1 : BitVec 32 := BitVec.ofNat 32 (i 1).val
  let c0_i32_57 : BitVec 32 := 0#32
  let v136 : BitVec 1 := Scalar.cmpi .sgt arg1 c0_i32_57
  let v137 : BitVec 32 := Scalar.extui v136
  let c0_i32_58 : BitVec 32 := 0#32
  let v138 : BitVec 1 := Scalar.cmpi .slt arg1 c0_i32_58
  let v139 : BitVec 32 := Scalar.extui v138
  let v140 : BitVec 32 := Scalar.subi v137 v139
  let c1_i32_56 : BitVec 32 := 1#32
  let c0_i32_59 : BitVec 32 := 0#32
  let v141 : BitVec 1 := Scalar.cmpi .sgt c1_i32_56 c0_i32_59
  let v142 : BitVec 32 := Scalar.extui v141
  let c0_i32_60 : BitVec 32 := 0#32
  let v143 : BitVec 1 := Scalar.cmpi .slt c1_i32_56 c0_i32_60
  let v144 : BitVec 32 := Scalar.extui v143
  let v145 : BitVec 32 := Scalar.subi v142 v144
  let v146 : BitVec 1 := Scalar.cmpi .ne v140 v145
  let v147 : BitVec 32 := Scalar.remsi arg1 c1_i32_56
  let c0_i32_61 : BitVec 32 := 0#32
  let v148 : BitVec 1 := Scalar.cmpi .ne v147 c0_i32_61
  let v149 : BitVec 1 := Scalar.andi v146 v148
  let v135 : BitVec 32 := Scalar.divsi arg1 c1_i32_56
  let c1_i32_62 : BitVec 32 := 1#32
  let v150 : BitVec 32 := Scalar.subi v135 c1_i32_62
  let v151 : BitVec 32 := Scalar.select v149 v150 v135
  let c3_i32 : BitVec 32 := 3#32
  let v152 : BitVec 1 := Scalar.cmpi .eq v151 c3_i32
  let v153 : BitVec 1 := Scalar.andi v134 v152
  let v154 : BitVec 32 := Scalar.extui v153
  let c0_i32_63 : BitVec 32 := 0#32
  let v155 : BitVec 1 := Scalar.cmpi .ne v154 c0_i32_63
  v155

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c0_i32_7 : BitVec 32 := 0#32
  let v19 : BitVec 32 := Scalar.subi arg1 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  let c0_i32_12 : BitVec 32 := 0#32
  ![c0_i32_11.toNat, v18.toNat, v22.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.subi arg1 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c1_i32_11 : BitVec 32 := 1#32
  let c0_i32_12 : BitVec 32 := 0#32
  ![c1_i32_11.toNat, v18.toNat, v22.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c2_i32_6 : BitVec 32 := 2#32
  let v19 : BitVec 32 := Scalar.subi arg1 c2_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c2_i32_10 : BitVec 32 := 2#32
  let c0_i32_11 : BitVec 32 := 0#32
  ![c2_i32_10.toNat, v18.toNat, v22.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c3_i32_6 : BitVec 32 := 3#32
  let v19 : BitVec 32 := Scalar.subi arg1 c3_i32_6
  let c0_i32_7 : BitVec 32 := 0#32
  let c0_i32_8 : BitVec 32 := 0#32
  let v20 : BitVec 32 := Scalar.maxsi c0_i32_7 v19
  let v21 : BitVec 32 := Scalar.minsi c0_i32_8 v20
  let c0_i32_9 : BitVec 32 := 0#32
  let v22 : BitVec 32 := Scalar.addi c0_i32_9 v21
  let c3_i32_10 : BitVec 32 := 3#32
  let c0_i32_11 : BitVec 32 := 0#32
  ![c3_i32_10.toNat, v18.toNat, v22.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference28Ideal.lean ====
abbrev S2048x512 : Shape := ⟨2, ![2048, 512]⟩
abbrev S4x512x256 : Shape := ⟨3, ![4, 512, 256]⟩
abbrev S2048x1024 : Shape := ⟨2, ![2048, 1024]⟩
abbrev S512x4x256 : Shape := ⟨3, ![512, 4, 256]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x256, .bf16⟩
  | .hbm, ⟨2, _⟩ => ⟨S2048x1024, .f32⟩
  | .hbm, ⟨3, _⟩ => ⟨S512x4x256, .bf16⟩
  | .hbm, ⟨4, _⟩ => ⟨S512x1024, .bf16⟩
  | .hbm, ⟨5, _⟩ => ⟨S2048x1024, .f32⟩
  | .hbm, ⟨6, _⟩ => ⟨S2048x1024, .bf16⟩
  | .hbm, ⟨7, _⟩ => ⟨S2048x1024, .f32⟩
  | .hbm, ⟨8, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S2048x1024 : Shape := ⟨2, ![2048, 1024]⟩
abbrev S1024x512 : Shape := ⟨2, ![1024, 512]⟩
abbrev S2048x512 : Shape := ⟨2, ![2048, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S2048x512, .f32⟩
  | .hbm, ⟨3, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel30.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference30Ideal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S2048x1024 : Shape := ⟨2, ![2048, 1024]⟩
abbrev S1024x128 : Shape := ⟨2, ![1024, 128]⟩
abbrev S2048x128 : Shape := ⟨2, ![2048, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .hbm, ⟨3, _⟩ => ⟨S2048x128, .bf16⟩
  | .hbm, ⟨4, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel32.lean ====
abbrev S256x512 : Shape := ⟨2, ![256, 512]⟩
abbrev S1024x1024 : Shape := ⟨2, ![1024, 1024]⟩
abbrev S256x1024 : Shape := ⟨2, ![256, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x1024, .bf16⟩
  | .hbm, ⟨3, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1024x512, .bf16⟩
  | .local _ .vmem, ⟨5, _⟩ => ⟨S1024x512, .bf16⟩
  | .local _ .vmem, ⟨6, _⟩ => ⟨S256x1024, .f32⟩
  | .local _ .vmem, ⟨7, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 2], ![false, false, false]⟩

def k0_cond7 (i : grid0.Coords) : BitVec 1 :=
  let arg2 : BitVec 32 := BitVec.ofNat 32 (i 2).val
  let c1_i32_31 : BitVec 32 := 1#32
  let v78 : BitVec 1 := Scalar.cmpi .eq arg2 c1_i32_31
  let v79 : BitVec 32 := Scalar.extui v78
  let c0_i32_32 : BitVec 32 := 0#32
  let v80 : BitVec 1 := Scalar.cmpi .ne v79 c0_i32_32
  v80

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg0 c0_i32_6
  let c0_i32_7 : BitVec 32 := 0#32
  let v19 : BitVec 32 := Scalar.subi arg2 c0_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg0 c0_i32_6
  let c1_i32_7 : BitVec 32 := 1#32
  let v19 : BitVec 32 := Scalar.subi arg2 c1_i32_7
  let c0_i32_8 : BitVec 32 := 0#32
  let c0_i32_9 : BitVec 32 := 0#32
  let v20 : BitVec 32 := Scalar.maxsi c0_i32_8 v19
  let v21 : BitVec 32 := Scalar.minsi c0_i32_9 v20
  let c0_i32_10 : BitVec 32 := 0#32
  let v22 : BitVec 32 := Scalar.addi c0_i32_10 v21
  let c0_i32_11 : BitVec 32 := 0#32
  ![v18.toNat, v22.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference32Ideal.lean ====
abbrev S256x512 : Shape := ⟨2, ![256, 512]⟩
abbrev S1024x1024 : Shape := ⟨2, ![1024, 1024]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x1024, .bf16⟩
  | .hbm, ⟨3, _⟩ => ⟨S256x1024, .f32⟩
  | .hbm, ⟨4, _⟩ => ⟨S256x1024, .bf16⟩
  | .hbm, ⟨5, _⟩ => ⟨S256x1024, .f32⟩
  | .hbm, ⟨6, _⟩ => ⟨S256x1024, .bf16⟩
  | .hbm, ⟨7, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel33.lean ====
abbrev S2048x5632 : Shape := ⟨2, ![2048, 5632]⟩
abbrev S2048x2816 : Shape := ⟨2, ![2048, 2816]⟩
abbrev S256x2816 : Shape := ⟨2, ![256, 2816]⟩

abbrev nBuf : Space → Nat
  | .hbm => 4
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S2048x2816, .f32⟩
  | .hbm, ⟨2, _⟩ => ⟨S2048x2816, .bf16⟩
  | .hbm, ⟨3, _⟩ => ⟨S2048x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .f32⟩
  | .local _ .vmem, ⟨5, _⟩ => ⟨S256x2816, .f32⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference33Ideal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2816, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .bf16⟩
  | .hbm, ⟨26, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== Kernel34.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference34Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel35.lean ====
abbrev S2048x5120 : Shape := ⟨2, ![2048, 5120]⟩
abbrev S2048x1024 : Shape := ⟨2, ![2048, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 17
  | .vmem => 32
  | .smem => 0
  | _ => 0

abbrev bufTy : (tb : Table) → Fin (tcTables nBuf tb) → BufTy
  | .hbm, ⟨0, _⟩ => ⟨S2048x5120, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference35Ideal.lean ====
abbrev S2048x5120 : Shape := ⟨2, ![2048, 5120]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .bf16⟩
  | .hbm, ⟨82, _⟩ => ⟨S2048x1024, .bf16⟩
  | .hbm, ⟨83, _⟩ => ⟨S2048x1024, .bf16⟩
  | .hbm, ⟨84, _⟩ => ⟨S2048x1024, .bf16⟩
  | .hbm, ⟨85, _⟩ => ⟨S2048x1024, .bf16⟩
  | .hbm, ⟨86, _⟩ => ⟨S2048x1024, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Kernel36.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference36Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel37.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference37Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel38.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference38Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel39.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference39Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048, .f32⟩
  | .hbm, ⟨85, _⟩ => ⟨S2048x1024, .f32⟩
  | .hbm, ⟨86, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩

abbrev nD : Nat := 1
abbrev τ : Topo := Topo.v7x

variable {F : FTy → Type} [FloatOps F]
-- ==== Kernel40.lean ====
abbrev S2048x1024 : Shape := ⟨2, ![2048, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x128, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference40Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Share.lean ====
/- One query row of forgetting attention and of its gradient, over the reals: the shares (softmax weights) the row
   gives its keys, and the slope of the row's loss in each score. The lemmas say that the sums an implementation
   forms over the extended reals (exponentials of scores less the row's largest, their sum, the quotient, and the
   quotient rule's three terms) are these real numbers, whatever constant the row's scores are shifted by. -/
module

public import Idealize.ShloMosaic.Lib.Pointwise
public import Idealize.ShloMosaic.Lib.IdealHost

@[expose] public section

noncomputable section

namespace Cert.Attention

open Idealize.ShloMosaic

variable {n : ℕ}

/-- The unnormalised weight of key `k`: the exponential of its score, or zero where the key is not allowed. -/
def wt (ok : Fin n → Prop) [DecidablePred ok] (a : Fin n → ℝ) (k : Fin n) : ℝ := if ok k then Real.exp (a k) else 0

/-- The share of key `k` in the row: its weight over the sum of the row's weights. -/
def share (ok : Fin n → Prop) [DecidablePred ok] (a : Fin n → ℝ) (k : Fin n) : ℝ := wt ok a k / ∑ j, wt ok a j

/-- The derivative of `∑ k, g k * share k` in the score of key `k`. -/
def slope (ok : Fin n → Prop) [DecidablePred ok] (a g : Fin n → ℝ) (k : Fin n) : ℝ :=
  share ok a k * (g k - ∑ j, share ok a j * g j)

section
variable (ok : Fin n → Prop) [DecidablePred ok] (a g : Fin n → ℝ)

theorem wt_nonneg (k : Fin n) : 0 ≤ wt ok a k := by
  unfold wt; split
  · exact (Real.exp_pos _).le
  · exact le_rfl

theorem wt_sum_pos {k₀ : Fin n} (h : ok k₀) : 0 < ∑ j, wt ok a j :=
  Finset.sum_pos' (fun j _ => wt_nonneg ok a j) ⟨k₀, Finset.mem_univ _, by simp only [wt, if_pos h]; exact Real.exp_pos _⟩

/-- Shifting every score of a row by one number scales every weight by one positive factor. -/
theorem wt_shift (s : ℝ) (k : Fin n) : wt ok (fun j => a j + s) k = Real.exp s * wt ok a k := by
  unfold wt; split
  · rw [Real.exp_add, mul_comm]
  · simp

/-- A common shift of the scores changes no share. -/
theorem share_shift (s : ℝ) : share ok (fun j => a j + s) = share ok a := by
  funext k
  simp only [share, wt_shift, ← Finset.mul_sum]
  exact mul_div_mul_left _ _ (Real.exp_pos s).ne'

/-- A common shift of the scores changes no slope. -/
theorem slope_shift (s : ℝ) : slope ok (fun j => a j + s) g = slope ok a g := by
  funext k; simp only [slope, share_shift]

theorem share_sum {k₀ : Fin n} (h : ok k₀) : ∑ j, share ok a j = 1 := by
  simp only [share, ← Finset.sum_div]
  exact div_self (wt_sum_pos ok a h).ne'

/-- The slopes of a row sum to zero: the shares sum to one whatever the scores are. -/
theorem slope_sum {k₀ : Fin n} (h : ok k₀) : ∑ k, slope ok a g k = 0 := by
  simp only [slope, mul_sub, Finset.sum_sub_distrib, ← Finset.sum_mul, share_sum ok a h, one_mul, sub_self]

/-- Where a key is not allowed its slope is zero. -/
theorem slope_of_not {k : Fin n} (h : ¬ ok k) : slope ok a g k = 0 := by
  simp [slope, share, wt, if_neg h]

/-- The quotient rule with the weights scaled by `c`: `g / L - (sum of g * 1/L² * w)`, times the weight, is the slope. -/
theorem slope_quotient {c : ℝ} (hc : c ≠ 0) {k₀ : Fin n} (h : ok k₀) (k : Fin n) :
    (g k * (1 / ∑ j, c * wt ok a j)
        + -∑ j, g j * (1 * (1 / ((∑ j, c * wt ok a j) * ∑ j, c * wt ok a j))) * (c * wt ok a j)) * (c * wt ok a k)
      = slope ok a g k := by
  have hW := (wt_sum_pos ok a h).ne'
  have e : ∑ j, g j * (1 * (1 / ((c * ∑ j, wt ok a j) * (c * ∑ j, wt ok a j)))) * (c * wt ok a j)
      = (∑ j, share ok a j * g j) * (1 / (c * ∑ j, wt ok a j)) := by
    rw [Finset.sum_mul]
    refine Finset.sum_congr rfl fun j _ => ?_
    unfold share
    field_simp
  rw [← Finset.mul_sum, e]
  unfold slope
  generalize (∑ j, share ok a j * g j) = t
  unfold share
  field_simp
  ring

end

/-! ## The extended reals -/

/-- A finite sum of real numbers, summed as extended reals. -/
theorem coe_sum {ι : Type*} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

/-- The largest of a row of scores, one of them a real number and none `+∞`, is a real number. -/
theorem fold_max_real (s : Fin n → EReal) {k₀ : Fin n} (h₀ : s k₀ ≠ ⊥) (h : ∀ k, s k ≠ ⊤) :
    ∃ x : ℝ, Finset.fold max (⊥ : EReal) s Finset.univ = (x : EReal) := by
  have hb : s k₀ ≤ Finset.fold max (⊥ : EReal) s Finset.univ :=
    Finset.le_fold_max _ |>.mpr (Or.inr ⟨k₀, Finset.mem_univ _, le_rfl⟩)
  have ht : Finset.fold max (⊥ : EReal) s Finset.univ < ⊤ :=
    Finset.fold_max_lt _ |>.mpr ⟨bot_lt_top, fun k _ => lt_top_iff_ne_top.mpr (h k)⟩
  exact ⟨_, (EReal.coe_toReal ht.ne (fun e => h₀ (le_bot_iff.mp (e ▸ hb)))).symm⟩

/-- The exponential of a score less the row's largest score is the key's weight times a positive number that does not
    depend on the key. -/
theorem exp_sub_max (ok : Fin n → Prop) [DecidablePred ok] (a : Fin n → ℝ) (s : Fin n → EReal)
    (hs : ∀ k, s k = if ok k then (a k : EReal) else ⊥) {k₀ : Fin n} (h₀ : ok k₀) :
    ∃ c : ℝ, c ≠ 0 ∧ ∀ k, Ideal.exp (s k - Finset.fold max (⊥ : EReal) s Finset.univ) = ((c * wt ok a k : ℝ) : EReal) := by
  obtain ⟨x, hx⟩ := fold_max_real s (k₀ := k₀) (by simp [hs, if_pos h₀]) (fun k => by rw [hs]; split <;> simp)
  refine ⟨Real.exp (-x), (Real.exp_pos _).ne', fun k => ?_⟩
  rw [hx, hs, wt]
  split
  · rw [← EReal.coe_sub, Ideal.exp_coe, sub_eq_add_neg, Real.exp_add, mul_comm]
  · simp [Ideal.exp_bot]

/-- The share of a key, formed as the quotient of a scaled weight by the sum of the scaled weights. -/
theorem div_sum_eq_share (ok : Fin n → Prop) [DecidablePred ok] (a : Fin n → ℝ) {c : ℝ} (hc : c ≠ 0) {k₀ : Fin n} (h₀ : ok k₀)
    (k : Fin n) :
    Ideal.div ((c * wt ok a k : ℝ) : EReal) (∑ j, ((c * wt ok a j : ℝ) : EReal)) = ((share ok a k : ℝ) : EReal) := by
  have hW := (wt_sum_pos ok a h₀).ne'
  rw [← coe_sum, ← Finset.mul_sum, Ideal.div_coe (mul_ne_zero hc hW), ← EReal.coe_mul, mul_one_div, mul_div_mul_left _ _ hc]
  rfl

/-- The slope of a score, formed by the quotient rule over the extended reals: the weights `c * wt` (`c` not zero), their
    sum, the reciprocal of its square, and the derivative `g` in the shares. -/
theorem quotient_eq_slope (ok : Fin n → Prop) [DecidablePred ok] (a g : Fin n → ℝ) {c : ℝ} (hc : c ≠ 0) {k₀ : Fin n}
    (h₀ : ok k₀) (k : Fin n) :
    (Ideal.div (g k : EReal) (∑ j, ((c * wt ok a j : ℝ) : EReal))
        + -∑ j, (g j : EReal) * Ideal.div 1 ((∑ j, ((c * wt ok a j : ℝ) : EReal)) * ∑ j, ((c * wt ok a j : ℝ) : EReal))
            * ((c * wt ok a j : ℝ) : EReal)) * ((c * wt ok a k : ℝ) : EReal)
      = ((slope ok a g k : ℝ) : EReal) := by
  have hW : (∑ j, c * wt ok a j) ≠ 0 := by
    rw [← Finset.mul_sum]; exact mul_ne_zero hc (wt_sum_pos ok a h₀).ne'
  rw [← slope_quotient ok a g hc h₀ k, ← coe_sum, ← EReal.coe_mul (∑ j, c * wt ok a j), Ideal.div_coe hW,
    Ideal.div_coe (mul_ne_zero hW hW), ← EReal.coe_one]
  simp only [← EReal.coe_mul, ← coe_sum, ← EReal.coe_neg, ← EReal.coe_add]

/-! ## Two heads in 128 lanes -/

/-- The product of two rows of 128 lanes over the 64 lanes of head `h` of the pair. -/
def headDot (h : ℕ) (x y : Fin 128 → ℝ) : ℝ := ∑ l, if l.val / 64 = h then x l * y l else 0

/-- A row's scores against the keys for head `h`, up to a constant: the scaled product less the key's decay. -/
def laneScore (h : ℕ) (q : Fin 128 → ℝ) (k : Fin n → Fin 128 → ℝ) (c : Fin n → ℝ) (c₀ : ℝ) (j : Fin n) : ℝ :=
  headDot h (fun l => q l * (1 / 8)) (k j) - (c j - c₀)

/-- Lane `d` of head `h` of the pair. -/
def laneOf (h : Fin 2) (d : Fin 64) : Fin 128 := ⟨64 * h.val + d.val, by omega⟩

theorem headDot_eq (h : Fin 2) (x y : Fin 128 → ℝ) : headDot h x y = ∑ d, x (laneOf h d) * y (laneOf h d) := by
  unfold headDot
  rw [← (finProdFinEquiv (m := 2) (n := 64)).sum_comp, Fintype.sum_prod_type, Fin.sum_univ_two]
  have e : ∀ (i : Fin 2) (d : Fin 64), (finProdFinEquiv (i, d) : Fin 128) = laneOf i d := fun i d =>
    Fin.ext (by simp [finProdFinEquiv, laneOf]; omega)
  have t : ∀ (i : Fin 2) (d : Fin 64), (laneOf i d).val / 64 = i.val := fun i d => by simp only [laneOf]; omega
  simp only [e, t]
  fin_cases h <;> simp

/-- A head's score of key `j` for one query row: the scaled product of the two rows of 64 lanes, plus the decay of the
    query's position less the key's. -/
def score (q : Fin 64 → ℝ) (k : Fin n → Fin 64 → ℝ) (cq : ℝ) (c : Fin n → ℝ) (j : Fin n) : ℝ :=
  (∑ d, q d * k j d) * (1 / 8) + (cq - c j)

/-- The scores in lanes are the head's scores, shifted by a number of the row. -/
theorem laneScore_eq (h : Fin 2) (q : Fin 128 → ℝ) (k : Fin n → Fin 128 → ℝ) (c : Fin n → ℝ) (c₀ cq : ℝ) :
    laneScore h q k c c₀ = fun j => score (fun d => q (laneOf h d)) (fun j d => k j (laneOf h d)) cq c j + (c₀ - cq) := by
  funext j
  simp only [laneScore, score, headDot_eq, Finset.sum_mul]
  rw [show ∀ a b c d : ℝ, a + (b - c) + (d - b) = a - (c - d) from fun a b c d => by ring]
  congr 1
  exact Finset.sum_congr rfl fun d _ => by ring

/-- A flag of one bit that says `p` selects as `if p` does. -/
theorem select_bit {α : Type} (p : Prop) [Decidable p] (a b : α) :
    Scalar.select (if p then 1#1 else 0#1) a b = if p then a else b := by
  by_cases h : p
  · simp only [if_pos h]; rfl
  · simp only [if_neg h]; rfl

theorem coe_ite (p : Prop) [Decidable p] (a b : ℝ) : ((if p then a else b : ℝ) : EReal) = if p then (a : EReal) else (b : EReal) := by
  split <;> rfl

/-- The pattern `0x3E000000` is one eighth. -/
theorem eighth : Ideal.ofBits .f32 0x3E000000#32 = (((1 : ℝ) / 8 : ℝ) : EReal) := by
  simp [Ideal.ofBits, Ideal.ieee, -EReal.coe_mul]; norm_num

/-- The pattern `0xFF800000` is minus infinity. -/
theorem neg_inf : Ideal.ofBits .f32 0xFF800000#32 = ⊥ := by
  simp [Ideal.ofBits, Ideal.ieee]

/-- Row `i + b` reaches key `j`: the comparison of the two indices as 32-bit words is that of the numbers. -/
theorem reaches {i b j : ℕ} (h : i + b < 2 ^ 31) (hj : j < 2 ^ 31) :
    IntOp.cmpi CmpIPredicate.sge (IntOp.addi (BitVec.ofNat 32 i) (BitVec.ofNat 32 b)) (BitVec.ofNat 32 j)
      = if j ≤ b + i then 1#1 else 0#1 := by
  have e : IntOp.addi (BitVec.ofNat 32 i) (BitVec.ofNat 32 b) = BitVec.ofNat 32 (i + b) := by
    simp [IntOp.addi, BitVec.ofNat_add]
  have t : ∀ m : ℕ, m < 2 ^ 31 → (BitVec.ofNat 32 m).toInt = m := fun m hm => by
    rw [BitVec.toInt_ofNat', Int.bmod_eq_of_le] <;> omega
  rw [e]
  simp only [IntOp.cmpi, BitVec.sle, t _ h, t _ hj]
  rw [show decide ((j : ℤ) ≤ ((i + b : ℕ) : ℤ)) = decide (j ≤ b + i) from decide_eq_decide.mpr (by omega)]
  by_cases hjb : j ≤ b + i
  · simp only [hjb, decide_true, if_true]; rfl
  · simp only [hjb, decide_false, if_false]; rfl

end Cert.Attention

end
-- ==== Proof.Heads.lean ====
module

public import proofs.«01_k».proof.Proof.Share

/-! The attention gradient of the last query block over the real numbers, head by head: what both programs compute. -/

@[expose] public section

noncomputable section

namespace Cert.Attention

variable (A : Fin 2048 → Fin 3072 → ℝ) (C : Fin 16 → Fin 2048 → ℝ) (G : Fin 2048 → Fin 1024 → ℝ)

/-- Lane `d` of head `h` among the 1024 lanes of all 16 heads. -/
def headLane (h : Fin 16) (d : Fin 64) : Fin 1024 := ⟨64 * h.val + d.val, by omega⟩
/-- The head a lane belongs to. -/
def laneHead (l : Fin 1024) : Fin 16 := ⟨l.val / 64, by omega⟩
/-- The columns of the packed array that hold lane `l` of the queries, the keys and the values. -/
def colQ (l : Fin 1024) : Fin 3072 := ⟨l.val, by omega⟩
def colK (l : Fin 1024) : Fin 3072 := ⟨1024 + l.val, by omega⟩
def colV (l : Fin 1024) : Fin 3072 := ⟨2048 + l.val, by omega⟩

/-- Query row `r` of the last block of 256 rows. -/
def row (r : Fin 256) : Fin 2048 := ⟨1792 + r.val, by omega⟩

/-- It reaches the keys up to itself. -/
abbrev ok (r : Fin 256) (j : Fin 2048) : Prop := j.val ≤ 1792 + r.val

theorem ok_zero (r : Fin 256) : ok r 0 := by show (0 : ℕ) ≤ _; omega

/-- The scores of query row `r` for head `h`: the scaled product of the query with the keys, plus the two positions' decays. -/
def headScore (h : Fin 16) (r : Fin 256) : Fin 2048 → ℝ :=
  score (fun d => A (row r) (colQ (headLane h d))) (fun j d => A j (colK (headLane h d))) (C h (row r)) (C h)

/-- The derivative of the loss in the share that query row `r` gives key `j` in head `h`. -/
def headGrad (h : Fin 16) (r : Fin 256) (j : Fin 2048) : ℝ := ∑ d, G (row r) (headLane h d) * A j (colV (headLane h d))

/-- The share and the slope of key `j` in query row `r`, head `h`. -/
def headShare (h : Fin 16) (r : Fin 256) : Fin 2048 → ℝ := share (ok r) (headScore A C h r)
def headSlope (h : Fin 16) (r : Fin 256) : Fin 2048 → ℝ := slope (ok r) (headScore A C h r) (headGrad A G h r)

/-- The gradient in the queries of the block, in the keys, in the values and in the decays. -/
def gradQ (r : Fin 256) (l : Fin 1024) : ℝ := (∑ j, headSlope A C G (laneHead l) r j * A j (colK l)) * (1 / 8)
def gradK (j : Fin 2048) (l : Fin 1024) : ℝ := ∑ r, headSlope A C G (laneHead l) r j * (A (row r) (colQ l) * (1 / 8))
def gradV (j : Fin 2048) (l : Fin 1024) : ℝ := ∑ r, G (row r) l * headShare A C (laneHead l) r j
def gradC (h : Fin 16) (j : Fin 2048) : ℝ := ∑ r, -headSlope A C G h r j

end Cert.Attention
end
-- ==== Proof.LastBlock.lean ====
module

public import proofs.«01_k».proof.Proof.Heads
public import proofs.«01_k».proof.Proof.Gen.KernelIdeal.Value

/-! One step of the kernel works on two heads side by side in 128 lanes. Its four output blocks, as real numbers. -/

@[expose] public section

noncomputable section

namespace Cert.LastBlock

open Idealize.ShloMosaic Cert.KernelIdeal Cert.KernelIdeal.Gen Cert.Attention

/-- The stand-in for minus infinity in the masked scores, as the certificate's table names it. -/
theorem mask : Named.named (F := Ideal) κ "mask" (φ := .f32) 0xF149F2CA#32 = (⊥ : EReal) :=
  IdealRules.named_const.ideal_named_scalar κ "mask" _ ⊥ rfl

/-- The lanes of the pair's first head are the first 64. -/
theorem lanes0 (x : Fin 128) : k0_pay5 (ix2 0 x) = if x.val / 64 = 0 then 1#1 else 0#1 := by
  revert x; decide

/-- The lanes of the pair's second head are the last 64. -/
theorem lanes1 (x : Fin 128) :
    k0_pay15 (iota .tc S1x128 32 [1] iota_S1x128_d1_w32) 64#32 (k0_pay13 (iota .tc S1x128 32 [1] iota_S1x128_d1_w32)) (k0_pay14 (iota .tc S1x128 32 [1] iota_S1x128_d1_w32)) (Scalar.subi (Scalar.extui (Scalar.cmpi .sgt 64#32 0#32)) (Scalar.extui (Scalar.cmpi .slt 64#32 0#32))) (ix2 0 x)
     = if x.val / 64 = 1 then 1#1 else 0#1 := by
  revert x; decide

/-- The kernel's comparison of row and key numbers is the causal one. -/
theorem causal (r : Fin 256) (j : Fin 2048) : k0_pay2 (ix2 r j) = if ok r j then 1#1 else 0#1 := by
  pointwise [k0_pay2]
  exact reaches (by omega) (by omega)

/-! ## The entries of one point's blocks, and what its arithmetic makes of them -/

variable (q g : Fin 256 → Fin 128 → ℝ) (k v : Fin 2048 → Fin 128 → ℝ) (c : Fin 2 → Fin 2048 → ℝ)

/-- The scores of query row `r` for head `h` of the pair. -/
def scores (h : Fin 2) (r : Fin 256) : Fin 2048 → ℝ := laneScore h (q r) k (c h) (c h 1792)

/-- The derivatives of the row's loss in its shares. -/
def shareGrads (h : Fin 2) (r : Fin 256) (j : Fin 2048) : ℝ := headDot h (g r) (v j)

variable (v1 : FVec Ideal S256x128 .f32) (v6 : Vec Ideal S2x1x2048 .f32) (v7 : IVec S1x128 32) (v12 : IVec S256x2048 1)
  (v13 v14 : FVec Ideal S2048x128 .bf16) (v40 : IVec S1x128 1) (c64 : BitVec 32) (v76 v83 : IVec S1x128 32) (v88 : BitVec 32)

section
variable (h1 : ∀ r x, v1 (ix2 r x) = (q r x : EReal)) (h6 : ∀ h j, v6 (ix3 h 0 j) = (c h j : EReal))
  (h12 : ∀ r j, v12 (ix2 r j) = if ok r j then 1#1 else 0#1) (h13 : ∀ j x, v13 (ix2 j x) = (k j x : EReal))
  (h14 : ∀ j x, v14 (ix2 j x) = (v j x : EReal))
include h1 h6 h12 h13

/-- The exponentials the first head's scores give: the weights, scaled by a factor of the row. -/
theorem weights0 (h40 : ∀ x, v40 (ix2 0 x) = if x.val / 64 = 0 then 1#1 else 0#1) (r : Fin 256) :
    ∃ s : ℝ, s ≠ 0 ∧ ∀ j, k0_pay8 v1 v6 v12 v13 v40 (ix2 r j) = ((s * wt (ok r) (scores q k c 0 r) j : ℝ) : EReal) := by
  pointwise [k0_pay8, k0_pay7, k0_pay6, mask, neg_inf, eighth]
  refine exp_sub_max (ok r) (scores q k c 0 r) _ (fun j => ?_) (ok_zero r)
  simp only [h1, h6, h12, h13, h40, select_bit, scores, laneScore, headDot, coe_sum, EReal.coe_sub, coe_ite, EReal.coe_mul, EReal.coe_zero]
  rfl

/-- The exponentials the second head's scores give. -/
theorem weights1 (h40 : ∀ x, k0_pay15 v7 c64 v76 v83 v88 (ix2 0 x) = if x.val / 64 = 1 then 1#1 else 0#1) (r : Fin 256) :
    ∃ s : ℝ, s ≠ 0 ∧ ∀ j, k0_pay18 v1 v6 v7 v12 v13 c64 v76 v83 v88 (ix2 r j)
      = ((s * wt (ok r) (scores q k c 1 r) j : ℝ) : EReal) := by
  pointwise [k0_pay18, k0_pay17, k0_pay16, mask, neg_inf, eighth]
  refine exp_sub_max (ok r) (scores q k c 1 r) _ (fun j => ?_) (ok_zero r)
  simp only [h1, h6, h12, h13, h40, select_bit, scores, laneScore, headDot, coe_sum, EReal.coe_sub, coe_ite, EReal.coe_mul, EReal.coe_zero]
  rfl

end

/-! ## Slopes -/

section
variable (v124 : FVec Ideal S256x2048 .f32) (v126 v131 : FVec Ideal S256x1 .f32) (v134 : IVec S256x128 1)
  (v179 : FVec Ideal S256x128 .f32) (v135 : Vec Ideal S256x128 .f32) (a : Fin 256 → Fin 2048 → ℝ)
  (h12 : ∀ r j, v12 (ix2 r j) = if ok r j then 1#1 else 0#1) (h14 : ∀ j x, v14 (ix2 j x) = (v j x : EReal))
  (hw : ∀ r, ∃ s : ℝ, s ≠ 0 ∧ ∀ j, v124 (ix2 r j) = ((s * wt (ok r) (a r) j : ℝ) : EReal))
  (hl : ∀ r, v126 (ix2 r 0) = ∑ j, v124 (ix2 r j))
  (hi : ∀ r, v131 (ix2 r 0) = Ideal.div 1 (v126 (ix2 r 0) * v126 (ix2 r 0)))
include h12 h14 hw hl hi

/-- The slopes of the first head's scores. -/
theorem slopes0 (hd : ∀ r x, v179 (ix2 r x) = if x.val / 64 = 0 then (g r x : EReal) else 0) (r : Fin 256) (j : Fin 2048) :
    k0_pay32 v12 v14 v124 v126 v131 v179 (ix2 r j) = ((slope (ok r) (a r) (shareGrads g v 0 r) j : ℝ) : EReal) := by
  obtain ⟨s, hs, hw⟩ := hw r
  have e : ∀ j, ∑ x, v179 (ix2 r x) * v14 (ix2 j x) = ((shareGrads g v 0 r j : ℝ) : EReal) := fun j => by
    simp only [hd, h14, shareGrads, headDot, coe_sum, coe_ite, EReal.coe_mul, EReal.coe_zero, ite_mul, zero_mul]; rfl
  pointwise [k0_pay32]
  simp only [e, hi, hl, hw, h12, select_bit, Finset.univ_unique, Finset.sum_singleton, zero_sub]
  split
  · exact quotient_eq_slope (ok r) (a r) _ hs (ok_zero r) j
  · rename_i h; rw [slope_of_not _ _ _ h]; rfl

/-- The slopes of the second head's scores. -/
theorem slopes1 (h134 : ∀ r x, v134 (ix2 r x) = if x.val / 64 = 1 then 1#1 else 0#1)
    (h135 : ∀ r x, v135 (ix2 r x) = (g r x : EReal)) (r : Fin 256) (j : Fin 2048) :
    k0_pay26 v12 v14 v124 v126 v131 v134 v135 (ix2 r j) = ((slope (ok r) (a r) (shareGrads g v 1 r) j : ℝ) : EReal) := by
  obtain ⟨s, hs, hw⟩ := hw r
  have e : ∀ j, ∑ x, Scalar.select (v134 (ix2 r x)) (v135 (ix2 r x) * v14 (ix2 j x)) 0 = ((shareGrads g v 1 r j : ℝ) : EReal) :=
    fun j => by
      simp only [h134, h135, h14, select_bit, shareGrads, headDot, coe_sum, coe_ite, EReal.coe_mul, EReal.coe_zero]; rfl
  pointwise [k0_pay26, k0_pay24]
  simp only [e, hi, hl, hw, h12, select_bit, Finset.univ_unique, Finset.sum_singleton, zero_sub]
  split
  · exact quotient_eq_slope (ok r) (a r) _ hs (ok_zero r) j
  · rename_i h; rw [slope_of_not _ _ _ h]; rfl

end

/-! ## What one point writes -/

/-- The shares and slopes of head `h` of the pair. -/
def shares (h : Fin 2) (r : Fin 256) (j : Fin 2048) : ℝ := share (ok r) (scores q k c h r) j
def slopes (h : Fin 2) (r : Fin 256) (j : Fin 2048) : ℝ := slope (ok r) (scores q k c h r) (shareGrads g v h r) j

/-- The head of the pair that lane `x` belongs to. -/
def headOf (x : Fin 128) : Fin 2 := ⟨x.val / 64, by omega⟩

variable (x0 : Vec Ideal S256x128 .bf16) (x1 x2 : Vec Ideal S2048x128 .bf16) (x3 : Vec Ideal S2x1x2048 .f32) (x4 : Vec Ideal S256x128 .f32)

section
variable (hq : ∀ r x, x0 (ix2 r x) = (q r x : EReal)) (hk : ∀ j x, x1 (ix2 j x) = (k j x : EReal))
  (hv : ∀ j x, x2 (ix2 j x) = (v j x : EReal)) (hc : ∀ h j, x3 (ix3 h 0 j) = (c h j : EReal))
  (hg : ∀ r x, x4 (ix2 r x) = (g r x : EReal))
include hq hk hv hc hg

theorem entries (r : Fin 256) (x : Fin 128) : k0_pay38 x0 x1 x2 x3 x4 (ix2 r x) = (q r x : EReal) := by
  rw [← hq]; pointwise [k0_pay38, k0_pay1]

theorem entriesK (j : Fin 2048) (x : Fin 128) : k0_pay40 x0 x1 x2 x3 x4 (ix2 j x) = (k j x : EReal) := by
  rw [← hk]; pointwise [k0_pay40, k0_pay3]

theorem entriesV (j : Fin 2048) (x : Fin 128) : k0_pay41 x0 x1 x2 x3 x4 (ix2 j x) = (v j x : EReal) := by
  rw [← hv]; pointwise [k0_pay41, k0_pay4]

theorem entriesC (h : Fin 2) (j : Fin 2048) : View.ld x3 r0_2 (ix3 h 0 j) = (c h j : EReal) := by
  rw [← hc]; pointwise

theorem entriesG (r : Fin 256) (x : Fin 128) : View.ld x4 r0_0 (ix2 r x) = (g r x : EReal) := by
  rw [← hg]; pointwise

theorem exps0 (r : Fin 256) :
    ∃ s : ℝ, s ≠ 0 ∧ ∀ j, k0_pay43 x0 x1 x2 x3 x4 (ix2 r j) = ((s * wt (ok r) (scores q k c 0 r) j : ℝ) : EReal) :=
  weights0 q k c _ _ _ _ _ (entries q g k v c x0 x1 x2 x3 x4 hq hk hv hc hg) (entriesC q g k v c x0 x1 x2 x3 x4 hq hk hv hc hg) causal
    (entriesK q g k v c x0 x1 x2 x3 x4 hq hk hv hc hg) lanes0 r

theorem exps1 (r : Fin 256) :
    ∃ s : ℝ, s ≠ 0 ∧ ∀ j, k0_pay49 x0 x1 x2 x3 x4 (ix2 r j) = ((s * wt (ok r) (scores q k c 1 r) j : ℝ) : EReal) :=
  weights1 q k c _ _ _ _ _ _ _ _ _ (entries q g k v c x0 x1 x2 x3 x4 hq hk hv hc hg) (entriesC q g k v c x0 x1 x2 x3 x4 hq hk hv hc hg) causal
    (entriesK q g k v c x0 x1 x2 x3 x4 hq hk hv hc hg) lanes1 r

omit hq hk hv hc hg in
theorem sums0 (r : Fin 256) : k0_pay44 x0 x1 x2 x3 x4 (ix2 r 0) = ∑ j, k0_pay43 x0 x1 x2 x3 x4 (ix2 r j) := by
  pointwise [k0_pay44, k0_pay9, k0_pay43]

omit hq hk hv hc hg in
theorem sums1 (r : Fin 256) : k0_pay50 x0 x1 x2 x3 x4 (ix2 r 0) = ∑ j, k0_pay49 x0 x1 x2 x3 x4 (ix2 r j) := by
  pointwise [k0_pay50, k0_pay19, k0_pay49]

theorem masked (h : Fin 256) (x : Fin 128) :
    k0_pay54 x0 x1 x2 x3 x4 (ix2 h x) = if x.val / 64 = 0 then (g h x : EReal) else 0 := by
  pointwise [k0_pay54, k0_pay30, k0_pay46, k0_pay12, k0_pay42, k0_pay53, k0_pay23]
  rw [lanes0, select_bit, hg]

theorem lanes (r : Fin 256) (x : Fin 128) : k0_pay52 x0 x1 x2 x3 x4 (ix2 r x) = if x.val / 64 = 1 then 1#1 else 0#1 := by
  pointwise [k0_pay52, k0_pay22, k0_pay47, k0_pay48, k0_pay37]
  exact lanes1 x

/-- The first head's slopes as the kernel forms them. -/
theorem slope0_eq (r : Fin 256) (j : Fin 2048) :
    k0_pay32 (k0_pay39 x0 x1 x2 x3 x4) (k0_pay41 x0 x1 x2 x3 x4) (k0_pay43 x0 x1 x2 x3 x4) (k0_pay44 x0 x1 x2 x3 x4)
      (k0_pay45 x0 x1 x2 x3 x4) (k0_pay54 x0 x1 x2 x3 x4) (ix2 r j) = ((slopes q g k v c 0 r j : ℝ) : EReal) :=
  slopes0 g v _ _ _ _ _ _ _ causal (entriesV q g k v c x0 x1 x2 x3 x4 hq hk hv hc hg) (exps0 q g k v c x0 x1 x2 x3 x4 hq hk hv hc hg)
    (sums0 x0 x1 x2 x3 x4) (fun r => by pointwise [k0_pay45, k0_pay10, k0_pay44])
    (masked q g k v c x0 x1 x2 x3 x4 hq hk hv hc hg) r j

/-- The second head's slopes as the kernel forms them. -/
theorem slope1_eq (r : Fin 256) (j : Fin 2048) :
    k0_pay26 (k0_pay39 x0 x1 x2 x3 x4) (k0_pay41 x0 x1 x2 x3 x4) (k0_pay49 x0 x1 x2 x3 x4) (k0_pay50 x0 x1 x2 x3 x4)
      (k0_pay51 x0 x1 x2 x3 x4) (k0_pay52 x0 x1 x2 x3 x4) (View.ld x4 r0_0) (ix2 r j) = ((slopes q g k v c 1 r j : ℝ) : EReal) :=
  slopes1 g v _ _ _ _ _ _ _ _ causal (entriesV q g k v c x0 x1 x2 x3 x4 hq hk hv hc hg) (exps1 q g k v c x0 x1 x2 x3 x4 hq hk hv hc hg)
    (sums1 x0 x1 x2 x3 x4) (fun r => by pointwise [k0_pay51, k0_pay20, k0_pay50])
    (lanes q g k v c x0 x1 x2 x3 x4 hq hk hv hc hg) (entriesG q g k v c x0 x1 x2 x3 x4 hq hk hv hc hg) r j

/-- The quotient the kernel forms for the first head is the share. -/
theorem share0_eq (r : Fin 256) (j : Fin 2048) :
    Ideal.div (k0_pay43 x0 x1 x2 x3 x4 (ix2 r j)) (k0_pay44 x0 x1 x2 x3 x4 (ix2 r 0)) = ((shares q k c 0 r j : ℝ) : EReal) := by
  obtain ⟨s, hs, e⟩ := exps0 q g k v c x0 x1 x2 x3 x4 hq hk hv hc hg r
  rw [sums0]
  simp only [e]
  exact div_sum_eq_share (ok r) _ hs (ok_zero r) j

/-- The quotient the kernel forms for the second head is the share. -/
theorem share1_eq (r : Fin 256) (j : Fin 2048) :
    Ideal.div (k0_pay49 x0 x1 x2 x3 x4 (ix2 r j)) (k0_pay50 x0 x1 x2 x3 x4 (ix2 r 0)) = ((shares q k c 1 r j : ℝ) : EReal) := by
  obtain ⟨s, hs, e⟩ := exps1 q g k v c x0 x1 x2 x3 x4 hq hk hv hc hg r
  rw [sums1]
  simp only [e]
  exact div_sum_eq_share (ok r) _ hs (ok_zero r) j

omit hq hk hv hc hg in
/-- A lane is of the first head or of the second. -/
theorem head_cases (x : Fin 128) : (x.val / 64 = 0 ∧ headOf x = 0) ∨ (x.val / 64 = 1 ∧ headOf x = 1) := by
  rcases (show x.val / 64 = 0 ∨ x.val / 64 = 1 by omega) with h | h
  · exact .inl ⟨h, Fin.ext h⟩
  · exact .inr ⟨h, Fin.ext h⟩

/-- What the point leaves in the decays' gradient. -/
theorem out_dc (h : Fin 2) (j : Fin 2048) : out0_8 x0 x1 x2 x3 x4 (ix3 h 0 j) = ((∑ r, -slopes q g k v c h r j : ℝ) : EReal) := by
  unfold out0_8
  rw [View.canon_unit_zero (by decide)]
  pointwise [k0_pay33, k0_pay27]
  simp only [slope0_eq q g k v c x0 x1 x2 x3 x4 hq hk hv hc hg, slope1_eq q g k v c x0 x1 x2 x3 x4 hq hk hv hc hg, coe_sum, EReal.coe_neg, zero_sub]
  fin_cases h
  · simp
  · simp

/-- What the point leaves in the keys' gradient. -/
theorem out_dk (j : Fin 2048) (x : Fin 128) :
    out0_6 x0 x1 x2 x3 x4 (ix2 j x) = ((∑ r, slopes q g k v c (headOf x) r j * (q r x * (1 / 8)) : ℝ) : EReal) := by
  unfold out0_6
  rw [View.canon_unit_zero (by decide)]
  pointwise [k0_pay35, k0_pay28, k0_pay7, k0_pay17, k0_pay6, k0_pay16]
  simp only [slope0_eq q g k v c x0 x1 x2 x3 x4 hq hk hv hc hg, slope1_eq q g k v c x0 x1 x2 x3 x4 hq hk hv hc hg, entries q g k v c x0 x1 x2 x3 x4 hq hk hv hc hg, eighth, coe_sum, EReal.coe_mul]
  have e0 : k0_pay42 x0 x1 x2 x3 x4 (ix2 0 x) = _ := lanes0 x
  have e1 : k0_pay15 (k0_pay37 x0 x1 x2 x3 x4) (64#32) (k0_pay47 x0 x1 x2 x3 x4) (k0_pay48 x0 x1 x2 x3 x4)
      (Scalar.subi (Scalar.extui (Scalar.cmpi CmpIPredicate.sgt 64#32 0#32)) (Scalar.extui (Scalar.cmpi CmpIPredicate.slt 64#32 0#32)))
      (ix2 0 x) = _ := lanes1 x
  rw [e0, e1]
  simp only [select_bit]
  rcases head_cases x with ⟨h, e⟩ | ⟨h, e⟩ <;> simp [h, e]

/-- What the point leaves in the values' gradient. -/
theorem out_dv (j : Fin 2048) (x : Fin 128) :
    out0_7 x0 x1 x2 x3 x4 (ix2 j x) = ((∑ r, g r x * shares q k c (headOf x) r j : ℝ) : EReal) := by
  unfold out0_7
  rw [View.canon_unit_zero (by decide)]
  pointwise [k0_pay34, k0_pay31, k0_pay25, k0_pay24, k0_pay30, k0_pay11, k0_pay21]
  have e0 : ∀ r j, Ideal.div (k0_pay8 (k0_pay38 x0 x1 x2 x3 x4) (View.ld x3 r0_2) (k0_pay39 x0 x1 x2 x3 x4) (k0_pay40 x0 x1 x2 x3 x4)
      (k0_pay42 x0 x1 x2 x3 x4) (ix2 r j)) (k0_pay9 (k0_pay38 x0 x1 x2 x3 x4) (View.ld x3 r0_2) (k0_pay39 x0 x1 x2 x3 x4)
      (k0_pay40 x0 x1 x2 x3 x4) (k0_pay42 x0 x1 x2 x3 x4) (ix2 r 0)) = _ := share0_eq q g k v c x0 x1 x2 x3 x4 hq hk hv hc hg
  have e1 : ∀ r j, Ideal.div (k0_pay18 (k0_pay38 x0 x1 x2 x3 x4) (View.ld x3 r0_2) (k0_pay37 x0 x1 x2 x3 x4) (k0_pay39 x0 x1 x2 x3 x4)
      (k0_pay40 x0 x1 x2 x3 x4) (64#32) (k0_pay47 x0 x1 x2 x3 x4) (k0_pay48 x0 x1 x2 x3 x4)
      (Scalar.subi (Scalar.extui (Scalar.cmpi CmpIPredicate.sgt 64#32 0#32)) (Scalar.extui (Scalar.cmpi CmpIPredicate.slt 64#32 0#32))) (ix2 r j))
      (k0_pay19 (k0_pay38 x0 x1 x2 x3 x4) (View.ld x3 r0_2) (k0_pay37 x0 x1 x2 x3 x4) (k0_pay39 x0 x1 x2 x3 x4)
      (k0_pay40 x0 x1 x2 x3 x4) (64#32) (k0_pay47 x0 x1 x2 x3 x4) (k0_pay48 x0 x1 x2 x3 x4)
      (Scalar.subi (Scalar.extui (Scalar.cmpi CmpIPredicate.sgt 64#32 0#32)) (Scalar.extui (Scalar.cmpi CmpIPredicate.slt 64#32 0#32))) (ix2 r 0))
      = _ := share1_eq q g k v c x0 x1 x2 x3 x4 hq hk hv hc hg
  have e2 : ∀ r x, k0_pay46 x0 x1 x2 x3 x4 (ix2 r x) = if x.val / 64 = 0 then 1#1 else 0#1 := fun r x => by
    pointwise [k0_pay46, k0_pay12]; exact lanes0 x
  have e3 : ∀ r x, k0_pay53 x0 x1 x2 x3 x4 (ix2 r x) = (g r x : EReal) := fun r x => by
    pointwise [k0_pay53, k0_pay23]; exact hg r x
  simp only [e0, e1, e2, e3, hg, lanes q g k v c x0 x1 x2 x3 x4 hq hk hv hc hg, select_bit, coe_sum, EReal.coe_mul]
  rcases head_cases x with ⟨h, e⟩ | ⟨h, e⟩ <;> simp [h, e]

/-- What the point leaves in the queries' gradient. -/
theorem out_dq (r : Fin 256) (x : Fin 128) :
    out0_5 x0 x1 x2 x3 x4 (ix2 r x) = (((∑ j, slopes q g k v c (headOf x) r j * k j x) * (1 / 8) : ℝ) : EReal) := by
  unfold out0_5
  rw [View.canon_unit_zero (by decide)]
  pointwise [k0_pay36, k0_pay29, k0_pay6, k0_pay16]
  simp only [slope0_eq q g k v c x0 x1 x2 x3 x4 hq hk hv hc hg, slope1_eq q g k v c x0 x1 x2 x3 x4 hq hk hv hc hg, entriesK q g k v c x0 x1 x2 x3 x4 hq hk hv hc hg, eighth, coe_sum, EReal.coe_mul]
  have e0 : k0_pay42 x0 x1 x2 x3 x4 (ix2 0 x) = _ := lanes0 x
  have e1 : k0_pay15 (k0_pay37 x0 x1 x2 x3 x4) (64#32) (k0_pay47 x0 x1 x2 x3 x4) (k0_pay48 x0 x1 x2 x3 x4)
      (Scalar.subi (Scalar.extui (Scalar.cmpi CmpIPredicate.sgt 64#32 0#32)) (Scalar.extui (Scalar.cmpi CmpIPredicate.slt 64#32 0#32)))
      (ix2 0 x) = _ := lanes1 x
  rw [e0, e1]
  simp only [select_bit]
  rcases head_cases x with ⟨h, e⟩ | ⟨h, e⟩ <;> simp [h, e]
end

end Cert.LastBlock
end
-- ==== Proof.LastArrays.lean ====
module

public import proofs.«01_k».proof.Proof.LastBlock

/-! The arrays after the call: every step writes its own two heads, so each array is read from the step that holds the lane. -/

@[expose] public section

noncomputable section

namespace Cert.LastBlock

open Idealize.ShloMosaic Idealize.ShloMosaic.TcCoe Cert.KernelIdeal Cert.KernelIdeal.Gen Cert.KernelIdeal.Value Cert.Attention

/-! ## Which block each window shows at point `t`, the pair of heads `2t`, `2t + 1` -/

theorem index0 : ∀ t : Fin cfg0.N, win0_0.index t 0 = 7 ∧ win0_0.index t 1 = t.val :=
  (by decide +kernel : ∀ t : Fin grid0.N, win0_0.index t 0 = 7 ∧ win0_0.index t 1 = t.val)
theorem index1 : ∀ t : Fin cfg0.N, win0_1.index t 0 = 0 ∧ win0_1.index t 1 = 8 + t.val :=
  (by decide +kernel : ∀ t : Fin grid0.N, win0_1.index t 0 = 0 ∧ win0_1.index t 1 = 8 + t.val)
theorem index2 : ∀ t : Fin cfg0.N, win0_2.index t 0 = 0 ∧ win0_2.index t 1 = 16 + t.val :=
  (by decide +kernel : ∀ t : Fin grid0.N, win0_2.index t 0 = 0 ∧ win0_2.index t 1 = 16 + t.val)
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem index4 : ∀ t : Fin cfg0.N, win0_4.index t 0 = 7 ∧ win0_4.index t 1 = t.val :=
  (by decide +kernel : ∀ t : Fin grid0.N, win0_4.index t 0 = 7 ∧ win0_4.index t 1 = t.val)
theorem index5 : ∀ t : Fin cfg0.N, win0_5.index t 0 = 7 ∧ win0_5.index t 1 = t.val :=
  (by decide +kernel : ∀ t : Fin grid0.N, win0_5.index t 0 = 7 ∧ win0_5.index t 1 = t.val)
theorem index6 : ∀ t : Fin cfg0.N, win0_6.index t 0 = 0 ∧ win0_6.index t 1 = t.val :=
  (by decide +kernel : ∀ t : Fin grid0.N, win0_6.index t 0 = 0 ∧ win0_6.index t 1 = t.val)
theorem index7 : ∀ t : Fin cfg0.N, win0_7.index t 0 = 0 ∧ win0_7.index t 1 = t.val :=
  (by decide +kernel : ∀ t : Fin grid0.N, win0_7.index t 0 = 0 ∧ win0_7.index t 1 = t.val)
theorem index8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)
theorem flush5 : ∀ t : Fin cfg0.N, (cfg0.win 5).flush t = true := (by decide +kernel : ∀ t : Fin grid0.N, (cfg0.win 5).flush t = true)
theorem flush6 : ∀ t : Fin cfg0.N, (cfg0.win 6).flush t = true := (by decide +kernel : ∀ t : Fin grid0.N, (cfg0.win 6).flush t = true)
theorem flush7 : ∀ t : Fin cfg0.N, (cfg0.win 7).flush t = true := (by decide +kernel : ∀ t : Fin grid0.N, (cfg0.win 7).flush t = true)
theorem flush8 : ∀ t : Fin cfg0.N, (cfg0.win 8).flush t = true := (by decide +kernel : ∀ t : Fin grid0.N, (cfg0.win 8).flush t = true)

theorem points : cfg0.N = 8 := by decide

/-- Lane `x` of pair `t` of heads, and head `h` of the pair. -/
def lane (t : Fin cfg0.N) (x : Fin 128) : Fin 1024 := ⟨128 * t.val + x.val, by have := t.isLt; have := points; omega⟩
def head (t : Fin cfg0.N) (h : Fin 2) : Fin 16 := ⟨2 * t.val + h.val, by have := t.isLt; have := points; omega⟩

theorem lane_laneOf (t : Fin cfg0.N) (h : Fin 2) (d : Fin 64) : lane t (laneOf h d) = headLane (head t h) d :=
  Fin.ext (by simp only [lane, laneOf, headLane, head]; omega)
theorem laneHead_lane (t : Fin cfg0.N) (x : Fin 128) : laneHead (lane t x) = head t (headOf x) :=
  Fin.ext (by simp only [lane, laneHead, headOf, head]; omega)

/-! ## The blocks the point reads -/

section
variable (m : (ℓ : Loc nD τ sig) → Buf (Elt Ideal) ℓ) (d : Dev nD) (t : Fin cfg0.N)

theorem block_q (r : Fin 256) (x : Fin 128) :
    iblk m d 0 t (ix2 r x) = m ((d : Thread nD τ).loc main_arg0) (ix2 (row r) (colQ (lane t x))) := by
  unfold iblk
  rw [View.read_apply]
  show V m d main_arg0 _ = m (d.tc.loc main_arg0) _
  unfold V
  congr 1
  funext a
  apply Fin.ext
  match a with
  | ⟨0, _⟩ => show win0_0.index t 0 * 256 + 1 * r.val = 1792 + r.val; rw [(index0 t).1]; omega
  | ⟨1, _⟩ => show win0_0.index t 1 * 128 + 1 * x.val = 128 * t.val + x.val; rw [(index0 t).2]; omega

theorem block_k (j : Fin 2048) (x : Fin 128) :
    iblk m d 1 t (ix2 j x) = m ((d : Thread nD τ).loc main_arg0) (ix2 j (colK (lane t x))) := by
  unfold iblk
  rw [View.read_apply]
  show V m d main_arg0 _ = m (d.tc.loc main_arg0) _
  unfold V
  congr 1
  funext a
  apply Fin.ext
  match a with
  | ⟨0, _⟩ => show win0_1.index t 0 * 2048 + 1 * j.val = j.val; rw [(index1 t).1]; omega
  | ⟨1, _⟩ => show win0_1.index t 1 * 128 + 1 * x.val = 1024 + (128 * t.val + x.val); rw [(index1 t).2]; omega

theorem block_v (j : Fin 2048) (x : Fin 128) :
    iblk m d 2 t (ix2 j x) = m ((d : Thread nD τ).loc main_arg0) (ix2 j (colV (lane t x))) := by
  unfold iblk
  rw [View.read_apply]
  show V m d main_arg0 _ = m (d.tc.loc main_arg0) _
  unfold V
  congr 1
  funext a
  apply Fin.ext
  match a with
  | ⟨0, _⟩ => show win0_2.index t 0 * 2048 + 1 * j.val = j.val; rw [(index2 t).1]; omega
  | ⟨1, _⟩ => show win0_2.index t 1 * 128 + 1 * x.val = 2048 + (128 * t.val + x.val); rw [(index2 t).2]; omega

theorem block_c (h : Fin 2) (j : Fin 2048) :
    iblk m d 3 t (ix3 h 0 j) = m ((d : Thread nD τ).loc main_arg1) (ix3 (head t h) 0 j) := by
  unfold iblk
  rw [View.read_apply]
  show V m d main_arg1 _ = m (d.tc.loc main_arg1) _
  unfold V
  congr 1
  funext a
  apply Fin.ext
  match a with
  | ⟨0, _⟩ => show win0_3.index t 0 * 2 + 1 * h.val = 2 * t.val + h.val; rw [(index3 t).1]; omega
  | ⟨1, _⟩ => show win0_3.index t 1 * 1 + 1 * 0 = 0; rw [(index3 t).2.1]
  | ⟨2, _⟩ => show win0_3.index t 2 * 2048 + 1 * j.val = j.val; rw [(index3 t).2.2]; omega

theorem block_g (r : Fin 256) (x : Fin 128) :
    iblk m d 4 t (ix2 r x) = m ((d : Thread nD τ).loc main_arg2) (ix2 (row r) (lane t x)) := by
  unfold iblk
  rw [View.read_apply]
  show V m d main_arg2 _ = m (d.tc.loc main_arg2) _
  unfold V
  congr 1
  funext a
  apply Fin.ext
  match a with
  | ⟨0, _⟩ => show win0_4.index t 0 * 256 + 1 * r.val = 1792 + r.val; rw [(index4 t).1]; omega
  | ⟨1, _⟩ => show win0_4.index t 1 * 128 + 1 * x.val = 128 * t.val + x.val; rw [(index4 t).2]; omega

/-! ## The blocks the point writes, in the arrays they are part of -/

theorem array_q (r : Fin 256) (x : Fin 128) : (dats m 0 d).arrAt 5 cfg0.N (ix2 (row r) (lane t x))
    = out0_5 (iblk m d 0 t) (iblk m d 1 t) (iblk m d 2 t) (iblk m d 3 t) (iblk m d 4 t) (ix2 r x) := by
  have h := congrFun (blocks5 m d t (flush5 t)) (ix2 r x)
  rw [View.read_apply, flushed5] at h
  refine Eq.trans ?_ h
  show _ = (dats m 0 d).arrAt 5 cfg0.N _
  congr 1
  funext a
  apply Fin.ext
  match a with
  | ⟨0, _⟩ => show 1792 + r.val = win0_5.index t 0 * 256 + 1 * r.val; rw [(index5 t).1]; omega
  | ⟨1, _⟩ => show 128 * t.val + x.val = win0_5.index t 1 * 128 + 1 * x.val; rw [(index5 t).2]; omega

theorem array_k (j : Fin 2048) (x : Fin 128) : (dats m 0 d).arrAt 6 cfg0.N (ix2 j (lane t x))
    = out0_6 (iblk m d 0 t) (iblk m d 1 t) (iblk m d 2 t) (iblk m d 3 t) (iblk m d 4 t) (ix2 j x) := by
  have h := congrFun (blocks6 m d t (flush6 t)) (ix2 j x)
  rw [View.read_apply, flushed6] at h
  refine Eq.trans ?_ h
  show _ = (dats m 0 d).arrAt 6 cfg0.N _
  congr 1
  funext a
  apply Fin.ext
  match a with
  | ⟨0, _⟩ => show j.val = win0_6.index t 0 * 2048 + 1 * j.val; rw [(index6 t).1]; omega
  | ⟨1, _⟩ => show 128 * t.val + x.val = win0_6.index t 1 * 128 + 1 * x.val; rw [(index6 t).2]; omega

theorem array_v (j : Fin 2048) (x : Fin 128) : (dats m 0 d).arrAt 7 cfg0.N (ix2 j (lane t x))
    = out0_7 (iblk m d 0 t) (iblk m d 1 t) (iblk m d 2 t) (iblk m d 3 t) (iblk m d 4 t) (ix2 j x) := by
  have h := congrFun (blocks7 m d t (flush7 t)) (ix2 j x)
  rw [View.read_apply, flushed7] at h
  refine Eq.trans ?_ h
  show _ = (dats m 0 d).arrAt 7 cfg0.N _
  congr 1
  funext a
  apply Fin.ext
  match a with
  | ⟨0, _⟩ => show j.val = win0_7.index t 0 * 2048 + 1 * j.val; rw [(index7 t).1]; omega
  | ⟨1, _⟩ => show 128 * t.val + x.val = win0_7.index t 1 * 128 + 1 * x.val; rw [(index7 t).2]; omega

theorem array_c (h : Fin 2) (j : Fin 2048) : (dats m 0 d).arrAt 8 cfg0.N (ix3 (head t h) 0 j)
    = out0_8 (iblk m d 0 t) (iblk m d 1 t) (iblk m d 2 t) (iblk m d 3 t) (iblk m d 4 t) (ix3 h 0 j) := by
  have e := congrFun (blocks8 m d t (flush8 t)) (ix3 h 0 j)
  rw [View.read_apply, flushed8] at e
  refine Eq.trans ?_ e
  show _ = (dats m 0 d).arrAt 8 cfg0.N _
  congr 1
  funext a
  apply Fin.ext
  match a with
  | ⟨0, _⟩ => show 2 * t.val + h.val = win0_8.index t 0 * 2 + 1 * h.val; rw [(index8 t).1]; omega
  | ⟨1, _⟩ => show 0 = win0_8.index t 1 * 1 + 1 * 0; rw [(index8 t).2.1]
  | ⟨2, _⟩ => show j.val = win0_8.index t 2 * 2048 + 1 * j.val; rw [(index8 t).2.2]; omega

end

/-! ## The arrays after the call -/

variable (A : Fin 2048 → Fin 3072 → ℝ) (C : Fin 16 → Fin 2048 → ℝ) (G : Fin 2048 → Fin 1024 → ℝ)

section
variable (t : Fin cfg0.N)

/-- One pair's part of the queries, keys, values, decays and output gradients. -/
def pairQ (r : Fin 256) (x : Fin 128) : ℝ := A (row r) (colQ (lane t x))
def pairK (j : Fin 2048) (x : Fin 128) : ℝ := A j (colK (lane t x))
def pairV (j : Fin 2048) (x : Fin 128) : ℝ := A j (colV (lane t x))
def pairC (h : Fin 2) (j : Fin 2048) : ℝ := C (head t h) j
def pairG (r : Fin 256) (x : Fin 128) : ℝ := G (row r) (lane t x)

theorem scores_eq (h : Fin 2) (r : Fin 256) : scores (pairQ A t) (pairK A t) (pairC C t) h r
    = fun j => headScore A C (head t h) r j + (C (head t h) 1792 - C (head t h) (row r)) := by
  unfold scores headScore
  rw [laneScore_eq h _ _ _ _ (C (head t h) (row r))]
  simp only [pairQ, pairK, lane_laneOf]
  rfl

theorem shares_eq (h : Fin 2) (r : Fin 256) (j : Fin 2048) :
    shares (pairQ A t) (pairK A t) (pairC C t) h r j = headShare A C (head t h) r j := by
  unfold shares headShare
  rw [scores_eq, share_shift]

theorem slopes_eq (h : Fin 2) (r : Fin 256) (j : Fin 2048) :
    slopes (pairQ A t) (pairG G t) (pairK A t) (pairV A t) (pairC C t) h r j = headSlope A C G (head t h) r j := by
  unfold slopes headSlope
  rw [scores_eq, slope_shift]
  congr 1
  funext j
  unfold shareGrads headGrad
  rw [headDot_eq]
  simp only [pairG, pairV, lane_laneOf]

end

variable (m : (ℓ : Loc nD τ sig) → Buf (Elt Ideal) ℓ) (d : Dev nD)
  (hA : ∀ i l, m ((d : Thread nD τ).loc main_arg0) (ix2 i l) = (A i l : EReal))
  (hC : ∀ h j, m ((d : Thread nD τ).loc main_arg1) (ix3 h 0 j) = (C h j : EReal))
  (hG : ∀ i l, m ((d : Thread nD τ).loc main_arg2) (ix2 i l) = (G i l : EReal))

theorem exists_lane (l : Fin 1024) : ∃ t x, l = lane t x :=
  ⟨⟨l.val / 128, by have := points; omega⟩, ⟨l.val % 128, by omega⟩, Fin.ext (by simp only [lane]; omega)⟩

theorem exists_head (h : Fin 16) : ∃ t h', h = head t h' :=
  ⟨⟨h.val / 2, by have := points; omega⟩, ⟨h.val % 2, by omega⟩, Fin.ext (by simp only [head]; omega)⟩

include hA hC hG

theorem kernel_q (r : Fin 256) (l : Fin 1024) : (dats m 0 d).arrAt 5 cfg0.N (ix2 (row r) l) = ((gradQ A C G r l : ℝ) : EReal) := by
  obtain ⟨t, x, rfl⟩ := exists_lane l
  rw [array_q, out_dq (pairQ A t) (pairG G t) (pairK A t) (pairV A t) (pairC C t) _ _ _ _ _
    (fun r x => (block_q m d t r x).trans (hA _ _)) (fun j x => (block_k m d t j x).trans (hA _ _))
    (fun j x => (block_v m d t j x).trans (hA _ _)) (fun h j => (block_c m d t h j).trans (hC _ _))
    (fun r x => (block_g m d t r x).trans (hG _ _))]
  simp only [slopes_eq, gradQ, laneHead_lane]
  rfl

theorem kernel_k (j : Fin 2048) (l : Fin 1024) : (dats m 0 d).arrAt 6 cfg0.N (ix2 j l) = ((gradK A C G j l : ℝ) : EReal) := by
  obtain ⟨t, x, rfl⟩ := exists_lane l
  rw [array_k, out_dk (pairQ A t) (pairG G t) (pairK A t) (pairV A t) (pairC C t) _ _ _ _ _
    (fun r x => (block_q m d t r x).trans (hA _ _)) (fun j x => (block_k m d t j x).trans (hA _ _))
    (fun j x => (block_v m d t j x).trans (hA _ _)) (fun h j => (block_c m d t h j).trans (hC _ _))
    (fun r x => (block_g m d t r x).trans (hG _ _))]
  simp only [slopes_eq, gradK, laneHead_lane]
  rfl

theorem kernel_v (j : Fin 2048) (l : Fin 1024) : (dats m 0 d).arrAt 7 cfg0.N (ix2 j l) = ((gradV A C G j l : ℝ) : EReal) := by
  obtain ⟨t, x, rfl⟩ := exists_lane l
  rw [array_v, out_dv (pairQ A t) (pairG G t) (pairK A t) (pairV A t) (pairC C t) _ _ _ _ _
    (fun r x => (block_q m d t r x).trans (hA _ _)) (fun j x => (block_k m d t j x).trans (hA _ _))
    (fun j x => (block_v m d t j x).trans (hA _ _)) (fun h j => (block_c m d t h j).trans (hC _ _))
    (fun r x => (block_g m d t r x).trans (hG _ _))]
  simp only [shares_eq, gradV, laneHead_lane]
  rfl

theorem kernel_c (h : Fin 16) (j : Fin 2048) : (dats m 0 d).arrAt 8 cfg0.N (ix3 h 0 j) = ((gradC A C G h j : ℝ) : EReal) := by
  obtain ⟨t, h', rfl⟩ := exists_head h
  rw [array_c, out_dc (pairQ A t) (pairG G t) (pairK A t) (pairV A t) (pairC C t) _ _ _ _ _
    (fun r x => (block_q m d t r x).trans (hA _ _)) (fun j x => (block_k m d t j x).trans (hA _ _))
    (fun j x => (block_v m d t j x).trans (hA _ _)) (fun h j => (block_c m d t h j).trans (hC _ _))
    (fun r x => (block_g m d t r x).trans (hG _ _))]
  simp only [slopes_eq, gradC]

end Cert.LastBlock
end
-- ==== Proof.LastReference.lean ====
module

public import proofs.«01_k».proof.Proof.Heads
public import proofs.«01_k».proof.Proof.Gen.ReferenceIdeal.Read
public import Idealize.ShloMosaic.Lib.KernelVsHost

/-! The reference's arrays, stage by stage, as real numbers: scores, weights of a row, shares, slopes, and the four gradients. -/

@[expose] public section

noncomputable section

namespace Cert.LastReference

open Idealize.ShloMosaic Cert.ReferenceIdeal Cert.ReferenceIdeal.Gen Cert.ReferenceIdeal.Read Cert.Attention

/-- An index of rank two or three is the one with the same coordinates. -/
theorem at2 {n0 n1 : ℕ} (i : (⟨2, ![n0, n1]⟩ : Shape).Idx) (a : Fin n0) (b : Fin n1)
    (h0 : (i 0).val = a.val) (h1 : (i 1).val = b.val) : i = ix2 a b :=
  funext fun k => Fin.ext (by match k with | ⟨0, _⟩ => exact h0 | ⟨1, _⟩ => exact h1)
theorem at3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun k => Fin.ext (by match k with | ⟨0, _⟩ => exact h0 | ⟨1, _⟩ => exact h1 | ⟨2, _⟩ => exact h2)

theorem zero_word : Ideal.ofBits .f32 0x00000000#32 = 0 := by simp [Ideal.ofBits, Ideal.ieee]
theorem one_word : Ideal.ofBits .f32 0x3F800000#32 = 1 := by
  simp [Ideal.ofBits, Ideal.ieee, -EReal.coe_mul]
  norm_num

/-- Lane `64 h + d` splits into its head and its place there. -/
theorem headLane_div (h : Fin 16) (d : Fin 64) : (headLane h d).val / 64 = h.val := by simp only [headLane]; omega

variable (A : Fin 2048 → Fin 3072 → ℝ) (C : Fin 16 → Fin 2048 → ℝ) (G : Fin 2048 → Fin 1024 → ℝ)
variable (x0 : (⟨S2048x3072, .bf16⟩ : BufTy).Contents (Elt Ideal)) (x1 : (⟨S16x1x2048, .f32⟩ : BufTy).Contents (Elt Ideal))
  (x2 : (⟨S2048x1024, .f32⟩ : BufTy).Contents (Elt Ideal))

/-! ## The operands by head -/

theorem keys (j : Fin 2048) (h : Fin 16) (d : Fin 64) : val_main_v5 x0 (ix3 j h d) = x0 (ix2 j (colK (headLane h d))) := by
  rw [val_main_v5_apply, val_main_v2_apply]
  refine congrArg x0 (at2 _ _ _ ?_ ?_)
  · show ((j.val * 16 + h.val) * 64 + d.val) / 1024 = j.val; omega
  · show 1024 + ((j.val * 16 + h.val) * 64 + d.val) % 1024 = 1024 + (64 * h.val + d.val); omega

theorem values (j : Fin 2048) (h : Fin 16) (d : Fin 64) : val_main_v6 x0 (ix3 j h d) = x0 (ix2 j (colV (headLane h d))) := by
  rw [val_main_v6_apply, val_main_v3_apply]
  refine congrArg x0 (at2 _ _ _ ?_ ?_)
  · show ((j.val * 16 + h.val) * 64 + d.val) / 1024 = j.val; omega
  · show 2048 + ((j.val * 16 + h.val) * 64 + d.val) % 1024 = 2048 + (64 * h.val + d.val); omega

theorem queries (r : Fin 256) (h : Fin 16) (d : Fin 64) : val_main_v8 x0 (ix3 r h d) = x0 (ix2 (row r) (colQ (headLane h d))) := by
  rw [val_main_v8_apply, val_main_v4_apply, val_main_v1_apply]
  refine congrArg x0 (at2 _ _ _ ?_ ?_)
  · show (((1792 + r.val) * 16 + h.val) * 64 + d.val) / 1024 = 1792 + r.val; omega
  · show (((1792 + r.val) * 16 + h.val) * 64 + d.val) % 1024 = 64 * h.val + d.val; omega

theorem outputs (h : Fin 16) (d : Fin 64) (r : Fin 256) : val_main_v66 x2 (ix3 h d r) = x2 (ix2 (row r) (headLane h d)) := by
  rw [val_main_v66_apply, val_main_v65_apply, val_main_v64_apply]
  refine congrArg x2 (at2 _ _ _ ?_ ?_)
  · show 1792 + ((r.val * 16 + h.val) * 64 + d.val) / 1024 = 1792 + r.val; omega
  · show ((r.val * 16 + h.val) * 64 + d.val) % 1024 = 64 * h.val + d.val; omega

theorem decays (h : Fin 16) (j : Fin 2048) : val_main_v7 x1 (ix2 h j) = x1 (ix3 h 0 j) := by
  rw [val_main_v7_apply]
  refine congrArg x1 (at3 _ _ _ _ ?_ rfl ?_)
  · show (h.val * 2048 + j.val) / 2048 = h.val; omega
  · show (h.val * 2048 + j.val) % 2048 = j.val; omega

theorem decay_of_query (h : Fin 16) (r : Fin 256) (j : Fin 2048) : val_main_v17 x1 (ix3 h r j) = x1 (ix3 h 0 (row r)) := by
  rw [val_main_v17_apply, val_main_v15_apply, val_main_v14_apply, ← decays x1]
  exact congrArg (val_main_v7 x1) (at2 _ _ _ rfl rfl)

theorem decay_of_key (h : Fin 16) (r : Fin 256) (j : Fin 2048) : val_main_v18 x1 (ix3 h r j) = x1 (ix3 h 0 j) := by
  rw [val_main_v18_apply, val_main_v16_apply, ← decays x1]
  exact congrArg (val_main_v7 x1) (at2 _ _ _ rfl rfl)

theorem causal (h : Fin 16) (r : Fin 256) (j : Fin 2048) : val_main_v30_1 (F := Ideal) (ix3 h r j) = if ok r j then 1#1 else 0#1 := by
  rw [val_main_v30_1_apply, val_main_v28_apply, val_main_v26_apply, val_main_v23_apply, val_main_v22_apply, val_main_v21_apply,
    val_main_c_apply, val_main_v27_apply, val_main_v25_apply]
  exact (reaches (i := 1792) (b := r.val) (j := j.val) (by omega) (by omega)).trans (by simp only [ok, add_comm])

/-! ## Scores, weights and shares -/

section
variable (hA : ∀ i l, x0 (ix2 i l) = (A i l : EReal)) (hC : ∀ h j, x1 (ix3 h 0 j) = (C h j : EReal))
include hA hC

theorem scores (h : Fin 16) (r : Fin 256) (j : Fin 2048) :
    val_main_v30_0 x0 x1 (ix3 h r j) = if ok r j then (headScore A C h r j : EReal) else ⊥ := by
  have e9 : val_main_v9 x0 (ix3 h r j) = ((∑ d, A (row r) (colQ (headLane h d)) * A j (colK (headLane h d)) : ℝ) : EReal) := by
    rw [val_main_v9_apply, coe_sum]
    refine Finset.sum_congr rfl fun d _ => ?_
    rw [at3 (lidx_main_v9 (ix3 h r j) d) r h d rfl rfl rfl, at3 (ridx_main_v9 (ix3 h r j) d) j h d rfl rfl rfl, keys, queries, hA, hA,
      EReal.coe_mul]
  have e29 : val_main_v29 x0 x1 (ix3 h r j) = (headScore A C h r j : EReal) := by
    rw [val_main_v29_apply, val_main_v13_apply, val_main_v12_apply, val_main_cst_apply, val_main_v19_apply, decay_of_query,
      decay_of_key, hC, hC, val_main_v11_apply, val_main_v10_apply, e9]
    show (_ : EReal) * Ideal.ofBits .f32 0x3E000000#32 + ((C h (row r) : EReal) - (C h j : EReal)) = _
    rw [eighth, ← EReal.coe_sub, headScore, score, EReal.coe_add, EReal.coe_mul]
    rfl
  rw [val_main_v30_0_apply, causal, select_bit, e29, val_main_call0_v2_apply]
  exact congrArg (fun b => if ok r j then (headScore A C h r j : EReal) else b) neg_inf

end

/-- The largest score of a row, from minus infinity. -/
theorem largest (y : (⟨S16x256x2048, .f32⟩ : BufTy).Contents (Elt Ideal)) (z : (⟨S_, .f32⟩ : BufTy).Contents (Elt Ideal)) (h : Fin 16) (r : Fin 256) :
    Host.reduce (FloatOps.maximumf (F := Ideal) (φ := .f32)) y z reducesTo_S16x256x2048_S16x256_d2 h_S_ (ix2 h r)
      = Finset.fold max (z (Shape.Idx.first h_S_)) (fun j => y (ix3 h r j)) Finset.univ := by
  rw [Host.reduce_eq_fold_single (FloatOps.maximumf (F := Ideal) (φ := .f32)) y z reducesTo_S16x256x2048_S16x256_d2 (by decide) h_S_]
  refine Finset.fold_congr fun j _ => congrArg y (at3 _ _ _ _ rfl rfl rfl)

theorem exps (h : Fin 16) (r : Fin 256) (j : Fin 2048) :
    val_main_v51 x0 x1 (ix3 h r j)
      = Ideal.exp (val_main_v30_0 x0 x1 (ix3 h r j) - Finset.fold max (⊥ : EReal) (fun k => val_main_v30_0 x0 x1 (ix3 h r k)) Finset.univ) := by
  have e31 : val_main_v31 x0 x1 (ix2 h r) = Finset.fold max (⊥ : EReal) (fun k => val_main_v30_0 x0 x1 (ix3 h r k)) Finset.univ := by
    unfold val_main_v31
    rw [largest, val_main_cst_1_apply]
    exact congrArg (fun b => Finset.fold max b _ _) neg_inf
  rw [val_main_v51_apply, val_main_v50_apply, val_main_v49_apply, val_main_v48_apply, at2 (idx_main_v48 _) h r rfl rfl,
    val_main_v38_apply, val_main_v37_apply, val_main_cst_3_apply, e31]
  show Ideal.exp (_ - max (Ideal.ofBits .f32 0xFF800000#32) _) = _
  rw [neg_inf, max_eq_right bot_le]

theorem total (h : Fin 16) (r : Fin 256) : val_main_v52 x0 x1 (ix2 h r) = ∑ j, val_main_v51 x0 x1 (ix3 h r j) := by
  rw [val_main_v52_apply, val_main_cst_9_apply]
  refine (congrArg₂ _ zero_word rfl).trans ((zero_add _).trans (Finset.sum_congr rfl fun j _ => ?_))
  rw [at3 (idx_main_v52 _ _) h r j rfl rfl rfl]

theorem total_keys (h : Fin 16) (r : Fin 256) (j : Fin 2048) : val_main_v54 x0 x1 (ix3 h r j) = ∑ j, val_main_v51 x0 x1 (ix3 h r j) := by
  rw [val_main_v54_apply, val_main_v53_apply, at2 (idx_main_v53 _) h r rfl rfl, total]

section
variable (hA : ∀ i l, x0 (ix2 i l) = (A i l : EReal)) (hC : ∀ h j, x1 (ix3 h 0 j) = (C h j : EReal))
include hA hC

theorem weights (h : Fin 16) (r : Fin 256) :
    ∃ c : ℝ, c ≠ 0 ∧ ∀ j, val_main_v51 x0 x1 (ix3 h r j) = ((c * wt (ok r) (headScore A C h r) j : ℝ) : EReal) := by
  obtain ⟨c, hc, e⟩ := exp_sub_max (ok r) (headScore A C h r) (fun j => val_main_v30_0 x0 x1 (ix3 h r j))
    (scores A C x0 x1 hA hC h r) (ok_zero r)
  exact ⟨c, hc, fun j => (exps x0 x1 h r j).trans (e j)⟩

theorem shares (h : Fin 16) (r : Fin 256) (j : Fin 2048) : val_main_v60 x0 x1 (ix3 h r j) = (headShare A C h r j : EReal) := by
  obtain ⟨c, hc, e⟩ := weights A C x0 x1 hA hC h r
  rw [val_main_v60_apply, val_main_v59_apply, val_main_v55_apply, total_keys]
  simp only [e]
  exact div_sum_eq_share (ok r) (headScore A C h r) hc (ok_zero r) j

variable (hG : ∀ i l, x2 (ix2 i l) = (G i l : EReal))
include hG

omit hC in
theorem share_grads (h : Fin 16) (r : Fin 256) (j : Fin 2048) : val_main_v71 x0 x2 (ix3 h r j) = (headGrad A G h r j : EReal) := by
  rw [val_main_v71_apply, val_main_v70_apply]
  refine (val_main_v67_apply x0 x2 (ix3 h r j)).trans ?_
  rw [headGrad, coe_sum]
  refine Finset.sum_congr rfl fun d _ => ?_
  rw [at3 (lidx_main_v67 (ix3 h r j) d) h d r rfl rfl rfl, at3 (ridx_main_v67 (ix3 h r j) d) j h d rfl rfl rfl, outputs, values, hA, hG,
    EReal.coe_mul]

theorem slopes (h : Fin 16) (r : Fin 256) (j : Fin 2048) : val_main_v84 x0 x1 x2 (ix3 h r j) = (headSlope A C G h r j : EReal) := by
  obtain ⟨c, hc, e⟩ := weights A C x0 x1 hA hC h r
  have g := share_grads A G x0 x2 hA hG h r
  have e58 (k : Fin 2048) : val_main_v72 x0 x1 (ix3 h r k) = Ideal.div 1 ((∑ j, val_main_v51 x0 x1 (ix3 h r j)) * ∑ j, val_main_v51 x0 x1 (ix3 h r j)) := by
    rw [val_main_v72_apply, val_main_v58_apply, val_main_v57_apply, val_main_cst_10_apply, val_main_v56_apply, val_main_v53_apply,
      at2 (idx_main_v53 _) h r rfl rfl, total]
    exact congrArg (fun a => Ideal.div a _) one_word
  have e75 : val_main_v75 x0 x1 x2 (ix2 h r) = ∑ k, val_main_v71 x0 x2 (ix3 h r k)
      * Ideal.div 1 ((∑ j, val_main_v51 x0 x1 (ix3 h r j)) * ∑ j, val_main_v51 x0 x1 (ix3 h r j)) * val_main_v51 x0 x1 (ix3 h r k) := by
    rw [val_main_v75_apply, val_main_cst_11_apply]
    refine (congrArg₂ _ zero_word rfl).trans ((zero_add _).trans (Finset.sum_congr rfl fun k _ => ?_))
    rw [at3 (idx_main_v75 _ _) h r k rfl rfl rfl, val_main_v74_apply, val_main_v73_apply, e58]
    rfl
  have e81 : val_main_v81 x0 x1 x2 (ix3 h r j) = -val_main_v75 x0 x1 x2 (ix2 h r) := by
    rw [val_main_v81_apply, val_main_v80_apply, val_main_cst_12_apply]
    refine (congrArg₂ _ zero_word rfl).trans ((zero_add _).trans ?_)
    rw [Fin.sum_univ_one, val_main_v77_apply, val_main_v76_apply]
    refine congrArg (fun i => -val_main_v75 x0 x1 x2 i) (at2 _ _ _ ?_ ?_)
    · show ((h.val * 256 + r.val) * 1 + 0) / 256 = h.val; omega
    · show ((h.val * 256 + r.val) * 1 + 0) % 256 = r.val; omega
  have e83 : val_main_v83 x0 x1 x2 (ix3 h r j) = (headSlope A C G h r j : EReal) := by
    rw [val_main_v83_apply, val_main_v82_apply, val_main_v79_apply, val_main_v78_apply, val_main_v53_apply,
      at2 (idx_main_v53 _) h r rfl rfl, total, e81, e75]
    simp only [e, g]
    exact quotient_eq_slope (ok r) (headScore A C h r) (headGrad A G h r) hc (ok_zero r) j
  rw [val_main_v84_apply, causal, select_bit, e83]
  split
  · rfl
  · next hn =>
    rw [headSlope, slope_of_not _ _ _ hn, val_main_call1_v0_apply]
    exact zero_word

/-! ## The four gradients -/

theorem scaled_slopes (h : Fin 16) (r : Fin 256) (j : Fin 2048) :
    val_main_v97 x0 x1 x2 (ix3 h r j) = ((headSlope A C G h r j * (1 / 8) : ℝ) : EReal) := by
  rw [val_main_v97_apply, val_main_v96_apply, val_main_v95_apply, slopes A C G x0 x1 x2 hA hC hG, val_main_v94_apply, val_main_cst_18_apply, EReal.coe_mul]
  exact congrArg (fun b => (headSlope A C G h r j : EReal) * b) eighth

theorem reference_v (j : Fin 2048) (l : Fin 1024) : val_main_v104 x0 x1 x2 (ix2 j l) = (gradV A C G j l : EReal) := by
  have hl : headLane (laneHead l) ⟨l.val % 64, by omega⟩ = l := Fin.ext (by simp only [headLane, laneHead]; omega)
  rw [val_main_v104_apply, at3 (idx_main_v104 (ix2 j l)) j (laneHead l) ⟨l.val % 64, by omega⟩
    (by show (j.val * 1024 + l.val) / 1024 = j.val; omega) (by show (j.val * 1024 + l.val) / 64 % 16 = l.val / 64; omega)
    (by show (j.val * 1024 + l.val) % 64 = l.val % 64; omega), val_main_v69_apply, val_main_v68_apply, gradV, coe_sum]
  refine Finset.sum_congr rfl fun r _ => ?_
  rw [at3 (lidx_main_v68 _ r) (laneHead l) ⟨l.val % 64, by omega⟩ r rfl rfl rfl, at3 (ridx_main_v68 _ r) (laneHead l) r j rfl rfl rfl,
    outputs, hl, hG, shares A C x0 x1 hA hC, EReal.coe_mul]

theorem reference_k (j : Fin 2048) (l : Fin 1024) : val_main_v105 x0 x1 x2 (ix2 j l) = (gradK A C G j l : EReal) := by
  have hl : headLane (laneHead l) ⟨l.val % 64, by omega⟩ = l := Fin.ext (by simp only [headLane, laneHead]; omega)
  rw [val_main_v105_apply, at3 (idx_main_v105 (ix2 j l)) j (laneHead l) ⟨l.val % 64, by omega⟩
    (by show (j.val * 1024 + l.val) / 1024 = j.val; omega) (by show (j.val * 1024 + l.val) / 64 % 16 = l.val / 64; omega)
    (by show (j.val * 1024 + l.val) % 64 = l.val % 64; omega), val_main_v99_apply, val_main_v98_apply, gradK, coe_sum]
  refine Finset.sum_congr rfl fun r _ => ?_
  rw [at3 (lidx_main_v98 _ r) (laneHead l) r j rfl rfl rfl, at3 (ridx_main_v98 _ r) r (laneHead l) ⟨l.val % 64, by omega⟩ rfl rfl rfl,
    queries, hl, hA, scaled_slopes A C G x0 x1 x2 hA hC hG, ← EReal.coe_mul]
  congr 1; ring

theorem reference_q (r : Fin 256) (l : Fin 1024) : val_main_v107 x0 x1 x2 (ix2 (row r) l) = (gradQ A C G r l : EReal) := by
  have hl : headLane (laneHead l) ⟨l.val % 64, by omega⟩ = l := Fin.ext (by simp only [headLane, laneHead]; omega)
  have e102 : val_main_v102 x0 x1 x2 (ix3 (row r) (laneHead l) ⟨l.val % 64, by omega⟩)
      = val_main_v101 x0 x1 x2 (ix3 r (laneHead l) ⟨l.val % 64, by omega⟩) := by
    unfold val_main_v102
    generalize val_main_v101 x0 x1 x2 = y
    exact pad_apply_of_inside _ _ _ y _ pads_S256x16x64_S2048x16x64_179200_000_000 h_S_ _ _ (fun a => match a with
      | ⟨0, _⟩ => by show 1792 + r.val = 1792 + r.val * 1; omega
      | ⟨1, _⟩ => by show l.val / 64 = 0 + l.val / 64 * 1; omega
      | ⟨2, _⟩ => by show l.val % 64 = 0 + l.val % 64 * 1; omega)
  rw [val_main_v107_apply, val_main_v106_apply, at3 (idx_main_v106 (ix2 (row r) l)) (row r) (laneHead l) ⟨l.val % 64, by omega⟩
    (by show ((1792 + r.val) * 1024 + l.val) / 1024 = 1792 + r.val; omega) (by show ((1792 + r.val) * 1024 + l.val) / 64 % 16 = l.val / 64; omega)
    (by show ((1792 + r.val) * 1024 + l.val) % 64 = l.val % 64; omega), e102, val_main_v101_apply]
  refine (val_main_v100_apply x0 x1 x2 _).trans ?_
  rw [gradQ, Finset.sum_mul, coe_sum]
  refine Finset.sum_congr rfl fun j _ => ?_
  rw [at3 (lidx_main_v100 _ j) (laneHead l) r j rfl rfl rfl, at3 (ridx_main_v100 _ j) j (laneHead l) ⟨l.val % 64, by omega⟩ rfl rfl rfl,
    keys, hl, hA, scaled_slopes A C G x0 x1 x2 hA hC hG, ← EReal.coe_mul]
  congr 1; ring

/-- The decays' gradient through the queries, which the reference adds at the block's own rows, is a row's sum of slopes: zero. -/
theorem query_decays (h : Fin 16) (j : Fin 2048) : val_main_v92 x0 x1 x2 (ix2 h j) = 0 := by
  have e91 (r : Fin 256) : val_main_v91 x0 x1 x2 (ix2 h r) = 0 := by
    have e85 : val_main_v85 x0 x1 x2 (ix2 h r) = 0 := by
      rw [val_main_v85_apply, val_main_cst_13_apply]
      refine (congrArg₂ _ zero_word rfl).trans ((zero_add _).trans ?_)
      have e (k : Fin 2048) : val_main_v84 x0 x1 x2 (idx_main_v85 (ix2 h r) k) = (headSlope A C G h r k : EReal) := by
        rw [at3 (idx_main_v85 _ _) h r k rfl rfl rfl, slopes A C G x0 x1 x2 hA hC hG]
      simp only [e]
      rw [← coe_sum]
      exact congrArg _ (slope_sum (ok r) _ _ (ok_zero r))
    rw [val_main_v91_apply, val_main_cst_16_apply]
    refine (congrArg₂ _ zero_word rfl).trans ((zero_add _).trans ?_)
    rw [Fin.sum_univ_one, val_main_v86_apply, at2 (idx_main_v86 _) h r
      (by show ((h.val * 256 + r.val) * 1 + 0) / 256 = h.val; omega) (by show ((h.val * 256 + r.val) * 1 + 0) % 256 = r.val; omega), e85]
  unfold val_main_v92
  generalize val_main_v91 x0 x1 x2 = y at e91
  by_cases hj : 1792 ≤ j.val
  · rw [pad_apply_of_inside _ _ _ y _ pads_S16x256_S16x2048_000_179200 h_S_ (ix2 h j) (ix2 h ⟨j.val - 1792, by omega⟩) (fun a => match a with
      | ⟨0, _⟩ => by show h.val = 0 + h.val * 1; omega
      | ⟨1, _⟩ => by show j.val = 1792 + (j.val - 1792) * 1; omega), e91]
  · rw [pad_apply_of_not_inside _ _ _ y _ pads_S16x256_S16x2048_000_179200 h_S_ (ix2 h j) 1 (fun hh => hj hh.1), val_main_cst_17_apply]
    exact zero_word

theorem reference_c (h : Fin 16) (j : Fin 2048) : val_main_v103 x0 x1 x2 (ix3 h 0 j) = (gradC A C G h j : EReal) := by
  rw [val_main_v103_apply, at2 (idx_main_v103 (ix3 h 0 j)) h j
    (by show ((h.val * 1 + 0) * 2048 + j.val) / 2048 = h.val; omega) (by show ((h.val * 1 + 0) * 2048 + j.val) % 2048 = j.val; omega),
    val_main_v93_apply, query_decays A C G x0 x1 x2 hA hC hG]
  refine (add_zero _).trans ?_
  rw [val_main_v90_apply, val_main_cst_15_apply]
  refine (congrArg₂ _ zero_word rfl).trans ((zero_add _).trans ?_)
  rw [Fin.sum_univ_one, val_main_v89_apply, at2 (idx_main_v89 _) h j
    (by show ((h.val * 1 + 0) * 2048 + j.val) / 2048 = h.val; omega) (by show ((h.val * 1 + 0) * 2048 + j.val) % 2048 = j.val; omega),
    val_main_v88_apply, val_main_cst_14_apply]
  refine (congrArg₂ _ zero_word rfl).trans ((zero_add _).trans ?_)
  rw [gradC, coe_sum]
  refine Finset.sum_congr rfl fun r _ => ?_
  rw [at3 (idx_main_v88 _ _) h r j rfl rfl rfl, val_main_v87_apply, slopes A C G x0 x1 x2 hA hC hG, EReal.coe_neg]
  rfl

end

end Cert.LastReference
end
-- ==== Proof.Finite.lean ====
module

public import proofs.«01_k».proof.Proof.Share
public import Idealize.ShloMosaic.Lib.ReduceAll

/-! A host test that every entry of an array lies below `+∞` in absolute value gives the array's entries as real numbers. -/

@[expose] public section

noncomputable section

namespace Cert.Finite

open Idealize.ShloMosaic

/-- An extended real whose absolute value is below a word that stands for `+∞` is a real number. -/
theorem real_of_below {φ : FTy} {b : BitVec φ.bits} (hb : Ideal.ofBits φ b = ⊤) {x : EReal}
    (h : Ideal.cmp .olt (max x (-x)) (Ideal.ofBits φ b) = 1#1) : ∃ y : ℝ, x = (y : EReal) := by
  rw [hb] at h
  have hx : max x (-x) < ⊤ := by
    by_contra hn
    simp [Ideal.cmp, hn] at h
  rw [max_lt_iff] at hx
  refine ⟨x.toReal, (EReal.coe_toReal hx.1.ne fun hbot => ?_).symm⟩
  rw [hbot] at hx
  simp at hx

/-- The array test: every entry is a real number. -/
theorem real_of_all {s t u : Shape} {axes : List (Fin s.rank)} [Subsingleton t.Idx] {φ : FTy} {b : BitVec φ.bits}
    (hb : Ideal.ofBits φ b = ⊤) (x : FVec Ideal s φ) (y : FVec Ideal s φ) (hy : ∀ i, y i = Ideal.ofBits φ b) (init : u.Idx → BitVec 1)
    (h : s.ReducesTo axes t) (hu : 0 < u.numel) (j : t.Idx)
    (e : Host.reduce IntOp.andi (cmpf .olt (Host.absf x) y) init h hu j = 1#1) (i : s.Idx) : ∃ z : ℝ, x i = (z : EReal) := by
  have := Host.reduce_andi_all _ init h hu j e i
  refine real_of_below hb (x := x i) ?_
  rw [← hy i]
  exact this

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

end Cert.Finite
end
-- ==== Proof.LastClaim.lean ====
module

public import proofs.«01_k».proof.Defs
public import proofs.«01_k».proof.Proof.LastArrays
public import proofs.«01_k».proof.Proof.LastReference
public import proofs.«01_k».proof.Proof.Finite
public import proofs.«01_k».proof.Proof.Gen.Kernel.Frame
public import proofs.«01_k».proof.Proof.Gen.ReferenceIdeal.Run
public import proofs.«01_k».proof.Proof.Gen.Pre_finite
public import proofs.«01_k».proof.Proof.Gen.On_written

/-! The claims of the attention gradient's last query block: both programs run, and where the kernel writes the arrays agree. -/

@[expose] public section

noncomputable section

namespace Cert.LastClaim

open Idealize.ShloMosaic Idealize.SL.Sem Cert.Attention

/-- The precondition's three arrays hold real numbers. -/
theorem reals (x0 : FVec Ideal ⟨2, ![2048, 3072]⟩ .bf16) (x1 : FVec Ideal ⟨3, ![16, 1, 2048]⟩ .f32) (x2 : FVec Ideal ⟨2, ![2048, 1024]⟩ .f32)
    (h : Cert.Pre_finite.fn (F := Ideal) x0 x1 x2 = fun _ => 1#1) :
    ∃ (A : Fin 2048 → Fin 3072 → ℝ) (C : Fin 16 → Fin 2048 → ℝ) (G : Fin 2048 → Fin 1024 → ℝ),
      (∀ i l, x0 (ix2 i l) = (A i l : EReal)) ∧ (∀ h j, x1 (ix3 h 0 j) = (C h j : EReal)) ∧ ∀ i l, x2 (ix2 i l) = (G i l : EReal) := by
  haveI : Subsingleton Cert.Pre_finite.S_.Idx := ⟨fun a b => funext fun k => k.elim0⟩
  have h0 := congrFun h (fun k => k.elim0)
  dsimp only [Cert.Pre_finite.fn] at h0
  obtain ⟨h01, h2⟩ := IntOp.andi_eq_one.1 h0
  obtain ⟨h0, h1⟩ := IntOp.andi_eq_one.1 h01
  choose A hA using fun i l => Cert.Finite.real_of_all Cert.Finite.inf_bf16 x0 _ (fun i => broadcastInDim_apply _ _ _ i (fun k => k.elim0) (fun a => a.elim0)) _ _ _ _ h0 (ix2 i l)
  choose C hC using fun h j => Cert.Finite.real_of_all Cert.Finite.inf_f32 x1 _ (fun i => broadcastInDim_apply _ _ _ i (fun k => k.elim0) (fun a => a.elim0)) _ _ _ _ h1 (ix3 h 0 j)
  choose G hG using fun i l => Cert.Finite.real_of_all Cert.Finite.inf_f32 x2 _ (fun i => broadcastInDim_apply _ _ _ i (fun k => k.elim0) (fun a => a.elim0)) _ _ _ _ h2 (ix2 i l)
  exact ⟨A, C, G, hA, hC, hG⟩

/-- The mask selects, of the queries' gradient, the block's own rows. -/
theorem own_rows (x0 : FVec Ideal ⟨2, ![2048, 3072]⟩ .bf16) (x1 : FVec Ideal ⟨3, ![16, 1, 2048]⟩ .f32) (x2 : FVec Ideal ⟨2, ![2048, 1024]⟩ .f32)
    (i : Fin 2048) (l : Fin 1024) (h : (Cert.On_written.fn (F := Ideal) x0 x1 x2).1 (ix2 i l) = 1#1) : ∃ r, i = row r := by
  have h : IntOp.cmpi .sge (BitVec.ofNat 32 i.val) (1792#32) = 1#1 := h
  have hi : 1792 ≤ i.val := by
    have e := reaches (i := 0) (b := i.val) (j := 1792) (by omega) (by omega)
    rw [show IntOp.addi (BitVec.ofNat 32 0) (BitVec.ofNat 32 i.val) = BitVec.ofNat 32 i.val by simp [IntOp.addi], h] at e
    by_contra hn
    rw [if_neg (by omega)] at e
    exact absurd e (by decide)
  exact ⟨⟨i.val - 1792, by omega⟩, Fin.ext (by simp only [row]; omega)⟩

theorem frame_kernel : Cert.quiescent_Kernel := fun m g _ => Cert.Kernel.Gen.frame m g
theorem frame_ideal : Cert.quiescent_KernelIdeal := fun m g _ => Cert.KernelIdeal.Gen.frame m g
theorem frame_ideal_finite : Cert.quiescent_KernelIdeal_pre_finite := fun m g _ => Cert.KernelIdeal.Gen.frame m g
theorem frame_reference : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)
theorem frame_reference_finite : Cert.quiescent_ReferenceIdeal_pre_finite := fun m g _ => frame_reference m g trivial

theorem mask_is_minus_infinity : Cert.preserves_Kernel_KernelIdeal := IdealRules.named_const.statement _ _ _ _ _ rfl

/-- Where the kernel writes, its four arrays are the reference's. -/
theorem values : Cert.algebraic_KernelIdeal_ReferenceIdeal_on_written_pre_finite := by
  intro m g m' g' hp hm
  choose A C G hA hC hG using fun c => reals _ _ _ (hp c)
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N, ?_, ?_⟩
  · refine (θ_run Cert.KernelIdeal.defs _ _).mono (fun r h c => ?_) (Cert.KernelIdeal.Value.run_blocks (F := Ideal) m g)
    obtain ⟨e0, e1, e2, e3, ea⟩ := h c
    exact ⟨fun i _ => congrFun e0 i, fun i _ => congrFun e1 i, fun i _ => congrFun e2 i, fun i _ => congrFun e3 i, ea⟩
  · refine (θ_run Cert.ReferenceIdeal.defs _ _).mono (fun r h c => ?_) (Cert.ReferenceIdeal.Value.run (F := Ideal) m' g')
    obtain ⟨e0, e1, e2, e3, ea⟩ := h c
    obtain ⟨m0, m1, m2⟩ := hm c
    refine ⟨fun i hi => ?_, fun i _ => ?_, fun i _ => ?_, fun i _ => ?_, ea⟩
    · obtain ⟨a, l, rfl⟩ : ∃ a l, i = ix2 a l := ⟨i 0, i 1, Cert.LastReference.at2 _ _ _ rfl rfl⟩
      obtain ⟨r', rfl⟩ := own_rows _ _ _ _ _ hi
      refine ((congrFun e0 _).trans ?_).trans (Cert.LastBlock.kernel_q (A c) (C c) (G c) m c (hA c) (hC c) (hG c) r' l).symm
      rw [Cert.ReferenceIdeal.Read.val_main_v107_eq, m0, m1, m2]
      exact Cert.LastReference.reference_q (A c) (C c) (G c) _ _ _ (hA c) (hC c) (hG c) r' l
    · obtain ⟨a, l, rfl⟩ : ∃ a l, i = ix2 a l := ⟨i 0, i 1, Cert.LastReference.at2 _ _ _ rfl rfl⟩
      refine ((congrFun e1 _).trans ?_).trans (Cert.LastBlock.kernel_k (A c) (C c) (G c) m c (hA c) (hC c) (hG c) a l).symm
      rw [Cert.ReferenceIdeal.Read.val_main_v105_eq, m0, m1, m2]
      exact Cert.LastReference.reference_k (A c) (C c) (G c) _ _ _ (hA c) (hC c) (hG c) a l
    · obtain ⟨a, l, rfl⟩ : ∃ a l, i = ix2 a l := ⟨i 0, i 1, Cert.LastReference.at2 _ _ _ rfl rfl⟩
      refine ((congrFun e2 _).trans ?_).trans (Cert.LastBlock.kernel_v (A c) (C c) (G c) m c (hA c) (hC c) (hG c) a l).symm
      rw [Cert.ReferenceIdeal.Read.val_main_v104_eq, m0, m1, m2]
      exact Cert.LastReference.reference_v (A c) (C c) (G c) _ _ _ (hA c) (hC c) (hG c) a l
    · obtain ⟨a, l, rfl⟩ : ∃ a l, i = ix3 a 0 l := ⟨i 0, i 2, Cert.LastReference.at3 _ _ _ _ rfl (by have := (i 1).isLt; show (i 1).val = 0; change (i 1).val < 1 at this; omega) rfl⟩
      refine ((congrFun e3 _).trans ?_).trans (Cert.LastBlock.kernel_c (A c) (C c) (G c) m c (hA c) (hC c) (hG c) a l).symm
      rw [Cert.ReferenceIdeal.Read.val_main_v103_eq, m0, m1, m2]
      exact Cert.LastReference.reference_c (A c) (C c) (G c) _ _ _ (hA c) (hC c) (hG c) a l

end Cert.LastClaim
end
-- ==== Proof.Products.lean ====
module

public import Idealize.ShloMosaic.Lib.Pointwise
public import Idealize.ShloMosaic.Lib.IdealHost
public import Idealize.ShloMosaic.Lib.Pipeline.Value
public import Idealize.ShloMosaic.Lib.Pipeline.ReadBack

/-! A matrix product taken block by block: what a kernel loads and stores whole, partial sums carried from point to point, and a sum
split into the parts its factors are given in. Sums of extended reals need no hypothesis to be regrouped. -/

@[expose] public section

noncomputable section

namespace Cert.Products

open Idealize.ShloMosaic

/-! ## Loads and stores of a whole buffer -/

theorem origin2 : (![0, 0] : Fin 2 → Nat) = fun _ => 0 := funext fun a => by fin_cases a <;> rfl
theorem origin3 : (![0, 0, 0] : Fin 3 → Nat) = fun _ => 0 := funext fun a => by fin_cases a <;> rfl
theorem origin4 : (![0, 0, 0, 0] : Fin 4 → Nat) = fun _ => 0 := funext fun a => by fin_cases a <;> rfl

section
variable {sig : RefSig} {κ : Kind} {sp : Space} {e : EltTy} {Val : EltTy → Type} {n0 n1 n2 : ℕ}

/-- A load of the whole buffer reads the contents it was given. -/
theorem load2 {b : Memref sig κ sp ⟨2, ![n0, n1]⟩ e} (h : b.IsWhole) (x : (⟨2, ![n0, n1]⟩ : Shape).Idx → Val e)
    (inb : ∀ a, (![0, 0] : Fin 2 → Nat) a + (⟨2, ![n0, n1]⟩ : Shape).size a ≤ (⟨2, ![n0, n1]⟩ : Shape).size a) :
    b.view.readAt Val (Rect.unit ![0, 0] (⟨2, ![n0, n1]⟩ : Shape).size inb).toLoadRect (h.unread x) = x := by
  rw [View.readAt_eq_ld, h.read_unread]
  exact View.ld_unit_zero (S := ⟨2, ![n0, n1]⟩) origin2 inb x

theorem load3 {b : Memref sig κ sp ⟨3, ![n0, n1, n2]⟩ e} (h : b.IsWhole) (x : (⟨3, ![n0, n1, n2]⟩ : Shape).Idx → Val e)
    (inb : ∀ a, (![0, 0, 0] : Fin 3 → Nat) a + (⟨3, ![n0, n1, n2]⟩ : Shape).size a ≤ (⟨3, ![n0, n1, n2]⟩ : Shape).size a) :
    b.view.readAt Val (Rect.unit ![0, 0, 0] (⟨3, ![n0, n1, n2]⟩ : Shape).size inb).toLoadRect (h.unread x) = x := by
  rw [View.readAt_eq_ld, h.read_unread]
  exact View.ld_unit_zero (S := ⟨3, ![n0, n1, n2]⟩) origin3 inb x

/-- A store over the whole buffer leaves what it stored. -/
theorem stored2 [∀ e, Nonempty (Val e)] (x : (⟨2, ![n0, n1]⟩ : Shape).Idx → Val e)
    (inb : ∀ a, (![0, 0] : Fin 2 → Nat) a + (⟨2, ![n0, n1]⟩ : Shape).size a ≤ (⟨2, ![n0, n1]⟩ : Shape).size a) :
    View.canon [(⟨Rect.unit ![0, 0] (⟨2, ![n0, n1]⟩ : Shape).size inb, x⟩ : View.Piece Val ⟨2, ![n0, n1]⟩ e)] = x :=
  View.canon_unit_zero (S := ⟨2, ![n0, n1]⟩) origin2 inb x

theorem stored3 [∀ e, Nonempty (Val e)] (x : (⟨3, ![n0, n1, n2]⟩ : Shape).Idx → Val e)
    (inb : ∀ a, (![0, 0, 0] : Fin 3 → Nat) a + (⟨3, ![n0, n1, n2]⟩ : Shape).size a ≤ (⟨3, ![n0, n1, n2]⟩ : Shape).size a) :
    View.canon [(⟨Rect.unit ![0, 0, 0] (⟨3, ![n0, n1, n2]⟩ : Shape).size inb, x⟩ : View.Piece Val ⟨3, ![n0, n1, n2]⟩ e)] = x :=
  View.canon_unit_zero (S := ⟨3, ![n0, n1, n2]⟩) origin3 inb x

theorem stored4 {n3 : ℕ} [∀ e, Nonempty (Val e)] (x : (⟨4, ![n0, n1, n2, n3]⟩ : Shape).Idx → Val e)
    (inb : ∀ a, (![0, 0, 0, 0] : Fin 4 → Nat) a + (⟨4, ![n0, n1, n2, n3]⟩ : Shape).size a ≤ (⟨4, ![n0, n1, n2, n3]⟩ : Shape).size a) :
    View.canon [(⟨Rect.unit ![0, 0, 0, 0] (⟨4, ![n0, n1, n2, n3]⟩ : Shape).size inb, x⟩ : View.Piece Val ⟨4, ![n0, n1, n2, n3]⟩ e)] = x :=
  View.canon_unit_zero (S := ⟨4, ![n0, n1, n2, n3]⟩) origin4 inb x

/-- The same for a load that is read through its rectangle. -/
theorem whole2 (x : (⟨2, ![n0, n1]⟩ : Shape).Idx → Val e)
    (inb : ∀ a, (![0, 0] : Fin 2 → Nat) a + (⟨2, ![n0, n1]⟩ : Shape).size a ≤ (⟨2, ![n0, n1]⟩ : Shape).size a) :
    View.ld x (Rect.unit ![0, 0] (⟨2, ![n0, n1]⟩ : Shape).size inb) = x :=
  View.ld_unit_zero (S := ⟨2, ![n0, n1]⟩) origin2 inb x
end

/-! ## Partial sums -/

/-- A block of `a · wᵀ`, added to `p`. -/
def addRows {n k l : ℕ} (a : (⟨2, ![n, k]⟩ : Shape).Idx → EReal) (w : (⟨2, ![l, k]⟩ : Shape).Idx → EReal) (p : (⟨2, ![n, l]⟩ : Shape).Idx → EReal) :
    (⟨2, ![n, l]⟩ : Shape).Idx → EReal :=
  fun i => p i + ∑ e : Fin k, a (ix2 (i 0) e) * w (ix2 (i 1) e)

/-- A block of `a · w`. -/
def block {n k l : ℕ} (a : (⟨2, ![n, k]⟩ : Shape).Idx → EReal) (w : (⟨2, ![k, l]⟩ : Shape).Idx → EReal) : (⟨2, ![n, l]⟩ : Shape).Idx → EReal :=
  fun i => ∑ e : Fin k, a (ix2 (i 0) e) * w (ix2 e (i 1))

/-- A block of `aᵀ · w`, added to `p`. -/
def addCols {n k l : ℕ} (a : (⟨2, ![k, n]⟩ : Shape).Idx → EReal) (w : (⟨2, ![k, l]⟩ : Shape).Idx → EReal) (p : (⟨2, ![n, l]⟩ : Shape).Idx → EReal) :
    (⟨2, ![n, l]⟩ : Shape).Idx → EReal :=
  fun i => p i + ∑ e : Fin k, a (ix2 e (i 0)) * w (ix2 e (i 1))

/-- Partial sums that start at the first term and take one more at each step end at the sum. -/
theorem accumulate {n : ℕ} (s p : Fin (n + 1) → EReal) (h0 : s 0 = p 0) (hs : ∀ j : Fin n, s j.succ = s j.castSucc + p j.succ) :
    s (Fin.last n) = ∑ k, p k := by
  induction n with
  | zero => simpa using h0
  | succ n ih =>
    rw [Fin.sum_univ_castSucc, ← ih (fun k => s k.castSucc) (fun k => p k.castSucc) h0 fun j => by simpa using hs j.castSucc]
    exact hs (Fin.last n)

/-- A sum over `n` parts of `w` terms each, taken part by part. -/
theorem sum_parts {n w l : ℕ} (hl : n * w = l) (f : Fin l → EReal) (g : Fin n → Fin w → EReal)
    (h : ∀ k e (hk : w * k.val + e.val < l), f ⟨w * k.val + e.val, hk⟩ = g k e) : ∑ j, f j = ∑ k, ∑ e, g k e := by
  subst hl
  rw [← finProdFinEquiv.sum_comp, Fintype.sum_prod_type]
  refine Finset.sum_congr rfl fun k _ => Finset.sum_congr rfl fun e _ => ?_
  rw [← h k e (by have := (finProdFinEquiv (k, e)).isLt; rw [finProdFinEquiv_apply_val] at this; simp only at this; omega)]
  congr 1
  apply Fin.ext
  exact (finProdFinEquiv_apply_val (k, e)).trans (Nat.add_comm _ _)

/-- Entry `e` of half `k` of 2048 entries, and a sum over them taken half by half. -/
def halfRow (k : Fin 2) (e : Fin 1024) : Fin 2048 := ⟨1024 * k.val + e.val, by omega⟩
theorem two_halves (f : Fin 2048 → EReal) : ∑ e, f (halfRow 0 e) + ∑ e, f (halfRow 1 e) = ∑ j, f j :=
  ((sum_parts (n := 2) (w := 1024) rfl f (fun k e => f (halfRow k e)) fun _ _ _ => rfl).trans (Fin.sum_univ_two _)).symm

/-- Where entry `r` of block `b` lies, blocks of `n` entries following each other. -/
theorem place {i b n r : ℕ} (h : i = b) : i * n + 1 * r = n * b + r := by rw [h, one_mul, mul_comm]
theorem place0 {i n r : ℕ} (h : i = 0) : i * n + 1 * r = r := by rw [h, one_mul, zero_mul, zero_add]
theorem place1 {i b : ℕ} (h : i = b) : i * 1 + 1 * 0 = b := by rw [h, mul_one, mul_zero, add_zero]

/-- Entry `x` lies in block `b` of the blocks of `n` entries that follow each other. -/
theorem within {i b n : ℕ} (x : ℕ) (h : i = b) (hb : b = x / n) (hn : 0 < n) : i * n ≤ x ∧ x < i * n + n := by
  subst h; subst hb
  exact ⟨Nat.div_mul_le_self x n, Nat.lt_div_mul_add hn⟩

/-- Equal positions hold the same entry. -/
theorem same2 {n0 n1 : ℕ} (f : (⟨2, ![n0, n1]⟩ : Shape).Idx → EReal) (i : (⟨2, ![n0, n1]⟩ : Shape).Idx) (a : Fin n0) (b : Fin n1)
    (h0 : (i 0).val = a.val) (h1 : (i 1).val = b.val) : f i = f (ix2 a b) :=
  congrArg f (funext fun k => Fin.ext (by match k with | ⟨0, _⟩ => exact h0 | ⟨1, _⟩ => exact h1))
theorem same3 {n0 n1 n2 : ℕ} (f : (⟨3, ![n0, n1, n2]⟩ : Shape).Idx → EReal) (i : (⟨3, ![n0, n1, n2]⟩ : Shape).Idx) (a : Fin n0) (b : Fin n1) (c : Fin n2)
    (h0 : (i 0).val = a.val) (h1 : (i 1).val = b.val) (h2 : (i 2).val = c.val) : f i = f (ix3 a b c) :=
  congrArg f (funext fun k => Fin.ext (by match k with | ⟨0, _⟩ => exact h0 | ⟨1, _⟩ => exact h1 | ⟨2, _⟩ => exact h2))
theorem same4 {n0 n1 n2 n3 : ℕ} (f : (⟨4, ![n0, n1, n2, n3]⟩ : Shape).Idx → EReal) (i : (⟨4, ![n0, n1, n2, n3]⟩ : Shape).Idx)
    (a : Fin n0) (b : Fin n1) (c : Fin n2) (d : Fin n3) (h0 : (i 0).val = a.val) (h1 : (i 1).val = b.val) (h2 : (i 2).val = c.val)
    (h3 : (i 3).val = d.val) : f i = f (ix4 a b c d) :=
  congrArg f (funext fun k => Fin.ext (by
    match k with | ⟨0, _⟩ => exact h0 | ⟨1, _⟩ => exact h1 | ⟨2, _⟩ => exact h2 | ⟨3, _⟩ => exact h3))

end Cert.Products
-- ==== Proof.InDx.lean ====
module

public import proofs.«01_k».proof.Defs
public import proofs.«01_k».proof.Proof.Products
public import proofs.«01_k».proof.Proof.Gen.Kernel2
public import proofs.«01_k».proof.Proof.Gen.Kernel2Ideal.Frame
public import proofs.«01_k».proof.Proof.Gen.Reference2Ideal.Run
public import proofs.«01_k».proof.Proof.Gen.Reference2Ideal.Read

/-! The gradient of the layer's normed input: eleven parts of 1024 columns, each times its own columns of `w_in`, accumulated over the
eleven points of a block of rows; the last point adds the forget gate's share and writes the block. -/

@[expose] public section

noncomputable section

namespace Cert.InDx

open Idealize.ShloMosaic Idealize.ShloMosaic.TcCoe Idealize.SL.Sem Cert.Kernel2Ideal Cert.Kernel2Ideal.Gen Cert.Products

/-! ## One point -/

theorem first_sum (a : Vec Ideal S512x1024 .bf16) (w : Vec Ideal S1024x1024 .bf16) : k0_pay2 a w = addRows a w (fun _ => 0) := by
  funext i
  pointwise [k0_pay2, k0_pay1, addRows]
theorem next_sum (a : Vec Ideal S512x1024 .bf16) (w : Vec Ideal S1024x1024 .bf16) (p : Vec Ideal S512x1024 .f32) : k0_pay3 a w p = addRows a w p := by
  funext i
  pointwise [k0_pay3, k0_pay1, addRows]

/-- What a point stores over the partial sums: one part more. -/
theorem part_stored {a : Memref sig .tc .vmem S512x1024 .bf16} (ha : a.IsWhole) {w : Memref sig .tc .vmem S1024x1024 .bf16} (hw : w.IsWhole)
    (x : Vec Ideal S512x1024 .bf16) (y : Vec Ideal S1024x1024 .bf16) (p : Vec Ideal S512x1024 .f32) :
    View.canon [(⟨Rect.unit ![0, 0] S512x1024.size inb_S512x1024_S512x1024_0_0,
      k0_pay3 (a.view.readAt (Elt Ideal) (Rect.unit ![0, 0] S512x1024.size inb_S512x1024_S512x1024_0_0).toLoadRect (ha.unread x))
        (w.view.readAt (Elt Ideal) (Rect.unit ![0, 0] S1024x1024.size inb_S1024x1024_S1024x1024_0_0).toLoadRect (hw.unread y))
        ((Memref.whole cc0_scratch0).view.readAt (Elt Ideal) (Rect.unit ![0, 0] S512x1024.size inb_S512x1024_S512x1024_0_0).toLoadRect
          ((Memref.isWhole_whole cc0_scratch0).unread p))⟩ : View.Piece (Elt Ideal) S512x1024 .f32)] = addRows x y p := by
  rw [stored2, load2 ha, load2 hw, load2 (Memref.isWhole_whole cc0_scratch0)]
  exact next_sum x y p

/-- The same from a part kept in f32: its rounding is the identity on extended reals. -/
theorem part_stored32 {a : Memref sig .tc .vmem S512x1024 .f32} (ha : a.IsWhole) {w : Memref sig .tc .vmem S1024x1024 .bf16} (hw : w.IsWhole)
    (x : Vec Ideal S512x1024 .f32) (y : Vec Ideal S1024x1024 .bf16) (p : Vec Ideal S512x1024 .f32) :
    View.canon [(⟨Rect.unit ![0, 0] S512x1024.size inb_S512x1024_S512x1024_0_0,
      k0_pay19 (a.view.readAt (Elt Ideal) (Rect.unit ![0, 0] S512x1024.size inb_S512x1024_S512x1024_0_0).toLoadRect (ha.unread x))
        (w.view.readAt (Elt Ideal) (Rect.unit ![0, 0] S1024x1024.size inb_S1024x1024_S1024x1024_0_0).toLoadRect (hw.unread y))
        ((Memref.whole cc0_scratch0).view.readAt (Elt Ideal) (Rect.unit ![0, 0] S512x1024.size inb_S512x1024_S512x1024_0_0).toLoadRect
          ((Memref.isWhole_whole cc0_scratch0).unread p))⟩ : View.Piece (Elt Ideal) S512x1024 .f32)] = addRows x y p := by
  rw [stored2, load2 ha, load2 hw, load2 (Memref.isWhole_whole cc0_scratch0)]
  exact next_sum x y p

section
variable (m : (ℓ : Loc nD τ sig) → Buf (Elt Ideal) ℓ) (c : Dev nD) (t : Fin cfg0.N)

/-- The partial sums the point before left. -/
abbrev before : S512x1024.Idx → EReal := (outsAt0 m c (t.val - 1) (Nat.lt_of_le_of_lt (Nat.sub_le _ _) t.isLt)).2

theorem sums0 (h : t.val % 11 = 0) : (outsAt0 m c t.val t.isLt).2 = addRows (iblk m c 0 t) (iblk m c 11 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_11 t)]
  exact first_sum _ _

theorem sums1 (h : t.val % 11 = 1) : (outsAt0 m c t.val t.isLt).2 = addRows (iblk m c 1 t) (iblk m c 11 t) (before m c t) := by
  rw [outsAt0_B m c t] <;> try omega
  dsimp only
  unfold sout0_B_0; rw [View.read_writes_eq_canon _ _ _ fun y => scover0_B_0 (y := y) ..]
  unfold kernelRun0_B; dsimp only; exact part_stored (hs0_1 t) (hs0_11 t) _ _ _

theorem sums2 (h : t.val % 11 = 2) : (outsAt0 m c t.val t.isLt).2 = addRows (iblk m c 2 t) (iblk m c 11 t) (before m c t) := by
  rw [outsAt0_C m c t] <;> try omega
  dsimp only
  unfold sout0_C_0; rw [View.read_writes_eq_canon _ _ _ fun y => scover0_C_0 (y := y) ..]
  unfold kernelRun0_C; dsimp only; exact part_stored (hs0_2 t) (hs0_11 t) _ _ _

theorem sums3 (h : t.val % 11 = 3) : (outsAt0 m c t.val t.isLt).2 = addRows (iblk m c 3 t) (iblk m c 11 t) (before m c t) := by
  rw [outsAt0_D m c t] <;> try omega
  dsimp only
  unfold sout0_D_0; rw [View.read_writes_eq_canon _ _ _ fun y => scover0_D_0 (y := y) ..]
  unfold kernelRun0_D; dsimp only; exact part_stored (hs0_3 t) (hs0_11 t) _ _ _

theorem sums4 (h : t.val % 11 = 4) : (outsAt0 m c t.val t.isLt).2 = addRows (iblk m c 4 t) (iblk m c 11 t) (before m c t) := by
  rw [outsAt0_E m c t] <;> try omega
  dsimp only
  unfold sout0_E_0; rw [View.read_writes_eq_canon _ _ _ fun y => scover0_E_0 (y := y) ..]
  unfold kernelRun0_E; dsimp only; exact part_stored32 (hs0_4 t) (hs0_11 t) _ _ _

theorem sums5 (h : t.val % 11 = 5) : (outsAt0 m c t.val t.isLt).2 = addRows (iblk m c 5 t) (iblk m c 11 t) (before m c t) := by
  rw [outsAt0_F m c t] <;> try omega
  dsimp only
  unfold sout0_F_0; rw [View.read_writes_eq_canon _ _ _ fun y => scover0_F_0 (y := y) ..]
  unfold kernelRun0_F; dsimp only; exact part_stored32 (hs0_5 t) (hs0_11 t) _ _ _

theorem sums6 (h : t.val % 11 = 6) : (outsAt0 m c t.val t.isLt).2 = addRows (iblk m c 6 t) (iblk m c 11 t) (before m c t) := by
  rw [outsAt0_G m c t] <;> try omega
  dsimp only
  unfold sout0_G_0; rw [View.read_writes_eq_canon _ _ _ fun y => scover0_G_0 (y := y) ..]
  unfold kernelRun0_G; dsimp only; exact part_stored (hs0_6 t) (hs0_11 t) _ _ _

theorem sums7 (h : t.val % 11 = 7) : (outsAt0 m c t.val t.isLt).2 = addRows (iblk m c 7 t) (iblk m c 11 t) (before m c t) := by
  rw [outsAt0_H m c t] <;> try omega
  dsimp only
  unfold sout0_H_0; rw [View.read_writes_eq_canon _ _ _ fun y => scover0_H_0 (y := y) ..]
  unfold kernelRun0_H; dsimp only; exact part_stored (hs0_7 t) (hs0_11 t) _ _ _

theorem sums8 (h : t.val % 11 = 8) : (outsAt0 m c t.val t.isLt).2 = addRows (iblk m c 8 t) (iblk m c 11 t) (before m c t) := by
  rw [outsAt0_I m c t] <;> try omega
  dsimp only
  unfold sout0_I_0; rw [View.read_writes_eq_canon _ _ _ fun y => scover0_I_0 (y := y) ..]
  unfold kernelRun0_I; dsimp only; exact part_stored (hs0_8 t) (hs0_11 t) _ _ _

theorem sums9 (h : t.val % 11 = 9) : (outsAt0 m c t.val t.isLt).2 = addRows (iblk m c 9 t) (iblk m c 11 t) (before m c t) := by
  rw [outsAt0_J m c t] <;> try omega
  dsimp only
  unfold sout0_J_0; rw [View.read_writes_eq_canon _ _ _ fun y => scover0_J_0 (y := y) ..]
  unfold kernelRun0_J; dsimp only; exact part_stored (hs0_9 t) (hs0_11 t) _ _ _

/-- The last point of a block of rows adds the forget gate's share and writes. -/
theorem written (h : t.val % 11 = 10) :
    (outsAt0 m c t.val t.isLt).1 = fun i => addRows (iblk m c 10 t) (iblk m c 11 t) (before m c t) i + iblk m c 12 t i := by
  rw [outsAt0_K m c t] <;> try omega
  dsimp only
  unfold out0_K_13; rw [View.read_writes_eq_canon _ _ _ fun y => cover0_K_13 (y := y) ..]
  unfold kernelRun0_K
  dsimp only
  sl_unfold_words
  rw [stored2, View.readCov_unit_zero (S := S512x1024) _ origin2, load2 (hs0_10 t), load2 (hs0_11 t), load2 (hs0_12 t), load2 (Memref.isWhole_whole cc0_scratch0)]
  exact congrArg (fun (s : S512x1024.Idx → EReal) i => s i + (iblk m c 12 t i : EReal)) (next_sum _ _ _)
end

/-! ## The arrays -/

theorem points : cfg0.N = 44 := by decide

/-- The point that takes part `k` for the `b`-th block of 512 rows; the rows of that block, and the columns of that part. -/
def point (b : Fin 4) (k : Fin 11) : Fin cfg0.N := ⟨11 * b.val + k.val, by have := points; omega⟩
def row (b : Fin 4) (r : Fin 512) : Fin 2048 := ⟨512 * b.val + r.val, by omega⟩
def col (k : Fin 11) (e : Fin 1024) : Fin 11264 := ⟨1024 * k.val + e.val, by omega⟩

def partIndex : Fin 11 → Fin grid0.N → Fin 2 → ℕ := ![win0_0.index, win0_1.index, win0_2.index, win0_3.index, win0_4.index, win0_5.index, win0_6.index, win0_7.index, win0_8.index, win0_9.index, win0_10.index]
theorem part_index : ∀ (b : Fin 4) (k : Fin 11), partIndex k (point b k) = ![b.val, 0] := by decide +kernel
theorem weight_index : ∀ (b : Fin 4) (k : Fin 11), win0_11.index (point b k) = ![0, k.val] := by decide +kernel
theorem gate_index : ∀ b : Fin 4, win0_12.index (point b 10) = ![b.val, 0] := by decide +kernel
theorem out_index : ∀ b : Fin 4, win0_13.index (point b 10) = ![b.val, 0] := by decide +kernel

section
variable (m : (ℓ : Loc nD τ sig) → Buf (Elt Ideal) ℓ) (c : Dev nD)

/-- The eleven parts, and the block of each that a point is given. -/
def dz : Fin 11 → S2048x1024.Idx → EReal := ![m (c.tc.loc main_arg0), m (c.tc.loc main_arg1), m (c.tc.loc main_arg2), m (c.tc.loc main_arg3), m (c.tc.loc main_arg4), m (c.tc.loc main_arg5), m (c.tc.loc main_arg6), m (c.tc.loc main_arg7), m (c.tc.loc main_arg8), m (c.tc.loc main_arg9), m (c.tc.loc main_arg10)]
def block (t : Fin cfg0.N) (k : Fin 11) : S512x1024.Idx → EReal := match k with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t

theorem block_at (b : Fin 4) (k : Fin 11) (r : Fin 512) (e : Fin 1024) : block m c (point b k) k (ix2 r e) = dz m c k (ix2 (row b r) e) :=
  (match k with
  | ⟨0, _⟩ => fun h0 h1 => same2 (m (c.tc.loc main_arg0)) _ _ _ (place h0) (place0 h1)
  | ⟨1, _⟩ => fun h0 h1 => same2 (m (c.tc.loc main_arg1)) _ _ _ (place h0) (place0 h1)
  | ⟨2, _⟩ => fun h0 h1 => same2 (m (c.tc.loc main_arg2)) _ _ _ (place h0) (place0 h1)
  | ⟨3, _⟩ => fun h0 h1 => same2 (m (c.tc.loc main_arg3)) _ _ _ (place h0) (place0 h1)
  | ⟨4, _⟩ => fun h0 h1 => same2 (m (c.tc.loc main_arg4)) _ _ _ (place h0) (place0 h1)
  | ⟨5, _⟩ => fun h0 h1 => same2 (m (c.tc.loc main_arg5)) _ _ _ (place h0) (place0 h1)
  | ⟨6, _⟩ => fun h0 h1 => same2 (m (c.tc.loc main_arg6)) _ _ _ (place h0) (place0 h1)
  | ⟨7, _⟩ => fun h0 h1 => same2 (m (c.tc.loc main_arg7)) _ _ _ (place h0) (place0 h1)
  | ⟨8, _⟩ => fun h0 h1 => same2 (m (c.tc.loc main_arg8)) _ _ _ (place h0) (place0 h1)
  | ⟨9, _⟩ => fun h0 h1 => same2 (m (c.tc.loc main_arg9)) _ _ _ (place h0) (place0 h1)
  | ⟨10, _⟩ => fun h0 h1 => same2 (m (c.tc.loc main_arg10)) _ _ _ (place h0) (place0 h1)
  : partIndex k (point b k) 0 = b.val → partIndex k (point b k) 1 = 0 → block m c (point b k) k (ix2 r e) = dz m c k (ix2 (row b r) e))
    (congrFun (part_index b k) 0) (congrFun (part_index b k) 1)

theorem weight_at (b : Fin 4) (k : Fin 11) (x e : Fin 1024) : iblk m c 11 (point b k) (ix2 x e) = m (c.tc.loc main_arg11) (ix2 x (col k e)) :=
  same2 (m (c.tc.loc main_arg11)) _ _ _ (place0 (congrFun (weight_index b k) 0)) (place (congrFun (weight_index b k) 1))

theorem gate_at (b : Fin 4) (r : Fin 512) (x : Fin 1024) : iblk m c 12 (point b 10) (ix2 r x) = m (c.tc.loc main_arg12) (ix2 (row b r) x) :=
  same2 (m (c.tc.loc main_arg12)) _ _ _ (place (congrFun (gate_index b) 0)) (place0 (congrFun (gate_index b) 1))

/-- What part `k` adds at row `r` of block `b` and column `x`. -/
def term (b : Fin 4) (r : Fin 512) (x : Fin 1024) (k : Fin 11) : EReal :=
  ∑ e : Fin 1024, dz m c k (ix2 (row b r) e) * m (c.tc.loc main_arg11) (ix2 x (col k e))

theorem addRows_at (b : Fin 4) (k : Fin 11) (p : S512x1024.Idx → EReal) (r : Fin 512) (x : Fin 1024) :
    addRows (block m c (point b k) k) (iblk m c 11 (point b k)) p (ix2 r x) = p (ix2 r x) + term m c b r x k :=
  congrArg (p (ix2 r x) + ·) (Finset.sum_congr rfl fun e _ => congrArg₂ (· * ·) (block_at m c b k r e) (weight_at m c b k x e))

theorem sums (t : Fin cfg0.N) (k : Fin 9) : t.val % 11 = k.val + 1 →
    (outsAt0 m c t.val t.isLt).2 = addRows (block m c t ⟨k.val + 1, by omega⟩) (iblk m c 11 t) (before m c t) :=
  match k with
  | ⟨0, _⟩ => fun h => sums1 m c t h
  | ⟨1, _⟩ => fun h => sums2 m c t h
  | ⟨2, _⟩ => fun h => sums3 m c t h
  | ⟨3, _⟩ => fun h => sums4 m c t h
  | ⟨4, _⟩ => fun h => sums5 m c t h
  | ⟨5, _⟩ => fun h => sums6 m c t h
  | ⟨6, _⟩ => fun h => sums7 m c t h
  | ⟨7, _⟩ => fun h => sums8 m c t h
  | ⟨8, _⟩ => fun h => sums9 m c t h

theorem outs_congr {n n' : ℕ} (e : n = n') (h : n < cfg0.N) (h' : n' < cfg0.N) : outsAt0 m c n h = outsAt0 m c n' h' := by subst e; rfl

/-- The partial sums before the last part are the sum of the first ten. -/
theorem sums_all (b : Fin 4) (r : Fin 512) (x : Fin 1024) :
    (outsAt0 m c (point b 9).val (point b 9).isLt).2 (ix2 r x) = ∑ k : Fin 10, term m c b r x k.castSucc :=
  accumulate (fun k : Fin 10 => (outsAt0 m c (point b k.castSucc).val (point b k.castSucc).isLt).2 (ix2 r x)) (fun k => term m c b r x k.castSucc)
    ((congrFun (sums0 m c (point b 0) (by show (11 * b.val + 0) % 11 = 0; omega)) (ix2 r x)).trans ((addRows_at m c b 0 _ r x).trans (zero_add _)))
    (fun k => by
      have h := congrFun (sums m c (point b k.succ.castSucc) k (by show (11 * b.val + (k.val + 1)) % 11 = k.val + 1; omega)) (ix2 r x)
      refine h.trans ((addRows_at m c b k.succ.castSucc _ r x).trans (congrArg (· + _) ?_))
      exact congrFun (congrArg Prod.snd (outs_congr m c (by show 11 * b.val + (k.val + 1) - 1 = 11 * b.val + k.val; omega) _ _)) (ix2 r x))

/-- The gradient, entry by entry. -/
def result : S2048x1024.Idx → EReal := fun i =>
  (∑ k : Fin 11, ∑ e : Fin 1024, dz m c k (ix2 (i 0) e) * m (c.tc.loc main_arg11) (ix2 (i 1) (col k e))) + m (c.tc.loc main_arg12) i

theorem written_at (b : Fin 4) (r : Fin 512) (x : Fin 1024) :
    (outsAt0 m c (point b 10).val (point b 10).isLt).1 (ix2 r x) = result m c (ix2 (row b r) x) := by
  refine (congrFun (written m c (point b 10) (by show (11 * b.val + 10) % 11 = 10; omega)) (ix2 r x)).trans (congrArg₂ (· + ·) ?_ (gate_at m c b r x))
  refine (addRows_at m c b 10 _ r x).trans (Eq.trans ?_ (Fin.sum_univ_castSucc (term m c b r x)).symm)
  refine congrArg (· + _) (Eq.trans ?_ (sums_all m c b r x))
  exact congrFun (congrArg Prod.snd (outs_congr m c (by show 11 * b.val + 10 - 1 = 11 * b.val + 9; omega) _ _)) (ix2 r x)

theorem flush_point (t : Fin cfg0.N) (h : (cfg0.win 13).flush t = true) : ∃ b : Fin 4, t = point b 10 :=
  ⟨⟨t.val / 11, by have := t.isLt; have := points; omega⟩, Fin.ext (by have := (flush0_13 t).mp h; show t.val = 11 * (t.val / 11) + 10; omega)⟩

theorem covered (i : S2048x1024.Idx) : ∃ t : Fin cfg0.N, (cfg0.win 13).flush t = true ∧ i ∈ ((cfg0.win 13).blk t).view.set := by
  have h0 : (i 0 : ℕ) < 2048 := (i 0).isLt
  have h1 : (i 1 : ℕ) < 1024 := (i 1).isLt
  obtain ⟨b, hb⟩ : ∃ b : Fin 4, b.val = (i 0 : ℕ) / 512 := ⟨⟨(i 0 : ℕ) / 512, by omega⟩, rfl⟩
  refine ⟨point b 10, (flush0_13 _).mpr (by show (11 * b.val + 10) % 11 = 10; omega), ?_⟩
  show i ∈ ((View.whole main_v0).slice (win0_13.rect (point b 10))).set
  rw [View.set_slice_whole, Rect.mem_set_unit]
  intro a
  match a with
  | ⟨0, _⟩ =>
    show win0_13.index (point b 10) 0 * 512 ≤ (i 0 : ℕ) ∧ (i 0 : ℕ) < win0_13.index (point b 10) 0 * 512 + 512
    rw [show win0_13.index (point b 10) 0 = b.val from congrFun (out_index b) 0]; omega
  | ⟨1, _⟩ =>
    show win0_13.index (point b 10) 1 * 1024 ≤ (i 1 : ℕ) ∧ (i 1 : ℕ) < win0_13.index (point b 10) 1 * 1024 + 1024
    rw [show win0_13.index (point b 10) 1 = 0 from congrFun (out_index b) 1]; omega

theorem array : (dats m 0 c).arrAt 13 cfg0.N = result m c := by
  refine (dats m 0 c).arrAt_eq_of_cover 13 (result m c) (fun t h => ?_) covered
  obtain ⟨b, rfl⟩ := flush_point t h
  show (cfg0.win 13).cut (grid0.coords _) ((dats m 0 c).after 13 _) = _
  rw [after0_13]
  funext y
  obtain ⟨r, x, rfl⟩ : ∃ (r : Fin 512) (x : Fin 1024), y = ix2 r x := ⟨y 0, y 1, eq_ix2 y⟩
  refine (written_at m c b r x).trans ?_
  exact (same2 (result m c) _ _ _ (place (congrFun (out_index b) 0)) (place0 (congrFun (out_index b) 1))).symm
end

/-! ## The reference -/

section
open Cert.Reference2Ideal.Read
variable (x0 x1 x2 x3 : S2048x1024.Idx → EReal) (x4 x5 x6 x7 x8 x9 x10 : S2048x1024.Idx → EReal) (x11 : S1024x11264.Idx → EReal) (x12 : S2048x1024.Idx → EReal)

/-- Column `1024 k + e` of the joined parts is column `e` of part `k`. -/
theorem joined (t : Fin 2048) (k : Fin 11) (e : Fin 1024) (i : Cert.Reference2Ideal.S2048x11264.Idx) (h0 : (i 0).val = t.val) (h1 : (i 1).val = 1024 * k.val + e.val) :
    val_main_v2 (F := Ideal) x0 x1 x2 x3 x4 x5 x6 x7 x8 x9 x10 i = (![x0, x1, x2, x3, x4, x5, x6, x7, x8, x9, x10] : Fin 11 → S2048x1024.Idx → EReal) k (ix2 t e) :=
  concatenate_ofFn_apply (t := Cert.Reference2Ideal.S2048x11264) (s₁ := S2048x1024) 1 ![x0, x1, x2, x3, x4, x5, x6, x7, x8, x9, x10] _ rfl 1024 rfl i k
    (by rw [h1]; omega) (ix2 t e) (by rw [h1]; show e.val = _; omega)
    (fun b hb => match b with
      | ⟨0, _⟩ => h0.symm
      | ⟨1, _⟩ => absurd rfl hb)

theorem reference (i : S2048x1024.Idx) : val_main_v6 (F := Ideal) x0 x1 x2 x3 x4 x5 x6 x7 x8 x9 x10 x11 x12 i =
    (∑ k : Fin 11, ∑ e : Fin 1024, (![x0, x1, x2, x3, x4, x5, x6, x7, x8, x9, x10] : Fin 11 → S2048x1024.Idx → EReal) k (ix2 (i 0) e) * x11 (ix2 (i 1) (col k e))) + x12 i := by
  refine (val_main_v6_apply ..).trans ((add_comm (x12 i) _).trans (congrArg (· + x12 i) ?_))
  refine (val_main_v5_apply ..).trans ((val_main_v4_apply ..).trans ((val_main_v3_apply ..).trans ?_))
  refine (sum_parts (n := 11) (w := 1024) (by decide) _ _ fun k e hk => ?_)
  exact congrArg₂ (· * ·) (joined _ _ _ _ _ _ _ _ _ _ _ (i 0) k e _ rfl rfl) (same2 x11 _ (i 1) (col k e) rfl rfl)
end

/-! ## The claims -/

/-- The kernel and its idealisation are the same program, so one run is both programs' frame. -/
theorem same_body : @Cert.Kernel2.cc0_mm_in_dx Bits _ _ = @Cert.Kernel2Ideal.cc0_mm_in_dx Bits _ _ := rfl
theorem same_table : Cert.Kernel2.defs₀ (F := Bits) = Cert.Kernel2Ideal.defs₀ (F := Bits) :=
  congrArg _ (funext fun a => match a with | 0 => funext fun ⟨_, _⟩ => rfl)
theorem same_program : Cert.Kernel2.defs (F := Bits) = Cert.Kernel2Ideal.defs (F := Bits) := congrArg (Pipeline.defs _) same_table
theorem frame_kernel : Cert.quiescent_Kernel2 := fun m g _ => by
  rw [same_program]
  exact Cert.Kernel2Ideal.Gen.frame (F := Bits) m g
theorem preserves : Cert.preserves_Kernel2_Kernel2Ideal := trivial

theorem frame_ideal : Cert.quiescent_Kernel2Ideal := fun m g _ => Cert.Kernel2Ideal.Gen.frame m g
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem values : Cert.algebraic_Kernel2Ideal_Reference2Ideal := by
  intro m g m' g' _ hm
  refine ⟨fun c => result m c, ?_, ?_⟩
  · exact (θ_run Cert.Kernel2Ideal.defs _ _).mono (fun r h c => ⟨((h.1 c).1 13).trans (array m c), h.2 c⟩) (θ_run_and (run_main m g) (unchanged m g))
  · refine (θ_run Cert.Reference2Ideal.defs _ _).mono (fun r h c => ⟨?_, (h c).2⟩) (Cert.Reference2Ideal.Value.run (F := Ideal) m' g')
    obtain ⟨e0, e1, e2, e3, e4, e5, e6, e7, e8, e9, e10, e11, e12⟩ := hm c
    refine (h c).1.trans ((Cert.Reference2Ideal.Read.val_main_v6_eq ..).trans ?_)
    rw [e0, e1, e2, e3, e4, e5, e6, e7, e8, e9, e10, e11, e12]
    exact funext fun i => reference _ _ _ _ _ _ _ _ _ _ _ _ _ i

end Cert.InDx
-- ==== Proof.InDwLo.lean ====
module

public import proofs.«01_k».proof.Defs
public import proofs.«01_k».proof.Proof.Products
public import proofs.«01_k».proof.Proof.Gen.Kernel3
public import proofs.«01_k».proof.Proof.Gen.Kernel3Ideal.Frame
public import proofs.«01_k».proof.Proof.Gen.Reference3Ideal.Run
public import proofs.«01_k».proof.Proof.Gen.Reference3Ideal.Read

/-! The gradient of the projection's first six parts of 1024 columns: the normed input and one part's gradient, one half of the tokens at a
point. -/

@[expose] public section

noncomputable section

namespace Cert.InDwLo

open Idealize.ShloMosaic Idealize.ShloMosaic.TcCoe Idealize.SL.Sem Cert.Kernel3Ideal Cert.Kernel3Ideal.Gen Cert.Products

/-! ## One point -/

theorem first_sum (a : Vec Ideal S1024x1024 .bf16) (w : Vec Ideal S1024x1024 .bf16) : k0_pay6 a w = addCols a w (fun _ => 0) := by
  funext i
  pointwise [k0_pay6, k0_pay5, addCols]
theorem next_sum (a : Vec Ideal S1024x1024 .bf16) (w : Vec Ideal S1024x1024 .bf16) (p : Vec Ideal S1024x1024 .f32) :
    k0_pay4 (k0_pay7 a w p) = addCols a w p := by
  funext i
  pointwise [k0_pay4, k0_pay7, k0_pay5, addCols]
theorem first_sum32 (a : Vec Ideal S1024x1024 .bf16) (w : Vec Ideal S1024x1024 .f32) : k0_pay2 a w = addCols a w (fun _ => 0) := by
  funext i
  pointwise [k0_pay2, k0_pay1, addCols]
theorem next_sum32 (a : Vec Ideal S1024x1024 .bf16) (w : Vec Ideal S1024x1024 .f32) (p : Vec Ideal S1024x1024 .f32) :
    k0_pay4 (k0_pay3 a w p) = addCols a w p := by
  funext i
  pointwise [k0_pay4, k0_pay3, k0_pay1, addCols]

section
variable (m : (ℓ : Loc nD τ sig) → Buf (Elt Ideal) ℓ) (c : Dev nD) (t : Fin cfg0.N)

/-- The partial sums the point before left. -/
abbrev before : S1024x1024.Idx → EReal := (outsAt0 m c (t.val - 1) (Nat.lt_of_le_of_lt (Nat.sub_le _ _) t.isLt)).2

/-! Of each part the first half of the rows goes to the partial sums; with the second half the block is written. -/

theorem sums0 (h : t.val = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

theorem written0 (h : t.val = 1) : (outsAt0 m c t.val t.isLt).1 = addCols (iblk m c 0 t) (iblk m c 1 t) (before m c t) := by
  rw [outsAt0_B m c t] <;> try omega
  dsimp only
  unfold out0_B_7; rw [View.read_writes_eq_canon _ _ _ fun y => cover0_B_7 (y := y) ..]
  unfold kernelRun0_B
  dsimp only
  sl_unfold_words
  rw [stored2, View.readCov_unit_zero (S := S1024x1024) _ origin2, load2 (hs0_0 t), load2 (hs0_1 t), load2 (Memref.isWhole_whole cc0_scratch0)]
  exact next_sum _ _ _

theorem sums1 (h : t.val = 2) : (outsAt0 m c t.val t.isLt).2 = addCols (iblk m c 0 t) (iblk m c 2 t) (fun _ => 0) := by
  rw [outsAt0_C m c t] <;> try omega
  dsimp only
  unfold sout0_C_0; rw [View.read_writes_eq_canon _ _ _ fun y => scover0_C_0 (y := y) ..]
  unfold kernelRun0_C
  dsimp only
  rw [stored2, load2 (hs0_0 t), load2 (hs0_2 t)]
  exact first_sum _ _

theorem written1 (h : t.val = 3) : (outsAt0 m c t.val t.isLt).1 = addCols (iblk m c 0 t) (iblk m c 2 t) (before m c t) := by
  rw [outsAt0_D m c t] <;> try omega
  dsimp only
  unfold out0_D_7; rw [View.read_writes_eq_canon _ _ _ fun y => cover0_D_7 (y := y) ..]
  unfold kernelRun0_D
  dsimp only
  sl_unfold_words
  rw [stored2, View.readCov_unit_zero (S := S1024x1024) _ origin2, load2 (hs0_0 t), load2 (hs0_2 t), load2 (Memref.isWhole_whole cc0_scratch0)]
  exact next_sum _ _ _

theorem sums2 (h : t.val = 4) : (outsAt0 m c t.val t.isLt).2 = addCols (iblk m c 0 t) (iblk m c 3 t) (fun _ => 0) := by
  rw [outsAt0_E m c t] <;> try omega
  dsimp only
  unfold sout0_E_0; rw [View.read_writes_eq_canon _ _ _ fun y => scover0_E_0 (y := y) ..]
  unfold kernelRun0_E
  dsimp only
  rw [stored2, load2 (hs0_0 t), load2 (hs0_3 t)]
  exact first_sum _ _

theorem written2 (h : t.val = 5) : (outsAt0 m c t.val t.isLt).1 = addCols (iblk m c 0 t) (iblk m c 3 t) (before m c t) := by
  rw [outsAt0_F m c t] <;> try omega
  dsimp only
  unfold out0_F_7; rw [View.read_writes_eq_canon _ _ _ fun y => cover0_F_7 (y := y) ..]
  unfold kernelRun0_F
  dsimp only
  sl_unfold_words
  rw [stored2, View.readCov_unit_zero (S := S1024x1024) _ origin2, load2 (hs0_0 t), load2 (hs0_3 t), load2 (Memref.isWhole_whole cc0_scratch0)]
  exact next_sum _ _ _

theorem sums3 (h : t.val = 6) : (outsAt0 m c t.val t.isLt).2 = addCols (iblk m c 0 t) (iblk m c 4 t) (fun _ => 0) := by
  rw [outsAt0_G m c t] <;> try omega
  dsimp only
  unfold sout0_G_0; rw [View.read_writes_eq_canon _ _ _ fun y => scover0_G_0 (y := y) ..]
  unfold kernelRun0_G
  dsimp only
  rw [stored2, load2 (hs0_0 t), load2 (hs0_4 t)]
  exact first_sum _ _

theorem written3 (h : t.val = 7) : (outsAt0 m c t.val t.isLt).1 = addCols (iblk m c 0 t) (iblk m c 4 t) (before m c t) := by
  rw [outsAt0_H m c t] <;> try omega
  dsimp only
  unfold out0_H_7; rw [View.read_writes_eq_canon _ _ _ fun y => cover0_H_7 (y := y) ..]
  unfold kernelRun0_H
  dsimp only
  sl_unfold_words
  rw [stored2, View.readCov_unit_zero (S := S1024x1024) _ origin2, load2 (hs0_0 t), load2 (hs0_4 t), load2 (Memref.isWhole_whole cc0_scratch0)]
  exact next_sum _ _ _

theorem sums4 (h : t.val = 8) : (outsAt0 m c t.val t.isLt).2 = addCols (iblk m c 0 t) (iblk m c 5 t) (fun _ => 0) := by
  rw [outsAt0_I m c t] <;> try omega
  dsimp only
  unfold sout0_I_0; rw [View.read_writes_eq_canon _ _ _ fun y => scover0_I_0 (y := y) ..]
  unfold kernelRun0_I
  dsimp only
  rw [stored2, load2 (hs0_0 t), load2 (hs0_5 t)]
  exact first_sum32 _ _

theorem written4 (h : t.val = 9) : (outsAt0 m c t.val t.isLt).1 = addCols (iblk m c 0 t) (iblk m c 5 t) (before m c t) := by
  rw [outsAt0_J m c t] <;> try omega
  dsimp only
  unfold out0_J_7; rw [View.read_writes_eq_canon _ _ _ fun y => cover0_J_7 (y := y) ..]
  unfold kernelRun0_J
  dsimp only
  sl_unfold_words
  rw [stored2, View.readCov_unit_zero (S := S1024x1024) _ origin2, load2 (hs0_0 t), load2 (hs0_5 t), load2 (Memref.isWhole_whole cc0_scratch0)]
  exact next_sum32 _ _ _

theorem sums5 (h : t.val = 10) : (outsAt0 m c t.val t.isLt).2 = addCols (iblk m c 0 t) (iblk m c 6 t) (fun _ => 0) := by
  rw [outsAt0_K m c t] <;> try omega
  dsimp only
  unfold sout0_K_0; rw [View.read_writes_eq_canon _ _ _ fun y => scover0_K_0 (y := y) ..]
  unfold kernelRun0_K
  dsimp only
  rw [stored2, load2 (hs0_0 t), load2 (hs0_6 t)]
  exact first_sum32 _ _

theorem written5 (h : t.val = 11) : (outsAt0 m c t.val t.isLt).1 = addCols (iblk m c 0 t) (iblk m c 6 t) (before m c t) := by
  rw [outsAt0_L m c t] <;> try omega
  dsimp only
  unfold out0_L_7; rw [View.read_writes_eq_canon _ _ _ fun y => cover0_L_7 (y := y) ..]
  unfold kernelRun0_L
  dsimp only
  sl_unfold_words
  rw [stored2, View.readCov_unit_zero (S := S1024x1024) _ origin2, load2 (hs0_0 t), load2 (hs0_6 t), load2 (Memref.isWhole_whole cc0_scratch0)]
  exact next_sum32 _ _ _

/-- The block of part `k` that a point is given. -/
def given (k : Fin 6) : S1024x1024.Idx → EReal := match k with
  | ⟨0, _⟩ => iblk m c 1 t
  | ⟨1, _⟩ => iblk m c 2 t
  | ⟨2, _⟩ => iblk m c 3 t
  | ⟨3, _⟩ => iblk m c 4 t
  | ⟨4, _⟩ => iblk m c 5 t
  | ⟨5, _⟩ => iblk m c 6 t

theorem sums (k : Fin 6) : t.val = 2 * k.val → (outsAt0 m c t.val t.isLt).2 = addCols (iblk m c 0 t) (given m c t k) (fun _ => 0) :=
  match k with
  | ⟨0, _⟩ => fun h => sums0 m c t h
  | ⟨1, _⟩ => fun h => sums1 m c t h
  | ⟨2, _⟩ => fun h => sums2 m c t h
  | ⟨3, _⟩ => fun h => sums3 m c t h
  | ⟨4, _⟩ => fun h => sums4 m c t h
  | ⟨5, _⟩ => fun h => sums5 m c t h

theorem written (k : Fin 6) : t.val = 2 * k.val + 1 → (outsAt0 m c t.val t.isLt).1 = addCols (iblk m c 0 t) (given m c t k) (before m c t) :=
  match k with
  | ⟨0, _⟩ => fun h => written0 m c t h
  | ⟨1, _⟩ => fun h => written1 m c t h
  | ⟨2, _⟩ => fun h => written2 m c t h
  | ⟨3, _⟩ => fun h => written3 m c t h
  | ⟨4, _⟩ => fun h => written4 m c t h
  | ⟨5, _⟩ => fun h => written5 m c t h
end

/-! ## The array -/

theorem points : cfg0.N = 12 := by decide

/-- The point that takes half `h` of the rows of part `k`; the columns of that part. -/
def point (k : Fin 6) (h : Fin 2) : Fin cfg0.N := ⟨2 * k.val + h.val, by have := points; omega⟩
def col (k : Fin 6) (x : Fin 1024) : Fin 6144 := ⟨1024 * k.val + x.val, by omega⟩
/-- The part a column lies in, and its place there. -/
def part (x : Fin 6144) : Fin 6 := ⟨x.val / 1024, by omega⟩
def inside (x : Fin 6144) : Fin 1024 := ⟨x.val % 1024, by omega⟩
theorem part_col (k : Fin 6) (x : Fin 1024) : part (col k x) = k := Fin.ext (by show (1024 * k.val + x.val) / 1024 = k.val; omega)
theorem inside_col (k : Fin 6) (x : Fin 1024) : inside (col k x) = x := Fin.ext (by show (1024 * k.val + x.val) % 1024 = x.val; omega)

def partIndex : Fin 6 → Fin grid0.N → Fin 2 → ℕ := ![win0_1.index, win0_2.index, win0_3.index, win0_4.index, win0_5.index, win0_6.index]
theorem rows_index : ∀ (k : Fin 6) (h : Fin 2), win0_0.index (point k h) = ![h.val, 0] := by decide +kernel
theorem part_index : ∀ (k : Fin 6) (h : Fin 2), partIndex k (point k h) = ![h.val, 0] := by decide +kernel
theorem out_index : ∀ (k : Fin 6) (h : Fin 2), win0_7.index (point k h) = ![0, k.val] := by decide +kernel

section
variable (m : (ℓ : Loc nD τ sig) → Buf (Elt Ideal) ℓ) (c : Dev nD)

/-- The arguments, and the product entry by entry. -/
def rows : S2048x1024.Idx → EReal := m (c.tc.loc main_arg0)
def dz : Fin 6 → S2048x1024.Idx → EReal := ![m (c.tc.loc main_arg1), m (c.tc.loc main_arg2), m (c.tc.loc main_arg3), m (c.tc.loc main_arg4), m (c.tc.loc main_arg5), m (c.tc.loc main_arg6)]
def result : S1024x6144.Idx → EReal := fun i => ∑ e : Fin 2048, rows m c (ix2 e (i 0)) * dz m c (part (i 1)) (ix2 e (inside (i 1)))

theorem rows_at (k : Fin 6) (h : Fin 2) (e r : Fin 1024) : iblk m c 0 (point k h) (ix2 e r) = rows m c (ix2 (halfRow h e) r) :=
  same2 (rows m c) _ _ _ (place (congrFun (rows_index k h) 0)) (place0 (congrFun (rows_index k h) 1))

theorem given_at (k : Fin 6) (h : Fin 2) (e x : Fin 1024) : given m c (point k h) k (ix2 e x) = dz m c k (ix2 (halfRow h e) x) :=
  (match k with
  | ⟨0, _⟩ => fun h0 h1 => same2 (m (c.tc.loc main_arg1)) _ _ _ (place h0) (place0 h1)
  | ⟨1, _⟩ => fun h0 h1 => same2 (m (c.tc.loc main_arg2)) _ _ _ (place h0) (place0 h1)
  | ⟨2, _⟩ => fun h0 h1 => same2 (m (c.tc.loc main_arg3)) _ _ _ (place h0) (place0 h1)
  | ⟨3, _⟩ => fun h0 h1 => same2 (m (c.tc.loc main_arg4)) _ _ _ (place h0) (place0 h1)
  | ⟨4, _⟩ => fun h0 h1 => same2 (m (c.tc.loc main_arg5)) _ _ _ (place h0) (place0 h1)
  | ⟨5, _⟩ => fun h0 h1 => same2 (m (c.tc.loc main_arg6)) _ _ _ (place h0) (place0 h1)
  : partIndex k (point k h) 0 = h.val → partIndex k (point k h) 1 = 0 → given m c (point k h) k (ix2 e x) = dz m c k (ix2 (halfRow h e) x))
    (congrFun (part_index k h) 0) (congrFun (part_index k h) 1)

theorem half (k : Fin 6) (h : Fin 2) (r x : Fin 1024) (p : S1024x1024.Idx → EReal) :
    addCols (iblk m c 0 (point k h)) (given m c (point k h) k) p (ix2 r x)
      = p (ix2 r x) + ∑ e : Fin 1024, rows m c (ix2 (halfRow h e) r) * dz m c k (ix2 (halfRow h e) x) :=
  congrArg (fun s : EReal => p (ix2 r x) + s)
    (Finset.sum_congr rfl fun e _ => congrArg₂ (fun x y : EReal => x * y) (rows_at m c k h e r) (given_at m c k h e x))

theorem result_at (k : Fin 6) (r x : Fin 1024) : result m c (ix2 r (col k x)) = ∑ e : Fin 2048, rows m c (ix2 e r) * dz m c k (ix2 e x) := by
  show ∑ e : Fin 2048, rows m c (ix2 e r) * dz m c (part (col k x)) (ix2 e (inside (col k x))) = _
  rw [part_col, inside_col]

theorem written_at (k : Fin 6) (r x : Fin 1024) :
    (outsAt0 m c (point k 1).val (point k 1).isLt).1 (ix2 r x) = result m c (ix2 r (col k x)) := by
  refine (congrFun (written m c (point k 1) k rfl) _).trans ((half m c k 1 r x _).trans ?_)
  refine Eq.trans ?_ ((two_halves fun e => rows m c (ix2 e r) * dz m c k (ix2 e x)).trans (result_at m c k r x).symm)
  exact congrArg (fun s : EReal => s + _) ((congrFun (sums m c (point k 0) k rfl) (ix2 r x)).trans ((half m c k 0 r x _).trans (zero_add _)))

theorem flushed (k : Fin 6) : (cfg0.win 7).flush (point k 1) = true := (flush0_7 _).2 (by show (2 * k.val + 1) % 2 = 1; omega)

theorem covered (i : S1024x6144.Idx) : ∃ t : Fin cfg0.N, (cfg0.win 7).flush t = true ∧ i ∈ ((cfg0.win 7).blk t).view.set := by
  have h0 : (i 0 : ℕ) < 1024 := (i 0).isLt
  have h1 : (i 1 : ℕ) < 6144 := (i 1).isLt
  obtain ⟨k, hk⟩ : ∃ k : Fin 6, k.val = (i 1 : ℕ) / 1024 := ⟨⟨(i 1 : ℕ) / 1024, by omega⟩, rfl⟩
  refine ⟨point k 1, flushed k, ?_⟩
  show i ∈ ((View.whole main_v0).slice (win0_7.rect (point k 1))).set
  rw [View.set_slice_whole, Rect.mem_set_unit]
  exact fun d => match d with
  | ⟨0, _⟩ => within (i 0) (congrFun (out_index k 1) 0) (by show 0 = (i 0 : ℕ) / 1024; omega) (by show 0 < 1024; decide)
  | ⟨1, _⟩ => within (i 1) (congrFun (out_index k 1) 1) hk (by show 0 < 1024; decide)

theorem point_of (t : Fin cfg0.N) (h : t.val % 2 = 1) : ∃ k : Fin 6, t = point k 1 :=
  ⟨⟨t.val / 2, by have := t.isLt; have := points; omega⟩, Fin.ext (by show t.val = 2 * (t.val / 2) + 1; omega)⟩

theorem array : (dats m 0 c).arrAt 7 cfg0.N = result m c := by
  refine (dats m 0 c).arrAt_eq_of_cover 7 (result m c) (fun t h => ?_) covered
  obtain ⟨k, rfl⟩ := point_of t ((flush0_7 t).1 h)
  show (cfg0.win 7).cut (grid0.coords _) ((dats m 0 c).after 7 _) = _
  rw [after0_7]
  funext y
  obtain ⟨r, x, rfl⟩ : ∃ r x : Fin 1024, y = ix2 r x := ⟨y 0, y 1, eq_ix2 y⟩
  refine (written_at m c k r x).trans ?_
  exact (same2 (result m c) _ _ _ (place0 (congrFun (out_index k 1) 0)) (place (congrFun (out_index k 1) 1))).symm
end

/-! ## The reference -/

section
open Cert.Reference3Ideal.Read
variable (x0 x1 x2 x3 x4 x5 x6 : S2048x1024.Idx → EReal)

/-- A column of the joined gradients is a column of the part it lies in. -/
theorem joined (t : Fin 2048) (x : Fin 6144) (i : Cert.Reference3Ideal.S2048x6144.Idx) (h0 : (i 0).val = t.val) (h1 : (i 1).val = x.val) :
    val_main_v2 (F := Ideal) x1 x2 x3 x4 x5 x6 i = (![x1, x2, x3, x4, x5, x6] : Fin 6 → S2048x1024.Idx → EReal) (part x) (ix2 t (inside x)) :=
  concatenate_ofFn_apply (t := Cert.Reference3Ideal.S2048x6144) (s₁ := S2048x1024) 1 ![x1, x2, x3, x4, x5, x6] _ rfl 1024 rfl i (part x)
    (by rw [h1]; rfl) (ix2 t (inside x)) (by rw [h1]; rfl)
    (fun b hb => match b with
      | ⟨0, _⟩ => h0.symm
      | ⟨1, _⟩ => absurd rfl hb)

theorem reference (i : S1024x6144.Idx) : val_main_v4 (F := Ideal) x0 x1 x2 x3 x4 x5 x6 i =
    ∑ e : Fin 2048, x0 (ix2 e (i 0)) * (![x1, x2, x3, x4, x5, x6] : Fin 6 → S2048x1024.Idx → EReal) (part (i 1)) (ix2 e (inside (i 1))) := by
  refine (val_main_v4_apply ..).trans ((val_main_v3_apply ..).trans ?_)
  exact Finset.sum_congr rfl fun e _ => congrArg₂ (· * ·) (same2 x0 _ e (i 0) rfl rfl) (joined x1 x2 x3 x4 x5 x6 e (i 1) _ rfl rfl)
end

/-! ## The claims -/

/-- The kernel and its idealisation are the same program, so one run is both programs' frame. -/
theorem same_body : @Cert.Kernel3.cc0_mm_in_dw_lo Bits _ _ = @Cert.Kernel3Ideal.cc0_mm_in_dw_lo Bits _ _ := rfl
theorem same_table : Cert.Kernel3.defs₀ (F := Bits) = Cert.Kernel3Ideal.defs₀ (F := Bits) :=
  congrArg _ (funext fun a => match a with | 0 => funext fun ⟨_, _⟩ => rfl)
theorem same_program : Cert.Kernel3.defs (F := Bits) = Cert.Kernel3Ideal.defs (F := Bits) := congrArg (Pipeline.defs _) same_table
theorem frame_kernel : Cert.quiescent_Kernel3 := fun m g _ => by
  rw [same_program]
  exact Cert.Kernel3Ideal.Gen.frame (F := Bits) m g
theorem preserves : Cert.preserves_Kernel3_Kernel3Ideal := trivial
theorem frame_ideal : Cert.quiescent_Kernel3Ideal := fun m g _ => Cert.Kernel3Ideal.Gen.frame m g
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

theorem values : Cert.algebraic_Kernel3Ideal_Reference3Ideal := by
  intro m g m' g' _ hm
  refine ⟨fun c => result m c, ?_, ?_⟩
  · exact (θ_run Cert.Kernel3Ideal.defs _ _).mono (fun r h c => ⟨((h.1 c).1 7).trans (array m c), h.2 c⟩) (θ_run_and (run_main m g) (unchanged m g))
  · refine (θ_run Cert.Reference3Ideal.defs _ _).mono (fun r h c => ⟨?_, (h c).2⟩) (Cert.Reference3Ideal.Value.run (F := Ideal) m' g')
    obtain ⟨e0, e1, e2, e3, e4, e5, e6⟩ := hm c
    refine (h c).1.trans ((Cert.Reference3Ideal.Read.val_main_v4_eq ..).trans ?_)
    rw [e0, e1, e2, e3, e4, e5, e6]
    exact funext fun i => reference _ _ _ _ _ _ _ i

end Cert.InDwLo
-- ==== Proof.InDwHi.lean ====
module

public import proofs.«01_k».proof.Defs
public import proofs.«01_k».proof.Proof.Products
public import proofs.«01_k».proof.Proof.Gen.Kernel4
public import proofs.«01_k».proof.Proof.Gen.Kernel4Ideal.Frame
public import proofs.«01_k».proof.Proof.Gen.Reference4Ideal.Run
public import proofs.«01_k».proof.Proof.Gen.Reference4Ideal.Read

/-! The gradient of the projection's last five parts of 1024 columns: the normed input and one part's gradient, one half of the tokens at a
point. -/

@[expose] public section

noncomputable section

namespace Cert.InDwHi

open Idealize.ShloMosaic Idealize.ShloMosaic.TcCoe Idealize.SL.Sem Cert.Kernel4Ideal Cert.Kernel4Ideal.Gen Cert.Products

/-! ## One point -/

theorem first_sum (a : Vec Ideal S1024x1024 .bf16) (w : Vec Ideal S1024x1024 .bf16) : k0_pay2 a w = addCols a w (fun _ => 0) := by
  funext i
  pointwise [k0_pay2, k0_pay1, addCols]
theorem next_sum (a : Vec Ideal S1024x1024 .bf16) (w : Vec Ideal S1024x1024 .bf16) (p : Vec Ideal S1024x1024 .f32) :
    k0_pay4 (k0_pay3 a w p) = addCols a w p := by
  funext i
  pointwise [k0_pay4, k0_pay3, k0_pay1, addCols]

section
variable (m : (ℓ : Loc nD τ sig) → Buf (Elt Ideal) ℓ) (c : Dev nD) (t : Fin cfg0.N)

/-- The partial sums the point before left. -/
abbrev before : S1024x1024.Idx → EReal := (outsAt0 m c (t.val - 1) (Nat.lt_of_le_of_lt (Nat.sub_le _ _) t.isLt)).2

/-! Of each part the first half of the rows goes to the partial sums; with the second half the block is written. -/

theorem sums0 (h : t.val = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

theorem written0 (h : t.val = 1) : (outsAt0 m c t.val t.isLt).1 = addCols (iblk m c 0 t) (iblk m c 1 t) (before m c t) := by
  rw [outsAt0_B m c t] <;> try omega
  dsimp only
  unfold out0_B_6; rw [View.read_writes_eq_canon _ _ _ fun y => cover0_B_6 (y := y) ..]
  unfold kernelRun0_B
  dsimp only
  sl_unfold_words
  rw [stored2, View.readCov_unit_zero (S := S1024x1024) _ origin2, load2 (hs0_0 t), load2 (hs0_1 t), load2 (Memref.isWhole_whole cc0_scratch0)]
  exact next_sum _ _ _

theorem sums1 (h : t.val = 2) : (outsAt0 m c t.val t.isLt).2 = addCols (iblk m c 0 t) (iblk m c 2 t) (fun _ => 0) := by
  rw [outsAt0_C m c t] <;> try omega
  dsimp only
  unfold sout0_C_0; rw [View.read_writes_eq_canon _ _ _ fun y => scover0_C_0 (y := y) ..]
  unfold kernelRun0_C
  dsimp only
  rw [stored2, load2 (hs0_0 t), load2 (hs0_2 t)]
  exact first_sum _ _

theorem written1 (h : t.val = 3) : (outsAt0 m c t.val t.isLt).1 = addCols (iblk m c 0 t) (iblk m c 2 t) (before m c t) := by
  rw [outsAt0_D m c t] <;> try omega
  dsimp only
  unfold out0_D_6; rw [View.read_writes_eq_canon _ _ _ fun y => cover0_D_6 (y := y) ..]
  unfold kernelRun0_D
  dsimp only
  sl_unfold_words
  rw [stored2, View.readCov_unit_zero (S := S1024x1024) _ origin2, load2 (hs0_0 t), load2 (hs0_2 t), load2 (Memref.isWhole_whole cc0_scratch0)]
  exact next_sum _ _ _

theorem sums2 (h : t.val = 4) : (outsAt0 m c t.val t.isLt).2 = addCols (iblk m c 0 t) (iblk m c 3 t) (fun _ => 0) := by
  rw [outsAt0_E m c t] <;> try omega
  dsimp only
  unfold sout0_E_0; rw [View.read_writes_eq_canon _ _ _ fun y => scover0_E_0 (y := y) ..]
  unfold kernelRun0_E
  dsimp only
  rw [stored2, load2 (hs0_0 t), load2 (hs0_3 t)]
  exact first_sum _ _

theorem written2 (h : t.val = 5) : (outsAt0 m c t.val t.isLt).1 = addCols (iblk m c 0 t) (iblk m c 3 t) (before m c t) := by
  rw [outsAt0_F m c t] <;> try omega
  dsimp only
  unfold out0_F_6; rw [View.read_writes_eq_canon _ _ _ fun y => cover0_F_6 (y := y) ..]
  unfold kernelRun0_F
  dsimp only
  sl_unfold_words
  rw [stored2, View.readCov_unit_zero (S := S1024x1024) _ origin2, load2 (hs0_0 t), load2 (hs0_3 t), load2 (Memref.isWhole_whole cc0_scratch0)]
  exact next_sum _ _ _

theorem sums3 (h : t.val = 6) : (outsAt0 m c t.val t.isLt).2 = addCols (iblk m c 0 t) (iblk m c 4 t) (fun _ => 0) := by
  rw [outsAt0_G m c t] <;> try omega
  dsimp only
  unfold sout0_G_0; rw [View.read_writes_eq_canon _ _ _ fun y => scover0_G_0 (y := y) ..]
  unfold kernelRun0_G
  dsimp only
  rw [stored2, load2 (hs0_0 t), load2 (hs0_4 t)]
  exact first_sum _ _

theorem written3 (h : t.val = 7) : (outsAt0 m c t.val t.isLt).1 = addCols (iblk m c 0 t) (iblk m c 4 t) (before m c t) := by
  rw [outsAt0_H m c t] <;> try omega
  dsimp only
  unfold out0_H_6; rw [View.read_writes_eq_canon _ _ _ fun y => cover0_H_6 (y := y) ..]
  unfold kernelRun0_H
  dsimp only
  sl_unfold_words
  rw [stored2, View.readCov_unit_zero (S := S1024x1024) _ origin2, load2 (hs0_0 t), load2 (hs0_4 t), load2 (Memref.isWhole_whole cc0_scratch0)]
  exact next_sum _ _ _

theorem sums4 (h : t.val = 8) : (outsAt0 m c t.val t.isLt).2 = addCols (iblk m c 0 t) (iblk m c 5 t) (fun _ => 0) := by
  rw [outsAt0_I m c t] <;> try omega
  dsimp only
  unfold sout0_I_0; rw [View.read_writes_eq_canon _ _ _ fun y => scover0_I_0 (y := y) ..]
  unfold kernelRun0_I
  dsimp only
  rw [stored2, load2 (hs0_0 t), load2 (hs0_5 t)]
  exact first_sum _ _

theorem written4 (h : t.val = 9) : (outsAt0 m c t.val t.isLt).1 = addCols (iblk m c 0 t) (iblk m c 5 t) (before m c t) := by
  rw [outsAt0_J m c t] <;> try omega
  dsimp only
  unfold out0_J_6; rw [View.read_writes_eq_canon _ _ _ fun y => cover0_J_6 (y := y) ..]
  unfold kernelRun0_J
  dsimp only
  sl_unfold_words
  rw [stored2, View.readCov_unit_zero (S := S1024x1024) _ origin2, load2 (hs0_0 t), load2 (hs0_5 t), load2 (Memref.isWhole_whole cc0_scratch0)]
  exact next_sum _ _ _

/-- The block of part `k` that a point is given. -/
def given (k : Fin 5) : S1024x1024.Idx → EReal := match k with
  | ⟨0, _⟩ => iblk m c 1 t
  | ⟨1, _⟩ => iblk m c 2 t
  | ⟨2, _⟩ => iblk m c 3 t
  | ⟨3, _⟩ => iblk m c 4 t
  | ⟨4, _⟩ => iblk m c 5 t

theorem sums (k : Fin 5) : t.val = 2 * k.val → (outsAt0 m c t.val t.isLt).2 = addCols (iblk m c 0 t) (given m c t k) (fun _ => 0) :=
  match k with
  | ⟨0, _⟩ => fun h => sums0 m c t h
  | ⟨1, _⟩ => fun h => sums1 m c t h
  | ⟨2, _⟩ => fun h => sums2 m c t h
  | ⟨3, _⟩ => fun h => sums3 m c t h
  | ⟨4, _⟩ => fun h => sums4 m c t h

theorem written (k : Fin 5) : t.val = 2 * k.val + 1 → (outsAt0 m c t.val t.isLt).1 = addCols (iblk m c 0 t) (given m c t k) (before m c t) :=
  match k with
  | ⟨0, _⟩ => fun h => written0 m c t h
  | ⟨1, _⟩ => fun h => written1 m c t h
  | ⟨2, _⟩ => fun h => written2 m c t h
  | ⟨3, _⟩ => fun h => written3 m c t h
  | ⟨4, _⟩ => fun h => written4 m c t h
end

/-! ## The array -/

theorem points : cfg0.N = 10 := by decide

/-- The point that takes half `h` of the rows of part `k`; the columns of that part. -/
def point (k : Fin 5) (h : Fin 2) : Fin cfg0.N := ⟨2 * k.val + h.val, by have := points; omega⟩
def col (k : Fin 5) (x : Fin 1024) : Fin 5120 := ⟨1024 * k.val + x.val, by omega⟩
/-- The part a column lies in, and its place there. -/
def part (x : Fin 5120) : Fin 5 := ⟨x.val / 1024, by omega⟩
def inside (x : Fin 5120) : Fin 1024 := ⟨x.val % 1024, by omega⟩
theorem part_col (k : Fin 5) (x : Fin 1024) : part (col k x) = k := Fin.ext (by show (1024 * k.val + x.val) / 1024 = k.val; omega)
theorem inside_col (k : Fin 5) (x : Fin 1024) : inside (col k x) = x := Fin.ext (by show (1024 * k.val + x.val) % 1024 = x.val; omega)

def partIndex : Fin 5 → Fin grid0.N → Fin 2 → ℕ := ![win0_1.index, win0_2.index, win0_3.index, win0_4.index, win0_5.index]
theorem rows_index : ∀ (k : Fin 5) (h : Fin 2), win0_0.index (point k h) = ![h.val, 0] := by decide +kernel
theorem part_index : ∀ (k : Fin 5) (h : Fin 2), partIndex k (point k h) = ![h.val, 0] := by decide +kernel
theorem out_index : ∀ (k : Fin 5) (h : Fin 2), win0_6.index (point k h) = ![0, k.val] := by decide +kernel

section
variable (m : (ℓ : Loc nD τ sig) → Buf (Elt Ideal) ℓ) (c : Dev nD)

/-- The arguments, and the product entry by entry. -/
def rows : S2048x1024.Idx → EReal := m (c.tc.loc main_arg0)
def dz : Fin 5 → S2048x1024.Idx → EReal := ![m (c.tc.loc main_arg1), m (c.tc.loc main_arg2), m (c.tc.loc main_arg3), m (c.tc.loc main_arg4), m (c.tc.loc main_arg5)]
def result : S1024x5120.Idx → EReal := fun i => ∑ e : Fin 2048, rows m c (ix2 e (i 0)) * dz m c (part (i 1)) (ix2 e (inside (i 1)))

theorem rows_at (k : Fin 5) (h : Fin 2) (e r : Fin 1024) : iblk m c 0 (point k h) (ix2 e r) = rows m c (ix2 (halfRow h e) r) :=
  same2 (rows m c) _ _ _ (place (congrFun (rows_index k h) 0)) (place0 (congrFun (rows_index k h) 1))

theorem given_at (k : Fin 5) (h : Fin 2) (e x : Fin 1024) : given m c (point k h) k (ix2 e x) = dz m c k (ix2 (halfRow h e) x) :=
  (match k with
  | ⟨0, _⟩ => fun h0 h1 => same2 (m (c.tc.loc main_arg1)) _ _ _ (place h0) (place0 h1)
  | ⟨1, _⟩ => fun h0 h1 => same2 (m (c.tc.loc main_arg2)) _ _ _ (place h0) (place0 h1)
  | ⟨2, _⟩ => fun h0 h1 => same2 (m (c.tc.loc main_arg3)) _ _ _ (place h0) (place0 h1)
  | ⟨3, _⟩ => fun h0 h1 => same2 (m (c.tc.loc main_arg4)) _ _ _ (place h0) (place0 h1)
  | ⟨4, _⟩ => fun h0 h1 => same2 (m (c.tc.loc main_arg5)) _ _ _ (place h0) (place0 h1)
  : partIndex k (point k h) 0 = h.val → partIndex k (point k h) 1 = 0 → given m c (point k h) k (ix2 e x) = dz m c k (ix2 (halfRow h e) x))
    (congrFun (part_index k h) 0) (congrFun (part_index k h) 1)

theorem half (k : Fin 5) (h : Fin 2) (r x : Fin 1024) (p : S1024x1024.Idx → EReal) :
    addCols (iblk m c 0 (point k h)) (given m c (point k h) k) p (ix2 r x)
      = p (ix2 r x) + ∑ e : Fin 1024, rows m c (ix2 (halfRow h e) r) * dz m c k (ix2 (halfRow h e) x) :=
  congrArg (fun s : EReal => p (ix2 r x) + s)
    (Finset.sum_congr rfl fun e _ => congrArg₂ (fun x y : EReal => x * y) (rows_at m c k h e r) (given_at m c k h e x))

theorem result_at (k : Fin 5) (r x : Fin 1024) : result m c (ix2 r (col k x)) = ∑ e : Fin 2048, rows m c (ix2 e r) * dz m c k (ix2 e x) := by
  show ∑ e : Fin 2048, rows m c (ix2 e r) * dz m c (part (col k x)) (ix2 e (inside (col k x))) = _
  rw [part_col, inside_col]

theorem written_at (k : Fin 5) (r x : Fin 1024) :
    (outsAt0 m c (point k 1).val (point k 1).isLt).1 (ix2 r x) = result m c (ix2 r (col k x)) := by
  refine (congrFun (written m c (point k 1) k rfl) _).trans ((half m c k 1 r x _).trans ?_)
  refine Eq.trans ?_ ((two_halves fun e => rows m c (ix2 e r) * dz m c k (ix2 e x)).trans (result_at m c k r x).symm)
  exact congrArg (fun s : EReal => s + _) ((congrFun (sums m c (point k 0) k rfl) (ix2 r x)).trans ((half m c k 0 r x _).trans (zero_add _)))

theorem flushed (k : Fin 5) : (cfg0.win 6).flush (point k 1) = true := (flush0_6 _).2 (by show (2 * k.val + 1) % 2 = 1; omega)

theorem covered (i : S1024x5120.Idx) : ∃ t : Fin cfg0.N, (cfg0.win 6).flush t = true ∧ i ∈ ((cfg0.win 6).blk t).view.set := by
  have h0 : (i 0 : ℕ) < 1024 := (i 0).isLt
  have h1 : (i 1 : ℕ) < 5120 := (i 1).isLt
  obtain ⟨k, hk⟩ : ∃ k : Fin 5, k.val = (i 1 : ℕ) / 1024 := ⟨⟨(i 1 : ℕ) / 1024, by omega⟩, rfl⟩
  refine ⟨point k 1, flushed k, ?_⟩
  show i ∈ ((View.whole main_v0).slice (win0_6.rect (point k 1))).set
  rw [View.set_slice_whole, Rect.mem_set_unit]
  exact fun d => match d with
  | ⟨0, _⟩ => within (i 0) (congrFun (out_index k 1) 0) (by show 0 = (i 0 : ℕ) / 1024; omega) (by show 0 < 1024; decide)
  | ⟨1, _⟩ => within (i 1) (congrFun (out_index k 1) 1) hk (by show 0 < 1024; decide)

theorem point_of (t : Fin cfg0.N) (h : t.val % 2 = 1) : ∃ k : Fin 5, t = point k 1 :=
  ⟨⟨t.val / 2, by have := t.isLt; have := points; omega⟩, Fin.ext (by show t.val = 2 * (t.val / 2) + 1; omega)⟩

theorem array : (dats m 0 c).arrAt 6 cfg0.N = result m c := by
  refine (dats m 0 c).arrAt_eq_of_cover 6 (result m c) (fun t h => ?_) covered
  obtain ⟨k, rfl⟩ := point_of t ((flush0_6 t).1 h)
  show (cfg0.win 6).cut (grid0.coords _) ((dats m 0 c).after 6 _) = _
  rw [after0_6]
  funext y
  obtain ⟨r, x, rfl⟩ : ∃ r x : Fin 1024, y = ix2 r x := ⟨y 0, y 1, eq_ix2 y⟩
  refine (written_at m c k r x).trans ?_
  exact (same2 (result m c) _ _ _ (place0 (congrFun (out_index k 1) 0)) (place (congrFun (out_index k 1) 1))).symm
end

/-! ## The reference -/

section
open Cert.Reference4Ideal.Read
variable (x0 x1 x2 x3 x4 x5 : S2048x1024.Idx → EReal)

/-- A column of the joined gradients is a column of the part it lies in. -/
theorem joined (t : Fin 2048) (x : Fin 5120) (i : Cert.Reference4Ideal.S2048x5120.Idx) (h0 : (i 0).val = t.val) (h1 : (i 1).val = x.val) :
    val_main_v0 (F := Ideal) x1 x2 x3 x4 x5 i = (![x1, x2, x3, x4, x5] : Fin 5 → S2048x1024.Idx → EReal) (part x) (ix2 t (inside x)) :=
  concatenate_ofFn_apply (t := Cert.Reference4Ideal.S2048x5120) (s₁ := S2048x1024) 1 ![x1, x2, x3, x4, x5] _ rfl 1024 rfl i (part x)
    (by rw [h1]; rfl) (ix2 t (inside x)) (by rw [h1]; rfl)
    (fun b hb => match b with
      | ⟨0, _⟩ => h0.symm
      | ⟨1, _⟩ => absurd rfl hb)

theorem reference (i : S1024x5120.Idx) : val_main_v2 (F := Ideal) x0 x1 x2 x3 x4 x5 i =
    ∑ e : Fin 2048, x0 (ix2 e (i 0)) * (![x1, x2, x3, x4, x5] : Fin 5 → S2048x1024.Idx → EReal) (part (i 1)) (ix2 e (inside (i 1))) := by
  refine (val_main_v2_apply ..).trans ((val_main_v1_apply ..).trans ?_)
  exact Finset.sum_congr rfl fun e _ => congrArg₂ (· * ·) (same2 x0 _ e (i 0) rfl rfl) (joined x1 x2 x3 x4 x5 e (i 1) _ rfl rfl)
end

/-! ## The claims -/

/-- The kernel and its idealisation are the same program, so one run is both programs' frame. -/
theorem same_body : @Cert.Kernel4.cc0_mm_in_dw_hi Bits _ _ = @Cert.Kernel4Ideal.cc0_mm_in_dw_hi Bits _ _ := rfl
theorem same_table : Cert.Kernel4.defs₀ (F := Bits) = Cert.Kernel4Ideal.defs₀ (F := Bits) :=
  congrArg _ (funext fun a => match a with | 0 => funext fun ⟨_, _⟩ => rfl)
theorem same_program : Cert.Kernel4.defs (F := Bits) = Cert.Kernel4Ideal.defs (F := Bits) := congrArg (Pipeline.defs _) same_table
theorem frame_kernel : Cert.quiescent_Kernel4 := fun m g _ => by
  rw [same_program]
  exact Cert.Kernel4Ideal.Gen.frame (F := Bits) m g
theorem preserves : Cert.preserves_Kernel4_Kernel4Ideal := trivial
theorem frame_ideal : Cert.quiescent_Kernel4Ideal := fun m g _ => Cert.Kernel4Ideal.Gen.frame m g
theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem values : Cert.algebraic_Kernel4Ideal_Reference4Ideal := by
  intro m g m' g' _ hm
  refine ⟨fun c => result m c, ?_, ?_⟩
  · exact (θ_run Cert.Kernel4Ideal.defs _ _).mono (fun r h c => ⟨((h.1 c).1 6).trans (array m c), h.2 c⟩) (θ_run_and (run_main m g) (unchanged m g))
  · refine (θ_run Cert.Reference4Ideal.defs _ _).mono (fun r h c => ⟨?_, (h c).2⟩) (Cert.Reference4Ideal.Value.run (F := Ideal) m' g')
    obtain ⟨e0, e1, e2, e3, e4, e5⟩ := hm c
    refine (h c).1.trans ((Cert.Reference4Ideal.Read.val_main_v2_eq ..).trans ?_)
    rw [e0, e1, e2, e3, e4, e5]
    exact funext fun i => reference _ _ _ _ _ _ i

end Cert.InDwHi
-- ==== Proof.GateUpDx.lean ====
module

public import proofs.«01_k».proof.Defs
public import proofs.«01_k».proof.Proof.Products
public import proofs.«01_k».proof.Proof.Gen.Kernel5
public import proofs.«01_k».proof.Proof.Gen.Kernel5Ideal.Frame
public import proofs.«01_k».proof.Proof.Gen.Reference5Ideal.Run
public import proofs.«01_k».proof.Proof.Gen.Reference5Ideal.Read

/-! The gradient of the feed-forward network's normed input: the gate's and the up half's gradients, each in two parts of 1408 columns,
times the four parts of the gate-and-up weights, accumulated over the four points of a block of rows. -/

@[expose] public section

noncomputable section

namespace Cert.GateUpDx

open Idealize.ShloMosaic Idealize.ShloMosaic.TcCoe Idealize.SL.Sem Cert.Kernel5Ideal Cert.Kernel5Ideal.Gen Cert.Products

/-! ## One point -/

theorem first_sum (a : Vec Ideal S512x1408 .bf16) (w : Vec Ideal S1x1024x1408 .bf16) :
    k0_pay2 a w = addRows a (fun i : S1024x1408.Idx => w (ix3 0 (i 0) (i 1))) (fun _ => 0) := by
  funext i
  pointwise [k0_pay2, k0_pay1, addRows]
theorem next_sum (a : Vec Ideal S512x1408 .bf16) (w : Vec Ideal S1x1024x1408 .bf16) (p : Vec Ideal S512x1024 .f32) :
    k0_pay3 a w p = addRows a (fun i : S1024x1408.Idx => w (ix3 0 (i 0) (i 1))) p := by
  funext i
  pointwise [k0_pay3, k0_pay1, addRows]

/-- What a point stores over the partial sums: one part more. -/
theorem part_stored {a : Memref sig .tc .vmem S512x1408 .bf16} (ha : a.IsWhole) {w : Memref sig .tc .vmem S1x1024x1408 .bf16} (hw : w.IsWhole)
    (x : Vec Ideal S512x1408 .bf16) (y : Vec Ideal S1x1024x1408 .bf16) (p : Vec Ideal S512x1024 .f32) :
    View.canon [(⟨Rect.unit ![0, 0] S512x1024.size inb_S512x1024_S512x1024_0_0,
      k0_pay3 (a.view.readAt (Elt Ideal) (Rect.unit ![0, 0] S512x1408.size inb_S512x1408_S512x1408_0_0).toLoadRect (ha.unread x))
        (w.view.readAt (Elt Ideal) (Rect.unit ![0, 0, 0] S1x1024x1408.size inb_S1x1024x1408_S1x1024x1408_0_0_0).toLoadRect (hw.unread y))
        ((Memref.whole cc0_scratch0).view.readAt (Elt Ideal) (Rect.unit ![0, 0] S512x1024.size inb_S512x1024_S512x1024_0_0).toLoadRect
          ((Memref.isWhole_whole cc0_scratch0).unread p))⟩ : View.Piece (Elt Ideal) S512x1024 .f32)] =
      addRows x (fun i : S1024x1408.Idx => y (ix3 0 (i 0) (i 1))) p := by
  rw [stored2, load2 ha, load3 hw, load2 (Memref.isWhole_whole cc0_scratch0)]
  exact next_sum x y p

section
variable (m : (ℓ : Loc nD τ sig) → Buf (Elt Ideal) ℓ) (c : Dev nD) (t : Fin cfg0.N)

/-- The partial sums the point before left. -/
abbrev before : S512x1024.Idx → EReal := (outsAt0 m c (t.val - 1) (Nat.lt_of_le_of_lt (Nat.sub_le _ _) t.isLt)).2

/-- The blocks a point is given: part `k` of the gradients, and of the weights. -/
def block (k : Fin 4) : S512x1408.Idx → EReal := match k with
  | ⟨0, _⟩ => iblk m c 0 t
  | ⟨1, _⟩ => iblk m c 0 t
  | ⟨2, _⟩ => iblk m c 1 t
  | ⟨3, _⟩ => iblk m c 1 t
def weight (k : Fin 4) : S1024x1408.Idx → EReal := fun i => match k with
  | ⟨0, _⟩ => iblk m c 2 t (ix3 0 (i 0) (i 1))
  | ⟨1, _⟩ => iblk m c 3 t (ix3 0 (i 0) (i 1))
  | ⟨2, _⟩ => iblk m c 4 t (ix3 0 (i 0) (i 1))
  | ⟨3, _⟩ => iblk m c 5 t (ix3 0 (i 0) (i 1))

theorem sums0 (h : t.val % 4 = 0) : (outsAt0 m c t.val t.isLt).2 = addRows (block m c t 0) (weight m c t 0) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load3 (hs0_2 t)]
  exact first_sum _ _

theorem sums1 (h : t.val % 4 = 1) : (outsAt0 m c t.val t.isLt).2 = addRows (block m c t 1) (weight m c t 1) (before m c t) := by
  rw [outsAt0_B m c t] <;> try omega
  dsimp only
  unfold sout0_B_0; rw [View.read_writes_eq_canon _ _ _ fun y => scover0_B_0 (y := y) ..]
  unfold kernelRun0_B; dsimp only; exact part_stored (hs0_0 t) (hs0_3 t) _ _ _

theorem sums2 (h : t.val % 4 = 2) : (outsAt0 m c t.val t.isLt).2 = addRows (block m c t 2) (weight m c t 2) (before m c t) := by
  rw [outsAt0_C m c t] <;> try omega
  dsimp only
  unfold sout0_C_0; rw [View.read_writes_eq_canon _ _ _ fun y => scover0_C_0 (y := y) ..]
  unfold kernelRun0_C; dsimp only; exact part_stored (hs0_1 t) (hs0_4 t) _ _ _

/-- The last point of a block of rows takes the last part and writes. -/
theorem written (h : t.val % 4 = 3) : (outsAt0 m c t.val t.isLt).1 = addRows (block m c t 3) (weight m c t 3) (before m c t) := by
  rw [outsAt0_D m c t] <;> try omega
  dsimp only
  unfold out0_D_6; rw [View.read_writes_eq_canon _ _ _ fun y => cover0_D_6 (y := y) ..]
  unfold kernelRun0_D
  dsimp only
  sl_unfold_words
  rw [stored2, View.readCov_unit_zero (S := S512x1024) _ origin2, load2 (hs0_1 t), load3 (hs0_5 t), load2 (Memref.isWhole_whole cc0_scratch0)]
  exact next_sum _ _ _
end

/-! ## The array -/

theorem points : cfg0.N = 16 := by decide

/-- The point that takes part `k` for the `b`-th block of 512 rows; the rows of that block, and the columns of that part in its array. -/
def point (b : Fin 4) (k : Fin 4) : Fin cfg0.N := ⟨4 * b.val + k.val, by have := points; omega⟩
def row (b : Fin 4) (r : Fin 512) : Fin 2048 := ⟨512 * b.val + r.val, by omega⟩
def half (k : Fin 4) (e : Fin 1408) : Fin 2816 := ⟨1408 * (k.val % 2) + e.val, by omega⟩

def partIndex : Fin 4 → Fin grid0.N → Fin 2 → ℕ := ![win0_0.index, win0_0.index, win0_1.index, win0_1.index]
def weightIndex : Fin 4 → Fin grid0.N → Fin 3 → ℕ := ![win0_2.index, win0_3.index, win0_4.index, win0_5.index]
theorem part_index : ∀ (b k : Fin 4), partIndex k (point b k) = ![b.val, k.val % 2] := by decide +kernel
theorem weight_index : ∀ (b k : Fin 4), weightIndex k (point b k) = ![k.val, 0, 0] := by decide +kernel
theorem out_index : ∀ b : Fin 4, win0_6.index (point b 3) = ![b.val, 0] := by decide +kernel

section
variable (m : (ℓ : Loc nD τ sig) → Buf (Elt Ideal) ℓ) (c : Dev nD)

/-- The array part `k` of the gradients lies in. -/
def dz : Fin 4 → S2048x2816.Idx → EReal :=
  ![m (c.tc.loc main_arg0), m (c.tc.loc main_arg0), m (c.tc.loc main_arg1), m (c.tc.loc main_arg1)]

theorem block_at (b k : Fin 4) (r : Fin 512) (e : Fin 1408) : block m c (point b k) k (ix2 r e) = dz m c k (ix2 (row b r) (half k e)) :=
  (match k with
  | ⟨0, _⟩ => fun h0 h1 => same2 (m (c.tc.loc main_arg0)) _ _ _ (place h0) (place h1)
  | ⟨1, _⟩ => fun h0 h1 => same2 (m (c.tc.loc main_arg0)) _ _ _ (place h0) (place h1)
  | ⟨2, _⟩ => fun h0 h1 => same2 (m (c.tc.loc main_arg1)) _ _ _ (place h0) (place h1)
  | ⟨3, _⟩ => fun h0 h1 => same2 (m (c.tc.loc main_arg1)) _ _ _ (place h0) (place h1)
  : partIndex k (point b k) 0 = b.val → partIndex k (point b k) 1 = k.val % 2 →
    block m c (point b k) k (ix2 r e) = dz m c k (ix2 (row b r) (half k e)))
    (congrFun (part_index b k) 0) (congrFun (part_index b k) 1)

theorem weight_at (b k : Fin 4) (x : Fin 1024) (e : Fin 1408) : weight m c (point b k) k (ix2 x e) = m (c.tc.loc main_arg2) (ix3 k x e) :=
  (match k with
  | ⟨0, _⟩ => fun h0 h1 h2 => same3 (m (c.tc.loc main_arg2)) _ _ _ _ (place1 h0) (place0 h1) (place0 h2)
  | ⟨1, _⟩ => fun h0 h1 h2 => same3 (m (c.tc.loc main_arg2)) _ _ _ _ (place1 h0) (place0 h1) (place0 h2)
  | ⟨2, _⟩ => fun h0 h1 h2 => same3 (m (c.tc.loc main_arg2)) _ _ _ _ (place1 h0) (place0 h1) (place0 h2)
  | ⟨3, _⟩ => fun h0 h1 h2 => same3 (m (c.tc.loc main_arg2)) _ _ _ _ (place1 h0) (place0 h1) (place0 h2)
  : weightIndex k (point b k) 0 = k.val → weightIndex k (point b k) 1 = 0 → weightIndex k (point b k) 2 = 0 →
    weight m c (point b k) k (ix2 x e) = m (c.tc.loc main_arg2) (ix3 k x e))
    (congrFun (weight_index b k) 0) (congrFun (weight_index b k) 1) (congrFun (weight_index b k) 2)

/-- What part `k` adds at row `r` of block `b` and column `x`. -/
def term (b : Fin 4) (r : Fin 512) (x : Fin 1024) (k : Fin 4) : EReal :=
  ∑ e : Fin 1408, dz m c k (ix2 (row b r) (half k e)) * m (c.tc.loc main_arg2) (ix3 k x e)

theorem addRows_at (b k : Fin 4) (p : S512x1024.Idx → EReal) (r : Fin 512) (x : Fin 1024) :
    addRows (block m c (point b k) k) (weight m c (point b k) k) p (ix2 r x) = p (ix2 r x) + term m c b r x k :=
  congrArg (p (ix2 r x) + ·) (Finset.sum_congr rfl fun e _ => congrArg₂ (· * ·) (block_at m c b k r e) (weight_at m c b k x e))

theorem sums (t : Fin cfg0.N) (k : Fin 2) : t.val % 4 = k.val + 1 → (outsAt0 m c t.val t.isLt).2 =
    addRows (block m c t ⟨k.val + 1, by omega⟩) (weight m c t ⟨k.val + 1, by omega⟩) (before m c t) :=
  match k with
  | ⟨0, _⟩ => fun h => sums1 m c t h
  | ⟨1, _⟩ => fun h => sums2 m c t h

theorem outs_congr {n n' : ℕ} (e : n = n') (h : n < cfg0.N) (h' : n' < cfg0.N) : outsAt0 m c n h = outsAt0 m c n' h' := by subst e; rfl

/-- The partial sums before the last part are the sum of the first three. -/
theorem sums_all (b : Fin 4) (r : Fin 512) (x : Fin 1024) :
    (outsAt0 m c (point b 2).val (point b 2).isLt).2 (ix2 r x) = ∑ k : Fin 3, term m c b r x k.castSucc :=
  accumulate (fun k : Fin 3 => (outsAt0 m c (point b k.castSucc).val (point b k.castSucc).isLt).2 (ix2 r x)) (fun k => term m c b r x k.castSucc)
    ((congrFun (sums0 m c (point b 0) (by show (4 * b.val + 0) % 4 = 0; omega)) (ix2 r x)).trans ((addRows_at m c b 0 _ r x).trans (zero_add _)))
    (fun k => by
      have h := congrFun (sums m c (point b k.succ.castSucc) k (by show (4 * b.val + (k.val + 1)) % 4 = k.val + 1; omega)) (ix2 r x)
      refine h.trans ((addRows_at m c b k.succ.castSucc _ r x).trans (congrArg (· + _) ?_))
      exact congrFun (congrArg Prod.snd (outs_congr m c (by show 4 * b.val + (k.val + 1) - 1 = 4 * b.val + k.val; omega) _ _)) (ix2 r x))

/-- The gradient, entry by entry. -/
def result : S2048x1024.Idx → EReal := fun i =>
  ∑ k : Fin 4, ∑ e : Fin 1408, dz m c k (ix2 (i 0) (half k e)) * m (c.tc.loc main_arg2) (ix3 k (i 1) e)

theorem written_at (b : Fin 4) (r : Fin 512) (x : Fin 1024) :
    (outsAt0 m c (point b 3).val (point b 3).isLt).1 (ix2 r x) = result m c (ix2 (row b r) x) := by
  refine (congrFun (written m c (point b 3) (by show (4 * b.val + 3) % 4 = 3; omega)) (ix2 r x)).trans ?_
  refine (addRows_at m c b 3 _ r x).trans (Eq.trans ?_ (Fin.sum_univ_castSucc (term m c b r x)).symm)
  refine congrArg (· + _) (Eq.trans ?_ (sums_all m c b r x))
  exact congrFun (congrArg Prod.snd (outs_congr m c (by show 4 * b.val + 3 - 1 = 4 * b.val + 2; omega) _ _)) (ix2 r x)

theorem flush_point (t : Fin cfg0.N) (h : (cfg0.win 6).flush t = true) : ∃ b : Fin 4, t = point b 3 :=
  ⟨⟨t.val / 4, by have := t.isLt; have := points; omega⟩, Fin.ext (by have := (flush0_6 t).mp h; show t.val = 4 * (t.val / 4) + 3; omega)⟩

theorem covered (i : S2048x1024.Idx) : ∃ t : Fin cfg0.N, (cfg0.win 6).flush t = true ∧ i ∈ ((cfg0.win 6).blk t).view.set := by
  have h0 : (i 0 : ℕ) < 2048 := (i 0).isLt
  obtain ⟨b, hb⟩ : ∃ b : Fin 4, b.val = (i 0 : ℕ) / 512 := ⟨⟨(i 0 : ℕ) / 512, by omega⟩, rfl⟩
  refine ⟨point b 3, (flush0_6 _).mpr (by show (4 * b.val + 3) % 4 = 3; omega), ?_⟩
  show i ∈ ((View.whole main_v0).slice (win0_6.rect (point b 3))).set
  rw [View.set_slice_whole, Rect.mem_set_unit]
  exact fun a => match a with
  | ⟨0, _⟩ => within (i 0) (congrFun (out_index b) 0) hb (by show 0 < 512; decide)
  | ⟨1, _⟩ => within (i 1) (congrFun (out_index b) 1) (Nat.div_eq_of_lt (i 1).isLt).symm (by show 0 < 1024; decide)

theorem array : (dats m 0 c).arrAt 6 cfg0.N = result m c := by
  refine (dats m 0 c).arrAt_eq_of_cover 6 (result m c) (fun t h => ?_) covered
  obtain ⟨b, rfl⟩ := flush_point t h
  show (cfg0.win 6).cut (grid0.coords _) ((dats m 0 c).after 6 _) = _
  rw [after0_6]
  funext y
  obtain ⟨r, x, rfl⟩ : ∃ (r : Fin 512) (x : Fin 1024), y = ix2 r x := ⟨y 0, y 1, eq_ix2 y⟩
  refine (written_at m c b r x).trans ?_
  exact (same2 (result m c) _ _ _ (place (congrFun (out_index b) 0)) (place0 (congrFun (out_index b) 1))).symm
end

/-! ## The reference -/

section
open Cert.Reference5Ideal.Read
variable (x0 x1 : S2048x2816.Idx → EReal) (x2 : S4x1024x1408.Idx → EReal)

/-- The array part `k` lies in. -/
def array_of : Fin 4 → Fin 2 := ![0, 0, 1, 1]
theorem array_of_val : ∀ k : Fin 4, (array_of k).val = k.val / 2 := by decide
theorem part_of (k : Fin 4) : (![x0, x1] : Fin 2 → S2048x2816.Idx → EReal) (array_of k) = (![x0, x0, x1, x1] : Fin 4 → S2048x2816.Idx → EReal) k := by
  fin_cases k <;> rfl

/-- Column `1408 k + e` of the joined gradients is column `e` of part `k`. -/
theorem joined (t : Fin 2048) (k : Fin 4) (e : Fin 1408) (i : Cert.Reference5Ideal.S2048x5632.Idx) (h0 : (i 0).val = t.val) (h1 : (i 1).val = 1408 * k.val + e.val) :
    val_main_v2 (F := Ideal) x0 x1 i = (![x0, x0, x1, x1] : Fin 4 → S2048x2816.Idx → EReal) k (ix2 t (half k e)) :=
  (concatenate_ofFn_apply (t := Cert.Reference5Ideal.S2048x5632) (s₁ := S2048x2816) 1 ![x0, x1] _ rfl 2816 rfl i (array_of k)
    (by rw [h1, array_of_val]; omega) (ix2 t (half k e))
    (by rw [h1]; show 1408 * (k.val % 2) + e.val = (1408 * k.val + e.val) % 2816; omega)
    (fun b hb => match b with
      | ⟨0, _⟩ => h0.symm
      | ⟨1, _⟩ => absurd rfl hb)).trans (congrFun (part_of x0 x1 k) _)

theorem weights (x : Fin 1024) (k : Fin 4) (e : Fin 1408) (i : Cert.Reference5Ideal.S1024x5632.Idx) (h0 : (i 0).val = x.val) (h1 : (i 1).val = 1408 * k.val + e.val) :
    val_main_v1 (F := Ideal) x2 i = x2 (ix3 k x e) := by
  refine (val_main_v1_apply ..).trans ((val_main_v0_apply ..).trans (same3 x2 _ k x e ?_ ?_ ?_))
  all_goals simp [idx_main_v0, idx_main_v1, h0, h1]
  all_goals omega

theorem reference (i : S2048x1024.Idx) : val_main_v5 (F := Ideal) x0 x1 x2 i =
    ∑ k : Fin 4, ∑ e : Fin 1408, (![x0, x0, x1, x1] : Fin 4 → S2048x2816.Idx → EReal) k (ix2 (i 0) (half k e)) * x2 (ix3 k (i 1) e) := by
  refine (val_main_v5_apply ..).trans ((val_main_v4_apply ..).trans ((val_main_v3_apply ..).trans ?_))
  refine (sum_parts (n := 4) (w := 1408) (by decide) _ _ fun k e hk => ?_)
  exact congrArg₂ (· * ·) (joined _ _ (i 0) k e _ rfl rfl) (weights x2 (i 1) k e _ rfl rfl)
end

/-! ## The claims -/

/-- The kernel and its idealisation are the same program, so one run is both programs' frame. -/
theorem same_body : @Cert.Kernel5.cc0_mm_gu_dx Bits _ _ = @Cert.Kernel5Ideal.cc0_mm_gu_dx Bits _ _ := rfl
theorem same_table : Cert.Kernel5.defs₀ (F := Bits) = Cert.Kernel5Ideal.defs₀ (F := Bits) :=
  congrArg _ (funext fun a => match a with | 0 => funext fun ⟨_, _⟩ => rfl)
theorem same_program : Cert.Kernel5.defs (F := Bits) = Cert.Kernel5Ideal.defs (F := Bits) := congrArg (Pipeline.defs _) same_table
theorem frame_kernel : Cert.quiescent_Kernel5 := fun m g _ => by
  rw [same_program]
  exact Cert.Kernel5Ideal.Gen.frame (F := Bits) m g
theorem preserves : Cert.preserves_Kernel5_Kernel5Ideal := trivial
theorem frame_ideal : Cert.quiescent_Kernel5Ideal := fun m g _ => Cert.Kernel5Ideal.Gen.frame m g
theorem frame_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem values : Cert.algebraic_Kernel5Ideal_Reference5Ideal := by
  intro m g m' g' _ hm
  refine ⟨fun c => result m c, ?_, ?_⟩
  · exact (θ_run Cert.Kernel5Ideal.defs _ _).mono (fun r h c => ⟨((h.1 c).1 6).trans (array m c), h.2 c⟩) (θ_run_and (run_main m g) (unchanged m g))
  · refine (θ_run Cert.Reference5Ideal.defs _ _).mono (fun r h c => ⟨?_, (h c).2⟩) (Cert.Reference5Ideal.Value.run (F := Ideal) m' g')
    obtain ⟨e0, e1, e2⟩ := hm c
    refine (h c).1.trans ((Cert.Reference5Ideal.Read.val_main_v5_eq ..).trans ?_)
    rw [e0, e1, e2]
    exact funext fun i => reference _ _ _ i

end Cert.GateUpDx
-- ==== Proof.GateUpDw.lean ====
module

public import proofs.«01_k».proof.Defs
public import proofs.«01_k».proof.Proof.Products
public import proofs.«01_k».proof.Proof.Gen.Kernel6
public import proofs.«01_k».proof.Proof.Gen.Kernel6Ideal.Frame
public import proofs.«01_k».proof.Proof.Gen.Reference6Ideal.Run
public import proofs.«01_k».proof.Proof.Gen.Reference6Ideal.Read

/-! The gradient of the weights of gate and up in their four parts of 1408 columns: the normed input and one part's gradient, one half of the
tokens at a point. -/

@[expose] public section

noncomputable section

namespace Cert.GateUpDw

open Idealize.ShloMosaic Idealize.ShloMosaic.TcCoe Idealize.SL.Sem Cert.Kernel6Ideal Cert.Kernel6Ideal.Gen Cert.Products

/-! ## One point -/

theorem first_sum (a : Vec Ideal S1024x1024 .bf16) (w : Vec Ideal S1024x1408 .bf16) : k0_pay3 a w = addCols a w (fun _ => 0) := by
  funext i
  pointwise [k0_pay3, k0_pay2, addCols]
theorem next_sum (a : Vec Ideal S1024x1024 .bf16) (w : Vec Ideal S1024x1408 .bf16) (p : Vec Ideal S1024x1408 .f32) :
    k0_pay1 (k0_pay4 a w p) = fun i => addCols a w p (ix2 (i 2) (i 3)) := by
  funext i
  pointwise [k0_pay1, k0_pay4, k0_pay2, addCols]

section
variable (m : (ℓ : Loc nD τ sig) → Buf (Elt Ideal) ℓ) (c : Dev nD) (t : Fin cfg0.N)

/-- The partial sums the point before left. -/
abbrev before : S1024x1408.Idx → EReal := (outsAt0 m c (t.val - 1) (Nat.lt_of_le_of_lt (Nat.sub_le _ _) t.isLt)).2

/-! Of each part the first half of the rows goes to the partial sums; with the second half the block is written. -/

theorem sums1 (hk : t.val < 4) (h : t.val % 2 = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

theorem written1 (hk : t.val < 4) (h : t.val % 2 = 1) :
    (outsAt0 m c t.val t.isLt).1 = fun i => addCols (iblk m c 0 t) (iblk m c 1 t) (before m c t) (ix2 (i 2) (i 3)) := by
  rw [outsAt0_B m c t] <;> try omega
  dsimp only
  unfold out0_B_3; rw [View.read_writes_eq_canon _ _ _ fun y => cover0_B_3 (y := y) ..]
  unfold kernelRun0_B
  dsimp only
  sl_unfold_words
  rw [stored4, View.readCov_unit_zero (S := S1024x1408) _ origin2, load2 (hs0_0 t), load2 (hs0_1 t), load2 (Memref.isWhole_whole cc0_scratch0)]
  exact next_sum _ _ _

theorem sums2 (hk : 4 ≤ t.val) (h : t.val % 2 = 0) : (outsAt0 m c t.val t.isLt).2 = addCols (iblk m c 0 t) (iblk m c 2 t) (fun _ => 0) := by
  rw [outsAt0_C m c t] <;> try omega
  dsimp only
  unfold sout0_C_0; rw [View.read_writes_eq_canon _ _ _ fun y => scover0_C_0 (y := y) ..]
  unfold kernelRun0_C
  dsimp only
  rw [stored2, load2 (hs0_0 t), load2 (hs0_2 t)]
  exact first_sum _ _

theorem written2 (hk : 4 ≤ t.val) (h : t.val % 2 = 1) :
    (outsAt0 m c t.val t.isLt).1 = fun i => addCols (iblk m c 0 t) (iblk m c 2 t) (before m c t) (ix2 (i 2) (i 3)) := by
  rw [outsAt0_D m c t] <;> try omega
  dsimp only
  unfold out0_D_3; rw [View.read_writes_eq_canon _ _ _ fun y => cover0_D_3 (y := y) ..]
  unfold kernelRun0_D
  dsimp only
  sl_unfold_words
  rw [stored4, View.readCov_unit_zero (S := S1024x1408) _ origin2, load2 (hs0_0 t), load2 (hs0_2 t), load2 (Memref.isWhole_whole cc0_scratch0)]
  exact next_sum _ _ _

/-- The block of part `k` that a point is given. -/
def given (k : Fin 4) : S1024x1408.Idx → EReal := match k with
  | ⟨0, _⟩ => iblk m c 1 t
  | ⟨1, _⟩ => iblk m c 1 t
  | ⟨2, _⟩ => iblk m c 2 t
  | ⟨3, _⟩ => iblk m c 2 t

theorem sums (k : Fin 4) : t.val = 2 * k.val → (outsAt0 m c t.val t.isLt).2 = addCols (iblk m c 0 t) (given m c t k) (fun _ => 0) :=
  match k with
  | ⟨0, _⟩ => fun h => sums1 m c t (by have : t.val = 2 * 0 := h; omega) (by have : t.val = 2 * 0 := h; omega)
  | ⟨1, _⟩ => fun h => sums1 m c t (by have : t.val = 2 * 1 := h; omega) (by have : t.val = 2 * 1 := h; omega)
  | ⟨2, _⟩ => fun h => sums2 m c t (by have : t.val = 2 * 2 := h; omega) (by have : t.val = 2 * 2 := h; omega)
  | ⟨3, _⟩ => fun h => sums2 m c t (by have : t.val = 2 * 3 := h; omega) (by have : t.val = 2 * 3 := h; omega)

theorem written (k : Fin 4) : t.val = 2 * k.val + 1 →
    (outsAt0 m c t.val t.isLt).1 = fun i => addCols (iblk m c 0 t) (given m c t k) (before m c t) (ix2 (i 2) (i 3)) :=
  match k with
  | ⟨0, _⟩ => fun h => written1 m c t (by have : t.val = 2 * 0 + 1 := h; omega) (by have : t.val = 2 * 0 + 1 := h; omega)
  | ⟨1, _⟩ => fun h => written1 m c t (by have : t.val = 2 * 1 + 1 := h; omega) (by have : t.val = 2 * 1 + 1 := h; omega)
  | ⟨2, _⟩ => fun h => written2 m c t (by have : t.val = 2 * 2 + 1 := h; omega) (by have : t.val = 2 * 2 + 1 := h; omega)
  | ⟨3, _⟩ => fun h => written2 m c t (by have : t.val = 2 * 3 + 1 := h; omega) (by have : t.val = 2 * 3 + 1 := h; omega)
end

/-! ## The array -/

theorem points : cfg0.N = 8 := by decide

/-- The point that takes half `h` of the rows of part `k`; the part's columns in the array it lies in. -/
def point (k : Fin 4) (h : Fin 2) : Fin cfg0.N := ⟨2 * k.val + h.val, by have := points; omega⟩
def col (k : Fin 4) (x : Fin 1408) : Fin 2816 := ⟨1408 * (k.val % 2) + x.val, by omega⟩

def partIndex : Fin 4 → Fin grid0.N → Fin 2 → ℕ := ![win0_1.index, win0_1.index, win0_2.index, win0_2.index]
theorem rows_index : ∀ (k : Fin 4) (h : Fin 2), win0_0.index (point k h) = ![h.val, 0] := by decide +kernel
theorem part_index : ∀ (k : Fin 4) (h : Fin 2), partIndex k (point k h) = ![h.val, k.val % 2] := by decide +kernel
theorem out_index : ∀ (k : Fin 4) (h : Fin 2), win0_3.index (point k h) = ![0, k.val, 0, 0] := by decide +kernel

section
variable (m : (ℓ : Loc nD τ sig) → Buf (Elt Ideal) ℓ) (c : Dev nD)

/-- The arguments, and the product entry by entry. -/
def rows : S2048x1024.Idx → EReal := m (c.tc.loc main_arg0)
def part : Fin 4 → S2048x2816.Idx → EReal :=
  ![m (c.tc.loc main_arg1), m (c.tc.loc main_arg1), m (c.tc.loc main_arg2), m (c.tc.loc main_arg2)]
def result : S1x4x1024x1408.Idx → EReal := fun i => ∑ e : Fin 2048, rows m c (ix2 e (i 2)) * part m c (i 1) (ix2 e (col (i 1) (i 3)))

theorem rows_at (k : Fin 4) (h : Fin 2) (e r : Fin 1024) : iblk m c 0 (point k h) (ix2 e r) = rows m c (ix2 (halfRow h e) r) :=
  same2 (rows m c) _ _ _ (place (congrFun (rows_index k h) 0)) (place0 (congrFun (rows_index k h) 1))

theorem given_at (k : Fin 4) (h : Fin 2) (e : Fin 1024) (x : Fin 1408) :
    given m c (point k h) k (ix2 e x) = part m c k (ix2 (halfRow h e) (col k x)) :=
  (match k with
  | ⟨0, _⟩ => fun h0 h1 => same2 (m (c.tc.loc main_arg1)) _ _ _ (place h0) (place h1)
  | ⟨1, _⟩ => fun h0 h1 => same2 (m (c.tc.loc main_arg1)) _ _ _ (place h0) (place h1)
  | ⟨2, _⟩ => fun h0 h1 => same2 (m (c.tc.loc main_arg2)) _ _ _ (place h0) (place h1)
  | ⟨3, _⟩ => fun h0 h1 => same2 (m (c.tc.loc main_arg2)) _ _ _ (place h0) (place h1)
  : partIndex k (point k h) 0 = h.val → partIndex k (point k h) 1 = k.val % 2 →
    given m c (point k h) k (ix2 e x) = part m c k (ix2 (halfRow h e) (col k x)))
    (congrFun (part_index k h) 0) (congrFun (part_index k h) 1)

theorem half (k : Fin 4) (h : Fin 2) (r : Fin 1024) (x : Fin 1408) (p : S1024x1408.Idx → EReal) :
    addCols (iblk m c 0 (point k h)) (given m c (point k h) k) p (ix2 r x)
      = p (ix2 r x) + ∑ e : Fin 1024, rows m c (ix2 (halfRow h e) r) * part m c k (ix2 (halfRow h e) (col k x)) :=
  congrArg (fun s : EReal => p (ix2 r x) + s)
    (Finset.sum_congr rfl fun e _ => congrArg₂ (fun x y : EReal => x * y) (rows_at m c k h e r) (given_at m c k h e x))

theorem written_at (k : Fin 4) (r : Fin 1024) (x : Fin 1408) :
    (outsAt0 m c (point k 1).val (point k 1).isLt).1 (ix4 0 0 r x) = result m c (ix4 0 k r x) := by
  refine (congrFun (written m c (point k 1) k rfl) _).trans ((half m c k 1 r x _).trans ?_)
  refine Eq.trans ?_ (two_halves fun e => rows m c (ix2 e r) * part m c k (ix2 e (col k x)))
  exact congrArg (fun s : EReal => s + _) ((congrFun (sums m c (point k 0) k rfl) (ix2 r x)).trans ((half m c k 0 r x _).trans (zero_add _)))

theorem flushed (k : Fin 4) : (cfg0.win 3).flush (point k 1) = true := (flush0_3 _).2 (by show (2 * k.val + 1) % 2 = 1; omega)

theorem covered (i : S1x4x1024x1408.Idx) : ∃ t : Fin cfg0.N, (cfg0.win 3).flush t = true ∧ i ∈ ((cfg0.win 3).blk t).view.set := by
  have h0 : (i 0 : ℕ) < 1 := (i 0).isLt
  have h1 : (i 1 : ℕ) < 4 := (i 1).isLt
  have h2 : (i 2 : ℕ) < 1024 := (i 2).isLt
  have h3 : (i 3 : ℕ) < 1408 := (i 3).isLt
  obtain ⟨k, hk⟩ : ∃ k : Fin 4, k.val = (i 1 : ℕ) / 1 := ⟨⟨(i 1 : ℕ) / 1, by omega⟩, rfl⟩
  refine ⟨point k 1, flushed k, ?_⟩
  show i ∈ ((View.whole main_v0).slice (win0_3.rect (point k 1))).set
  rw [View.set_slice_whole, Rect.mem_set_unit]
  exact fun d => match d with
  | ⟨0, _⟩ => within (i 0) (congrFun (out_index k 1) 0) (by show 0 = (i 0 : ℕ) / 1; omega) (by show 0 < 1; decide)
  | ⟨1, _⟩ => within (i 1) (congrFun (out_index k 1) 1) hk (by show 0 < 1; decide)
  | ⟨2, _⟩ => within (i 2) (congrFun (out_index k 1) 2) (by show 0 = (i 2 : ℕ) / 1024; omega) (by show 0 < 1024; decide)
  | ⟨3, _⟩ => within (i 3) (congrFun (out_index k 1) 3) (by show 0 = (i 3 : ℕ) / 1408; omega) (by show 0 < 1408; decide)

theorem point_of (t : Fin cfg0.N) (h : t.val % 2 = 1) : ∃ k : Fin 4, t = point k 1 :=
  ⟨⟨t.val / 2, by have := t.isLt; have := points; omega⟩, Fin.ext (by show t.val = 2 * (t.val / 2) + 1; omega)⟩

theorem array : (dats m 0 c).arrAt 3 cfg0.N = result m c := by
  refine (dats m 0 c).arrAt_eq_of_cover 3 (result m c) (fun t h => ?_) covered
  obtain ⟨k, rfl⟩ := point_of t ((flush0_3 t).1 h)
  show (cfg0.win 3).cut (grid0.coords _) ((dats m 0 c).after 3 _) = _
  rw [after0_3]
  funext y
  obtain ⟨u, v, r, x, rfl⟩ : ∃ (u v : Fin 1) (r : Fin 1024) (x : Fin 1408), y = ix4 u v r x := ⟨y 0, y 1, y 2, y 3, eq_ix4 y⟩
  obtain rfl : u = 0 := Subsingleton.elim _ _
  obtain rfl : v = 0 := Subsingleton.elim _ _
  refine (written_at m c k r x).trans ?_
  exact (same4 (result m c) _ _ _ _ _ (place1 (congrFun (out_index k 1) 0)) (place1 (congrFun (out_index k 1) 1))
    (place0 (congrFun (out_index k 1) 2)) (place0 (congrFun (out_index k 1) 3))).symm
end

/-! ## The reference -/

section
open Cert.Reference6Ideal.Read
variable (x0 : S2048x1024.Idx → EReal) (x1 x2 : S2048x2816.Idx → EReal)

/-- The array part `k` lies in. -/
def array_of : Fin 4 → Fin 2 := ![0, 0, 1, 1]
theorem array_of_val : ∀ k : Fin 4, (array_of k).val = k.val / 2 := by decide
theorem part_of (k : Fin 4) : (![x1, x2] : Fin 2 → S2048x2816.Idx → EReal) (array_of k) = (![x1, x1, x2, x2] : Fin 4 → S2048x2816.Idx → EReal) k := by
  fin_cases k <;> rfl

/-- Column `1408 k + x` of the joined gradients is column `x` of part `k`. -/
theorem joined (t : Fin 2048) (k : Fin 4) (x : Fin 1408) (i : Cert.Reference6Ideal.S2048x5632.Idx) (h0 : (i 0).val = t.val) (h1 : (i 1).val = 1408 * k.val + x.val) :
    val_main_v0 (F := Ideal) x1 x2 i = (![x1, x1, x2, x2] : Fin 4 → S2048x2816.Idx → EReal) k (ix2 t (col k x)) :=
  (concatenate_ofFn_apply (t := Cert.Reference6Ideal.S2048x5632) (s₁ := S2048x2816) 1 ![x1, x2] _ rfl 2816 rfl i (array_of k)
    (by rw [h1, array_of_val]; omega) (ix2 t (col k x))
    (by rw [h1]; show 1408 * (k.val % 2) + x.val = (1408 * k.val + x.val) % 2816; omega)
    (fun b hb => match b with
      | ⟨0, _⟩ => h0.symm
      | ⟨1, _⟩ => absurd rfl hb)).trans (congrFun (part_of x1 x2 k) _)

theorem product (k : Fin 4) (r : Fin 1024) (x : Fin 1408) (i : Cert.Reference6Ideal.S1024x5632.Idx) (h0 : (i 0).val = r.val) (h1 : (i 1).val = 1408 * k.val + x.val) :
    val_main_v2 (F := Ideal) x0 x1 x2 i = ∑ e : Fin 2048, x0 (ix2 e r) * (![x1, x1, x2, x2] : Fin 4 → S2048x2816.Idx → EReal) k (ix2 e (col k x)) := by
  refine (val_main_v2_apply ..).trans ((val_main_v1_apply ..).trans (Finset.sum_congr rfl fun e _ => ?_))
  exact congrArg₂ (· * ·) (same2 x0 _ e r rfl h0) (joined x1 x2 e k x _ rfl h1)

theorem reference (i : S1x4x1024x1408.Idx) : val_main_v5 (F := Ideal) x0 x1 x2 i =
    ∑ e : Fin 2048, x0 (ix2 e (i 2)) * (![x1, x1, x2, x2] : Fin 4 → S2048x2816.Idx → EReal) (i 1) (ix2 e (col (i 1) (i 3))) := by
  have h1 : (i 1).val < 4 := (i 1).isLt
  have h2 : (i 2).val < 1024 := (i 2).isLt
  have h3 : (i 3).val < 1408 := (i 3).isLt
  refine (val_main_v5_apply ..).trans ((val_main_v4_apply ..).trans ((val_main_v3_apply ..).trans (product x0 x1 x2 (i 1) (i 2) (i 3) _ ?_ ?_)))
  · show (((i 2).val * 4 + (i 1).val) * 1408 + (i 3).val) / 5632 = (i 2).val
    omega
  · show (((i 2).val * 4 + (i 1).val) * 1408 + (i 3).val) % 5632 = 1408 * (i 1).val + (i 3).val
    omega
end

/-! ## The claims -/

/-- The kernel and its idealisation are the same program, so one run is both programs' frame. -/
theorem same_body : @Cert.Kernel6.cc0_mm_gu_dw Bits _ _ = @Cert.Kernel6Ideal.cc0_mm_gu_dw Bits _ _ := rfl
theorem same_table : Cert.Kernel6.defs₀ (F := Bits) = Cert.Kernel6Ideal.defs₀ (F := Bits) :=
  congrArg _ (funext fun a => match a with | 0 => funext fun ⟨_, _⟩ => rfl)
theorem same_program : Cert.Kernel6.defs (F := Bits) = Cert.Kernel6Ideal.defs (F := Bits) := congrArg (Pipeline.defs _) same_table
theorem frame_kernel : Cert.quiescent_Kernel6 := fun m g _ => by
  rw [same_program]
  exact Cert.Kernel6Ideal.Gen.frame (F := Bits) m g
theorem preserves : Cert.preserves_Kernel6_Kernel6Ideal := trivial
theorem frame_ideal : Cert.quiescent_Kernel6Ideal := fun m g _ => Cert.Kernel6Ideal.Gen.frame m g
theorem frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem values : Cert.algebraic_Kernel6Ideal_Reference6Ideal := by
  intro m g m' g' _ hm
  refine ⟨fun c => result m c, ?_, ?_⟩
  · exact (θ_run Cert.Kernel6Ideal.defs _ _).mono (fun r h c => ⟨((h.1 c).1 3).trans (array m c), h.2 c⟩) (θ_run_and (run_main m g) (unchanged m g))
  · refine (θ_run Cert.Reference6Ideal.defs _ _).mono (fun r h c => ⟨?_, (h c).2⟩) (Cert.Reference6Ideal.Value.run (F := Ideal) m' g')
    obtain ⟨e0, e1, e2⟩ := hm c
    refine (h c).1.trans ((Cert.Reference6Ideal.Read.val_main_v5_eq ..).trans ?_)
    rw [e0, e1, e2]
    exact funext fun i => reference _ _ _ i

end Cert.GateUpDw
-- ==== Proof.DownDx.lean ====
module

public import proofs.«01_k».proof.Defs
public import proofs.«01_k».proof.Proof.Products
public import proofs.«01_k».proof.Proof.Gen.Kernel7
public import proofs.«01_k».proof.Proof.Gen.Kernel7Ideal.Frame
public import proofs.«01_k».proof.Proof.Gen.Reference7Ideal.Run
public import proofs.«01_k».proof.Proof.Gen.Reference7Ideal.Read

/-! The gradient of the feed-forward network's hidden rows: the rows' gradient times the transposed second weights, 512 rows at a
point. -/

@[expose] public section

noncomputable section

namespace Cert.DownDx

open Idealize.ShloMosaic Idealize.ShloMosaic.TcCoe Idealize.SL.Sem Cert.Kernel7Ideal Cert.Kernel7Ideal.Gen Cert.Products

/-- What a point writes. -/
theorem written (a : Vec Ideal S512x1024 .f32) (w : Vec Ideal S2816x1024 .bf16) : out0_2 a w = addRows a w (fun _ => 0) := by
  unfold out0_2
  rw [stored2, whole2, whole2]
  funext i
  pointwise [k0_pay1, addRows]

theorem points : cfg0.N = 4 := by decide

/-- The point of the `a`-th block of rows, and its rows. -/
def point (a : Fin 4) : Fin cfg0.N := ⟨a.val, by have := points; omega⟩
def row (a : Fin 4) (r : Fin 512) : Fin 2048 := ⟨512 * a.val + r.val, by omega⟩

theorem rows_index : ∀ a : Fin 4, win0_0.index (point a) = ![a.val, 0] := by decide +kernel
theorem weight_index : ∀ a : Fin 4, win0_1.index (point a) = ![0, 0] := by decide +kernel
theorem out_index : ∀ a : Fin 4, win0_2.index (point a) = ![a.val, 0] := by decide +kernel

section
variable (m : (ℓ : Loc nD τ sig) → Buf (Elt Ideal) ℓ) (c : Dev nD)

/-- The arguments, and the result entry by entry. -/
def rows : S2048x1024.Idx → EReal := m (c.tc.loc main_arg0)
def weights : S2816x1024.Idx → EReal := m (c.tc.loc main_arg1)
def result : S2048x2816.Idx → EReal := fun i => ∑ e : Fin 1024, rows m c (ix2 (i 0) e) * weights m c (ix2 (i 1) e)

theorem rows_at (a : Fin 4) (r : Fin 512) (e : Fin 1024) : iblk m c 0 (point a) (ix2 r e) = rows m c (ix2 (row a r) e) :=
  same2 (rows m c) _ _ _ (place (congrFun (rows_index a) 0)) (place0 (congrFun (rows_index a) 1))
theorem weight_at (a : Fin 4) (p : Fin 2816) (q : Fin 1024) : iblk m c 1 (point a) (ix2 p q) = weights m c (ix2 p q) :=
  same2 (weights m c) _ _ _ (place0 (congrFun (weight_index a) 0)) (place0 (congrFun (weight_index a) 1))

theorem written_at (a : Fin 4) (r : Fin 512) (x : Fin 2816) :
    out0_2 (iblk m c 0 (point a)) (iblk m c 1 (point a)) (ix2 r x) = result m c (ix2 (row a r) x) :=
  (congrFun (written _ _) _).trans ((zero_add _).trans (Finset.sum_congr rfl fun e _ =>
    congrArg₂ (fun x y : EReal => x * y) (rows_at m c a r e) (weight_at m c a x e)))

theorem covered (i : S2048x2816.Idx) : ∃ t : Fin cfg0.N, (cfg0.win 2).flush t = true ∧ i ∈ ((cfg0.win 2).blk t).view.set := by
  have h0 : (i 0 : ℕ) < 2048 := (i 0).isLt
  obtain ⟨a, ha⟩ : ∃ a : Fin 4, a.val = (i 0 : ℕ) / 512 := ⟨⟨(i 0 : ℕ) / 512, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 512; decide)
  | ⟨1, _⟩ => within (i 1) (congrFun (out_index a) 1) (Nat.div_eq_of_lt (i 1).isLt).symm (by show 0 < 2816; decide)

theorem point_of (t : Fin cfg0.N) : ∃ a : Fin 4, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 512) (x : Fin 2816), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference7Ideal.Read in
theorem reference (x0 : S2048x1024.Idx → EReal) (x1 : S2816x1024.Idx → EReal) (i : S2048x2816.Idx) :
    val_main_v3 (F := Ideal) x0 x1 i = ∑ e : Fin 1024, x0 (ix2 (i 0) e) * x1 (ix2 (i 1) e) := by
  refine (val_main_v3_apply ..).trans ((val_main_v2_apply ..).trans ((val_main_v1_apply ..).trans ?_))
  exact Finset.sum_congr rfl fun e _ => congrArg₂ (· * ·) ((val_main_v0_apply ..).trans (same2 x0 _ (i 0) e rfl rfl)) (same2 x1 _ (i 1) e rfl rfl)

/-! ## The claims -/

/-- The kernel and its idealisation are the same program, so one run is both programs' frame. -/
theorem same_body : @Cert.Kernel7.cc0_mm_down_dx Bits _ _ = @Cert.Kernel7Ideal.cc0_mm_down_dx Bits _ _ := rfl
theorem same_table : Cert.Kernel7.defs₀ (F := Bits) = Cert.Kernel7Ideal.defs₀ (F := Bits) :=
  congrArg _ (funext fun a => match a with | 0 => funext fun ⟨_, _⟩ => rfl)
theorem same_program : Cert.Kernel7.defs (F := Bits) = Cert.Kernel7Ideal.defs (F := Bits) := congrArg (Pipeline.defs _) same_table
theorem frame_kernel : Cert.quiescent_Kernel7 := fun m g _ => by
  rw [same_program]
  exact Cert.Kernel7Ideal.Gen.frame (F := Bits) m g
theorem preserves : Cert.preserves_Kernel7_Kernel7Ideal := trivial
theorem frame_ideal : Cert.quiescent_Kernel7Ideal := fun m g _ => Cert.Kernel7Ideal.Gen.frame m g
theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem values : Cert.algebraic_Kernel7Ideal_Reference7Ideal := by
  intro m g m' g' _ hm
  refine ⟨fun c => result m c, ?_, ?_⟩
  · exact (θ_run Cert.Kernel7Ideal.defs _ _).mono (fun r h c => ⟨((h.1 c).1 2).trans (array m c), h.2 c⟩) (θ_run_and (run_main m g) (unchanged m g))
  · refine (θ_run Cert.Reference7Ideal.defs _ _).mono (fun r h c => ⟨?_, (h c).2⟩) (Cert.Reference7Ideal.Value.run (F := Ideal) m' g')
    obtain ⟨e0, e1⟩ := hm c
    refine (h c).1.trans ((Cert.Reference7Ideal.Read.val_main_v3_eq ..).trans ?_)
    rw [e0, e1]
    exact funext fun i => reference _ _ i

end Cert.DownDx
-- ==== Proof.DownDw.lean ====
module

public import proofs.«01_k».proof.Defs
public import proofs.«01_k».proof.Proof.Products
public import proofs.«01_k».proof.Proof.Gen.Kernel8
public import proofs.«01_k».proof.Proof.Gen.Kernel8Ideal.Frame
public import proofs.«01_k».proof.Proof.Gen.Reference8Ideal.Run
public import proofs.«01_k».proof.Proof.Gen.Reference8Ideal.Read

/-! The gradient of the feed-forward network's second weights: one block of 1408 of its rows and one half of the tokens at a point. -/

@[expose] public section

noncomputable section

namespace Cert.DownDw

open Idealize.ShloMosaic Idealize.ShloMosaic.TcCoe Idealize.SL.Sem Cert.Kernel8Ideal Cert.Kernel8Ideal.Gen Cert.Products

/-! ## One point -/

theorem first_sum (a : Vec Ideal S1024x1408 .bf16) (w : Vec Ideal S1024x1024 .f32) : k0_pay2 a w = addCols a w (fun _ => 0) := by
  funext i
  pointwise [k0_pay2, k0_pay1, addCols]
theorem next_sum (a : Vec Ideal S1024x1408 .bf16) (w : Vec Ideal S1024x1024 .f32) (p : Vec Ideal S1408x1024 .f32) :
    k0_pay4 (k0_pay3 a w p) = fun i => addCols a w p (ix2 (i 1) (i 2)) := by
  funext i
  pointwise [k0_pay4, k0_pay3, k0_pay1, addCols]

section
variable (m : (ℓ : Loc nD τ sig) → Buf (Elt Ideal) ℓ) (c : Dev nD) (t : Fin cfg0.N)

/-- The partial sums the point before left. -/
abbrev before : S1408x1024.Idx → EReal := (outsAt0 m c (t.val - 1) (Nat.lt_of_le_of_lt (Nat.sub_le _ _) t.isLt)).2

/-- The first half of the rows goes to the partial sums. -/
theorem sums (h : t.val % 2 = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

/-- The second half is added to them and the block is written. -/
theorem written (h : t.val % 2 = 1) :
    (outsAt0 m c t.val t.isLt).1 = fun i => addCols (iblk m c 0 t) (iblk m c 1 t) (before m c t) (ix2 (i 1) (i 2)) := by
  rw [outsAt0_B m c t] <;> try omega
  dsimp only
  unfold out0_B_2; rw [View.read_writes_eq_canon _ _ _ fun y => cover0_B_2 (y := y) ..]
  unfold kernelRun0_B
  dsimp only
  sl_unfold_words
  rw [stored3, View.readCov_unit_zero (S := S1408x1024) _ origin2, load2 (hs0_0 t), load2 (hs0_1 t), load2 (Memref.isWhole_whole cc0_scratch0)]
  exact next_sum _ _ _
end

/-! ## The array -/

theorem points : cfg0.N = 4 := by decide

/-- The point that takes half `k` of the rows for the `a`-th block of the gradient; the block's rows. -/
def point (a : Fin 2) (k : Fin 2) : Fin cfg0.N := ⟨2 * a.val + k.val, by have := points; omega⟩
def place_of (a : Fin 2) (r : Fin 1408) : Fin 2816 := ⟨1408 * a.val + r.val, by omega⟩

theorem left_index : ∀ (a : Fin 2) (k : Fin 2), win0_0.index (point a k) = ![k.val, a.val] := by decide +kernel
theorem right_index : ∀ (a : Fin 2) (k : Fin 2), win0_1.index (point a k) = ![k.val, 0] := by decide +kernel
theorem out_index : ∀ (a : Fin 2) (k : Fin 2), win0_2.index (point a k) = ![0, a.val, 0] := by decide +kernel

section
variable (m : (ℓ : Loc nD τ sig) → Buf (Elt Ideal) ℓ) (c : Dev nD)

/-- The arguments, and the product entry by entry. -/
def left : S2048x2816.Idx → EReal := m (c.tc.loc main_arg0)
def right : S2048x1024.Idx → EReal := m (c.tc.loc main_arg1)
def result : S1x2816x1024.Idx → EReal := fun i => ∑ e : Fin 2048, left m c (ix2 e (i 1)) * right m c (ix2 e (i 2))

theorem left_at (a : Fin 2) (k : Fin 2) (e : Fin 1024) (r : Fin 1408) : iblk m c 0 (point a k) (ix2 e r) = left m c (ix2 (halfRow k e) (place_of a r)) :=
  same2 (left m c) _ _ _ (place (congrFun (left_index a k) 0)) (place (congrFun (left_index a k) 1))
theorem right_at (a : Fin 2) (k : Fin 2) (e x : Fin 1024) : iblk m c 1 (point a k) (ix2 e x) = right m c (ix2 (halfRow k e) x) :=
  same2 (right m c) _ _ _ (place (congrFun (right_index a k) 0)) (place0 (congrFun (right_index a k) 1))

theorem half (a : Fin 2) (k : Fin 2) (r : Fin 1408) (x : Fin 1024) (p : S1408x1024.Idx → EReal) :
    addCols (iblk m c 0 (point a k)) (iblk m c 1 (point a k)) p (ix2 r x)
      = p (ix2 r x) + ∑ e : Fin 1024, left m c (ix2 (halfRow k e) (place_of a r)) * right m c (ix2 (halfRow k e) x) :=
  congrArg (fun s : EReal => p (ix2 r x) + s)
    (Finset.sum_congr rfl fun e _ => congrArg₂ (fun x y : EReal => x * y) (left_at m c a k e r) (right_at m c a k e x))

theorem written_at (a : Fin 2) (r : Fin 1408) (x : Fin 1024) :
    (outsAt0 m c (point a 1).val (point a 1).isLt).1 (ix3 0 r x) = result m c (ix3 0 (place_of a r) x) := by
  refine (congrFun (written m c (point a 1) (by show (2 * a.val + 1) % 2 = 1; omega)) _).trans ?_
  refine (half m c a 1 r x _).trans (Eq.trans ?_ (two_halves fun e => left m c (ix2 e (place_of a r)) * right m c (ix2 e x)))
  exact congrArg (fun s : EReal => s + _) ((congrFun (sums m c (point a 0) (by show (2 * a.val + 0) % 2 = 0; omega)) (ix2 r x)).trans
    ((half m c a 0 r x _).trans (zero_add _)))

theorem flushed (a : Fin 2) : (cfg0.win 2).flush (point a 1) = true := (flush0_2 _).2 (by show (2 * a.val + 1) % 2 = 1; omega)

theorem covered (i : S1x2816x1024.Idx) : ∃ t : Fin cfg0.N, (cfg0.win 2).flush t = true ∧ i ∈ ((cfg0.win 2).blk t).view.set := by
  have h0 : (i 0 : ℕ) < 1 := (i 0).isLt
  have h1 : (i 1 : ℕ) < 2816 := (i 1).isLt
  have h2 : (i 2 : ℕ) < 1024 := (i 2).isLt
  obtain ⟨a, ha⟩ : ∃ a : Fin 2, a.val = (i 1 : ℕ) / 1408 := ⟨⟨(i 1 : ℕ) / 1408, by omega⟩, rfl⟩
  refine ⟨point a 1, flushed a, ?_⟩
  show i ∈ ((View.whole main_v0).slice (win0_2.rect (point a 1))).set
  rw [View.set_slice_whole, Rect.mem_set_unit]
  exact fun d => match d with
  | ⟨0, _⟩ => within (i 0) (congrFun (out_index a 1) 0) (by show 0 = (i 0 : ℕ) / 1; omega) (by show 0 < 1; decide)
  | ⟨1, _⟩ => within (i 1) (congrFun (out_index a 1) 1) ha (by show 0 < 1408; decide)
  | ⟨2, _⟩ => within (i 2) (congrFun (out_index a 1) 2) (by show 0 = (i 2 : ℕ) / 1024; omega) (by show 0 < 1024; decide)

theorem point_of (t : Fin cfg0.N) (h : t.val % 2 = 1) : ∃ a : Fin 2, t = point a 1 :=
  ⟨⟨t.val / 2, by have := t.isLt; have := points; omega⟩, Fin.ext (by show t.val = 2 * (t.val / 2) + 1; omega)⟩

theorem array : (dats m 0 c).arrAt 2 cfg0.N = result m c := by
  refine (dats m 0 c).arrAt_eq_of_cover 2 (result m c) (fun t h => ?_) covered
  obtain ⟨a, rfl⟩ := point_of t ((flush0_2 t).1 h)
  show (cfg0.win 2).cut (grid0.coords _) ((dats m 0 c).after 2 _) = _
  rw [after0_2]
  funext y
  obtain ⟨u, r, x, rfl⟩ : ∃ (u : Fin 1) (r : Fin 1408) (x : Fin 1024), y = ix3 u r x := ⟨y 0, y 1, y 2, eq_ix3 y⟩
  obtain rfl : u = 0 := Subsingleton.elim _ _
  refine (written_at m c a r x).trans ?_
  exact (same3 (result m c) _ _ _ _ (place1 (congrFun (out_index a 1) 0)) (place (congrFun (out_index a 1) 1)) (place0 (congrFun (out_index a 1) 2))).symm
end

/-! ## The reference -/

section
open Cert.Reference8Ideal.Read
variable (x0 : S2048x2816.Idx → EReal) (x1 : S2048x1024.Idx → EReal)

theorem reference (i : S1x2816x1024.Idx) :
    val_main_v3 (F := Ideal) x0 x1 i = ∑ e : Fin 2048, x0 (ix2 e (i 1)) * x1 (ix2 e (i 2)) := by
  refine (val_main_v3_apply ..).trans ((val_main_v2_apply ..).trans ((val_main_v1_apply ..).trans (Finset.sum_congr rfl fun e _ => ?_)))
  exact congrArg₂ (· * ·) (same2 x0 _ e (i 1) rfl rfl) ((val_main_v0_apply ..).trans (same2 x1 _ e (i 2) rfl rfl))
end

/-! ## The claims -/

/-- The kernel and its idealisation are the same program, so one run is both programs' frame. -/
theorem same_body : @Cert.Kernel8.cc0_mm_down_dw Bits _ _ = @Cert.Kernel8Ideal.cc0_mm_down_dw Bits _ _ := rfl
theorem same_table : Cert.Kernel8.defs₀ (F := Bits) = Cert.Kernel8Ideal.defs₀ (F := Bits) :=
  congrArg _ (funext fun a => match a with | 0 => funext fun ⟨_, _⟩ => rfl)
theorem same_program : Cert.Kernel8.defs (F := Bits) = Cert.Kernel8Ideal.defs (F := Bits) := congrArg (Pipeline.defs _) same_table
theorem frame_kernel : Cert.quiescent_Kernel8 := fun m g _ => by
  rw [same_program]
  exact Cert.Kernel8Ideal.Gen.frame (F := Bits) m g
theorem preserves : Cert.preserves_Kernel8_Kernel8Ideal := trivial
theorem frame_ideal : Cert.quiescent_Kernel8Ideal := fun m g _ => Cert.Kernel8Ideal.Gen.frame m g
theorem frame_reference : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

theorem values : Cert.algebraic_Kernel8Ideal_Reference8Ideal := by
  intro m g m' g' _ hm
  refine ⟨fun c => result m c, ?_, ?_⟩
  · exact (θ_run Cert.Kernel8Ideal.defs _ _).mono (fun r h c => ⟨((h.1 c).1 2).trans (array m c), h.2 c⟩) (θ_run_and (run_main m g) (unchanged m g))
  · refine (θ_run Cert.Reference8Ideal.defs _ _).mono (fun r h c => ⟨?_, (h c).2⟩) (Cert.Reference8Ideal.Value.run (F := Ideal) m' g')
    obtain ⟨e0, e1⟩ := hm c
    refine (h c).1.trans ((Cert.Reference8Ideal.Read.val_main_v3_eq ..).trans ?_)
    rw [e0, e1]
    exact funext fun i => reference _ _ i

end Cert.DownDw
-- ==== Proof.InA.lean ====
module

public import proofs.«01_k».proof.Defs
public import proofs.«01_k».proof.Proof.Products
public import proofs.«01_k».proof.Proof.Gen.Kernel9
public import proofs.«01_k».proof.Proof.Gen.Kernel9Ideal.Frame
public import proofs.«01_k».proof.Proof.Gen.Reference9Ideal.Run
public import proofs.«01_k».proof.Proof.Gen.Reference9Ideal.Read

/-! The projection into the short convolution's three streams: the normed input times the first three parts of the projection's weights,
one block of 1024 rows and 1024 columns at a point. -/

@[expose] public section

noncomputable section

namespace Cert.InA

open Idealize.ShloMosaic Idealize.ShloMosaic.TcCoe Idealize.SL.Sem Cert.Kernel9Ideal Cert.Kernel9Ideal.Gen Cert.Products

/-- What a point writes. -/
theorem written (a w : Vec Ideal S1024x1024 .bf16) : out0_2 a w = block a w := by
  unfold out0_2 r0_0
  rw [stored2, whole2, whole2]
  funext i
  pointwise [k0_pay1, block]

theorem points : cfg0.N = 6 := by decide

/-- The point of the `a`-th block of rows and the `b`-th of columns; their rows and columns, and those of the weights. -/
def point (a : Fin 2) (b : Fin 3) : Fin cfg0.N := ⟨3 * a.val + b.val, by have := points; omega⟩
def row (a : Fin 2) (r : Fin 1024) : Fin 2048 := ⟨1024 * a.val + r.val, by omega⟩
def col (b : Fin 3) (x : Fin 1024) : Fin 3072 := ⟨1024 * b.val + x.val, by omega⟩
def weightCol (x : Fin 3072) : Fin 11264 := ⟨x.val, by omega⟩

theorem rows_index : ∀ (a : Fin 2) (b : Fin 3), win0_0.index (point a b) = ![a.val, 0] := by decide +kernel
theorem weight_index : ∀ (a : Fin 2) (b : Fin 3), win0_1.index (point a b) = ![0, b.val] := by decide +kernel
theorem out_index : ∀ (a : Fin 2) (b : Fin 3), win0_2.index (point a b) = ![a.val, b.val] := by decide +kernel

section
variable (m : (ℓ : Loc nD τ sig) → Buf (Elt Ideal) ℓ) (c : Dev nD)

/-- The product, entry by entry. -/
def rows : S2048x1024.Idx → EReal := m (c.tc.loc main_arg0)
def weights : S1024x11264.Idx → EReal := m (c.tc.loc main_arg1)
def result : S2048x3072.Idx → EReal := fun i => ∑ e : Fin 1024, rows m c (ix2 (i 0) e) * weights m c (ix2 e (weightCol (i 1)))

theorem rows_at (a : Fin 2) (b : Fin 3) (r e : Fin 1024) : iblk m c 0 (point a b) (ix2 r e) = rows m c (ix2 (row a r) e) :=
  same2 (rows m c) _ _ _ (place (congrFun (rows_index a b) 0)) (place0 (congrFun (rows_index a b) 1))
theorem weight_at (a : Fin 2) (b : Fin 3) (e x : Fin 1024) :
    iblk m c 1 (point a b) (ix2 e x) = weights m c (ix2 e (weightCol (col b x))) :=
  same2 (weights m c) _ _ _ (place0 (congrFun (weight_index a b) 0)) (place (congrFun (weight_index a b) 1))

theorem written_at (a : Fin 2) (b : Fin 3) (r x : Fin 1024) :
    out0_2 (iblk m c 0 (point a b)) (iblk m c 1 (point a b)) (ix2 r x) = result m c (ix2 (row a r) (col b x)) :=
  (congrFun (written _ _) _).trans (Finset.sum_congr rfl fun e _ => congrArg₂ (fun x y : EReal => x * y) (rows_at m c a b r e) (weight_at m c a b e x))

theorem covered (i : S2048x3072.Idx) : ∃ t : Fin cfg0.N, (cfg0.win 2).flush t = true ∧ i ∈ ((cfg0.win 2).blk t).view.set := by
  have h0 : (i 0 : ℕ) < 2048 := (i 0).isLt
  have h1 : (i 1 : ℕ) < 3072 := (i 1).isLt
  obtain ⟨a, ha⟩ : ∃ a : Fin 2, a.val = (i 0 : ℕ) / 1024 := ⟨⟨(i 0 : ℕ) / 1024, by omega⟩, rfl⟩
  obtain ⟨b, hb⟩ : ∃ b : Fin 3, b.val = (i 1 : ℕ) / 1024 := ⟨⟨(i 1 : ℕ) / 1024, by omega⟩, rfl⟩
  refine ⟨point a b, flush0_2 _, ?_⟩
  show i ∈ ((View.whole main_v0).slice (win0_2.rect (point a b))).set
  rw [View.set_slice_whole, Rect.mem_set_unit]
  exact fun k => match k with
  | ⟨0, _⟩ => within (i 0) (congrFun (out_index a b) 0) ha (by show 0 < 1024; decide)
  | ⟨1, _⟩ => within (i 1) (congrFun (out_index a b) 1) hb (by show 0 < 1024; decide)

theorem point_of (t : Fin cfg0.N) : ∃ (a : Fin 2) (b : Fin 3), t = point a b :=
  ⟨⟨t.val / 3, by have := t.isLt; have := points; omega⟩, ⟨t.val % 3, by omega⟩, Fin.ext (by show t.val = 3 * (t.val / 3) + t.val % 3; omega)⟩

theorem array : (dats m 0 c).arrAt 2 cfg0.N = result m c := by
  refine (dats m 0 c).arrAt_eq_of_cover 2 (result m c) (fun t _ => ?_) covered
  obtain ⟨a, b, rfl⟩ := point_of t
  show (cfg0.win 2).cut (grid0.coords _) ((dats m 0 c).after 2 _) = _
  rw [after0_2]
  funext y
  obtain ⟨r, x, rfl⟩ : ∃ (r x : Fin 1024), y = ix2 r x := ⟨y 0, y 1, eq_ix2 y⟩
  refine (written_at m c a b r x).trans ?_
  exact (same2 (result m c) _ _ _ (place (congrFun (out_index a b) 0)) (place (congrFun (out_index a b) 1))).symm
end

/-! ## The reference -/

open Cert.Reference9Ideal.Read in
theorem reference (x0 : S2048x1024.Idx → EReal) (x1 : S1024x11264.Idx → EReal) (i : S2048x3072.Idx) :
    val_main_v2 (F := Ideal) x0 x1 i = ∑ e : Fin 1024, x0 (ix2 (i 0) e) * x1 (ix2 e (weightCol (i 1))) := by
  refine (val_main_v2_apply ..).trans ((val_main_v1_apply ..).trans (Finset.sum_congr rfl fun e _ => congrArg₂ (· * ·) (same2 x0 _ (i 0) e rfl rfl) ?_))
  refine (val_main_v0_apply ..).trans (same2 x1 _ e (weightCol (i 1)) ?_ ?_)
  all_goals simp [idx_main_v0, weightCol]

/-! ## The claims -/

/-- The kernel and its idealisation are the same program, so one run is both programs' frame. -/
theorem same_body : @Cert.Kernel9.cc0_mm_in_a Bits _ _ = @Cert.Kernel9Ideal.cc0_mm_in_a Bits _ _ := rfl
theorem same_table : Cert.Kernel9.defs₀ (F := Bits) = Cert.Kernel9Ideal.defs₀ (F := Bits) :=
  congrArg _ (funext fun a => match a with | 0 => funext fun ⟨_, _⟩ => rfl)
theorem same_program : Cert.Kernel9.defs (F := Bits) = Cert.Kernel9Ideal.defs (F := Bits) := congrArg (Pipeline.defs _) same_table
theorem frame_kernel : Cert.quiescent_Kernel9 := fun m g _ => by
  rw [same_program]
  exact Cert.Kernel9Ideal.Gen.frame (F := Bits) m g
theorem preserves : Cert.preserves_Kernel9_Kernel9Ideal := trivial
theorem frame_ideal : Cert.quiescent_Kernel9Ideal := fun m g _ => Cert.Kernel9Ideal.Gen.frame m g
theorem frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

theorem values : Cert.algebraic_Kernel9Ideal_Reference9Ideal := by
  intro m g m' g' _ hm
  refine ⟨fun c => result m c, ?_, ?_⟩
  · exact (θ_run Cert.Kernel9Ideal.defs _ _).mono (fun r h c => ⟨((h.1 c).1 2).trans (array m c), h.2 c⟩) (θ_run_and (run_main m g) (unchanged m g))
  · refine (θ_run Cert.Reference9Ideal.defs _ _).mono (fun r h c => ⟨?_, (h c).2⟩) (Cert.Reference9Ideal.Value.run (F := Ideal) m' g')
    obtain ⟨e0, e1⟩ := hm c
    refine (h c).1.trans ((Cert.Reference9Ideal.Read.val_main_v2_eq ..).trans ?_)
    rw [e0, e1]
    exact funext fun i => reference _ _ i

end Cert.InA
-- ==== Proof.InQkv.lean ====
module

public import proofs.«01_k».proof.Defs
public import proofs.«01_k».proof.Proof.Products
public import proofs.«01_k».proof.Proof.Gen.Kernel10
public import proofs.«01_k».proof.Proof.Gen.Kernel10Ideal.Frame
public import proofs.«01_k».proof.Proof.Gen.Reference10Ideal.Run
public import proofs.«01_k».proof.Proof.Gen.Reference10Ideal.Read

/-! The projection into the attention's queries, keys and values: the normed input times the fourth to sixth part of the projection's
weights, one block of 1024 rows and 1024 columns at a point. -/

@[expose] public section

noncomputable section

namespace Cert.InQkv

open Idealize.ShloMosaic Idealize.ShloMosaic.TcCoe Idealize.SL.Sem Cert.Kernel10Ideal Cert.Kernel10Ideal.Gen Cert.Products

/-- What a point writes. -/
theorem written (a w : Vec Ideal S1024x1024 .bf16) : out0_2 a w = block a w := by
  unfold out0_2 r0_0
  rw [stored2, whole2, whole2]
  funext i
  pointwise [k0_pay1, block]

theorem points : cfg0.N = 6 := by decide

/-- The point of the `a`-th block of rows and the `b`-th of columns; their rows and columns, and those of the weights. -/
def point (a : Fin 2) (b : Fin 3) : Fin cfg0.N := ⟨3 * a.val + b.val, by have := points; omega⟩
def row (a : Fin 2) (r : Fin 1024) : Fin 2048 := ⟨1024 * a.val + r.val, by omega⟩
def col (b : Fin 3) (x : Fin 1024) : Fin 3072 := ⟨1024 * b.val + x.val, by omega⟩
def weightCol (x : Fin 3072) : Fin 11264 := ⟨3072 + x.val, by omega⟩

theorem rows_index : ∀ (a : Fin 2) (b : Fin 3), win0_0.index (point a b) = ![a.val, 0] := by decide +kernel
theorem weight_index : ∀ (a : Fin 2) (b : Fin 3), win0_1.index (point a b) = ![0, 3 + b.val] := by decide +kernel
theorem out_index : ∀ (a : Fin 2) (b : Fin 3), win0_2.index (point a b) = ![a.val, b.val] := by decide +kernel

section
variable (m : (ℓ : Loc nD τ sig) → Buf (Elt Ideal) ℓ) (c : Dev nD)

/-- The product, entry by entry. -/
def rows : S2048x1024.Idx → EReal := m (c.tc.loc main_arg0)
def weights : S1024x11264.Idx → EReal := m (c.tc.loc main_arg1)
def result : S2048x3072.Idx → EReal := fun i => ∑ e : Fin 1024, rows m c (ix2 (i 0) e) * weights m c (ix2 e (weightCol (i 1)))

theorem rows_at (a : Fin 2) (b : Fin 3) (r e : Fin 1024) : iblk m c 0 (point a b) (ix2 r e) = rows m c (ix2 (row a r) e) :=
  same2 (rows m c) _ _ _ (place (congrFun (rows_index a b) 0)) (place0 (congrFun (rows_index a b) 1))
theorem weight_at (a : Fin 2) (b : Fin 3) (e x : Fin 1024) :
    iblk m c 1 (point a b) (ix2 e x) = weights m c (ix2 e (weightCol (col b x))) :=
  same2 (weights m c) _ _ _ (place0 (congrFun (weight_index a b) 0))
    ((place (congrFun (weight_index a b) 1)).trans (by show 1024 * (3 + b.val) + x.val = 3072 + (1024 * b.val + x.val); omega))

theorem written_at (a : Fin 2) (b : Fin 3) (r x : Fin 1024) :
    out0_2 (iblk m c 0 (point a b)) (iblk m c 1 (point a b)) (ix2 r x) = result m c (ix2 (row a r) (col b x)) :=
  (congrFun (written _ _) _).trans (Finset.sum_congr rfl fun e _ => congrArg₂ (fun x y : EReal => x * y) (rows_at m c a b r e) (weight_at m c a b e x))

theorem covered (i : S2048x3072.Idx) : ∃ t : Fin cfg0.N, (cfg0.win 2).flush t = true ∧ i ∈ ((cfg0.win 2).blk t).view.set := by
  have h0 : (i 0 : ℕ) < 2048 := (i 0).isLt
  have h1 : (i 1 : ℕ) < 3072 := (i 1).isLt
  obtain ⟨a, ha⟩ : ∃ a : Fin 2, a.val = (i 0 : ℕ) / 1024 := ⟨⟨(i 0 : ℕ) / 1024, by omega⟩, rfl⟩
  obtain ⟨b, hb⟩ : ∃ b : Fin 3, b.val = (i 1 : ℕ) / 1024 := ⟨⟨(i 1 : ℕ) / 1024, by omega⟩, rfl⟩
  refine ⟨point a b, flush0_2 _, ?_⟩
  show i ∈ ((View.whole main_v0).slice (win0_2.rect (point a b))).set
  rw [View.set_slice_whole, Rect.mem_set_unit]
  exact fun k => match k with
  | ⟨0, _⟩ => within (i 0) (congrFun (out_index a b) 0) ha (by show 0 < 1024; decide)
  | ⟨1, _⟩ => within (i 1) (congrFun (out_index a b) 1) hb (by show 0 < 1024; decide)

theorem point_of (t : Fin cfg0.N) : ∃ (a : Fin 2) (b : Fin 3), t = point a b :=
  ⟨⟨t.val / 3, by have := t.isLt; have := points; omega⟩, ⟨t.val % 3, by omega⟩, Fin.ext (by show t.val = 3 * (t.val / 3) + t.val % 3; omega)⟩

theorem array : (dats m 0 c).arrAt 2 cfg0.N = result m c := by
  refine (dats m 0 c).arrAt_eq_of_cover 2 (result m c) (fun t _ => ?_) covered
  obtain ⟨a, b, rfl⟩ := point_of t
  show (cfg0.win 2).cut (grid0.coords _) ((dats m 0 c).after 2 _) = _
  rw [after0_2]
  funext y
  obtain ⟨r, x, rfl⟩ : ∃ (r x : Fin 1024), y = ix2 r x := ⟨y 0, y 1, eq_ix2 y⟩
  refine (written_at m c a b r x).trans ?_
  exact (same2 (result m c) _ _ _ (place (congrFun (out_index a b) 0)) (place (congrFun (out_index a b) 1))).symm
end

/-! ## The reference -/

open Cert.Reference10Ideal.Read in
theorem reference (x0 : S2048x1024.Idx → EReal) (x1 : S1024x11264.Idx → EReal) (i : S2048x3072.Idx) :
    val_main_v2 (F := Ideal) x0 x1 i = ∑ e : Fin 1024, x0 (ix2 (i 0) e) * x1 (ix2 e (weightCol (i 1))) := by
  refine (val_main_v2_apply ..).trans ((val_main_v1_apply ..).trans (Finset.sum_congr rfl fun e _ => congrArg₂ (· * ·) (same2 x0 _ (i 0) e rfl rfl) ?_))
  refine (val_main_v0_apply ..).trans (same2 x1 _ e (weightCol (i 1)) ?_ ?_)
  all_goals simp [idx_main_v0, weightCol]

/-! ## The claims -/

/-- The kernel and its idealisation are the same program, so one run is both programs' frame. -/
theorem same_body : @Cert.Kernel10.cc0_mm_in_qkv Bits _ _ = @Cert.Kernel10Ideal.cc0_mm_in_qkv Bits _ _ := rfl
theorem same_table : Cert.Kernel10.defs₀ (F := Bits) = Cert.Kernel10Ideal.defs₀ (F := Bits) :=
  congrArg _ (funext fun a => match a with | 0 => funext fun ⟨_, _⟩ => rfl)
theorem same_program : Cert.Kernel10.defs (F := Bits) = Cert.Kernel10Ideal.defs (F := Bits) := congrArg (Pipeline.defs _) same_table
theorem frame_kernel : Cert.quiescent_Kernel10 := fun m g _ => by
  rw [same_program]
  exact Cert.Kernel10Ideal.Gen.frame (F := Bits) m g
theorem preserves : Cert.preserves_Kernel10_Kernel10Ideal := trivial
theorem frame_ideal : Cert.quiescent_Kernel10Ideal := fun m g _ => Cert.Kernel10Ideal.Gen.frame m g
theorem frame_reference : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

theorem values : Cert.algebraic_Kernel10Ideal_Reference10Ideal := by
  intro m g m' g' _ hm
  refine ⟨fun c => result m c, ?_, ?_⟩
  · exact (θ_run Cert.Kernel10Ideal.defs _ _).mono (fun r h c => ⟨((h.1 c).1 2).trans (array m c), h.2 c⟩) (θ_run_and (run_main m g) (unchanged m g))
  · refine (θ_run Cert.Reference10Ideal.defs _ _).mono (fun r h c => ⟨?_, (h c).2⟩) (Cert.Reference10Ideal.Value.run (F := Ideal) m' g')
    obtain ⟨e0, e1⟩ := hm c
    refine (h c).1.trans ((Cert.Reference10Ideal.Read.val_main_v2_eq ..).trans ?_)
    rw [e0, e1]
    exact funext fun i => reference _ _ i

end Cert.InQkv
-- ==== Proof.InCg.lean ====
module

public import proofs.«01_k».proof.Defs
public import proofs.«01_k».proof.Proof.Products
public import proofs.«01_k».proof.Proof.Gen.Kernel11
public import proofs.«01_k».proof.Proof.Gen.Kernel11Ideal.Frame
public import proofs.«01_k».proof.Proof.Gen.Reference11Ideal.Run
public import proofs.«01_k».proof.Proof.Gen.Reference11Ideal.Read

/-! The projection into the long convolution's two streams and the three gates: the normed input times the last five parts of the
projection's weights, one block of 1024 rows and 1024 columns at a point. -/

@[expose] public section

noncomputable section

namespace Cert.InCg

open Idealize.ShloMosaic Idealize.ShloMosaic.TcCoe Idealize.SL.Sem Cert.Kernel11Ideal Cert.Kernel11Ideal.Gen Cert.Products

/-- What a point writes. -/
theorem written (a w : Vec Ideal S1024x1024 .bf16) : out0_2 a w = block a w := by
  unfold out0_2 r0_0
  rw [stored2, whole2, whole2]
  funext i
  pointwise [k0_pay1, block]

theorem points : cfg0.N = 10 := by decide

/-- The point of the `a`-th block of rows and the `b`-th of columns; their rows and columns, and those of the weights. -/
def point (a : Fin 2) (b : Fin 5) : Fin cfg0.N := ⟨5 * a.val + b.val, by have := points; omega⟩
def row (a : Fin 2) (r : Fin 1024) : Fin 2048 := ⟨1024 * a.val + r.val, by omega⟩
def col (b : Fin 5) (x : Fin 1024) : Fin 5120 := ⟨1024 * b.val + x.val, by omega⟩
def weightCol (x : Fin 5120) : Fin 11264 := ⟨6144 + x.val, by omega⟩

theorem rows_index : ∀ (a : Fin 2) (b : Fin 5), win0_0.index (point a b) = ![a.val, 0] := by decide +kernel
theorem weight_index : ∀ (a : Fin 2) (b : Fin 5), win0_1.index (point a b) = ![0, 6 + b.val] := by decide +kernel
theorem out_index : ∀ (a : Fin 2) (b : Fin 5), win0_2.index (point a b) = ![a.val, b.val] := by decide +kernel

section
variable (m : (ℓ : Loc nD τ sig) → Buf (Elt Ideal) ℓ) (c : Dev nD)

/-- The product, entry by entry. -/
def rows : S2048x1024.Idx → EReal := m (c.tc.loc main_arg0)
def weights : S1024x11264.Idx → EReal := m (c.tc.loc main_arg1)
def result : S2048x5120.Idx → EReal := fun i => ∑ e : Fin 1024, rows m c (ix2 (i 0) e) * weights m c (ix2 e (weightCol (i 1)))

theorem rows_at (a : Fin 2) (b : Fin 5) (r e : Fin 1024) : iblk m c 0 (point a b) (ix2 r e) = rows m c (ix2 (row a r) e) :=
  same2 (rows m c) _ _ _ (place (congrFun (rows_index a b) 0)) (place0 (congrFun (rows_index a b) 1))
theorem weight_at (a : Fin 2) (b : Fin 5) (e x : Fin 1024) :
    iblk m c 1 (point a b) (ix2 e x) = weights m c (ix2 e (weightCol (col b x))) :=
  same2 (weights m c) _ _ _ (place0 (congrFun (weight_index a b) 0))
    ((place (congrFun (weight_index a b) 1)).trans (by show 1024 * (6 + b.val) + x.val = 6144 + (1024 * b.val + x.val); omega))

theorem written_at (a : Fin 2) (b : Fin 5) (r x : Fin 1024) :
    out0_2 (iblk m c 0 (point a b)) (iblk m c 1 (point a b)) (ix2 r x) = result m c (ix2 (row a r) (col b x)) :=
  (congrFun (written _ _) _).trans (Finset.sum_congr rfl fun e _ => congrArg₂ (fun x y : EReal => x * y) (rows_at m c a b r e) (weight_at m c a b e x))

theorem covered (i : S2048x5120.Idx) : ∃ t : Fin cfg0.N, (cfg0.win 2).flush t = true ∧ i ∈ ((cfg0.win 2).blk t).view.set := by
  have h0 : (i 0 : ℕ) < 2048 := (i 0).isLt
  have h1 : (i 1 : ℕ) < 5120 := (i 1).isLt
  obtain ⟨a, ha⟩ : ∃ a : Fin 2, a.val = (i 0 : ℕ) / 1024 := ⟨⟨(i 0 : ℕ) / 1024, by omega⟩, rfl⟩
  obtain ⟨b, hb⟩ : ∃ b : Fin 5, b.val = (i 1 : ℕ) / 1024 := ⟨⟨(i 1 : ℕ) / 1024, by omega⟩, rfl⟩
  refine ⟨point a b, flush0_2 _, ?_⟩
  show i ∈ ((View.whole main_v0).slice (win0_2.rect (point a b))).set
  rw [View.set_slice_whole, Rect.mem_set_unit]
  exact fun k => match k with
  | ⟨0, _⟩ => within (i 0) (congrFun (out_index a b) 0) ha (by show 0 < 1024; decide)
  | ⟨1, _⟩ => within (i 1) (congrFun (out_index a b) 1) hb (by show 0 < 1024; decide)

theorem point_of (t : Fin cfg0.N) : ∃ (a : Fin 2) (b : Fin 5), t = point a b :=
  ⟨⟨t.val / 5, by have := t.isLt; have := points; omega⟩, ⟨t.val % 5, by omega⟩, Fin.ext (by show t.val = 5 * (t.val / 5) + t.val % 5; omega)⟩

theorem array : (dats m 0 c).arrAt 2 cfg0.N = result m c := by
  refine (dats m 0 c).arrAt_eq_of_cover 2 (result m c) (fun t _ => ?_) covered
  obtain ⟨a, b, rfl⟩ := point_of t
  show (cfg0.win 2).cut (grid0.coords _) ((dats m 0 c).after 2 _) = _
  rw [after0_2]
  funext y
  obtain ⟨r, x, rfl⟩ : ∃ (r x : Fin 1024), y = ix2 r x := ⟨y 0, y 1, eq_ix2 y⟩
  refine (written_at m c a b r x).trans ?_
  exact (same2 (result m c) _ _ _ (place (congrFun (out_index a b) 0)) (place (congrFun (out_index a b) 1))).symm
end

/-! ## The reference -/

open Cert.Reference11Ideal.Read in
theorem reference (x0 : S2048x1024.Idx → EReal) (x1 : S1024x11264.Idx → EReal) (i : S2048x5120.Idx) :
    val_main_v2 (F := Ideal) x0 x1 i = ∑ e : Fin 1024, x0 (ix2 (i 0) e) * x1 (ix2 e (weightCol (i 1))) := by
  refine (val_main_v2_apply ..).trans ((val_main_v1_apply ..).trans (Finset.sum_congr rfl fun e _ => congrArg₂ (· * ·) (same2 x0 _ (i 0) e rfl rfl) ?_))
  refine (val_main_v0_apply ..).trans (same2 x1 _ e (weightCol (i 1)) ?_ ?_)
  all_goals simp [idx_main_v0, weightCol]

/-! ## The claims -/

/-- The kernel and its idealisation are the same program, so one run is both programs' frame. -/
theorem same_body : @Cert.Kernel11.cc0_mm_in_cg Bits _ _ = @Cert.Kernel11Ideal.cc0_mm_in_cg Bits _ _ := rfl
theorem same_table : Cert.Kernel11.defs₀ (F := Bits) = Cert.Kernel11Ideal.defs₀ (F := Bits) :=
  congrArg _ (funext fun a => match a with | 0 => funext fun ⟨_, _⟩ => rfl)
theorem same_program : Cert.Kernel11.defs (F := Bits) = Cert.Kernel11Ideal.defs (F := Bits) := congrArg (Pipeline.defs _) same_table
theorem frame_kernel : Cert.quiescent_Kernel11 := fun m g _ => by
  rw [same_program]
  exact Cert.Kernel11Ideal.Gen.frame (F := Bits) m g
theorem preserves : Cert.preserves_Kernel11_Kernel11Ideal := trivial
theorem frame_ideal : Cert.quiescent_Kernel11Ideal := fun m g _ => Cert.Kernel11Ideal.Gen.frame m g
theorem frame_reference : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

theorem values : Cert.algebraic_Kernel11Ideal_Reference11Ideal := by
  intro m g m' g' _ hm
  refine ⟨fun c => result m c, ?_, ?_⟩
  · exact (θ_run Cert.Kernel11Ideal.defs _ _).mono (fun r h c => ⟨((h.1 c).1 2).trans (array m c), h.2 c⟩) (θ_run_and (run_main m g) (unchanged m g))
  · refine (θ_run Cert.Reference11Ideal.defs _ _).mono (fun r h c => ⟨?_, (h c).2⟩) (Cert.Reference11Ideal.Value.run (F := Ideal) m' g')
    obtain ⟨e0, e1⟩ := hm c
    refine (h c).1.trans ((Cert.Reference11Ideal.Read.val_main_v2_eq ..).trans ?_)
    rw [e0, e1]
    exact funext fun i => reference _ _ i

end Cert.InCg
-- ==== Proof.GateUp.lean ====
module

public import proofs.«01_k».proof.Defs
public import proofs.«01_k».proof.Proof.Products
public import proofs.«01_k».proof.Proof.Gen.Kernel12
public import proofs.«01_k».proof.Proof.Gen.Kernel12Ideal.Frame
public import proofs.«01_k».proof.Proof.Gen.Reference12Ideal.Run
public import proofs.«01_k».proof.Proof.Gen.Reference12Ideal.Read

/-! The feed-forward network's gate and up halves: the normed input times the four parts of their weights, one block of 1024 rows and
one part of 1408 columns at a point. -/

@[expose] public section

noncomputable section

namespace Cert.GateUp

open Idealize.ShloMosaic Idealize.ShloMosaic.TcCoe Idealize.SL.Sem Cert.Kernel12Ideal Cert.Kernel12Ideal.Gen Cert.Products

/-! ## One point -/

theorem first_part (a : Vec Ideal S1024x1024 .bf16) (w : Vec Ideal S1x1024x1408 .bf16) :
    k0_pay1 a w = block a (fun i : S1024x1408.Idx => w (ix3 0 (i 0) (i 1))) := by
  funext i
  pointwise [k0_pay1, block]
theorem other_part (a : Vec Ideal S1024x1024 .bf16) (w : Vec Ideal S1x1024x1408 .bf16) :
    k0_pay2 a w = k0_pay1 a w ∧ k0_pay3 a w = k0_pay1 a w ∧ k0_pay4 a w = k0_pay1 a w := ⟨rfl, rfl, rfl⟩

section
variable (m : (ℓ : Loc nD τ sig) → Buf (Elt Ideal) ℓ) (c : Dev nD) (t : Fin cfg0.N)

/-- Part `k` of the weights, as a point is given it. -/
def weight (k : Fin 4) : S1024x1408.Idx → EReal := fun i => match k with
  | ⟨0, _⟩ => iblk m c 1 t (ix3 0 (i 0) (i 1))
  | ⟨1, _⟩ => iblk m c 2 t (ix3 0 (i 0) (i 1))
  | ⟨2, _⟩ => iblk m c 3 t (ix3 0 (i 0) (i 1))
  | ⟨3, _⟩ => iblk m c 4 t (ix3 0 (i 0) (i 1))

theorem written0 (h : t.val % 4 = 0) : outsAt0 m c t.val t.isLt = block (iblk m c 0 t) (weight m c t 0) := by
  rw [outsAt0_A m c t] <;> try omega
  unfold out0_A_5; rw [View.read_writes_eq_canon _ _ _ fun y => cover0_A_5 (y := y) ..]
  unfold kernelRun0_A
  dsimp only
  rw [stored2, load2 (hs0_0 t), load3 (hs0_1 t)]
  exact first_part _ _

theorem written1 (h : t.val % 4 = 1) : outsAt0 m c t.val t.isLt = block (iblk m c 0 t) (weight m c t 1) := by
  rw [outsAt0_B m c t] <;> try omega
  unfold out0_B_5; rw [View.read_writes_eq_canon _ _ _ fun y => cover0_B_5 (y := y) ..]
  unfold kernelRun0_B
  dsimp only
  rw [stored2, load2 (hs0_0 t), load3 (hs0_2 t)]
  exact (other_part _ _).1.trans (first_part _ _)

theorem written2 (h : t.val % 4 = 2) : outsAt0 m c t.val t.isLt = block (iblk m c 0 t) (weight m c t 2) := by
  rw [outsAt0_C m c t] <;> try omega
  unfold out0_C_5; rw [View.read_writes_eq_canon _ _ _ fun y => cover0_C_5 (y := y) ..]
  unfold kernelRun0_C
  dsimp only
  rw [stored2, load2 (hs0_0 t), load3 (hs0_3 t)]
  exact (other_part _ _).2.1.trans (first_part _ _)

theorem written3 (h : t.val % 4 = 3) : outsAt0 m c t.val t.isLt = block (iblk m c 0 t) (weight m c t 3) := by
  rw [outsAt0_D m c t] <;> try omega
  unfold out0_D_5; rw [View.read_writes_eq_canon _ _ _ fun y => cover0_D_5 (y := y) ..]
  unfold kernelRun0_D
  dsimp only
  rw [stored2, load2 (hs0_0 t), load3 (hs0_4 t)]
  exact (other_part _ _).2.2.trans (first_part _ _)

theorem written (k : Fin 4) : t.val % 4 = k.val → outsAt0 m c t.val t.isLt = block (iblk m c 0 t) (weight m c t k) :=
  match k with
  | ⟨0, _⟩ => fun h => written0 m c t h
  | ⟨1, _⟩ => fun h => written1 m c t h
  | ⟨2, _⟩ => fun h => written2 m c t h
  | ⟨3, _⟩ => fun h => written3 m c t h
end

/-! ## The array -/

theorem points : cfg0.N = 8 := by decide

/-- The point of the `a`-th block of rows and part `k`; the block's rows, the part's columns. -/
def point (a : Fin 2) (k : Fin 4) : Fin cfg0.N := ⟨4 * a.val + k.val, by have := points; omega⟩
def row (a : Fin 2) (r : Fin 1024) : Fin 2048 := ⟨1024 * a.val + r.val, by omega⟩
def col (k : Fin 4) (x : Fin 1408) : Fin 5632 := ⟨1408 * k.val + x.val, by omega⟩
/-- The part a column lies in, and its place there. -/
def part (x : Fin 5632) : Fin 4 := ⟨x.val / 1408, by omega⟩
def inside (x : Fin 5632) : Fin 1408 := ⟨x.val % 1408, by omega⟩
theorem part_col (k : Fin 4) (x : Fin 1408) : part (col k x) = k := Fin.ext (by show (1408 * k.val + x.val) / 1408 = k.val; omega)
theorem inside_col (k : Fin 4) (x : Fin 1408) : inside (col k x) = x := Fin.ext (by show (1408 * k.val + x.val) % 1408 = x.val; omega)

def weightIndex : Fin 4 → Fin grid0.N → Fin 3 → ℕ := ![win0_1.index, win0_2.index, win0_3.index, win0_4.index]
theorem rows_index : ∀ (a : Fin 2) (k : Fin 4), win0_0.index (point a k) = ![a.val, 0] := by decide +kernel
theorem weight_index : ∀ (a : Fin 2) (k : Fin 4), weightIndex k (point a k) = ![k.val, 0, 0] := by decide +kernel
theorem out_index : ∀ (a : Fin 2) (k : Fin 4), win0_5.index (point a k) = ![a.val, k.val] := by decide +kernel

section
variable (m : (ℓ : Loc nD τ sig) → Buf (Elt Ideal) ℓ) (c : Dev nD)

/-- The arguments, and the product entry by entry. -/
def rows : S2048x1024.Idx → EReal := m (c.tc.loc main_arg0)
def weights : S4x1024x1408.Idx → EReal := m (c.tc.loc main_arg1)
def result : S2048x5632.Idx → EReal := fun i =>
  ∑ e : Fin 1024, rows m c (ix2 (i 0) e) * weights m c (ix3 (part (i 1)) e (inside (i 1)))

theorem rows_at (a : Fin 2) (k : Fin 4) (r e : Fin 1024) : iblk m c 0 (point a k) (ix2 r e) = rows m c (ix2 (row a r) e) :=
  same2 (rows m c) _ _ _ (place (congrFun (rows_index a k) 0)) (place0 (congrFun (rows_index a k) 1))

theorem weight_at (a : Fin 2) (k : Fin 4) (e : Fin 1024) (x : Fin 1408) :
    weight m c (point a k) k (ix2 e x) = weights m c (ix3 (part (col k x)) e (inside (col k x))) := by
  rw [part_col, inside_col]
  exact (match k with
  | ⟨0, _⟩ => fun h0 h1 h2 => same3 (weights m c) _ _ _ _ (place1 h0) (place0 h1) (place0 h2)
  | ⟨1, _⟩ => fun h0 h1 h2 => same3 (weights m c) _ _ _ _ (place1 h0) (place0 h1) (place0 h2)
  | ⟨2, _⟩ => fun h0 h1 h2 => same3 (weights m c) _ _ _ _ (place1 h0) (place0 h1) (place0 h2)
  | ⟨3, _⟩ => fun h0 h1 h2 => same3 (weights m c) _ _ _ _ (place1 h0) (place0 h1) (place0 h2)
  : weightIndex k (point a k) 0 = k.val → weightIndex k (point a k) 1 = 0 → weightIndex k (point a k) 2 = 0 →
    weight m c (point a k) k (ix2 e x) = weights m c (ix3 k e x))
    (congrFun (weight_index a k) 0) (congrFun (weight_index a k) 1) (congrFun (weight_index a k) 2)

theorem written_at (a : Fin 2) (k : Fin 4) (r : Fin 1024) (x : Fin 1408) :
    outsAt0 m c (point a k).val (point a k).isLt (ix2 r x) = result m c (ix2 (row a r) (col k x)) :=
  (congrFun (written m c (point a k) k (by show (4 * a.val + k.val) % 4 = k.val; omega)) _).trans
    (Finset.sum_congr rfl fun e _ => congrArg₂ (fun x y : EReal => x * y) (rows_at m c a k r e) (weight_at m c a k e x))

theorem covered (i : S2048x5632.Idx) : ∃ t : Fin cfg0.N, (cfg0.win 5).flush t = true ∧ i ∈ ((cfg0.win 5).blk t).view.set := by
  have h0 : (i 0 : ℕ) < 2048 := (i 0).isLt
  have h1 : (i 1 : ℕ) < 5632 := (i 1).isLt
  obtain ⟨a, ha⟩ : ∃ a : Fin 2, a.val = (i 0 : ℕ) / 1024 := ⟨⟨(i 0 : ℕ) / 1024, by omega⟩, rfl⟩
  obtain ⟨k, hk⟩ : ∃ k : Fin 4, k.val = (i 1 : ℕ) / 1408 := ⟨⟨(i 1 : ℕ) / 1408, by omega⟩, rfl⟩
  refine ⟨point a k, flush0_5 _, ?_⟩
  show i ∈ ((View.whole main_v0).slice (win0_5.rect (point a k))).set
  rw [View.set_slice_whole, Rect.mem_set_unit]
  exact fun d => match d with
  | ⟨0, _⟩ => within (i 0) (congrFun (out_index a k) 0) ha (by show 0 < 1024; decide)
  | ⟨1, _⟩ => within (i 1) (congrFun (out_index a k) 1) hk (by show 0 < 1408; decide)

theorem point_of (t : Fin cfg0.N) : ∃ (a : Fin 2) (k : Fin 4), t = point a k :=
  ⟨⟨t.val / 4, by have := t.isLt; have := points; omega⟩, ⟨t.val % 4, by omega⟩, Fin.ext (by show t.val = 4 * (t.val / 4) + t.val % 4; omega)⟩

theorem array : (dats m 0 c).arrAt 5 cfg0.N = result m c := by
  refine (dats m 0 c).arrAt_eq_of_cover 5 (result m c) (fun t _ => ?_) covered
  obtain ⟨a, k, rfl⟩ := point_of t
  show (cfg0.win 5).cut (grid0.coords _) ((dats m 0 c).after 5 _) = _
  rw [after0_5]
  funext y
  obtain ⟨r, x, rfl⟩ : ∃ (r : Fin 1024) (x : Fin 1408), y = ix2 r x := ⟨y 0, y 1, eq_ix2 y⟩
  refine (written_at m c a k r x).trans ?_
  exact (same2 (result m c) _ _ _ (place (congrFun (out_index a k) 0)) (place (congrFun (out_index a k) 1))).symm
end

/-! ## The reference -/

section
open Cert.Reference12Ideal.Read
variable (x0 : S2048x1024.Idx → EReal) (x1 : S4x1024x1408.Idx → EReal)

theorem joined (e : Fin 1024) (x : Fin 5632) (i : Cert.Reference12Ideal.S1024x5632.Idx) (h0 : (i 0).val = e.val) (h1 : (i 1).val = x.val) :
    val_main_v1 (F := Ideal) x1 i = x1 (ix3 (part x) e (inside x)) := by
  refine (val_main_v1_apply ..).trans ((val_main_v0_apply ..).trans (same3 x1 _ (part x) e (inside x) ?_ ?_ ?_))
  all_goals simp [idx_main_v0, idx_main_v1, part, inside, h0, h1]
  all_goals omega

theorem reference (i : S2048x5632.Idx) :
    val_main_v3 (F := Ideal) x0 x1 i = ∑ e : Fin 1024, x0 (ix2 (i 0) e) * x1 (ix3 (part (i 1)) e (inside (i 1))) := by
  refine (val_main_v3_apply ..).trans ((val_main_v2_apply ..).trans (Finset.sum_congr rfl fun e _ => ?_))
  exact congrArg₂ (· * ·) (same2 x0 _ (i 0) e rfl rfl) (joined x1 e (i 1) _ rfl rfl)
end

/-! ## The claims -/

/-- The kernel and its idealisation are the same program, so one run is both programs' frame. -/
theorem same_body : @Cert.Kernel12.cc0_mm_gu Bits _ _ = @Cert.Kernel12Ideal.cc0_mm_gu Bits _ _ := rfl
theorem same_table : Cert.Kernel12.defs₀ (F := Bits) = Cert.Kernel12Ideal.defs₀ (F := Bits) :=
  congrArg _ (funext fun a => match a with | 0 => funext fun ⟨_, _⟩ => rfl)
theorem same_program : Cert.Kernel12.defs (F := Bits) = Cert.Kernel12Ideal.defs (F := Bits) := congrArg (Pipeline.defs _) same_table
theorem frame_kernel : Cert.quiescent_Kernel12 := fun m g _ => by
  rw [same_program]
  exact Cert.Kernel12Ideal.Gen.frame (F := Bits) m g
theorem preserves : Cert.preserves_Kernel12_Kernel12Ideal := trivial
theorem frame_ideal : Cert.quiescent_Kernel12Ideal := fun m g _ => Cert.Kernel12Ideal.Gen.frame m g
theorem frame_reference : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

theorem values : Cert.algebraic_Kernel12Ideal_Reference12Ideal := by
  intro m g m' g' _ hm
  refine ⟨fun c => result m c, ?_, ?_⟩
  · exact (θ_run Cert.Kernel12Ideal.defs _ _).mono (fun r h c => ⟨((h.1 c).1 5).trans (array m c), h.2 c⟩) (θ_run_and (run_main m g) (unchanged m g))
  · refine (θ_run Cert.Reference12Ideal.defs _ _).mono (fun r h c => ⟨?_, (h c).2⟩) (Cert.Reference12Ideal.Value.run (F := Ideal) m' g')
    obtain ⟨e0, e1⟩ := hm c
    refine (h c).1.trans ((Cert.Reference12Ideal.Read.val_main_v3_eq ..).trans ?_)
    rw [e0, e1]
    exact funext fun i => reference _ _ i

end Cert.GateUp
-- ==== Proof.Down.lean ====
module

public import proofs.«01_k».proof.Defs
public import proofs.«01_k».proof.Proof.Products
public import proofs.«01_k».proof.Proof.Gen.Kernel13
public import proofs.«01_k».proof.Proof.Gen.Kernel13Ideal.Frame
public import proofs.«01_k».proof.Proof.Gen.Reference13Ideal.Run
public import proofs.«01_k».proof.Proof.Gen.Reference13Ideal.Read

/-! The feed-forward network's second product, added to the rows that enter the network: 1024 rows at a point. -/

@[expose] public section

noncomputable section

namespace Cert.Down

open Idealize.ShloMosaic Idealize.ShloMosaic.TcCoe Idealize.SL.Sem Cert.Kernel13Ideal Cert.Kernel13Ideal.Gen Cert.Products

/-- What a point writes. -/
theorem written (a : Vec Ideal S1024x2816 .bf16) (w : Vec Ideal S2816x1024 .bf16) (z : Vec Ideal S1024x1024 .f32) : out0_3 a w z = fun i => block a w i + z i := by
  unfold out0_3
  rw [stored2, whole2, whole2, whole2]
  funext i
  pointwise [k0_pay1, block]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem add_index : ∀ a : Fin 2, win0_2.index (point a) = ![a.val, 0] := by decide +kernel
theorem out_index : ∀ a : Fin 2, win0_3.index (point a) = ![a.val, 0] := by decide +kernel

section
variable (m : (ℓ : Loc nD τ sig) → Buf (Elt Ideal) ℓ) (c : Dev nD)

/-- The arguments, and the result entry by entry. -/
def rows : S2048x2816.Idx → EReal := m (c.tc.loc main_arg0)
def weights : S2816x1024.Idx → EReal := m (c.tc.loc main_arg1)
def added : S2048x1024.Idx → EReal := m (c.tc.loc main_arg2)
def result : S2048x1024.Idx → EReal := fun i => (∑ e : Fin 2816, rows m c (ix2 (i 0) e) * weights m c (ix2 e (i 1))) + added m c i

theorem rows_at (a : Fin 2) (r : Fin 1024) (e : Fin 2816) : iblk m c 0 (point a) (ix2 r e) = rows m c (ix2 (row a r) e) :=
  same2 (rows m c) _ _ _ (place (congrFun (rows_index a) 0)) (place0 (congrFun (rows_index a) 1))
theorem weight_at (a : Fin 2) (p : Fin 2816) (q : Fin 1024) : iblk m c 1 (point a) (ix2 p q) = weights m c (ix2 p q) :=
  same2 (weights m c) _ _ _ (place0 (congrFun (weight_index a) 0)) (place0 (congrFun (weight_index a) 1))
theorem added_at (a : Fin 2) (r : Fin 1024) (x : Fin 1024) : iblk m c 2 (point a) (ix2 r x) = added m c (ix2 (row a r) x) :=
  same2 (added m c) _ _ _ (place (congrFun (add_index a) 0)) (place0 (congrFun (add_index a) 1))

theorem written_at (a : Fin 2) (r : Fin 1024) (x : Fin 1024) :
    out0_3 (iblk m c 0 (point a)) (iblk m c 1 (point a)) (iblk m c 2 (point a)) (ix2 r x) = result m c (ix2 (row a r) x) :=
  (congrFun (written _ _ _) _).trans (congrArg₂ (fun x y : EReal => x + y) (Finset.sum_congr rfl fun e _ =>
    congrArg₂ (fun x y : EReal => x * y) (rows_at m c a r e) (weight_at m c a e x)) (added_at m c a r x))

theorem covered (i : S2048x1024.Idx) : ∃ t : Fin cfg0.N, (cfg0.win 3).flush t = true ∧ i ∈ ((cfg0.win 3).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_3 _, ?_⟩
  show i ∈ ((View.whole main_v0).slice (win0_3.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 1024; decide)

theorem point_of (t : Fin cfg0.N) : ∃ a : Fin 2, t = point a := ⟨⟨t.val, by have := t.isLt; have := points; omega⟩, rfl⟩

theorem array : (dats m 0 c).arrAt 3 cfg0.N = result m c := by
  refine (dats m 0 c).arrAt_eq_of_cover 3 (result m c) (fun t _ => ?_) covered
  obtain ⟨a, rfl⟩ := point_of t
  show (cfg0.win 3).cut (grid0.coords _) ((dats m 0 c).after 3 _) = _
  rw [after0_3]
  funext y
  obtain ⟨r, x, rfl⟩ : ∃ (r : Fin 1024) (x : Fin 1024), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference13Ideal.Read in
theorem reference (x0 : S2048x2816.Idx → EReal) (x1 : S2816x1024.Idx → EReal) (x2 : S2048x1024.Idx → EReal) (i : S2048x1024.Idx) :
    val_main_v3 (F := Ideal) x0 x1 x2 i = (∑ e : Fin 2816, x0 (ix2 (i 0) e) * x1 (ix2 e (i 1))) + x2 i := by
  refine (val_main_v3_apply ..).trans ((add_comm (x2 i) _).trans (congrArg (· + x2 i) ?_))
  refine (val_main_v2_apply ..).trans ((val_main_v1_apply ..).trans ((val_main_v0_apply ..).trans ?_))
  exact Finset.sum_congr rfl fun e _ => congrArg₂ (· * ·) (same2 x0 _ (i 0) e rfl rfl) (same2 x1 _ e (i 1) rfl rfl)

/-! ## The claims -/

/-- The kernel and its idealisation are the same program, so one run is both programs' frame. -/
theorem same_body : @Cert.Kernel13.cc0_mm_down Bits _ _ = @Cert.Kernel13Ideal.cc0_mm_down Bits _ _ := rfl
theorem same_table : Cert.Kernel13.defs₀ (F := Bits) = Cert.Kernel13Ideal.defs₀ (F := Bits) :=
  congrArg _ (funext fun a => match a with | 0 => funext fun ⟨_, _⟩ => rfl)
theorem same_program : Cert.Kernel13.defs (F := Bits) = Cert.Kernel13Ideal.defs (F := Bits) := congrArg (Pipeline.defs _) same_table
theorem frame_kernel : Cert.quiescent_Kernel13 := fun m g _ => by
  rw [same_program]
  exact Cert.Kernel13Ideal.Gen.frame (F := Bits) m g
theorem preserves : Cert.preserves_Kernel13_Kernel13Ideal := trivial
theorem frame_ideal : Cert.quiescent_Kernel13Ideal := fun m g _ => Cert.Kernel13Ideal.Gen.frame m g
theorem frame_reference : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

theorem values : Cert.algebraic_Kernel13Ideal_Reference13Ideal := by
  intro m g m' g' _ hm
  refine ⟨fun c => result m c, ?_, ?_⟩
  · exact (θ_run Cert.Kernel13Ideal.defs _ _).mono (fun r h c => ⟨((h.1 c).1 3).trans (array m c), h.2 c⟩) (θ_run_and (run_main m g) (unchanged m g))
  · refine (θ_run Cert.Reference13Ideal.defs _ _).mono (fun r h c => ⟨?_, (h c).2⟩) (Cert.Reference13Ideal.Value.run (F := Ideal) m' g')
    obtain ⟨e0, e1, e2⟩ := hm c
    refine (h c).1.trans ((Cert.Reference13Ideal.Read.val_main_v3_eq ..).trans ?_)
    rw [e0, e1, e2]
    exact funext fun i => reference _ _ _ i

end Cert.Down
-- ==== Proof.OutDx.lean ====
module

public import proofs.«01_k».proof.Defs
public import proofs.«01_k».proof.Proof.Products
public import proofs.«01_k».proof.Proof.Gen.Kernel14
public import proofs.«01_k».proof.Proof.Gen.Kernel14Ideal.Frame
public import proofs.«01_k».proof.Proof.Gen.Reference14Ideal.Run
public import proofs.«01_k».proof.Proof.Gen.Reference14Ideal.Read

/-! The gradient of a branch's rows through its output product: 1024 rows at a point. -/

@[expose] public section

noncomputable section

namespace Cert.OutDx

open Idealize.ShloMosaic Idealize.ShloMosaic.TcCoe Idealize.SL.Sem Cert.Kernel14Ideal Cert.Kernel14Ideal.Gen Cert.Products

/-- What a point writes. -/
theorem written (a : Vec Ideal S1024x1024 .bf16) (w : Vec Ideal S1024x1024 .bf16) : out0_2 a w = addRows a w (fun _ => 0) := by
  unfold out0_2
  rw [stored2, whole2, whole2]
  funext i
  pointwise [k0_pay1, addRows]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem out_index : ∀ a : Fin 2, win0_2.index (point a) = ![a.val, 0] := by decide +kernel

section
variable (m : (ℓ : Loc nD τ sig) → Buf (Elt Ideal) ℓ) (c : Dev nD)

/-- The arguments, and the result entry by entry. -/
def rows : S2048x1024.Idx → EReal := m (c.tc.loc main_arg0)
def weights : S1024x1024.Idx → EReal := m (c.tc.loc main_arg1)
def result : S2048x1024.Idx → EReal := fun i => ∑ e : Fin 1024, rows m c (ix2 (i 0) e) * weights m c (ix2 (i 1) e)

theorem rows_at (a : Fin 2) (r : Fin 1024) (e : Fin 1024) : iblk m c 0 (point a) (ix2 r e) = rows m c (ix2 (row a r) e) :=
  same2 (rows m c) _ _ _ (place (congrFun (rows_index a) 0)) (place0 (congrFun (rows_index a) 1))
theorem weight_at (a : Fin 2) (p : Fin 1024) (q : Fin 1024) : iblk m c 1 (point a) (ix2 p q) = weights m c (ix2 p q) :=
  same2 (weights m c) _ _ _ (place0 (congrFun (weight_index a) 0)) (place0 (congrFun (weight_index a) 1))

theorem written_at (a : Fin 2) (r : Fin 1024) (x : Fin 1024) :
    out0_2 (iblk m c 0 (point a)) (iblk m c 1 (point a)) (ix2 r x) = result m c (ix2 (row a r) x) :=
  (congrFun (written _ _) _).trans ((zero_add _).trans (Finset.sum_congr rfl fun e _ =>
    congrArg₂ (fun x y : EReal => x * y) (rows_at m c a r e) (weight_at m c a x e)))

theorem covered (i : S2048x1024.Idx) : ∃ t : Fin cfg0.N, (cfg0.win 2).flush t = true ∧ i ∈ ((cfg0.win 2).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 1024; decide)

theorem point_of (t : Fin cfg0.N) : ∃ a : Fin 2, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 1024) (x : Fin 1024), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference14Ideal.Read in
theorem reference (x0 : S2048x1024.Idx → EReal) (x1 : S1024x1024.Idx → EReal) (i : S2048x1024.Idx) :
    val_main_v2 (F := Ideal) x0 x1 i = ∑ e : Fin 1024, x0 (ix2 (i 0) e) * x1 (ix2 (i 1) e) := by
  refine (val_main_v2_apply ..).trans ((val_main_v1_apply ..).trans ((val_main_v0_apply ..).trans ?_))
  exact Finset.sum_congr rfl fun e _ => congrArg₂ (· * ·) (same2 x0 _ (i 0) e rfl rfl) (same2 x1 _ (i 1) e rfl rfl)

/-! ## The claims -/

/-- The kernel and its idealisation are the same program, so one run is both programs' frame. -/
theorem same_body : @Cert.Kernel14.cc0_mm_out_a_dx Bits _ _ = @Cert.Kernel14Ideal.cc0_mm_out_a_dx Bits _ _ := rfl
theorem same_table : Cert.Kernel14.defs₀ (F := Bits) = Cert.Kernel14Ideal.defs₀ (F := Bits) :=
  congrArg _ (funext fun a => match a with | 0 => funext fun ⟨_, _⟩ => rfl)
theorem same_program : Cert.Kernel14.defs (F := Bits) = Cert.Kernel14Ideal.defs (F := Bits) := congrArg (Pipeline.defs _) same_table
theorem frame_kernel : Cert.quiescent_Kernel14 := fun m g _ => by
  rw [same_program]
  exact Cert.Kernel14Ideal.Gen.frame (F := Bits) m g
theorem preserves : Cert.preserves_Kernel14_Kernel14Ideal := trivial
theorem frame_ideal : Cert.quiescent_Kernel14Ideal := fun m g _ => Cert.Kernel14Ideal.Gen.frame m g
theorem frame_reference : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

theorem values : Cert.algebraic_Kernel14Ideal_Reference14Ideal := by
  intro m g m' g' _ hm
  refine ⟨fun c => result m c, ?_, ?_⟩
  · exact (θ_run Cert.Kernel14Ideal.defs _ _).mono (fun r h c => ⟨((h.1 c).1 2).trans (array m c), h.2 c⟩) (θ_run_and (run_main m g) (unchanged m g))
  · refine (θ_run Cert.Reference14Ideal.defs _ _).mono (fun r h c => ⟨?_, (h c).2⟩) (Cert.Reference14Ideal.Value.run (F := Ideal) m' g')
    obtain ⟨e0, e1⟩ := hm c
    refine (h c).1.trans ((Cert.Reference14Ideal.Read.val_main_v2_eq ..).trans ?_)
    rw [e0, e1]
    exact funext fun i => reference _ _ i

end Cert.OutDx
-- ==== Proof.MergeDx.lean ====
module

public import proofs.«01_k».proof.Defs
public import proofs.«01_k».proof.Proof.Products
public import proofs.«01_k».proof.Proof.Gen.Kernel15
public import proofs.«01_k».proof.Proof.Gen.Kernel15Ideal.Frame
public import proofs.«01_k».proof.Proof.Gen.Reference15Ideal.Run
public import proofs.«01_k».proof.Proof.Gen.Reference15Ideal.Read

/-! The gradient of the merged rows through the mixer's output product: 1024 rows at a point. -/

@[expose] public section

noncomputable section

namespace Cert.MergeDx

open Idealize.ShloMosaic Idealize.ShloMosaic.TcCoe Idealize.SL.Sem Cert.Kernel15Ideal Cert.Kernel15Ideal.Gen Cert.Products

/-- What a point writes. -/
theorem written (a : Vec Ideal S1024x1024 .f32) (w : Vec Ideal S1024x1024 .bf16) : out0_2 a w = addRows a w (fun _ => 0) := by
  unfold out0_2
  rw [stored2, whole2, whole2]
  funext i
  pointwise [k0_pay1, addRows]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem out_index : ∀ a : Fin 2, win0_2.index (point a) = ![a.val, 0] := by decide +kernel

section
variable (m : (ℓ : Loc nD τ sig) → Buf (Elt Ideal) ℓ) (c : Dev nD)

/-- The arguments, and the result entry by entry. -/
def rows : S2048x1024.Idx → EReal := m (c.tc.loc main_arg0)
def weights : S1024x1024.Idx → EReal := m (c.tc.loc main_arg1)
def result : S2048x1024.Idx → EReal := fun i => ∑ e : Fin 1024, rows m c (ix2 (i 0) e) * weights m c (ix2 (i 1) e)

theorem rows_at (a : Fin 2) (r : Fin 1024) (e : Fin 1024) : iblk m c 0 (point a) (ix2 r e) = rows m c (ix2 (row a r) e) :=
  same2 (rows m c) _ _ _ (place (congrFun (rows_index a) 0)) (place0 (congrFun (rows_index a) 1))
theorem weight_at (a : Fin 2) (p : Fin 1024) (q : Fin 1024) : iblk m c 1 (point a) (ix2 p q) = weights m c (ix2 p q) :=
  same2 (weights m c) _ _ _ (place0 (congrFun (weight_index a) 0)) (place0 (congrFun (weight_index a) 1))

theorem written_at (a : Fin 2) (r : Fin 1024) (x : Fin 1024) :
    out0_2 (iblk m c 0 (point a)) (iblk m c 1 (point a)) (ix2 r x) = result m c (ix2 (row a r) x) :=
  (congrFun (written _ _) _).trans ((zero_add _).trans (Finset.sum_congr rfl fun e _ =>
    congrArg₂ (fun x y : EReal => x * y) (rows_at m c a r e) (weight_at m c a x e)))

theorem covered (i : S2048x1024.Idx) : ∃ t : Fin cfg0.N, (cfg0.win 2).flush t = true ∧ i ∈ ((cfg0.win 2).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 1024; decide)

theorem point_of (t : Fin cfg0.N) : ∃ a : Fin 2, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 1024) (x : Fin 1024), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference15Ideal.Read in
theorem reference (x0 : S2048x1024.Idx → EReal) (x1 : S1024x1024.Idx → EReal) (i : S2048x1024.Idx) :
    val_main_v3 (F := Ideal) x0 x1 i = ∑ e : Fin 1024, x0 (ix2 (i 0) e) * x1 (ix2 (i 1) e) := by
  refine (val_main_v3_apply ..).trans ((val_main_v2_apply ..).trans ((val_main_v1_apply ..).trans ?_))
  exact Finset.sum_congr rfl fun e _ => congrArg₂ (· * ·) ((val_main_v0_apply ..).trans (same2 x0 _ (i 0) e rfl rfl)) (same2 x1 _ (i 1) e rfl rfl)

/-! ## The claims -/

/-- The kernel and its idealisation are the same program, so one run is both programs' frame. -/
theorem same_body : @Cert.Kernel15.cc0_mm_o_dx Bits _ _ = @Cert.Kernel15Ideal.cc0_mm_o_dx Bits _ _ := rfl
theorem same_table : Cert.Kernel15.defs₀ (F := Bits) = Cert.Kernel15Ideal.defs₀ (F := Bits) :=
  congrArg _ (funext fun a => match a with | 0 => funext fun ⟨_, _⟩ => rfl)
theorem same_program : Cert.Kernel15.defs (F := Bits) = Cert.Kernel15Ideal.defs (F := Bits) := congrArg (Pipeline.defs _) same_table
theorem frame_kernel : Cert.quiescent_Kernel15 := fun m g _ => by
  rw [same_program]
  exact Cert.Kernel15Ideal.Gen.frame (F := Bits) m g
theorem preserves : Cert.preserves_Kernel15_Kernel15Ideal := trivial
theorem frame_ideal : Cert.quiescent_Kernel15Ideal := fun m g _ => Cert.Kernel15Ideal.Gen.frame m g
theorem frame_reference : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

theorem values : Cert.algebraic_Kernel15Ideal_Reference15Ideal := by
  intro m g m' g' _ hm
  refine ⟨fun c => result m c, ?_, ?_⟩
  · exact (θ_run Cert.Kernel15Ideal.defs _ _).mono (fun r h c => ⟨((h.1 c).1 2).trans (array m c), h.2 c⟩) (θ_run_and (run_main m g) (unchanged m g))
  · refine (θ_run Cert.Reference15Ideal.defs _ _).mono (fun r h c => ⟨?_, (h c).2⟩) (Cert.Reference15Ideal.Value.run (F := Ideal) m' g')
    obtain ⟨e0, e1⟩ := hm c
    refine (h c).1.trans ((Cert.Reference15Ideal.Read.val_main_v3_eq ..).trans ?_)
    rw [e0, e1]
    exact funext fun i => reference _ _ i

end Cert.MergeDx
-- ==== Proof.OutDw.lean ====
module

public import proofs.«01_k».proof.Defs
public import proofs.«01_k».proof.Proof.Products
public import proofs.«01_k».proof.Proof.Gen.Kernel16
public import proofs.«01_k».proof.Proof.Gen.Kernel16Ideal.Frame
public import proofs.«01_k».proof.Proof.Gen.Reference16Ideal.Run
public import proofs.«01_k».proof.Proof.Gen.Reference16Ideal.Read

/-! The gradient of a branch's output weights: the branch's rows and the gradient's, one half of the tokens at a point. -/

@[expose] public section

noncomputable section

namespace Cert.OutDw

open Idealize.ShloMosaic Idealize.ShloMosaic.TcCoe Idealize.SL.Sem Cert.Kernel16Ideal Cert.Kernel16Ideal.Gen Cert.Products

/-! ## One point -/

theorem first_sum (a : Vec Ideal S1024x1024 .bf16) (w : Vec Ideal S1024x1024 .bf16) : k0_pay2 a w = addCols a w (fun _ => 0) := by
  funext i
  pointwise [k0_pay2, k0_pay1, addCols]
theorem next_sum (a : Vec Ideal S1024x1024 .bf16) (w : Vec Ideal S1024x1024 .bf16) (p : Vec Ideal S1024x1024 .f32) :
    k0_pay4 (k0_pay3 a w p) = fun i => addCols a w p (ix2 (i 1) (i 2)) := by
  funext i
  pointwise [k0_pay4, k0_pay3, k0_pay1, addCols]

section
variable (m : (ℓ : Loc nD τ sig) → Buf (Elt Ideal) ℓ) (c : Dev nD) (t : Fin cfg0.N)

/-- The partial sums the point before left. -/
abbrev before : S1024x1024.Idx → EReal := (outsAt0 m c (t.val - 1) (Nat.lt_of_le_of_lt (Nat.sub_le _ _) t.isLt)).2

/-- The first half of the rows goes to the partial sums. -/
theorem sums (h : t.val % 2 = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

/-- The second half is added to them and the block is written. -/
theorem written (h : t.val % 2 = 1) :
    (outsAt0 m c t.val t.isLt).1 = fun i => addCols (iblk m c 0 t) (iblk m c 1 t) (before m c t) (ix2 (i 1) (i 2)) := by
  rw [outsAt0_B m c t] <;> try omega
  dsimp only
  unfold out0_B_2; rw [View.read_writes_eq_canon _ _ _ fun y => cover0_B_2 (y := y) ..]
  unfold kernelRun0_B
  dsimp only
  sl_unfold_words
  rw [stored3, View.readCov_unit_zero (S := S1024x1024) _ origin2, load2 (hs0_0 t), load2 (hs0_1 t), load2 (Memref.isWhole_whole cc0_scratch0)]
  exact next_sum _ _ _
end

/-! ## The array -/

theorem points : cfg0.N = 2 := by decide

/-- The point that takes half `k` of the rows for the `a`-th block of the gradient; the block's rows. -/
def point (a : Fin 1) (k : Fin 2) : Fin cfg0.N := ⟨2 * a.val + k.val, by have := points; omega⟩
def place_of (a : Fin 1) (r : Fin 1024) : Fin 1024 := ⟨1024 * a.val + r.val, by omega⟩

theorem left_index : ∀ (a : Fin 1) (k : Fin 2), win0_0.index (point a k) = ![k.val, a.val] := by decide +kernel
theorem right_index : ∀ (a : Fin 1) (k : Fin 2), win0_1.index (point a k) = ![k.val, 0] := by decide +kernel
theorem out_index : ∀ (a : Fin 1) (k : Fin 2), win0_2.index (point a k) = ![0, a.val, 0] := by decide +kernel

section
variable (m : (ℓ : Loc nD τ sig) → Buf (Elt Ideal) ℓ) (c : Dev nD)

/-- The arguments, and the product entry by entry. -/
def left : S2048x1024.Idx → EReal := m (c.tc.loc main_arg0)
def right : S2048x1024.Idx → EReal := m (c.tc.loc main_arg1)
def result : S1x1024x1024.Idx → EReal := fun i => ∑ e : Fin 2048, left m c (ix2 e (i 1)) * right m c (ix2 e (i 2))

theorem left_at (a : Fin 1) (k : Fin 2) (e : Fin 1024) (r : Fin 1024) : iblk m c 0 (point a k) (ix2 e r) = left m c (ix2 (halfRow k e) (place_of a r)) :=
  same2 (left m c) _ _ _ (place (congrFun (left_index a k) 0)) (place (congrFun (left_index a k) 1))
theorem right_at (a : Fin 1) (k : Fin 2) (e x : Fin 1024) : iblk m c 1 (point a k) (ix2 e x) = right m c (ix2 (halfRow k e) x) :=
  same2 (right m c) _ _ _ (place (congrFun (right_index a k) 0)) (place0 (congrFun (right_index a k) 1))

theorem half (a : Fin 1) (k : Fin 2) (r : Fin 1024) (x : Fin 1024) (p : S1024x1024.Idx → EReal) :
    addCols (iblk m c 0 (point a k)) (iblk m c 1 (point a k)) p (ix2 r x)
      = p (ix2 r x) + ∑ e : Fin 1024, left m c (ix2 (halfRow k e) (place_of a r)) * right m c (ix2 (halfRow k e) x) :=
  congrArg (fun s : EReal => p (ix2 r x) + s)
    (Finset.sum_congr rfl fun e _ => congrArg₂ (fun x y : EReal => x * y) (left_at m c a k e r) (right_at m c a k e x))

theorem written_at (a : Fin 1) (r : Fin 1024) (x : Fin 1024) :
    (outsAt0 m c (point a 1).val (point a 1).isLt).1 (ix3 0 r x) = result m c (ix3 0 (place_of a r) x) := by
  refine (congrFun (written m c (point a 1) (by show (2 * a.val + 1) % 2 = 1; omega)) _).trans ?_
  refine (half m c a 1 r x _).trans (Eq.trans ?_ (two_halves fun e => left m c (ix2 e (place_of a r)) * right m c (ix2 e x)))
  exact congrArg (fun s : EReal => s + _) ((congrFun (sums m c (point a 0) (by show (2 * a.val + 0) % 2 = 0; omega)) (ix2 r x)).trans
    ((half m c a 0 r x _).trans (zero_add _)))

theorem flushed (a : Fin 1) : (cfg0.win 2).flush (point a 1) = true := (flush0_2 _).2 (by show (2 * a.val + 1) % 2 = 1; omega)

theorem covered (i : S1x1024x1024.Idx) : ∃ t : Fin cfg0.N, (cfg0.win 2).flush t = true ∧ i ∈ ((cfg0.win 2).blk t).view.set := by
  have h0 : (i 0 : ℕ) < 1 := (i 0).isLt
  have h1 : (i 1 : ℕ) < 1024 := (i 1).isLt
  have h2 : (i 2 : ℕ) < 1024 := (i 2).isLt
  obtain ⟨a, ha⟩ : ∃ a : Fin 1, a.val = (i 1 : ℕ) / 1024 := ⟨⟨(i 1 : ℕ) / 1024, by omega⟩, rfl⟩
  refine ⟨point a 1, flushed a, ?_⟩
  show i ∈ ((View.whole main_v0).slice (win0_2.rect (point a 1))).set
  rw [View.set_slice_whole, Rect.mem_set_unit]
  exact fun d => match d with
  | ⟨0, _⟩ => within (i 0) (congrFun (out_index a 1) 0) (by show 0 = (i 0 : ℕ) / 1; omega) (by show 0 < 1; decide)
  | ⟨1, _⟩ => within (i 1) (congrFun (out_index a 1) 1) ha (by show 0 < 1024; decide)
  | ⟨2, _⟩ => within (i 2) (congrFun (out_index a 1) 2) (by show 0 = (i 2 : ℕ) / 1024; omega) (by show 0 < 1024; decide)

theorem point_of (t : Fin cfg0.N) (h : t.val % 2 = 1) : ∃ a : Fin 1, t = point a 1 :=
  ⟨⟨t.val / 2, by have := t.isLt; have := points; omega⟩, Fin.ext (by show t.val = 2 * (t.val / 2) + 1; omega)⟩

theorem array : (dats m 0 c).arrAt 2 cfg0.N = result m c := by
  refine (dats m 0 c).arrAt_eq_of_cover 2 (result m c) (fun t h => ?_) covered
  obtain ⟨a, rfl⟩ := point_of t ((flush0_2 t).1 h)
  show (cfg0.win 2).cut (grid0.coords _) ((dats m 0 c).after 2 _) = _
  rw [after0_2]
  funext y
  obtain ⟨u, r, x, rfl⟩ : ∃ (u : Fin 1) (r : Fin 1024) (x : Fin 1024), y = ix3 u r x := ⟨y 0, y 1, y 2, eq_ix3 y⟩
  obtain rfl : u = 0 := Subsingleton.elim _ _
  refine (written_at m c a r x).trans ?_
  exact (same3 (result m c) _ _ _ _ (place1 (congrFun (out_index a 1) 0)) (place (congrFun (out_index a 1) 1)) (place0 (congrFun (out_index a 1) 2))).symm
end

/-! ## The reference -/

section
open Cert.Reference16Ideal.Read
variable (x0 : S2048x1024.Idx → EReal) (x1 : S2048x1024.Idx → EReal)

theorem reference (i : S1x1024x1024.Idx) :
    val_main_v2 (F := Ideal) x0 x1 i = ∑ e : Fin 2048, x0 (ix2 e (i 1)) * x1 (ix2 e (i 2)) := by
  refine (val_main_v2_apply ..).trans ((val_main_v1_apply ..).trans ((val_main_v0_apply ..).trans (Finset.sum_congr rfl fun e _ => ?_)))
  exact congrArg₂ (· * ·) (same2 x0 _ e (i 1) rfl rfl) ((same2 x1 _ e (i 2) rfl rfl))
end

/-! ## The claims -/

/-- The kernel and its idealisation are the same program, so one run is both programs' frame. -/
theorem same_body : @Cert.Kernel16.cc0_mm_out_a_dw Bits _ _ = @Cert.Kernel16Ideal.cc0_mm_out_a_dw Bits _ _ := rfl
theorem same_table : Cert.Kernel16.defs₀ (F := Bits) = Cert.Kernel16Ideal.defs₀ (F := Bits) :=
  congrArg _ (funext fun a => match a with | 0 => funext fun ⟨_, _⟩ => rfl)
theorem same_program : Cert.Kernel16.defs (F := Bits) = Cert.Kernel16Ideal.defs (F := Bits) := congrArg (Pipeline.defs _) same_table
theorem frame_kernel : Cert.quiescent_Kernel16 := fun m g _ => by
  rw [same_program]
  exact Cert.Kernel16Ideal.Gen.frame (F := Bits) m g
theorem preserves : Cert.preserves_Kernel16_Kernel16Ideal := trivial
theorem frame_ideal : Cert.quiescent_Kernel16Ideal := fun m g _ => Cert.Kernel16Ideal.Gen.frame m g
theorem frame_reference : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

theorem values : Cert.algebraic_Kernel16Ideal_Reference16Ideal := by
  intro m g m' g' _ hm
  refine ⟨fun c => result m c, ?_, ?_⟩
  · exact (θ_run Cert.Kernel16Ideal.defs _ _).mono (fun r h c => ⟨((h.1 c).1 2).trans (array m c), h.2 c⟩) (θ_run_and (run_main m g) (unchanged m g))
  · refine (θ_run Cert.Reference16Ideal.defs _ _).mono (fun r h c => ⟨?_, (h c).2⟩) (Cert.Reference16Ideal.Value.run (F := Ideal) m' g')
    obtain ⟨e0, e1⟩ := hm c
    refine (h c).1.trans ((Cert.Reference16Ideal.Read.val_main_v2_eq ..).trans ?_)
    rw [e0, e1]
    exact funext fun i => reference _ _ i

end Cert.OutDw
-- ==== Proof.MergeDw.lean ====
module

public import proofs.«01_k».proof.Defs
public import proofs.«01_k».proof.Proof.Products
public import proofs.«01_k».proof.Proof.Gen.Kernel17
public import proofs.«01_k».proof.Proof.Gen.Kernel17Ideal.Frame
public import proofs.«01_k».proof.Proof.Gen.Reference17Ideal.Run
public import proofs.«01_k».proof.Proof.Gen.Reference17Ideal.Read

/-! The gradient of the mixer's output weights: the merged branches and the residual's gradient, one half of the tokens at a point. -/

@[expose] public section

noncomputable section

namespace Cert.MergeDw

open Idealize.ShloMosaic Idealize.ShloMosaic.TcCoe Idealize.SL.Sem Cert.Kernel17Ideal Cert.Kernel17Ideal.Gen Cert.Products

/-! ## One point -/

theorem first_sum (a : Vec Ideal S1024x1024 .bf16) (w : Vec Ideal S1024x1024 .f32) : k0_pay2 a w = addCols a w (fun _ => 0) := by
  funext i
  pointwise [k0_pay2, k0_pay1, addCols]
theorem next_sum (a : Vec Ideal S1024x1024 .bf16) (w : Vec Ideal S1024x1024 .f32) (p : Vec Ideal S1024x1024 .f32) :
    k0_pay4 (k0_pay3 a w p) = fun i => addCols a w p (ix2 (i 1) (i 2)) := by
  funext i
  pointwise [k0_pay4, k0_pay3, k0_pay1, addCols]

section
variable (m : (ℓ : Loc nD τ sig) → Buf (Elt Ideal) ℓ) (c : Dev nD) (t : Fin cfg0.N)

/-- The partial sums the point before left. -/
abbrev before : S1024x1024.Idx → EReal := (outsAt0 m c (t.val - 1) (Nat.lt_of_le_of_lt (Nat.sub_le _ _) t.isLt)).2

/-- The first half of the rows goes to the partial sums. -/
theorem sums (h : t.val % 2 = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

/-- The second half is added to them and the block is written. -/
theorem written (h : t.val % 2 = 1) :
    (outsAt0 m c t.val t.isLt).1 = fun i => addCols (iblk m c 0 t) (iblk m c 1 t) (before m c t) (ix2 (i 1) (i 2)) := by
  rw [outsAt0_B m c t] <;> try omega
  dsimp only
  unfold out0_B_2; rw [View.read_writes_eq_canon _ _ _ fun y => cover0_B_2 (y := y) ..]
  unfold kernelRun0_B
  dsimp only
  sl_unfold_words
  rw [stored3, View.readCov_unit_zero (S := S1024x1024) _ origin2, load2 (hs0_0 t), load2 (hs0_1 t), load2 (Memref.isWhole_whole cc0_scratch0)]
  exact next_sum _ _ _
end

/-! ## The array -/

theorem points : cfg0.N = 2 := by decide

/-- The point that takes half `k` of the rows for the `a`-th block of the gradient; the block's rows. -/
def point (a : Fin 1) (k : Fin 2) : Fin cfg0.N := ⟨2 * a.val + k.val, by have := points; omega⟩
def place_of (a : Fin 1) (r : Fin 1024) : Fin 1024 := ⟨1024 * a.val + r.val, by omega⟩

theorem left_index : ∀ (a : Fin 1) (k : Fin 2), win0_0.index (point a k) = ![k.val, a.val] := by decide +kernel
theorem right_index : ∀ (a : Fin 1) (k : Fin 2), win0_1.index (point a k) = ![k.val, 0] := by decide +kernel
theorem out_index : ∀ (a : Fin 1) (k : Fin 2), win0_2.index (point a k) = ![0, a.val, 0] := by decide +kernel

section
variable (m : (ℓ : Loc nD τ sig) → Buf (Elt Ideal) ℓ) (c : Dev nD)

/-- The arguments, and the product entry by entry. -/
def left : S2048x1024.Idx → EReal := m (c.tc.loc main_arg0)
def right : S2048x1024.Idx → EReal := m (c.tc.loc main_arg1)
def result : S1x1024x1024.Idx → EReal := fun i => ∑ e : Fin 2048, left m c (ix2 e (i 1)) * right m c (ix2 e (i 2))

theorem left_at (a : Fin 1) (k : Fin 2) (e : Fin 1024) (r : Fin 1024) : iblk m c 0 (point a k) (ix2 e r) = left m c (ix2 (halfRow k e) (place_of a r)) :=
  same2 (left m c) _ _ _ (place (congrFun (left_index a k) 0)) (place (congrFun (left_index a k) 1))
theorem right_at (a : Fin 1) (k : Fin 2) (e x : Fin 1024) : iblk m c 1 (point a k) (ix2 e x) = right m c (ix2 (halfRow k e) x) :=
  same2 (right m c) _ _ _ (place (congrFun (right_index a k) 0)) (place0 (congrFun (right_index a k) 1))

theorem half (a : Fin 1) (k : Fin 2) (r : Fin 1024) (x : Fin 1024) (p : S1024x1024.Idx → EReal) :
    addCols (iblk m c 0 (point a k)) (iblk m c 1 (point a k)) p (ix2 r x)
      = p (ix2 r x) + ∑ e : Fin 1024, left m c (ix2 (halfRow k e) (place_of a r)) * right m c (ix2 (halfRow k e) x) :=
  congrArg (fun s : EReal => p (ix2 r x) + s)
    (Finset.sum_congr rfl fun e _ => congrArg₂ (fun x y : EReal => x * y) (left_at m c a k e r) (right_at m c a k e x))

theorem written_at (a : Fin 1) (r : Fin 1024) (x : Fin 1024) :
    (outsAt0 m c (point a 1).val (point a 1).isLt).1 (ix3 0 r x) = result m c (ix3 0 (place_of a r) x) := by
  refine (congrFun (written m c (point a 1) (by show (2 * a.val + 1) % 2 = 1; omega)) _).trans ?_
  refine (half m c a 1 r x _).trans (Eq.trans ?_ (two_halves fun e => left m c (ix2 e (place_of a r)) * right m c (ix2 e x)))
  exact congrArg (fun s : EReal => s + _) ((congrFun (sums m c (point a 0) (by show (2 * a.val + 0) % 2 = 0; omega)) (ix2 r x)).trans
    ((half m c a 0 r x _).trans (zero_add _)))

theorem flushed (a : Fin 1) : (cfg0.win 2).flush (point a 1) = true := (flush0_2 _).2 (by show (2 * a.val + 1) % 2 = 1; omega)

theorem covered (i : S1x1024x1024.Idx) : ∃ t : Fin cfg0.N, (cfg0.win 2).flush t = true ∧ i ∈ ((cfg0.win 2).blk t).view.set := by
  have h0 : (i 0 : ℕ) < 1 := (i 0).isLt
  have h1 : (i 1 : ℕ) < 1024 := (i 1).isLt
  have h2 : (i 2 : ℕ) < 1024 := (i 2).isLt
  obtain ⟨a, ha⟩ : ∃ a : Fin 1, a.val = (i 1 : ℕ) / 1024 := ⟨⟨(i 1 : ℕ) / 1024, by omega⟩, rfl⟩
  refine ⟨point a 1, flushed a, ?_⟩
  show i ∈ ((View.whole main_v0).slice (win0_2.rect (point a 1))).set
  rw [View.set_slice_whole, Rect.mem_set_unit]
  exact fun d => match d with
  | ⟨0, _⟩ => within (i 0) (congrFun (out_index a 1) 0) (by show 0 = (i 0 : ℕ) / 1; omega) (by show 0 < 1; decide)
  | ⟨1, _⟩ => within (i 1) (congrFun (out_index a 1) 1) ha (by show 0 < 1024; decide)
  | ⟨2, _⟩ => within (i 2) (congrFun (out_index a 1) 2) (by show 0 = (i 2 : ℕ) / 1024; omega) (by show 0 < 1024; decide)

theorem point_of (t : Fin cfg0.N) (h : t.val % 2 = 1) : ∃ a : Fin 1, t = point a 1 :=
  ⟨⟨t.val / 2, by have := t.isLt; have := points; omega⟩, Fin.ext (by show t.val = 2 * (t.val / 2) + 1; omega)⟩

theorem array : (dats m 0 c).arrAt 2 cfg0.N = result m c := by
  refine (dats m 0 c).arrAt_eq_of_cover 2 (result m c) (fun t h => ?_) covered
  obtain ⟨a, rfl⟩ := point_of t ((flush0_2 t).1 h)
  show (cfg0.win 2).cut (grid0.coords _) ((dats m 0 c).after 2 _) = _
  rw [after0_2]
  funext y
  obtain ⟨u, r, x, rfl⟩ : ∃ (u : Fin 1) (r : Fin 1024) (x : Fin 1024), y = ix3 u r x := ⟨y 0, y 1, y 2, eq_ix3 y⟩
  obtain rfl : u = 0 := Subsingleton.elim _ _
  refine (written_at m c a r x).trans ?_
  exact (same3 (result m c) _ _ _ _ (place1 (congrFun (out_index a 1) 0)) (place (congrFun (out_index a 1) 1)) (place0 (congrFun (out_index a 1) 2))).symm
end

/-! ## The reference -/

section
open Cert.Reference17Ideal.Read
variable (x0 : S2048x1024.Idx → EReal) (x1 : S2048x1024.Idx → EReal)

theorem reference (i : S1x1024x1024.Idx) :
    val_main_v3 (F := Ideal) x0 x1 i = ∑ e : Fin 2048, x0 (ix2 e (i 1)) * x1 (ix2 e (i 2)) := by
  refine (val_main_v3_apply ..).trans ((val_main_v2_apply ..).trans ((val_main_v1_apply ..).trans (Finset.sum_congr rfl fun e _ => ?_)))
  exact congrArg₂ (· * ·) (same2 x0 _ e (i 1) rfl rfl) ((val_main_v0_apply ..).trans (same2 x1 _ e (i 2) rfl rfl))
end

/-! ## The claims -/

/-- The kernel and its idealisation are the same program, so one run is both programs' frame. -/
theorem same_body : @Cert.Kernel17.cc0_mm_o_dw Bits _ _ = @Cert.Kernel17Ideal.cc0_mm_o_dw Bits _ _ := rfl
theorem same_table : Cert.Kernel17.defs₀ (F := Bits) = Cert.Kernel17Ideal.defs₀ (F := Bits) :=
  congrArg _ (funext fun a => match a with | 0 => funext fun ⟨_, _⟩ => rfl)
theorem same_program : Cert.Kernel17.defs (F := Bits) = Cert.Kernel17Ideal.defs (F := Bits) := congrArg (Pipeline.defs _) same_table
theorem frame_kernel : Cert.quiescent_Kernel17 := fun m g _ => by
  rw [same_program]
  exact Cert.Kernel17Ideal.Gen.frame (F := Bits) m g
theorem preserves : Cert.preserves_Kernel17_Kernel17Ideal := trivial
theorem frame_ideal : Cert.quiescent_Kernel17Ideal := fun m g _ => Cert.Kernel17Ideal.Gen.frame m g
theorem frame_reference : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

theorem values : Cert.algebraic_Kernel17Ideal_Reference17Ideal := by
  intro m g m' g' _ hm
  refine ⟨fun c => result m c, ?_, ?_⟩
  · exact (θ_run Cert.Kernel17Ideal.defs _ _).mono (fun r h c => ⟨((h.1 c).1 2).trans (array m c), h.2 c⟩) (θ_run_and (run_main m g) (unchanged m g))
  · refine (θ_run Cert.Reference17Ideal.defs _ _).mono (fun r h c => ⟨?_, (h c).2⟩) (Cert.Reference17Ideal.Value.run (F := Ideal) m' g')
    obtain ⟨e0, e1⟩ := hm c
    refine (h c).1.trans ((Cert.Reference17Ideal.Read.val_main_v3_eq ..).trans ?_)
    rw [e0, e1]
    exact funext fun i => reference _ _ i

end Cert.MergeDw
-- ==== Proof.Out.lean ====
module

public import proofs.«01_k».proof.Defs
public import proofs.«01_k».proof.Proof.Products
public import proofs.«01_k».proof.Proof.Gen.Kernel18
public import proofs.«01_k».proof.Proof.Gen.Kernel18Ideal.Frame
public import proofs.«01_k».proof.Proof.Gen.Reference18Ideal.Run
public import proofs.«01_k».proof.Proof.Gen.Reference18Ideal.Read

/-! A branch's output product: 1024 rows at a point. -/

@[expose] public section

noncomputable section

namespace Cert.Out

open Idealize.ShloMosaic Idealize.ShloMosaic.TcCoe Idealize.SL.Sem Cert.Kernel18Ideal Cert.Kernel18Ideal.Gen Cert.Products

/-- What a point writes. -/
theorem written (a : Vec Ideal S1024x1024 .bf16) (w : Vec Ideal S1024x1024 .bf16) : out0_2 a w = block a w := by
  unfold out0_2
  rw [stored2, whole2, whole2]
  funext i
  pointwise [k0_pay1, block]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem out_index : ∀ a : Fin 2, win0_2.index (point a) = ![a.val, 0] := by decide +kernel

section
variable (m : (ℓ : Loc nD τ sig) → Buf (Elt Ideal) ℓ) (c : Dev nD)

/-- The arguments, and the result entry by entry. -/
def rows : S2048x1024.Idx → EReal := m (c.tc.loc main_arg0)
def weights : S1024x1024.Idx → EReal := m (c.tc.loc main_arg1)
def result : S2048x1024.Idx → EReal := fun i => ∑ e : Fin 1024, rows m c (ix2 (i 0) e) * weights m c (ix2 e (i 1))

theorem rows_at (a : Fin 2) (r : Fin 1024) (e : Fin 1024) : iblk m c 0 (point a) (ix2 r e) = rows m c (ix2 (row a r) e) :=
  same2 (rows m c) _ _ _ (place (congrFun (rows_index a) 0)) (place0 (congrFun (rows_index a) 1))
theorem weight_at (a : Fin 2) (p : Fin 1024) (q : Fin 1024) : iblk m c 1 (point a) (ix2 p q) = weights m c (ix2 p q) :=
  same2 (weights m c) _ _ _ (place0 (congrFun (weight_index a) 0)) (place0 (congrFun (weight_index a) 1))

theorem written_at (a : Fin 2) (r : Fin 1024) (x : Fin 1024) :
    out0_2 (iblk m c 0 (point a)) (iblk m c 1 (point a)) (ix2 r x) = result m c (ix2 (row a r) x) :=
  (congrFun (written _ _) _).trans ((Finset.sum_congr rfl fun e _ =>
    congrArg₂ (fun x y : EReal => x * y) (rows_at m c a r e) (weight_at m c a e x)))

theorem covered (i : S2048x1024.Idx) : ∃ t : Fin cfg0.N, (cfg0.win 2).flush t = true ∧ i ∈ ((cfg0.win 2).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 1024; decide)

theorem point_of (t : Fin cfg0.N) : ∃ a : Fin 2, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 1024) (x : Fin 1024), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference18Ideal.Read in
theorem reference (x0 : S2048x1024.Idx → EReal) (x1 : S1024x1024.Idx → EReal) (i : S2048x1024.Idx) :
    val_main_v2 (F := Ideal) x0 x1 i = ∑ e : Fin 1024, x0 (ix2 (i 0) e) * x1 (ix2 e (i 1)) := by
  refine (val_main_v2_apply ..).trans ((val_main_v1_apply ..).trans ((val_main_v0_apply ..).trans ?_))
  exact Finset.sum_congr rfl fun e _ => congrArg₂ (· * ·) (same2 x0 _ (i 0) e rfl rfl) (same2 x1 _ e (i 1) rfl rfl)

/-! ## The claims -/

/-- The kernel and its idealisation are the same program, so one run is both programs' frame. -/
theorem same_body : @Cert.Kernel18.cc0_mm_out_a Bits _ _ = @Cert.Kernel18Ideal.cc0_mm_out_a Bits _ _ := rfl
theorem same_table : Cert.Kernel18.defs₀ (F := Bits) = Cert.Kernel18Ideal.defs₀ (F := Bits) :=
  congrArg _ (funext fun a => match a with | 0 => funext fun ⟨_, _⟩ => rfl)
theorem same_program : Cert.Kernel18.defs (F := Bits) = Cert.Kernel18Ideal.defs (F := Bits) := congrArg (Pipeline.defs _) same_table
theorem frame_kernel : Cert.quiescent_Kernel18 := fun m g _ => by
  rw [same_program]
  exact Cert.Kernel18Ideal.Gen.frame (F := Bits) m g
theorem preserves : Cert.preserves_Kernel18_Kernel18Ideal := trivial
theorem frame_ideal : Cert.quiescent_Kernel18Ideal := fun m g _ => Cert.Kernel18Ideal.Gen.frame m g
theorem frame_reference : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

theorem values : Cert.algebraic_Kernel18Ideal_Reference18Ideal := by
  intro m g m' g' _ hm
  refine ⟨fun c => result m c, ?_, ?_⟩
  · exact (θ_run Cert.Kernel18Ideal.defs _ _).mono (fun r h c => ⟨((h.1 c).1 2).trans (array m c), h.2 c⟩) (θ_run_and (run_main m g) (unchanged m g))
  · refine (θ_run Cert.Reference18Ideal.defs _ _).mono (fun r h c => ⟨?_, (h c).2⟩) (Cert.Reference18Ideal.Value.run (F := Ideal) m' g')
    obtain ⟨e0, e1⟩ := hm c
    refine (h c).1.trans ((Cert.Reference18Ideal.Read.val_main_v2_eq ..).trans ?_)
    rw [e0, e1]
    exact funext fun i => reference _ _ i

end Cert.Out
-- ==== Proof.Merge.lean ====
module

public import proofs.«01_k».proof.Defs
public import proofs.«01_k».proof.Proof.Products
public import proofs.«01_k».proof.Proof.Gen.Kernel19
public import proofs.«01_k».proof.Proof.Gen.Kernel19Ideal.Frame
public import proofs.«01_k».proof.Proof.Gen.Reference19Ideal.Run
public import proofs.«01_k».proof.Proof.Gen.Reference19Ideal.Read

/-! The mixer's output product, added to the rows that enter the layer: 1024 rows at a point. -/

@[expose] public section

noncomputable section

namespace Cert.Merge

open Idealize.ShloMosaic Idealize.ShloMosaic.TcCoe Idealize.SL.Sem Cert.Kernel19Ideal Cert.Kernel19Ideal.Gen Cert.Products

/-- What a point writes. -/
theorem written (a : Vec Ideal S1024x1024 .bf16) (w : Vec Ideal S1024x1024 .bf16) (z : Vec Ideal S1024x1024 .f32) : out0_3 a w z = fun i => block a w i + z i := by
  unfold out0_3
  rw [stored2, whole2, whole2, whole2]
  funext i
  pointwise [k0_pay1, block]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem add_index : ∀ a : Fin 2, win0_2.index (point a) = ![a.val, 0] := by decide +kernel
theorem out_index : ∀ a : Fin 2, win0_3.index (point a) = ![a.val, 0] := by decide +kernel

section
variable (m : (ℓ : Loc nD τ sig) → Buf (Elt Ideal) ℓ) (c : Dev nD)

/-- The arguments, and the result entry by entry. -/
def rows : S2048x1024.Idx → EReal := m (c.tc.loc main_arg0)
def weights : S1024x1024.Idx → EReal := m (c.tc.loc main_arg1)
def added : S2048x1024.Idx → EReal := m (c.tc.loc main_arg2)
def result : S2048x1024.Idx → EReal := fun i => (∑ e : Fin 1024, rows m c (ix2 (i 0) e) * weights m c (ix2 e (i 1))) + added m c i

theorem rows_at (a : Fin 2) (r : Fin 1024) (e : Fin 1024) : iblk m c 0 (point a) (ix2 r e) = rows m c (ix2 (row a r) e) :=
  same2 (rows m c) _ _ _ (place (congrFun (rows_index a) 0)) (place0 (congrFun (rows_index a) 1))
theorem weight_at (a : Fin 2) (p : Fin 1024) (q : Fin 1024) : iblk m c 1 (point a) (ix2 p q) = weights m c (ix2 p q) :=
  same2 (weights m c) _ _ _ (place0 (congrFun (weight_index a) 0)) (place0 (congrFun (weight_index a) 1))
theorem added_at (a : Fin 2) (r : Fin 1024) (x : Fin 1024) : iblk m c 2 (point a) (ix2 r x) = added m c (ix2 (row a r) x) :=
  same2 (added m c) _ _ _ (place (congrFun (add_index a) 0)) (place0 (congrFun (add_index a) 1))

theorem written_at (a : Fin 2) (r : Fin 1024) (x : Fin 1024) :
    out0_3 (iblk m c 0 (point a)) (iblk m c 1 (point a)) (iblk m c 2 (point a)) (ix2 r x) = result m c (ix2 (row a r) x) :=
  (congrFun (written _ _ _) _).trans (congrArg₂ (fun x y : EReal => x + y) (Finset.sum_congr rfl fun e _ =>
    congrArg₂ (fun x y : EReal => x * y) (rows_at m c a r e) (weight_at m c a e x)) (added_at m c a r x))

theorem covered (i : S2048x1024.Idx) : ∃ t : Fin cfg0.N, (cfg0.win 3).flush t = true ∧ i ∈ ((cfg0.win 3).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_3 _, ?_⟩
  show i ∈ ((View.whole main_v0).slice (win0_3.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 1024; decide)

theorem point_of (t : Fin cfg0.N) : ∃ a : Fin 2, t = point a := ⟨⟨t.val, by have := t.isLt; have := points; omega⟩, rfl⟩

theorem array : (dats m 0 c).arrAt 3 cfg0.N = result m c := by
  refine (dats m 0 c).arrAt_eq_of_cover 3 (result m c) (fun t _ => ?_) covered
  obtain ⟨a, rfl⟩ := point_of t
  show (cfg0.win 3).cut (grid0.coords _) ((dats m 0 c).after 3 _) = _
  rw [after0_3]
  funext y
  obtain ⟨r, x, rfl⟩ : ∃ (r : Fin 1024) (x : Fin 1024), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference19Ideal.Read in
theorem reference (x0 : S2048x1024.Idx → EReal) (x1 : S1024x1024.Idx → EReal) (x2 : S2048x1024.Idx → EReal) (i : S2048x1024.Idx) :
    val_main_v3 (F := Ideal) x0 x1 x2 i = (∑ e : Fin 1024, x0 (ix2 (i 0) e) * x1 (ix2 e (i 1))) + x2 i := by
  refine (val_main_v3_apply ..).trans ((add_comm (x2 i) _).trans (congrArg (· + x2 i) ?_))
  refine (val_main_v2_apply ..).trans ((val_main_v1_apply ..).trans ((val_main_v0_apply ..).trans ?_))
  exact Finset.sum_congr rfl fun e _ => congrArg₂ (· * ·) (same2 x0 _ (i 0) e rfl rfl) (same2 x1 _ e (i 1) rfl rfl)

/-! ## The claims -/

/-- The kernel and its idealisation are the same program, so one run is both programs' frame. -/
theorem same_body : @Cert.Kernel19.cc0_mm_o Bits _ _ = @Cert.Kernel19Ideal.cc0_mm_o Bits _ _ := rfl
theorem same_table : Cert.Kernel19.defs₀ (F := Bits) = Cert.Kernel19Ideal.defs₀ (F := Bits) :=
  congrArg _ (funext fun a => match a with | 0 => funext fun ⟨_, _⟩ => rfl)
theorem same_program : Cert.Kernel19.defs (F := Bits) = Cert.Kernel19Ideal.defs (F := Bits) := congrArg (Pipeline.defs _) same_table
theorem frame_kernel : Cert.quiescent_Kernel19 := fun m g _ => by
  rw [same_program]
  exact Cert.Kernel19Ideal.Gen.frame (F := Bits) m g
theorem preserves : Cert.preserves_Kernel19_Kernel19Ideal := trivial
theorem frame_ideal : Cert.quiescent_Kernel19Ideal := fun m g _ => Cert.Kernel19Ideal.Gen.frame m g
theorem frame_reference : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

theorem values : Cert.algebraic_Kernel19Ideal_Reference19Ideal := by
  intro m g m' g' _ hm
  refine ⟨fun c => result m c, ?_, ?_⟩
  · exact (θ_run Cert.Kernel19Ideal.defs _ _).mono (fun r h c => ⟨((h.1 c).1 3).trans (array m c), h.2 c⟩) (θ_run_and (run_main m g) (unchanged m g))
  · refine (θ_run Cert.Reference19Ideal.defs _ _).mono (fun r h c => ⟨?_, (h c).2⟩) (Cert.Reference19Ideal.Value.run (F := Ideal) m' g')
    obtain ⟨e0, e1, e2⟩ := hm c
    refine (h c).1.trans ((Cert.Reference19Ideal.Read.val_main_v3_eq ..).trans ?_)
    rw [e0, e1, e2]
    exact funext fun i => reference _ _ _ i

end Cert.Merge
-- ==== Proof.CrossOutDx.lean ====
module

public import proofs.«01_k».proof.Defs
public import proofs.«01_k».proof.Proof.Products
public import proofs.«01_k».proof.Proof.Gen.Kernel20
public import proofs.«01_k».proof.Proof.Gen.Kernel20Ideal.Frame
public import proofs.«01_k».proof.Proof.Gen.Reference20Ideal.Run
public import proofs.«01_k».proof.Proof.Gen.Reference20Ideal.Read

/-! The gradient of the cross attention's rows through its output product: the rows' gradient, in four parts of 256 columns, times the
four parts of the output weights, accumulated over the four points of a block of rows. -/

@[expose] public section

noncomputable section

namespace Cert.CrossOutDx

open Idealize.ShloMosaic Idealize.ShloMosaic.TcCoe Idealize.SL.Sem Cert.Kernel20Ideal Cert.Kernel20Ideal.Gen Cert.Products

/-! ## One point -/

theorem first_sum (a : Vec Ideal S1024x256 .f32) (w : Vec Ideal S1x512x256 .bf16) :
    k0_pay2 a w = addRows a (fun i : S512x256.Idx => w (ix3 0 (i 0) (i 1))) (fun _ => 0) := by
  funext i
  pointwise [k0_pay2, k0_pay1, addRows]
theorem next_sum (a : Vec Ideal S1024x256 .f32) (w : Vec Ideal S1x512x256 .bf16) (p : Vec Ideal S1024x512 .f32) :
    k0_pay3 a w p = addRows a (fun i : S512x256.Idx => w (ix3 0 (i 0) (i 1))) p := by
  funext i
  pointwise [k0_pay3, k0_pay1, addRows]

/-- What a point stores over the partial sums: one part more. -/
theorem part_stored {a : Memref sig .tc .vmem S1024x256 .f32} (ha : a.IsWhole) {w : Memref sig .tc .vmem S1x512x256 .bf16} (hw : w.IsWhole)
    (x : Vec Ideal S1024x256 .f32) (y : Vec Ideal S1x512x256 .bf16) (p : Vec Ideal S1024x512 .f32) :
    View.canon [(⟨Rect.unit ![0, 0] S1024x512.size inb_S1024x512_S1024x512_0_0,
      k0_pay3 (a.view.readAt (Elt Ideal) (Rect.unit ![0, 0] S1024x256.size inb_S1024x256_S1024x256_0_0).toLoadRect (ha.unread x))
        (w.view.readAt (Elt Ideal) (Rect.unit ![0, 0, 0] S1x512x256.size inb_S1x512x256_S1x512x256_0_0_0).toLoadRect (hw.unread y))
        ((Memref.whole cc0_scratch0).view.readAt (Elt Ideal) (Rect.unit ![0, 0] S1024x512.size inb_S1024x512_S1024x512_0_0).toLoadRect
          ((Memref.isWhole_whole cc0_scratch0).unread p))⟩ : View.Piece (Elt Ideal) S1024x512 .f32)] =
      addRows x (fun i : S512x256.Idx => y (ix3 0 (i 0) (i 1))) p := by
  rw [stored2, load2 ha, load3 hw, load2 (Memref.isWhole_whole cc0_scratch0)]
  exact next_sum x y p

section
variable (m : (ℓ : Loc nD τ sig) → Buf (Elt Ideal) ℓ) (c : Dev nD) (t : Fin cfg0.N)

/-- The partial sums the point before left. -/
abbrev before : S1024x512.Idx → EReal := (outsAt0 m c (t.val - 1) (Nat.lt_of_le_of_lt (Nat.sub_le _ _) t.isLt)).2

/-- The blocks a point is given: of the gradient, and of part `k` of the weights. -/
abbrev block : S1024x256.Idx → EReal := iblk m c 0 t
def weight (k : Fin 4) : S512x256.Idx → EReal := fun i => match k with
  | ⟨0, _⟩ => iblk m c 1 t (ix3 0 (i 0) (i 1))
  | ⟨1, _⟩ => iblk m c 2 t (ix3 0 (i 0) (i 1))
  | ⟨2, _⟩ => iblk m c 3 t (ix3 0 (i 0) (i 1))
  | ⟨3, _⟩ => iblk m c 4 t (ix3 0 (i 0) (i 1))

theorem sums0 (h : t.val % 4 = 0) : (outsAt0 m c t.val t.isLt).2 = addRows (block m c t) (weight m c t 0) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load3 (hs0_1 t)]
  exact first_sum _ _

theorem sums1 (h : t.val % 4 = 1) : (outsAt0 m c t.val t.isLt).2 = addRows (block m c t) (weight m c t 1) (before m c t) := by
  rw [outsAt0_B m c t] <;> try omega
  dsimp only
  unfold sout0_B_0; rw [View.read_writes_eq_canon _ _ _ fun y => scover0_B_0 (y := y) ..]
  unfold kernelRun0_B; dsimp only; exact part_stored (hs0_0 t) (hs0_2 t) _ _ _

theorem sums2 (h : t.val % 4 = 2) : (outsAt0 m c t.val t.isLt).2 = addRows (block m c t) (weight m c t 2) (before m c t) := by
  rw [outsAt0_C m c t] <;> try omega
  dsimp only
  unfold sout0_C_0; rw [View.read_writes_eq_canon _ _ _ fun y => scover0_C_0 (y := y) ..]
  unfold kernelRun0_C; dsimp only; exact part_stored (hs0_0 t) (hs0_3 t) _ _ _

/-- The last point of a block of rows takes the last part and writes. -/
theorem written (h : t.val % 4 = 3) : (outsAt0 m c t.val t.isLt).1 = addRows (block m c t) (weight m c t 3) (before m c t) := by
  rw [outsAt0_D m c t] <;> try omega
  dsimp only
  unfold out0_D_5; rw [View.read_writes_eq_canon _ _ _ fun y => cover0_D_5 (y := y) ..]
  unfold kernelRun0_D
  dsimp only
  sl_unfold_words
  rw [stored2, View.readCov_unit_zero (S := S1024x512) _ origin2, load2 (hs0_0 t), load3 (hs0_4 t), load2 (Memref.isWhole_whole cc0_scratch0)]
  exact next_sum _ _ _
end

/-! ## The array -/

theorem points : cfg0.N = 8 := by decide

/-- The point that takes part `k` for the `b`-th block of 1024 rows; the rows of that block, and the columns of that part. -/
def point (b : Fin 2) (k : Fin 4) : Fin cfg0.N := ⟨4 * b.val + k.val, by have := points; omega⟩
def row (b : Fin 2) (r : Fin 1024) : Fin 2048 := ⟨1024 * b.val + r.val, by omega⟩
def col (k : Fin 4) (e : Fin 256) : Fin 1024 := ⟨256 * k.val + e.val, by omega⟩

def weightIndex : Fin 4 → Fin grid0.N → Fin 3 → ℕ := ![win0_1.index, win0_2.index, win0_3.index, win0_4.index]
theorem block_index : ∀ (b : Fin 2) (k : Fin 4), win0_0.index (point b k) = ![b.val, k.val] := by decide +kernel
theorem weight_index : ∀ (b : Fin 2) (k : Fin 4), weightIndex k (point b k) = ![k.val, 0, 0] := by decide +kernel
theorem out_index : ∀ b : Fin 2, win0_5.index (point b 3) = ![b.val, 0] := by decide +kernel

section
variable (m : (ℓ : Loc nD τ sig) → Buf (Elt Ideal) ℓ) (c : Dev nD)

/-- The gradient given. -/
def dz : Cert.Kernel20Ideal.S2048x1024.Idx → EReal := m (c.tc.loc main_arg0)

theorem block_at (b : Fin 2) (k : Fin 4) (r : Fin 1024) (e : Fin 256) : block m c (point b k) (ix2 r e) = dz m c (ix2 (row b r) (col k e)) :=
  same2 (dz m c) _ _ _ (place (congrFun (block_index b k) 0)) (place (congrFun (block_index b k) 1))

theorem weight_at (b : Fin 2) (k : Fin 4) (x : Fin 512) (e : Fin 256) : weight m c (point b k) k (ix2 x e) = m (c.tc.loc main_arg1) (ix3 k x e) :=
  (match k with
  | ⟨0, _⟩ => fun h0 h1 h2 => same3 (m (c.tc.loc main_arg1)) _ _ _ _ (place1 h0) (place0 h1) (place0 h2)
  | ⟨1, _⟩ => fun h0 h1 h2 => same3 (m (c.tc.loc main_arg1)) _ _ _ _ (place1 h0) (place0 h1) (place0 h2)
  | ⟨2, _⟩ => fun h0 h1 h2 => same3 (m (c.tc.loc main_arg1)) _ _ _ _ (place1 h0) (place0 h1) (place0 h2)
  | ⟨3, _⟩ => fun h0 h1 h2 => same3 (m (c.tc.loc main_arg1)) _ _ _ _ (place1 h0) (place0 h1) (place0 h2)
  : weightIndex k (point b k) 0 = k.val → weightIndex k (point b k) 1 = 0 → weightIndex k (point b k) 2 = 0 →
    weight m c (point b k) k (ix2 x e) = m (c.tc.loc main_arg1) (ix3 k x e))
    (congrFun (weight_index b k) 0) (congrFun (weight_index b k) 1) (congrFun (weight_index b k) 2)

/-- What part `k` adds at row `r` of block `b` and column `x`. -/
def term (b : Fin 2) (r : Fin 1024) (x : Fin 512) (k : Fin 4) : EReal :=
  ∑ e : Fin 256, dz m c (ix2 (row b r) (col k e)) * m (c.tc.loc main_arg1) (ix3 k x e)

theorem addRows_at (b : Fin 2) (k : Fin 4) (p : S1024x512.Idx → EReal) (r : Fin 1024) (x : Fin 512) :
    addRows (block m c (point b k)) (weight m c (point b k) k) p (ix2 r x) = p (ix2 r x) + term m c b r x k :=
  congrArg (p (ix2 r x) + ·) (Finset.sum_congr rfl fun e _ => congrArg₂ (· * ·) (block_at m c b k r e) (weight_at m c b k x e))

theorem sums (t : Fin cfg0.N) (k : Fin 2) : t.val % 4 = k.val + 1 → (outsAt0 m c t.val t.isLt).2 =
    addRows (block m c t) (weight m c t ⟨k.val + 1, by omega⟩) (before m c t) :=
  match k with
  | ⟨0, _⟩ => fun h => sums1 m c t h
  | ⟨1, _⟩ => fun h => sums2 m c t h

theorem outs_congr {n n' : ℕ} (e : n = n') (h : n < cfg0.N) (h' : n' < cfg0.N) : outsAt0 m c n h = outsAt0 m c n' h' := by subst e; rfl

/-- The partial sums before the last part are the sum of the first three. -/
theorem sums_all (b : Fin 2) (r : Fin 1024) (x : Fin 512) :
    (outsAt0 m c (point b 2).val (point b 2).isLt).2 (ix2 r x) = ∑ k : Fin 3, term m c b r x k.castSucc :=
  accumulate (fun k : Fin 3 => (outsAt0 m c (point b k.castSucc).val (point b k.castSucc).isLt).2 (ix2 r x)) (fun k => term m c b r x k.castSucc)
    ((congrFun (sums0 m c (point b 0) (by show (4 * b.val + 0) % 4 = 0; omega)) (ix2 r x)).trans ((addRows_at m c b 0 _ r x).trans (zero_add _)))
    (fun k => by
      have h := congrFun (sums m c (point b k.succ.castSucc) k (by show (4 * b.val + (k.val + 1)) % 4 = k.val + 1; omega)) (ix2 r x)
      refine h.trans ((addRows_at m c b k.succ.castSucc _ r x).trans (congrArg (· + _) ?_))
      exact congrFun (congrArg Prod.snd (outs_congr m c (by show 4 * b.val + (k.val + 1) - 1 = 4 * b.val + k.val; omega) _ _)) (ix2 r x))

/-- The gradient, entry by entry. -/
def result : S2048x512.Idx → EReal := fun i =>
  ∑ k : Fin 4, ∑ e : Fin 256, dz m c (ix2 (i 0) (col k e)) * m (c.tc.loc main_arg1) (ix3 k (i 1) e)

theorem written_at (b : Fin 2) (r : Fin 1024) (x : Fin 512) :
    (outsAt0 m c (point b 3).val (point b 3).isLt).1 (ix2 r x) = result m c (ix2 (row b r) x) := by
  refine (congrFun (written m c (point b 3) (by show (4 * b.val + 3) % 4 = 3; omega)) (ix2 r x)).trans ?_
  refine (addRows_at m c b 3 _ r x).trans (Eq.trans ?_ (Fin.sum_univ_castSucc (term m c b r x)).symm)
  refine congrArg (· + _) (Eq.trans ?_ (sums_all m c b r x))
  exact congrFun (congrArg Prod.snd (outs_congr m c (by show 4 * b.val + 3 - 1 = 4 * b.val + 2; omega) _ _)) (ix2 r x)

theorem flush_point (t : Fin cfg0.N) (h : (cfg0.win 5).flush t = true) : ∃ b : Fin 2, t = point b 3 :=
  ⟨⟨t.val / 4, by have := t.isLt; have := points; omega⟩, Fin.ext (by have := (flush0_5 t).mp h; show t.val = 4 * (t.val / 4) + 3; omega)⟩

theorem covered (i : S2048x512.Idx) : ∃ t : Fin cfg0.N, (cfg0.win 5).flush t = true ∧ i ∈ ((cfg0.win 5).blk t).view.set := by
  have h0 : (i 0 : ℕ) < 2048 := (i 0).isLt
  obtain ⟨b, hb⟩ : ∃ b : Fin 2, b.val = (i 0 : ℕ) / 1024 := ⟨⟨(i 0 : ℕ) / 1024, by omega⟩, rfl⟩
  refine ⟨point b 3, (flush0_5 _).mpr (by show (4 * b.val + 3) % 4 = 3; omega), ?_⟩
  show i ∈ ((View.whole main_v0).slice (win0_5.rect (point b 3))).set
  rw [View.set_slice_whole, Rect.mem_set_unit]
  exact fun a => match a with
  | ⟨0, _⟩ => within (i 0) (congrFun (out_index b) 0) hb (by show 0 < 1024; decide)
  | ⟨1, _⟩ => within (i 1) (congrFun (out_index b) 1) (Nat.div_eq_of_lt (i 1).isLt).symm (by show 0 < 512; decide)

theorem array : (dats m 0 c).arrAt 5 cfg0.N = result m c := by
  refine (dats m 0 c).arrAt_eq_of_cover 5 (result m c) (fun t h => ?_) covered
  obtain ⟨b, rfl⟩ := flush_point t h
  show (cfg0.win 5).cut (grid0.coords _) ((dats m 0 c).after 5 _) = _
  rw [after0_5]
  funext y
  obtain ⟨r, x, rfl⟩ : ∃ (r : Fin 1024) (x : Fin 512), y = ix2 r x := ⟨y 0, y 1, eq_ix2 y⟩
  refine (written_at m c b r x).trans ?_
  exact (same2 (result m c) _ _ _ (place (congrFun (out_index b) 0)) (place0 (congrFun (out_index b) 1))).symm
end

/-! ## The reference -/

section
open Cert.Reference20Ideal.Read
variable (x0 : S2048x1024.Idx → EReal) (x1 : S4x512x256.Idx → EReal)

/-- Column `256 k + e` of the joined weights is column `e` of part `k`. -/
theorem weights (x : Fin 512) (k : Fin 4) (e : Fin 256) (i : Cert.Reference20Ideal.S512x1024.Idx) (h0 : (i 0).val = x.val) (h1 : (i 1).val = 256 * k.val + e.val) :
    val_main_v1 (F := Ideal) x1 i = x1 (ix3 k x e) := by
  refine (val_main_v1_apply ..).trans ((val_main_v0_apply ..).trans (same3 x1 _ k x e ?_ ?_ ?_))
  all_goals simp [idx_main_v0, idx_main_v1, h0, h1]
  all_goals omega

theorem reference (i : S2048x512.Idx) : val_main_v5 (F := Ideal) x0 x1 i =
    ∑ k : Fin 4, ∑ e : Fin 256, x0 (ix2 (i 0) (col k e)) * x1 (ix3 k (i 1) e) := by
  refine (val_main_v5_apply ..).trans ((val_main_v4_apply ..).trans ((val_main_v3_apply ..).trans ?_))
  refine (sum_parts (n := 4) (w := 256) (by decide) _ _ fun k e hk => ?_)
  exact congrArg₂ (· * ·) ((val_main_v2_apply ..).trans (same2 x0 _ (i 0) (col k e) rfl rfl)) (weights x1 (i 1) k e _ rfl rfl)
end

/-! ## The claims -/

/-- The kernel and its idealisation are the same program, so one run is both programs' frame. -/
theorem same_body : @Cert.Kernel20.cc0_mm_xo_dx Bits _ _ = @Cert.Kernel20Ideal.cc0_mm_xo_dx Bits _ _ := rfl
theorem same_table : Cert.Kernel20.defs₀ (F := Bits) = Cert.Kernel20Ideal.defs₀ (F := Bits) :=
  congrArg _ (funext fun a => match a with | 0 => funext fun ⟨_, _⟩ => rfl)
theorem same_program : Cert.Kernel20.defs (F := Bits) = Cert.Kernel20Ideal.defs (F := Bits) := congrArg (Pipeline.defs _) same_table
theorem frame_kernel : Cert.quiescent_Kernel20 := fun m g _ => by
  rw [same_program]
  exact Cert.Kernel20Ideal.Gen.frame (F := Bits) m g
theorem preserves : Cert.preserves_Kernel20_Kernel20Ideal := trivial
theorem frame_ideal : Cert.quiescent_Kernel20Ideal := fun m g _ => Cert.Kernel20Ideal.Gen.frame m g
theorem frame_reference : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

theorem values : Cert.algebraic_Kernel20Ideal_Reference20Ideal := by
  intro m g m' g' _ hm
  refine ⟨fun c => result m c, ?_, ?_⟩
  · exact (θ_run Cert.Kernel20Ideal.defs _ _).mono (fun r h c => ⟨((h.1 c).1 5).trans (array m c), h.2 c⟩) (θ_run_and (run_main m g) (unchanged m g))
  · refine (θ_run Cert.Reference20Ideal.defs _ _).mono (fun r h c => ⟨?_, (h c).2⟩) (Cert.Reference20Ideal.Value.run (F := Ideal) m' g')
    obtain ⟨e0, e1⟩ := hm c
    refine (h c).1.trans ((Cert.Reference20Ideal.Read.val_main_v5_eq ..).trans ?_)
    rw [e0, e1]
    exact funext fun i => reference _ _ i

end Cert.CrossOutDx
-- ==== Proof.CrossOutDw.lean ====
module

public import proofs.«01_k».proof.Defs
public import proofs.«01_k».proof.Proof.Products
public import proofs.«01_k».proof.Proof.Gen.Kernel21
public import proofs.«01_k».proof.Proof.Gen.Kernel21Ideal.Frame
public import proofs.«01_k».proof.Proof.Gen.Reference21Ideal.Run
public import proofs.«01_k».proof.Proof.Gen.Reference21Ideal.Read

/-! The gradient of the cross attention's output weights in their four parts of 256 columns: the attention's rows and a part of the
gradient, one half of the tokens at a point. -/

@[expose] public section

noncomputable section

namespace Cert.CrossOutDw

open Idealize.ShloMosaic Idealize.ShloMosaic.TcCoe Idealize.SL.Sem Cert.Kernel21Ideal Cert.Kernel21Ideal.Gen Cert.Products

/-! ## One point -/

theorem first_sum (a : Vec Ideal S1024x512 .bf16) (w : Vec Ideal S1024x256 .f32) : k0_pay2 a w = addCols a w (fun _ => 0) := by
  funext i
  pointwise [k0_pay1, k0_pay2, addCols]
theorem next_sum (a : Vec Ideal S1024x512 .bf16) (w : Vec Ideal S1024x256 .f32) (p : Vec Ideal S512x256 .f32) :
    k0_pay4 (k0_pay3 a w p) = fun i => addCols a w p (ix2 (i 2) (i 3)) := by
  funext i
  pointwise [k0_pay1, k0_pay3, k0_pay4, addCols]

section
variable (m : (ℓ : Loc nD τ sig) → Buf (Elt Ideal) ℓ) (c : Dev nD) (t : Fin cfg0.N)

/-- The partial sums the point before left. -/
abbrev before : S512x256.Idx → EReal := (outsAt0 m c (t.val - 1) (Nat.lt_of_le_of_lt (Nat.sub_le _ _) t.isLt)).2

/-! The first half of the rows goes to the partial sums; with the second half the block is written. -/

theorem sums (h : t.val % 2 = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

theorem written (h : t.val % 2 = 1) :
    (outsAt0 m c t.val t.isLt).1 = fun i => addCols (iblk m c 0 t) (iblk m c 1 t) (before m c t) (ix2 (i 2) (i 3)) := by
  rw [outsAt0_B m c t] <;> try omega
  dsimp only
  unfold out0_B_2; rw [View.read_writes_eq_canon _ _ _ fun y => cover0_B_2 (y := y) ..]
  unfold kernelRun0_B
  dsimp only
  sl_unfold_words
  rw [stored4, View.readCov_unit_zero (S := S512x256) _ origin2, load2 (hs0_0 t), load2 (hs0_1 t), load2 (Memref.isWhole_whole cc0_scratch0)]
  exact next_sum _ _ _
end

/-! ## The array -/

theorem points : cfg0.N = 8 := by decide

/-- The point that takes half `h` of the rows of part `k`; the part's columns. -/
def point (k : Fin 4) (h : Fin 2) : Fin cfg0.N := ⟨2 * k.val + h.val, by have := points; omega⟩
def col (k : Fin 4) (x : Fin 256) : Fin 1024 := ⟨256 * k.val + x.val, by omega⟩

theorem rows_index : ∀ (k : Fin 4) (h : Fin 2), win0_0.index (point k h) = ![h.val, 0] := by decide +kernel
theorem part_index : ∀ (k : Fin 4) (h : Fin 2), win0_1.index (point k h) = ![h.val, k.val] := by decide +kernel
theorem out_index : ∀ (k : Fin 4) (h : Fin 2), win0_2.index (point k h) = ![0, k.val, 0, 0] := by decide +kernel

section
variable (m : (ℓ : Loc nD τ sig) → Buf (Elt Ideal) ℓ) (c : Dev nD)

/-- The arguments, and the product entry by entry. -/
def rows : S2048x512.Idx → EReal := m (c.tc.loc main_arg0)
def part : S2048x1024.Idx → EReal := m (c.tc.loc main_arg1)
def result : S1x4x512x256.Idx → EReal := fun i => ∑ e : Fin 2048, rows m c (ix2 e (i 2)) * part m c (ix2 e (col (i 1) (i 3)))

theorem rows_at (k : Fin 4) (h : Fin 2) (e : Fin 1024) (r : Fin 512) : iblk m c 0 (point k h) (ix2 e r) = rows m c (ix2 (halfRow h e) r) :=
  same2 (rows m c) _ _ _ (place (congrFun (rows_index k h) 0)) (place0 (congrFun (rows_index k h) 1))

theorem part_at (k : Fin 4) (h : Fin 2) (e : Fin 1024) (x : Fin 256) :
    iblk m c 1 (point k h) (ix2 e x) = part m c (ix2 (halfRow h e) (col k x)) :=
  same2 (part m c) _ _ _ (place (congrFun (part_index k h) 0)) (place (congrFun (part_index k h) 1))

theorem half (k : Fin 4) (h : Fin 2) (r : Fin 512) (x : Fin 256) (p : S512x256.Idx → EReal) :
    addCols (iblk m c 0 (point k h)) (iblk m c 1 (point k h)) p (ix2 r x)
      = p (ix2 r x) + ∑ e : Fin 1024, rows m c (ix2 (halfRow h e) r) * part m c (ix2 (halfRow h e) (col k x)) :=
  congrArg (fun s : EReal => p (ix2 r x) + s)
    (Finset.sum_congr rfl fun e _ => congrArg₂ (fun x y : EReal => x * y) (rows_at m c k h e r) (part_at m c k h e x))

theorem written_at (k : Fin 4) (r : Fin 512) (x : Fin 256) :
    (outsAt0 m c (point k 1).val (point k 1).isLt).1 (ix4 0 0 r x) = result m c (ix4 0 k r x) := by
  refine (congrFun (written m c (point k 1) (by show (2 * k.val + 1) % 2 = 1; omega)) _).trans ((half m c k 1 r x _).trans ?_)
  refine Eq.trans ?_ (two_halves fun e => rows m c (ix2 e r) * part m c (ix2 e (col k x)))
  exact congrArg (fun s : EReal => s + _)
    ((congrFun (sums m c (point k 0) (by show (2 * k.val) % 2 = 0; omega)) (ix2 r x)).trans ((half m c k 0 r x _).trans (zero_add _)))

theorem flushed (k : Fin 4) : (cfg0.win 2).flush (point k 1) = true := (flush0_2 _).2 (by show (2 * k.val + 1) % 2 = 1; omega)

theorem covered (i : S1x4x512x256.Idx) : ∃ t : Fin cfg0.N, (cfg0.win 2).flush t = true ∧ i ∈ ((cfg0.win 2).blk t).view.set := by
  have h0 : (i 0 : ℕ) < 1 := (i 0).isLt
  have h1 : (i 1 : ℕ) < 4 := (i 1).isLt
  have h2 : (i 2 : ℕ) < 512 := (i 2).isLt
  have h3 : (i 3 : ℕ) < 256 := (i 3).isLt
  obtain ⟨k, hk⟩ : ∃ k : Fin 4, k.val = (i 1 : ℕ) / 1 := ⟨⟨(i 1 : ℕ) / 1, by omega⟩, rfl⟩
  refine ⟨point k 1, flushed k, ?_⟩
  show i ∈ ((View.whole main_v0).slice (win0_2.rect (point k 1))).set
  rw [View.set_slice_whole, Rect.mem_set_unit]
  exact fun d => match d with
  | ⟨0, _⟩ => within (i 0) (congrFun (out_index k 1) 0) (by show 0 = (i 0 : ℕ) / 1; omega) (by show 0 < 1; decide)
  | ⟨1, _⟩ => within (i 1) (congrFun (out_index k 1) 1) hk (by show 0 < 1; decide)
  | ⟨2, _⟩ => within (i 2) (congrFun (out_index k 1) 2) (by show 0 = (i 2 : ℕ) / 512; omega) (by show 0 < 512; decide)
  | ⟨3, _⟩ => within (i 3) (congrFun (out_index k 1) 3) (by show 0 = (i 3 : ℕ) / 256; omega) (by show 0 < 256; decide)

theorem point_of (t : Fin cfg0.N) (h : t.val % 2 = 1) : ∃ k : Fin 4, t = point k 1 :=
  ⟨⟨t.val / 2, by have := t.isLt; have := points; omega⟩, Fin.ext (by show t.val = 2 * (t.val / 2) + 1; omega)⟩

theorem array : (dats m 0 c).arrAt 2 cfg0.N = result m c := by
  refine (dats m 0 c).arrAt_eq_of_cover 2 (result m c) (fun t h => ?_) covered
  obtain ⟨k, rfl⟩ := point_of t ((flush0_2 t).1 h)
  show (cfg0.win 2).cut (grid0.coords _) ((dats m 0 c).after 2 _) = _
  rw [after0_2]
  funext y
  obtain ⟨u, v, r, x, rfl⟩ : ∃ (u v : Fin 1) (r : Fin 512) (x : Fin 256), y = ix4 u v r x := ⟨y 0, y 1, y 2, y 3, eq_ix4 y⟩
  obtain rfl : u = 0 := Subsingleton.elim _ _
  obtain rfl : v = 0 := Subsingleton.elim _ _
  refine (written_at m c k r x).trans ?_
  exact (same4 (result m c) _ _ _ _ _ (place1 (congrFun (out_index k 1) 0)) (place1 (congrFun (out_index k 1) 1))
    (place0 (congrFun (out_index k 1) 2)) (place0 (congrFun (out_index k 1) 3))).symm
end

/-! ## The reference -/

section
open Cert.Reference21Ideal.Read
variable (x0 : S2048x512.Idx → EReal) (x1 : S2048x1024.Idx → EReal)

theorem product (k : Fin 4) (r : Fin 512) (x : Fin 256) (i : Cert.Reference21Ideal.S512x1024.Idx) (h0 : (i 0).val = r.val) (h1 : (i 1).val = 256 * k.val + x.val) :
    val_main_v2 (F := Ideal) x0 x1 i = ∑ e : Fin 2048, x0 (ix2 e r) * x1 (ix2 e (col k x)) := by
  refine (val_main_v2_apply ..).trans ((val_main_v1_apply ..).trans (Finset.sum_congr rfl fun e _ => ?_))
  exact congrArg₂ (· * ·) (same2 x0 _ e r rfl h0) ((val_main_v0_apply ..).trans (same2 x1 _ e (col k x) rfl h1))

theorem reference (i : S1x4x512x256.Idx) : val_main_v5 (F := Ideal) x0 x1 i =
    ∑ e : Fin 2048, x0 (ix2 e (i 2)) * x1 (ix2 e (col (i 1) (i 3))) := by
  have h1 : (i 1).val < 4 := (i 1).isLt
  have h2 : (i 2).val < 512 := (i 2).isLt
  have h3 : (i 3).val < 256 := (i 3).isLt
  refine (val_main_v5_apply ..).trans ((val_main_v4_apply ..).trans ((val_main_v3_apply ..).trans (product x0 x1 (i 1) (i 2) (i 3) _ ?_ ?_)))
  · show (((i 2).val * 4 + (i 1).val) * 256 + (i 3).val) / 1024 = (i 2).val
    omega
  · show (((i 2).val * 4 + (i 1).val) * 256 + (i 3).val) % 1024 = 256 * (i 1).val + (i 3).val
    omega
end

/-! ## The claims -/

/-- The kernel and its idealisation are the same program, so one run is both programs' frame. -/
theorem same_body : @Cert.Kernel21.cc0_mm_xo_dw Bits _ _ = @Cert.Kernel21Ideal.cc0_mm_xo_dw Bits _ _ := rfl
theorem same_table : Cert.Kernel21.defs₀ (F := Bits) = Cert.Kernel21Ideal.defs₀ (F := Bits) :=
  congrArg _ (funext fun a => match a with | 0 => funext fun ⟨_, _⟩ => rfl)
theorem same_program : Cert.Kernel21.defs (F := Bits) = Cert.Kernel21Ideal.defs (F := Bits) := congrArg (Pipeline.defs _) same_table
theorem frame_kernel : Cert.quiescent_Kernel21 := fun m g _ => by
  rw [same_program]
  exact Cert.Kernel21Ideal.Gen.frame (F := Bits) m g
theorem preserves : Cert.preserves_Kernel21_Kernel21Ideal := trivial
theorem frame_ideal : Cert.quiescent_Kernel21Ideal := fun m g _ => Cert.Kernel21Ideal.Gen.frame m g
theorem frame_reference : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

theorem values : Cert.algebraic_Kernel21Ideal_Reference21Ideal := by
  intro m g m' g' _ hm
  refine ⟨fun c => result m c, ?_, ?_⟩
  · exact (θ_run Cert.Kernel21Ideal.defs _ _).mono (fun r h c => ⟨((h.1 c).1 2).trans (array m c), h.2 c⟩) (θ_run_and (run_main m g) (unchanged m g))
  · refine (θ_run Cert.Reference21Ideal.defs _ _).mono (fun r h c => ⟨?_, (h c).2⟩) (Cert.Reference21Ideal.Value.run (F := Ideal) m' g')
    obtain ⟨e0, e1⟩ := hm c
    refine (h c).1.trans ((Cert.Reference21Ideal.Read.val_main_v5_eq ..).trans ?_)
    rw [e0, e1]
    exact funext fun i => reference _ _ i

end Cert.CrossOutDw
-- ==== Proof.CrossQueryDx.lean ====
module

public import proofs.«01_k».proof.Defs
public import proofs.«01_k».proof.Proof.Products
public import proofs.«01_k».proof.Proof.Gen.Kernel22
public import proofs.«01_k».proof.Proof.Gen.Kernel22Ideal.Frame
public import proofs.«01_k».proof.Proof.Gen.Reference22Ideal.Run
public import proofs.«01_k».proof.Proof.Gen.Reference22Ideal.Read

/-! The gradient of the cross attention's normed input through its queries: 1024 rows at a point. -/

@[expose] public section

noncomputable section

namespace Cert.CrossQueryDx

open Idealize.ShloMosaic Idealize.ShloMosaic.TcCoe Idealize.SL.Sem Cert.Kernel22Ideal Cert.Kernel22Ideal.Gen Cert.Products

/-- What a point writes. -/
theorem written (a : Vec Ideal S1024x512 .bf16) (w : Vec Ideal S1024x512 .bf16) : out0_2 a w = addRows a w (fun _ => 0) := by
  unfold out0_2
  rw [stored2, whole2, whole2]
  funext i
  pointwise [k0_pay1, addRows]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem out_index : ∀ a : Fin 2, win0_2.index (point a) = ![a.val, 0] := by decide +kernel

section
variable (m : (ℓ : Loc nD τ sig) → Buf (Elt Ideal) ℓ) (c : Dev nD)

/-- The arguments, and the result entry by entry. -/
def rows : S2048x512.Idx → EReal := m (c.tc.loc main_arg0)
def weights : S1024x512.Idx → EReal := m (c.tc.loc main_arg1)
def result : S2048x1024.Idx → EReal := fun i => ∑ e : Fin 512, rows m c (ix2 (i 0) e) * weights m c (ix2 (i 1) e)

theorem rows_at (a : Fin 2) (r : Fin 1024) (e : Fin 512) : iblk m c 0 (point a) (ix2 r e) = rows m c (ix2 (row a r) e) :=
  same2 (rows m c) _ _ _ (place (congrFun (rows_index a) 0)) (place0 (congrFun (rows_index a) 1))
theorem weight_at (a : Fin 2) (p : Fin 1024) (q : Fin 512) : iblk m c 1 (point a) (ix2 p q) = weights m c (ix2 p q) :=
  same2 (weights m c) _ _ _ (place0 (congrFun (weight_index a) 0)) (place0 (congrFun (weight_index a) 1))

theorem written_at (a : Fin 2) (r : Fin 1024) (x : Fin 1024) :
    out0_2 (iblk m c 0 (point a)) (iblk m c 1 (point a)) (ix2 r x) = result m c (ix2 (row a r) x) :=
  (congrFun (written _ _) _).trans ((zero_add _).trans (Finset.sum_congr rfl fun e _ =>
    congrArg₂ (fun x y : EReal => x * y) (rows_at m c a r e) (weight_at m c a x e)))

theorem covered (i : S2048x1024.Idx) : ∃ t : Fin cfg0.N, (cfg0.win 2).flush t = true ∧ i ∈ ((cfg0.win 2).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 1024; decide)

theorem point_of (t : Fin cfg0.N) : ∃ a : Fin 2, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 1024) (x : Fin 1024), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference22Ideal.Read in
theorem reference (x0 : S2048x512.Idx → EReal) (x1 : S1024x512.Idx → EReal) (i : S2048x1024.Idx) :
    val_main_v2 (F := Ideal) x0 x1 i = ∑ e : Fin 512, x0 (ix2 (i 0) e) * x1 (ix2 (i 1) e) := by
  refine (val_main_v2_apply ..).trans ((val_main_v1_apply ..).trans ((val_main_v0_apply ..).trans ?_))
  exact Finset.sum_congr rfl fun e _ => congrArg₂ (· * ·) (same2 x0 _ (i 0) e rfl rfl) (same2 x1 _ (i 1) e rfl rfl)

/-! ## The claims -/

/-- The kernel and its idealisation are the same program, so one run is both programs' frame. -/
theorem same_body : @Cert.Kernel22.cc0_mm_xq_dx Bits _ _ = @Cert.Kernel22Ideal.cc0_mm_xq_dx Bits _ _ := rfl
theorem same_table : Cert.Kernel22.defs₀ (F := Bits) = Cert.Kernel22Ideal.defs₀ (F := Bits) :=
  congrArg _ (funext fun a => match a with | 0 => funext fun ⟨_, _⟩ => rfl)
theorem same_program : Cert.Kernel22.defs (F := Bits) = Cert.Kernel22Ideal.defs (F := Bits) := congrArg (Pipeline.defs _) same_table
theorem frame_kernel : Cert.quiescent_Kernel22 := fun m g _ => by
  rw [same_program]
  exact Cert.Kernel22Ideal.Gen.frame (F := Bits) m g
theorem preserves : Cert.preserves_Kernel22_Kernel22Ideal := trivial
theorem frame_ideal : Cert.quiescent_Kernel22Ideal := fun m g _ => Cert.Kernel22Ideal.Gen.frame m g
theorem frame_reference : Cert.quiescent_Reference22Ideal := fun m g _ =>
  (θ_run Cert.Reference22Ideal.defs _ _).mono (fun r h => ⟨fun c => (h c).2, sem_eq_zero_of_no_sems (by decide) r.2⟩)
    (Cert.Reference22Ideal.Value.run (F := Ideal) m g)

theorem values : Cert.algebraic_Kernel22Ideal_Reference22Ideal := by
  intro m g m' g' _ hm
  refine ⟨fun c => result m c, ?_, ?_⟩
  · exact (θ_run Cert.Kernel22Ideal.defs _ _).mono (fun r h c => ⟨((h.1 c).1 2).trans (array m c), h.2 c⟩) (θ_run_and (run_main m g) (unchanged m g))
  · refine (θ_run Cert.Reference22Ideal.defs _ _).mono (fun r h c => ⟨?_, (h c).2⟩) (Cert.Reference22Ideal.Value.run (F := Ideal) m' g')
    obtain ⟨e0, e1⟩ := hm c
    refine (h c).1.trans ((Cert.Reference22Ideal.Read.val_main_v2_eq ..).trans ?_)
    rw [e0, e1]
    exact funext fun i => reference _ _ i

end Cert.CrossQueryDx
-- ==== Proof.CrossQueryDw.lean ====
module

public import proofs.«01_k».proof.Defs
public import proofs.«01_k».proof.Proof.Products
public import proofs.«01_k».proof.Proof.Gen.Kernel23
public import proofs.«01_k».proof.Proof.Gen.Kernel23Ideal.Frame
public import proofs.«01_k».proof.Proof.Gen.Reference23Ideal.Run
public import proofs.«01_k».proof.Proof.Gen.Reference23Ideal.Read

/-! The gradient of the cross attention's query weights: the normed rows and the queries' gradient, one half of the tokens at a point. -/

@[expose] public section

noncomputable section

namespace Cert.CrossQueryDw

open Idealize.ShloMosaic Idealize.ShloMosaic.TcCoe Idealize.SL.Sem Cert.Kernel23Ideal Cert.Kernel23Ideal.Gen Cert.Products

/-! ## One point -/

theorem first_sum (a : Vec Ideal S1024x1024 .bf16) (w : Vec Ideal S1024x512 .bf16) : k0_pay2 a w = addCols a w (fun _ => 0) := by
  funext i
  pointwise [k0_pay2, k0_pay1, addCols]
theorem next_sum (a : Vec Ideal S1024x1024 .bf16) (w : Vec Ideal S1024x512 .bf16) (p : Vec Ideal S1024x512 .f32) :
    k0_pay4 (k0_pay3 a w p) = fun i => addCols a w p (ix2 (i 1) (i 2)) := by
  funext i
  pointwise [k0_pay4, k0_pay3, k0_pay1, addCols]

section
variable (m : (ℓ : Loc nD τ sig) → Buf (Elt Ideal) ℓ) (c : Dev nD) (t : Fin cfg0.N)

/-- The partial sums the point before left. -/
abbrev before : S1024x512.Idx → EReal := (outsAt0 m c (t.val - 1) (Nat.lt_of_le_of_lt (Nat.sub_le _ _) t.isLt)).2

/-- The first half of the rows goes to the partial sums. -/
theorem sums (h : t.val % 2 = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

/-- The second half is added to them and the block is written. -/
theorem written (h : t.val % 2 = 1) :
    (outsAt0 m c t.val t.isLt).1 = fun i => addCols (iblk m c 0 t) (iblk m c 1 t) (before m c t) (ix2 (i 1) (i 2)) := by
  rw [outsAt0_B m c t] <;> try omega
  dsimp only
  unfold out0_B_2; rw [View.read_writes_eq_canon _ _ _ fun y => cover0_B_2 (y := y) ..]
  unfold kernelRun0_B
  dsimp only
  sl_unfold_words
  rw [stored3, View.readCov_unit_zero (S := S1024x512) _ origin2, load2 (hs0_0 t), load2 (hs0_1 t), load2 (Memref.isWhole_whole cc0_scratch0)]
  exact next_sum _ _ _
end

/-! ## The array -/

theorem points : cfg0.N = 2 := by decide

/-- The point that takes half `k` of the rows for the `a`-th block of the gradient; the block's rows. -/
def point (a : Fin 1) (k : Fin 2) : Fin cfg0.N := ⟨2 * a.val + k.val, by have := points; omega⟩
def place_of (a : Fin 1) (r : Fin 1024) : Fin 1024 := ⟨1024 * a.val + r.val, by omega⟩

theorem left_index : ∀ (a : Fin 1) (k : Fin 2), win0_0.index (point a k) = ![k.val, a.val] := by decide +kernel
theorem right_index : ∀ (a : Fin 1) (k : Fin 2), win0_1.index (point a k) = ![k.val, 0] := by decide +kernel
theorem out_index : ∀ (a : Fin 1) (k : Fin 2), win0_2.index (point a k) = ![0, a.val, 0] := by decide +kernel

section
variable (m : (ℓ : Loc nD τ sig) → Buf (Elt Ideal) ℓ) (c : Dev nD)

/-- The arguments, and the product entry by entry. -/
def left : S2048x1024.Idx → EReal := m (c.tc.loc main_arg0)
def right : S2048x512.Idx → EReal := m (c.tc.loc main_arg1)
def result : S1x1024x512.Idx → EReal := fun i => ∑ e : Fin 2048, left m c (ix2 e (i 1)) * right m c (ix2 e (i 2))

theorem left_at (a : Fin 1) (k : Fin 2) (e : Fin 1024) (r : Fin 1024) : iblk m c 0 (point a k) (ix2 e r) = left m c (ix2 (halfRow k e) (place_of a r)) :=
  same2 (left m c) _ _ _ (place (congrFun (left_index a k) 0)) (place (congrFun (left_index a k) 1))
theorem right_at (a : Fin 1) (k : Fin 2) (e : Fin 1024) (x : Fin 512) : iblk m c 1 (point a k) (ix2 e x) = right m c (ix2 (halfRow k e) x) :=
  same2 (right m c) _ _ _ (place (congrFun (right_index a k) 0)) (place0 (congrFun (right_index a k) 1))

theorem half (a : Fin 1) (k : Fin 2) (r : Fin 1024) (x : Fin 512) (p : S1024x512.Idx → EReal) :
    addCols (iblk m c 0 (point a k)) (iblk m c 1 (point a k)) p (ix2 r x)
      = p (ix2 r x) + ∑ e : Fin 1024, left m c (ix2 (halfRow k e) (place_of a r)) * right m c (ix2 (halfRow k e) x) :=
  congrArg (fun s : EReal => p (ix2 r x) + s)
    (Finset.sum_congr rfl fun e _ => congrArg₂ (fun x y : EReal => x * y) (left_at m c a k e r) (right_at m c a k e x))

theorem written_at (a : Fin 1) (r : Fin 1024) (x : Fin 512) :
    (outsAt0 m c (point a 1).val (point a 1).isLt).1 (ix3 0 r x) = result m c (ix3 0 (place_of a r) x) := by
  refine (congrFun (written m c (point a 1) (by show (2 * a.val + 1) % 2 = 1; omega)) _).trans ?_
  refine (half m c a 1 r x _).trans (Eq.trans ?_ (two_halves fun e => left m c (ix2 e (place_of a r)) * right m c (ix2 e x)))
  exact congrArg (fun s : EReal => s + _) ((congrFun (sums m c (point a 0) (by show (2 * a.val + 0) % 2 = 0; omega)) (ix2 r x)).trans
    ((half m c a 0 r x _).trans (zero_add _)))

theorem flushed (a : Fin 1) : (cfg0.win 2).flush (point a 1) = true := (flush0_2 _).2 (by show (2 * a.val + 1) % 2 = 1; omega)

theorem covered (i : S1x1024x512.Idx) : ∃ t : Fin cfg0.N, (cfg0.win 2).flush t = true ∧ i ∈ ((cfg0.win 2).blk t).view.set := by
  have h0 : (i 0 : ℕ) < 1 := (i 0).isLt
  have h1 : (i 1 : ℕ) < 1024 := (i 1).isLt
  have h2 : (i 2 : ℕ) < 512 := (i 2).isLt
  obtain ⟨a, ha⟩ : ∃ a : Fin 1, a.val = (i 1 : ℕ) / 1024 := ⟨⟨(i 1 : ℕ) / 1024, by omega⟩, rfl⟩
  refine ⟨point a 1, flushed a, ?_⟩
  show i ∈ ((View.whole main_v0).slice (win0_2.rect (point a 1))).set
  rw [View.set_slice_whole, Rect.mem_set_unit]
  exact fun d => match d with
  | ⟨0, _⟩ => within (i 0) (congrFun (out_index a 1) 0) (by show 0 = (i 0 : ℕ) / 1; omega) (by show 0 < 1; decide)
  | ⟨1, _⟩ => within (i 1) (congrFun (out_index a 1) 1) ha (by show 0 < 1024; decide)
  | ⟨2, _⟩ => within (i 2) (congrFun (out_index a 1) 2) (by show 0 = (i 2 : ℕ) / 512; omega) (by show 0 < 512; decide)

theorem point_of (t : Fin cfg0.N) (h : t.val % 2 = 1) : ∃ a : Fin 1, t = point a 1 :=
  ⟨⟨t.val / 2, by have := t.isLt; have := points; omega⟩, Fin.ext (by show t.val = 2 * (t.val / 2) + 1; omega)⟩

theorem array : (dats m 0 c).arrAt 2 cfg0.N = result m c := by
  refine (dats m 0 c).arrAt_eq_of_cover 2 (result m c) (fun t h => ?_) covered
  obtain ⟨a, rfl⟩ := point_of t ((flush0_2 t).1 h)
  show (cfg0.win 2).cut (grid0.coords _) ((dats m 0 c).after 2 _) = _
  rw [after0_2]
  funext y
  obtain ⟨u, r, x, rfl⟩ : ∃ (u : Fin 1) (r : Fin 1024) (x : Fin 512), y = ix3 u r x := ⟨y 0, y 1, y 2, eq_ix3 y⟩
  obtain rfl : u = 0 := Subsingleton.elim _ _
  refine (written_at m c a r x).trans ?_
  exact (same3 (result m c) _ _ _ _ (place1 (congrFun (out_index a 1) 0)) (place (congrFun (out_index a 1) 1)) (place0 (congrFun (out_index a 1) 2))).symm
end

/-! ## The reference -/

section
open Cert.Reference23Ideal.Read
variable (x0 : S2048x1024.Idx → EReal) (x1 : S2048x512.Idx → EReal)

theorem reference (i : S1x1024x512.Idx) :
    val_main_v2 (F := Ideal) x0 x1 i = ∑ e : Fin 2048, x0 (ix2 e (i 1)) * x1 (ix2 e (i 2)) := by
  refine (val_main_v2_apply ..).trans ((val_main_v1_apply ..).trans ((val_main_v0_apply ..).trans (Finset.sum_congr rfl fun e _ => ?_)))
  exact congrArg₂ (· * ·) (same2 x0 _ e (i 1) rfl rfl) ((same2 x1 _ e (i 2) rfl rfl))
end

/-! ## The claims -/

/-- The kernel and its idealisation are the same program, so one run is both programs' frame. -/
theorem same_body : @Cert.Kernel23.cc0_mm_xq_dw Bits _ _ = @Cert.Kernel23Ideal.cc0_mm_xq_dw Bits _ _ := rfl
theorem same_table : Cert.Kernel23.defs₀ (F := Bits) = Cert.Kernel23Ideal.defs₀ (F := Bits) :=
  congrArg _ (funext fun a => match a with | 0 => funext fun ⟨_, _⟩ => rfl)
theorem same_program : Cert.Kernel23.defs (F := Bits) = Cert.Kernel23Ideal.defs (F := Bits) := congrArg (Pipeline.defs _) same_table
theorem frame_kernel : Cert.quiescent_Kernel23 := fun m g _ => by
  rw [same_program]
  exact Cert.Kernel23Ideal.Gen.frame (F := Bits) m g
theorem preserves : Cert.preserves_Kernel23_Kernel23Ideal := trivial
theorem frame_ideal : Cert.quiescent_Kernel23Ideal := fun m g _ => Cert.Kernel23Ideal.Gen.frame m g
theorem frame_reference : Cert.quiescent_Reference23Ideal := fun m g _ =>
  (θ_run Cert.Reference23Ideal.defs _ _).mono (fun r h => ⟨fun c => (h c).2, sem_eq_zero_of_no_sems (by decide) r.2⟩)
    (Cert.Reference23Ideal.Value.run (F := Ideal) m g)

theorem values : Cert.algebraic_Kernel23Ideal_Reference23Ideal := by
  intro m g m' g' _ hm
  refine ⟨fun c => result m c, ?_, ?_⟩
  · exact (θ_run Cert.Kernel23Ideal.defs _ _).mono (fun r h c => ⟨((h.1 c).1 2).trans (array m c), h.2 c⟩) (θ_run_and (run_main m g) (unchanged m g))
  · refine (θ_run Cert.Reference23Ideal.defs _ _).mono (fun r h c => ⟨?_, (h c).2⟩) (Cert.Reference23Ideal.Value.run (F := Ideal) m' g')
    obtain ⟨e0, e1⟩ := hm c
    refine (h c).1.trans ((Cert.Reference23Ideal.Read.val_main_v2_eq ..).trans ?_)
    rw [e0, e1]
    exact funext fun i => reference _ _ i

end Cert.CrossQueryDw
-- ==== Proof.CrossMemoryDx.lean ====
module

public import proofs.«01_k».proof.Defs
public import proofs.«01_k».proof.Proof.Products
public import proofs.«01_k».proof.Proof.Gen.Kernel24
public import proofs.«01_k».proof.Proof.Gen.Kernel24Ideal.Frame
public import proofs.«01_k».proof.Proof.Gen.Reference24Ideal.Run
public import proofs.«01_k».proof.Proof.Gen.Reference24Ideal.Read

/-! The gradient of the normed memory: the gradients of the keys and of the values times their weights, one of the two at a point, and
added to what the layers above gave. -/

@[expose] public section

noncomputable section

namespace Cert.CrossMemoryDx

open Idealize.ShloMosaic Idealize.ShloMosaic.TcCoe Idealize.SL.Sem Cert.Kernel24Ideal Cert.Kernel24Ideal.Gen Cert.Products

/-! ## One point -/

theorem first_sum (a : Vec Ideal S256x512 .f32) (w : Vec Ideal S1024x512 .bf16) : k0_pay3 a w = addRows a w (fun _ => 0) := by
  funext i
  pointwise [k0_pay3, k0_pay2, addRows]
theorem next_sum (a : Vec Ideal S256x512 .f32) (w : Vec Ideal S1024x512 .bf16) (p : Vec Ideal S256x1024 .f32) : k0_pay7 a w p = addRows a w p := by
  funext i
  pointwise [k0_pay7, k0_pay5, addRows]
theorem last_sum (a : Vec Ideal S256x512 .f32) (w : Vec Ideal S1024x512 .bf16) (p q : Vec Ideal S256x1024 .f32) :
    k0_pay1 (k0_pay7 a w p) q = fun i => addRows a w p i + q i := by
  rw [next_sum]
  funext i
  pointwise [k0_pay1]

section
variable (m : (ℓ : Loc nD τ sig) → Buf (Elt Ideal) ℓ) (c : Dev nD) (t : Fin cfg0.N)

/-- The partial sums the point before left. -/
abbrev before : S256x1024.Idx → EReal := (outsAt0 m c (t.val - 1) (Nat.lt_of_le_of_lt (Nat.sub_le _ _) t.isLt)).2

/-! The first part goes to the partial sums; with the second the result is written. -/

theorem sums (h : t.val % 2 = 0) : (outsAt0 m c t.val t.isLt).2 = addRows (iblk m c 0 t) (iblk m c 2 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_2 t)]
  exact first_sum _ _

theorem written (h : t.val % 2 = 1) : (outsAt0 m c t.val t.isLt).1 =
    fun i => addRows (iblk m c 1 t) (iblk m c 2 t) (before m c t) i + (iblk m c 3 t : S256x1024.Idx → EReal) i := by
  rw [outsAt0_B m c t] <;> try omega
  dsimp only
  unfold out0_B_4; rw [View.read_writes_eq_canon _ _ _ fun y => cover0_B_4 (y := y) ..]
  unfold kernelRun0_B
  dsimp only
  sl_unfold_words
  rw [stored2, View.readCov_unit_zero (S := S256x1024) _ origin2, load2 (hs0_1 t), load2 (hs0_2 t), load2 (hs0_3 t), load2 (Memref.isWhole_whole cc0_scratch0)]
  exact last_sum _ _ _ _
end

/-! ## The array -/

theorem points : cfg0.N = 2 := by decide

/-- The point that takes part `k`; the columns of that part. -/
def point (k : Fin 2) : Fin cfg0.N := ⟨k.val, by have := points; omega⟩
def col (k : Fin 2) (e : Fin 512) : Fin 1024 := ⟨512 * k.val + e.val, by omega⟩

theorem first_index : win0_0.index (point 0) = ![0, 0] := by decide +kernel
theorem second_index : win0_1.index (point 1) = ![0, 0] := by decide +kernel
theorem weight_index : ∀ k : Fin 2, win0_2.index (point k) = ![0, k.val] := by decide +kernel
theorem added_index : win0_3.index (point 1) = ![0, 0] := by decide +kernel
theorem out_index : win0_4.index (point 1) = ![0, 0] := by decide +kernel

section
variable (m : (ℓ : Loc nD τ sig) → Buf (Elt Ideal) ℓ) (c : Dev nD)

/-- The arguments, and the result entry by entry. -/
def keys : S256x512.Idx → EReal := m (c.tc.loc main_arg0)
def vals : S256x512.Idx → EReal := m (c.tc.loc main_arg1)
def weights : S1024x1024.Idx → EReal := m (c.tc.loc main_arg2)
def added : S256x1024.Idx → EReal := m (c.tc.loc main_arg3)
def result : S256x1024.Idx → EReal := fun i =>
  (∑ e : Fin 512, keys m c (ix2 (i 0) e) * weights m c (ix2 (i 1) (col 0 e)) + ∑ e : Fin 512, vals m c (ix2 (i 0) e) * weights m c (ix2 (i 1) (col 1 e))) + added m c i

theorem keys_at (r : Fin 256) (e : Fin 512) : iblk m c 0 (point 0) (ix2 r e) = keys m c (ix2 r e) :=
  same2 (keys m c) _ _ _ (place0 (congrFun first_index 0)) (place0 (congrFun first_index 1))
theorem vals_at (r : Fin 256) (e : Fin 512) : iblk m c 1 (point 1) (ix2 r e) = vals m c (ix2 r e) :=
  same2 (vals m c) _ _ _ (place0 (congrFun second_index 0)) (place0 (congrFun second_index 1))
theorem weight_at (k : Fin 2) (x : Fin 1024) (e : Fin 512) : iblk m c 2 (point k) (ix2 x e) = weights m c (ix2 x (col k e)) :=
  same2 (weights m c) _ _ _ (place0 (congrFun (weight_index k) 0)) (place (congrFun (weight_index k) 1))
theorem added_at (r : Fin 256) (x : Fin 1024) : iblk m c 3 (point 1) (ix2 r x) = added m c (ix2 r x) :=
  same2 (added m c) _ _ _ (place0 (congrFun added_index 0)) (place0 (congrFun added_index 1))

theorem written_at (r : Fin 256) (x : Fin 1024) : (outsAt0 m c (point 1).val (point 1).isLt).1 (ix2 r x) = result m c (ix2 r x) :=
  (congrFun (written m c (point 1) rfl) _).trans (congrArg₂ (fun x y : EReal => x + y) (congrArg₂ (fun x y : EReal => x + y)
    ((congrFun (sums m c (point 0) rfl) (ix2 r x)).trans ((zero_add _).trans (Finset.sum_congr rfl fun e _ =>
      congrArg₂ (fun x y : EReal => x * y) (keys_at m c r e) (weight_at m c 0 x e))))
    (Finset.sum_congr rfl fun e _ => congrArg₂ (fun x y : EReal => x * y) (vals_at m c r e) (weight_at m c 1 x e))) (added_at m c r x))

theorem covered (i : S256x1024.Idx) : ∃ t : Fin cfg0.N, (cfg0.win 4).flush t = true ∧ i ∈ ((cfg0.win 4).blk t).view.set := by
  refine ⟨point 1, (flush0_4 _).mpr rfl, ?_⟩
  show i ∈ ((View.whole main_v0).slice (win0_4.rect (point 1))).set
  rw [View.set_slice_whole, Rect.mem_set_unit]
  exact fun d => match d with
  | ⟨0, _⟩ => within (i 0) (congrFun out_index 0) (Nat.div_eq_of_lt (i 0).isLt).symm (by show 0 < 256; decide)
  | ⟨1, _⟩ => within (i 1) (congrFun out_index 1) (Nat.div_eq_of_lt (i 1).isLt).symm (by show 0 < 1024; decide)

theorem array : (dats m 0 c).arrAt 4 cfg0.N = result m c := by
  refine (dats m 0 c).arrAt_eq_of_cover 4 (result m c) (fun t h => ?_) covered
  obtain rfl : t = point 1 := Fin.ext (by have := (flush0_4 t).mp h; have := t.isLt; have := points; show t.val = 1; omega)
  show (cfg0.win 4).cut (grid0.coords _) ((dats m 0 c).after 4 _) = _
  rw [after0_4]
  funext y
  obtain ⟨r, x, rfl⟩ : ∃ (r : Fin 256) (x : Fin 1024), y = ix2 r x := ⟨y 0, y 1, eq_ix2 y⟩
  exact (written_at m c r x).trans (same2 (result m c) _ _ _ (place0 (congrFun out_index 0)) (place0 (congrFun out_index 1))).symm
end

/-! ## The reference -/

section
open Cert.Reference24Ideal.Read
variable (x0 x1 : S256x512.Idx → EReal) (x2 : S1024x1024.Idx → EReal) (x3 : S256x1024.Idx → EReal)

/-- Column `512 k + e` of the joined gradients is column `e` of part `k`. -/
theorem joined (r : Fin 256) (k : Fin 2) (e : Fin 512) (i : S256x1024.Idx) (h0 : (i 0).val = r.val) (h1 : (i 1).val = 512 * k.val + e.val) :
    val_main_v0 (F := Ideal) x0 x1 i = (![x0, x1] : Fin 2 → S256x512.Idx → EReal) k (ix2 r e) :=
  concatenate_ofFn_apply (t := S256x1024) (s₁ := S256x512) 1 ![x0, x1] _ rfl 512 rfl i k
    (by rw [h1]; omega) (ix2 r e)
    (by rw [h1]; show e.val = (512 * k.val + e.val) % 512; omega)
    (fun b hb => match b with
      | ⟨0, _⟩ => h0.symm
      | ⟨1, _⟩ => absurd rfl hb)

theorem product (i : S256x1024.Idx) : val_main_v2 (F := Ideal) x0 x1 x2 i =
    ∑ e : Fin 512, x0 (ix2 (i 0) e) * x2 (ix2 (i 1) (col 0 e)) + ∑ e : Fin 512, x1 (ix2 (i 0) e) * x2 (ix2 (i 1) (col 1 e)) := by
  refine (val_main_v2_apply ..).trans ((sum_parts (n := 2) (w := 512) (by decide) _
    (fun k e => (![x0, x1] : Fin 2 → S256x512.Idx → EReal) k (ix2 (i 0) e) * x2 (ix2 (i 1) (col k e))) fun k e hk => ?_).trans (Fin.sum_univ_two _))
  exact congrArg₂ (· * ·) ((val_main_v1_apply ..).trans (joined x0 x1 (i 0) k e _ rfl rfl)) (same2 x2 _ (i 1) (col k e) rfl rfl)

theorem reference (i : S256x1024.Idx) : val_main_v5 (F := Ideal) x0 x1 x2 x3 i =
    (∑ e : Fin 512, x0 (ix2 (i 0) e) * x2 (ix2 (i 1) (col 0 e)) + ∑ e : Fin 512, x1 (ix2 (i 0) e) * x2 (ix2 (i 1) (col 1 e))) + x3 i :=
  (val_main_v5_apply ..).trans ((congrArg (fun s : EReal => x3 i + s)
    ((val_main_v4_apply ..).trans ((val_main_v3_apply ..).trans (product x0 x1 x2 i)))).trans (add_comm _ _))
end

/-! ## The claims -/

/-- The kernel and its idealisation are the same program, so one run is both programs' frame. -/
theorem same_body : @Cert.Kernel24.cc0_mm_xkv_dx Bits _ _ = @Cert.Kernel24Ideal.cc0_mm_xkv_dx Bits _ _ := rfl
theorem same_table : Cert.Kernel24.defs₀ (F := Bits) = Cert.Kernel24Ideal.defs₀ (F := Bits) :=
  congrArg _ (funext fun a => match a with | 0 => funext fun ⟨_, _⟩ => rfl)
theorem same_program : Cert.Kernel24.defs (F := Bits) = Cert.Kernel24Ideal.defs (F := Bits) := congrArg (Pipeline.defs _) same_table
theorem frame_kernel : Cert.quiescent_Kernel24 := fun m g _ => by
  rw [same_program]
  exact Cert.Kernel24Ideal.Gen.frame (F := Bits) m g
theorem preserves : Cert.preserves_Kernel24_Kernel24Ideal := trivial
theorem frame_ideal : Cert.quiescent_Kernel24Ideal := fun m g _ => Cert.Kernel24Ideal.Gen.frame m g
theorem frame_reference : Cert.quiescent_Reference24Ideal := fun m g _ =>
  (θ_run Cert.Reference24Ideal.defs _ _).mono (fun r h => ⟨fun c => (h c).2, sem_eq_zero_of_no_sems (by decide) r.2⟩)
    (Cert.Reference24Ideal.Value.run (F := Ideal) m g)

theorem values : Cert.algebraic_Kernel24Ideal_Reference24Ideal := by
  intro m g m' g' _ hm
  refine ⟨fun c => result m c, ?_, ?_⟩
  · exact (θ_run Cert.Kernel24Ideal.defs _ _).mono (fun r h c => ⟨((h.1 c).1 4).trans (array m c), h.2 c⟩) (θ_run_and (run_main m g) (unchanged m g))
  · refine (θ_run Cert.Reference24Ideal.defs _ _).mono (fun r h c => ⟨?_, (h c).2⟩) (Cert.Reference24Ideal.Value.run (F := Ideal) m' g')
    obtain ⟨e0, e1, e2, e3⟩ := hm c
    refine (h c).1.trans ((Cert.Reference24Ideal.Read.val_main_v5_eq ..).trans ?_)
    rw [e0, e1, e2, e3]
    exact funext fun i => reference _ _ _ _ i

end Cert.CrossMemoryDx
-- ==== Proof.CrossMemoryDw.lean ====
module

public import proofs.«01_k».proof.Defs
public import proofs.«01_k».proof.Proof.Products
public import proofs.«01_k».proof.Proof.Gen.Kernel25
public import proofs.«01_k».proof.Proof.Gen.Kernel25Ideal.Frame
public import proofs.«01_k».proof.Proof.Gen.Reference25Ideal.Run
public import proofs.«01_k».proof.Proof.Gen.Reference25Ideal.Read

/-! The gradient of the cross attention's key and value weights: the normed memory times the gradients of the keys and of the values, one of
the two at a point. -/

@[expose] public section

noncomputable section

namespace Cert.CrossMemoryDw

open Idealize.ShloMosaic Idealize.ShloMosaic.TcCoe Idealize.SL.Sem Cert.Kernel25Ideal Cert.Kernel25Ideal.Gen Cert.Products

/-! ## One point -/

theorem first_part (a : Vec Ideal S256x1024 .bf16) (w : Vec Ideal S256x512 .f32) :
    k0_pay1 a w = fun i => addCols a w (fun _ => 0) (ix2 (i 1) (i 2)) := by
  funext i
  pointwise [k0_pay1, addCols]
theorem second_part (a : Vec Ideal S256x1024 .bf16) (w : Vec Ideal S256x512 .f32) : k0_pay2 a w = k0_pay1 a w := rfl

section
variable (m : (ℓ : Loc nD τ sig) → Buf (Elt Ideal) ℓ) (c : Dev nD) (t : Fin cfg0.N)

/-- Part `k` of the gradients, as a point is given it. -/
def given (k : Fin 2) : S256x512.Idx → EReal := match k with
  | ⟨0, _⟩ => iblk m c 1 t
  | ⟨1, _⟩ => iblk m c 2 t

theorem written0 (h : t.val % 2 = 0) : outsAt0 m c t.val t.isLt = fun i => addCols (iblk m c 0 t) (given m c t 0) (fun _ => 0) (ix2 (i 1) (i 2)) := by
  rw [outsAt0_A m c t] <;> try omega
  unfold out0_A_3; rw [View.read_writes_eq_canon _ _ _ fun y => cover0_A_3 (y := y) ..]
  unfold kernelRun0_A
  dsimp only
  rw [stored3, load2 (hs0_0 t), load2 (hs0_1 t)]
  exact first_part _ _

theorem written1 (h : t.val % 2 = 1) : outsAt0 m c t.val t.isLt = fun i => addCols (iblk m c 0 t) (given m c t 1) (fun _ => 0) (ix2 (i 1) (i 2)) := by
  rw [outsAt0_B m c t] <;> try omega
  unfold out0_B_3; rw [View.read_writes_eq_canon _ _ _ fun y => cover0_B_3 (y := y) ..]
  unfold kernelRun0_B
  dsimp only
  rw [stored3, load2 (hs0_0 t), load2 (hs0_2 t)]
  exact (second_part _ _).trans (first_part _ _)

theorem written (k : Fin 2) : t.val % 2 = k.val →
    outsAt0 m c t.val t.isLt = fun i => addCols (iblk m c 0 t) (given m c t k) (fun _ => 0) (ix2 (i 1) (i 2)) :=
  match k with
  | ⟨0, _⟩ => fun h => written0 m c t h
  | ⟨1, _⟩ => fun h => written1 m c t h
end

/-! ## The array -/

theorem points : cfg0.N = 2 := by decide

/-- The point of part `k`; the part's columns, the part a column lies in and its place there. -/
def point (k : Fin 2) : Fin cfg0.N := ⟨k.val, by have := points; omega⟩
def col (k : Fin 2) (x : Fin 512) : Fin 1024 := ⟨512 * k.val + x.val, by omega⟩
def part (x : Fin 1024) : Fin 2 := ⟨x.val / 512, by omega⟩
def inside (x : Fin 1024) : Fin 512 := ⟨x.val % 512, by omega⟩
theorem part_col (k : Fin 2) (x : Fin 512) : part (col k x) = k := Fin.ext (by show (512 * k.val + x.val) / 512 = k.val; omega)
theorem inside_col (k : Fin 2) (x : Fin 512) : inside (col k x) = x := Fin.ext (by show (512 * k.val + x.val) % 512 = x.val; omega)
theorem col_part (x : Fin 1024) : x.val = 512 * (part x).val + (inside x).val := by show x.val = 512 * (x.val / 512) + x.val % 512; omega

def partIndex : Fin 2 → Fin grid0.N → Fin 2 → ℕ := ![win0_1.index, win0_2.index]
theorem memory_index : ∀ k : Fin 2, win0_0.index (point k) = ![0, 0] := by decide +kernel
theorem part_index : ∀ k : Fin 2, partIndex k (point k) = ![0, 0] := by decide +kernel
theorem out_index : ∀ k : Fin 2, win0_3.index (point k) = ![0, 0, k.val] := by decide +kernel

section
variable (m : (ℓ : Loc nD τ sig) → Buf (Elt Ideal) ℓ) (c : Dev nD)

/-- The arguments, and the product entry by entry. -/
def memory : S256x1024.Idx → EReal := m (c.tc.loc main_arg0)
def grads : Fin 2 → S256x512.Idx → EReal := ![m (c.tc.loc main_arg1), m (c.tc.loc main_arg2)]
def result : S1x1024x1024.Idx → EReal := fun i => ∑ e : Fin 256, memory m c (ix2 e (i 1)) * grads m c (part (i 2)) (ix2 e (inside (i 2)))

theorem memory_at (k : Fin 2) (e : Fin 256) (r : Fin 1024) : iblk m c 0 (point k) (ix2 e r) = memory m c (ix2 e r) :=
  same2 (memory m c) _ _ _ (place0 (congrFun (memory_index k) 0)) (place0 (congrFun (memory_index k) 1))

theorem given_at (k : Fin 2) (e : Fin 256) (x : Fin 512) : given m c (point k) k (ix2 e x) = grads m c (part (col k x)) (ix2 e (inside (col k x))) := by
  rw [part_col, inside_col]
  exact (match k with
  | ⟨0, _⟩ => fun h0 h1 => same2 (m (c.tc.loc main_arg1)) _ _ _ (place0 h0) (place0 h1)
  | ⟨1, _⟩ => fun h0 h1 => same2 (m (c.tc.loc main_arg2)) _ _ _ (place0 h0) (place0 h1)
  : partIndex k (point k) 0 = 0 → partIndex k (point k) 1 = 0 → given m c (point k) k (ix2 e x) = grads m c k (ix2 e x))
    (congrFun (part_index k) 0) (congrFun (part_index k) 1)

theorem written_at (k : Fin 2) (r : Fin 1024) (x : Fin 512) :
    outsAt0 m c (point k).val (point k).isLt (ix3 0 r x) = result m c (ix3 0 r (col k x)) :=
  (congrFun (written m c (point k) k (Nat.mod_eq_of_lt k.isLt)) _).trans ((zero_add _).trans
    (Finset.sum_congr rfl fun e _ => congrArg₂ (fun x y : EReal => x * y) (memory_at m c k e r) (given_at m c k e x)))

theorem covered (i : S1x1024x1024.Idx) : ∃ t : Fin cfg0.N, (cfg0.win 3).flush t = true ∧ i ∈ ((cfg0.win 3).blk t).view.set := by
  have h0 : (i 0 : ℕ) < 1 := (i 0).isLt
  have h2 : (i 2 : ℕ) < 1024 := (i 2).isLt
  obtain ⟨k, hk⟩ : ∃ k : Fin 2, k.val = (i 2 : ℕ) / 512 := ⟨⟨(i 2 : ℕ) / 512, by omega⟩, rfl⟩
  refine ⟨point k, flush0_3 _, ?_⟩
  show i ∈ ((View.whole main_v0).slice (win0_3.rect (point k))).set
  rw [View.set_slice_whole, Rect.mem_set_unit]
  exact fun d => match d with
  | ⟨0, _⟩ => within (i 0) (congrFun (out_index k) 0) (by show 0 = (i 0 : ℕ) / 1; omega) (by show 0 < 1; decide)
  | ⟨1, _⟩ => within (i 1) (congrFun (out_index k) 1) (Nat.div_eq_of_lt (i 1).isLt).symm (by show 0 < 1024; decide)
  | ⟨2, _⟩ => within (i 2) (congrFun (out_index k) 2) hk (by show 0 < 512; decide)

theorem point_of (t : Fin cfg0.N) : ∃ k : Fin 2, t = point k :=
  ⟨⟨t.val, by have := t.isLt; have := points; omega⟩, rfl⟩

theorem array : (dats m 0 c).arrAt 3 cfg0.N = result m c := by
  refine (dats m 0 c).arrAt_eq_of_cover 3 (result m c) (fun t _ => ?_) covered
  obtain ⟨k, rfl⟩ := point_of t
  show (cfg0.win 3).cut (grid0.coords _) ((dats m 0 c).after 3 _) = _
  rw [after0_3]
  funext y
  obtain ⟨u, r, x, rfl⟩ : ∃ (u : Fin 1) (r : Fin 1024) (x : Fin 512), y = ix3 u r x := ⟨y 0, y 1, y 2, eq_ix3 y⟩
  obtain rfl : u = 0 := Subsingleton.elim _ _
  refine (written_at m c k r x).trans ?_
  exact (same3 (result m c) _ _ _ _ (place1 (congrFun (out_index k) 0)) (place0 (congrFun (out_index k) 1)) (place (congrFun (out_index k) 2))).symm
end

/-! ## The reference -/

section
open Cert.Reference25Ideal.Read
variable (x0 : S256x1024.Idx → EReal) (x1 x2 : S256x512.Idx → EReal)

/-- Column `512 k + e` of the joined gradients is column `e` of part `k`. -/
theorem joined (r : Fin 256) (k : Fin 2) (e : Fin 512) (i : S256x1024.Idx) (h0 : (i 0).val = r.val) (h1 : (i 1).val = 512 * k.val + e.val) :
    val_main_v0 (F := Ideal) x1 x2 i = (![x1, x2] : Fin 2 → S256x512.Idx → EReal) k (ix2 r e) :=
  concatenate_ofFn_apply (t := S256x1024) (s₁ := S256x512) 1 ![x1, x2] _ rfl 512 rfl i k
    (by rw [h1]; omega) (ix2 r e)
    (by rw [h1]; show e.val = (512 * k.val + e.val) % 512; omega)
    (fun b hb => match b with
      | ⟨0, _⟩ => h0.symm
      | ⟨1, _⟩ => absurd rfl hb)

theorem reference (i : S1x1024x1024.Idx) : val_main_v4 (F := Ideal) x0 x1 x2 i =
    ∑ e : Fin 256, x0 (ix2 e (i 1)) * (![x1, x2] : Fin 2 → S256x512.Idx → EReal) (part (i 2)) (ix2 e (inside (i 2))) := by
  refine (val_main_v4_apply ..).trans ((val_main_v3_apply ..).trans ((val_main_v2_apply ..).trans (Finset.sum_congr rfl fun e _ => ?_)))
  exact congrArg₂ (· * ·) (same2 x0 _ e (i 1) rfl rfl)
    ((val_main_v1_apply ..).trans (joined x1 x2 e (part (i 2)) (inside (i 2)) _ rfl (col_part (i 2))))
end

/-! ## The claims -/

/-- The kernel and its idealisation are the same program, so one run is both programs' frame. -/
theorem same_body : @Cert.Kernel25.cc0_mm_xkv_dw Bits _ _ = @Cert.Kernel25Ideal.cc0_mm_xkv_dw Bits _ _ := rfl
theorem same_table : Cert.Kernel25.defs₀ (F := Bits) = Cert.Kernel25Ideal.defs₀ (F := Bits) :=
  congrArg _ (funext fun a => match a with | 0 => funext fun ⟨_, _⟩ => rfl)
theorem same_program : Cert.Kernel25.defs (F := Bits) = Cert.Kernel25Ideal.defs (F := Bits) := congrArg (Pipeline.defs _) same_table
theorem frame_kernel : Cert.quiescent_Kernel25 := fun m g _ => by
  rw [same_program]
  exact Cert.Kernel25Ideal.Gen.frame (F := Bits) m g
theorem preserves : Cert.preserves_Kernel25_Kernel25Ideal := trivial
theorem frame_ideal : Cert.quiescent_Kernel25Ideal := fun m g _ => Cert.Kernel25Ideal.Gen.frame m g
theorem frame_reference : Cert.quiescent_Reference25Ideal := fun m g _ =>
  (θ_run Cert.Reference25Ideal.defs _ _).mono (fun r h => ⟨fun c => (h c).2, sem_eq_zero_of_no_sems (by decide) r.2⟩)
    (Cert.Reference25Ideal.Value.run (F := Ideal) m g)

theorem values : Cert.algebraic_Kernel25Ideal_Reference25Ideal := by
  intro m g m' g' _ hm
  refine ⟨fun c => result m c, ?_, ?_⟩
  · exact (θ_run Cert.Kernel25Ideal.defs _ _).mono (fun r h c => ⟨((h.1 c).1 3).trans (array m c), h.2 c⟩) (θ_run_and (run_main m g) (unchanged m g))
  · refine (θ_run Cert.Reference25Ideal.defs _ _).mono (fun r h c => ⟨?_, (h c).2⟩) (Cert.Reference25Ideal.Value.run (F := Ideal) m' g')
    obtain ⟨e0, e1, e2⟩ := hm c
    refine (h c).1.trans ((Cert.Reference25Ideal.Read.val_main_v4_eq ..).trans ?_)
    rw [e0, e1, e2]
    exact funext fun i => reference _ _ _ i

end Cert.CrossMemoryDw
-- ==== Proof.ForgetDx.lean ====
module

public import proofs.«01_k».proof.Defs
public import proofs.«01_k».proof.Proof.Products
public import proofs.«01_k».proof.Proof.Gen.Kernel26
public import proofs.«01_k».proof.Proof.Gen.Kernel26Ideal.Frame
public import proofs.«01_k».proof.Proof.Gen.Reference26Ideal.Run
public import proofs.«01_k».proof.Proof.Gen.Reference26Ideal.Read

/-! The gradient of the layer's normed input through the forget gate's projection: 1024 rows at a point. -/

@[expose] public section

noncomputable section

namespace Cert.ForgetDx

open Idealize.ShloMosaic Idealize.ShloMosaic.TcCoe Idealize.SL.Sem Cert.Kernel26Ideal Cert.Kernel26Ideal.Gen Cert.Products

/-- What a point writes. -/
theorem written (a : Vec Ideal S1024x128 .bf16) (w : Vec Ideal S1024x128 .bf16) : out0_2 a w = addRows a w (fun _ => 0) := by
  unfold out0_2
  rw [stored2, whole2, whole2]
  funext i
  pointwise [k0_pay1, addRows]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem out_index : ∀ a : Fin 2, win0_2.index (point a) = ![a.val, 0] := by decide +kernel

section
variable (m : (ℓ : Loc nD τ sig) → Buf (Elt Ideal) ℓ) (c : Dev nD)

/-- The arguments, and the result entry by entry. -/
def rows : S2048x128.Idx → EReal := m (c.tc.loc main_arg0)
def weights : S1024x128.Idx → EReal := m (c.tc.loc main_arg1)
def result : S2048x1024.Idx → EReal := fun i => ∑ e : Fin 128, rows m c (ix2 (i 0) e) * weights m c (ix2 (i 1) e)

theorem rows_at (a : Fin 2) (r : Fin 1024) (e : Fin 128) : iblk m c 0 (point a) (ix2 r e) = rows m c (ix2 (row a r) e) :=
  same2 (rows m c) _ _ _ (place (congrFun (rows_index a) 0)) (place0 (congrFun (rows_index a) 1))
theorem weight_at (a : Fin 2) (p : Fin 1024) (q : Fin 128) : iblk m c 1 (point a) (ix2 p q) = weights m c (ix2 p q) :=
  same2 (weights m c) _ _ _ (place0 (congrFun (weight_index a) 0)) (place0 (congrFun (weight_index a) 1))

theorem written_at (a : Fin 2) (r : Fin 1024) (x : Fin 1024) :
    out0_2 (iblk m c 0 (point a)) (iblk m c 1 (point a)) (ix2 r x) = result m c (ix2 (row a r) x) :=
  (congrFun (written _ _) _).trans ((zero_add _).trans (Finset.sum_congr rfl fun e _ =>
    congrArg₂ (fun x y : EReal => x * y) (rows_at m c a r e) (weight_at m c a x e)))

theorem covered (i : S2048x1024.Idx) : ∃ t : Fin cfg0.N, (cfg0.win 2).flush t = true ∧ i ∈ ((cfg0.win 2).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 1024; decide)

theorem point_of (t : Fin cfg0.N) : ∃ a : Fin 2, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 1024) (x : Fin 1024), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference26Ideal.Read in
theorem reference (x0 : S2048x128.Idx → EReal) (x1 : S1024x128.Idx → EReal) (i : S2048x1024.Idx) :
    val_main_v2 (F := Ideal) x0 x1 i = ∑ e : Fin 128, x0 (ix2 (i 0) e) * x1 (ix2 (i 1) e) := by
  refine (val_main_v2_apply ..).trans ((val_main_v1_apply ..).trans ((val_main_v0_apply ..).trans ?_))
  exact Finset.sum_congr rfl fun e _ => congrArg₂ (· * ·) (same2 x0 _ (i 0) e rfl rfl) (same2 x1 _ (i 1) e rfl rfl)

/-! ## The claims -/

/-- The kernel and its idealisation are the same program, so one run is both programs' frame. -/
theorem same_body : @Cert.Kernel26.cc0_mm_in_f_dx Bits _ _ = @Cert.Kernel26Ideal.cc0_mm_in_f_dx Bits _ _ := rfl
theorem same_table : Cert.Kernel26.defs₀ (F := Bits) = Cert.Kernel26Ideal.defs₀ (F := Bits) :=
  congrArg _ (funext fun a => match a with | 0 => funext fun ⟨_, _⟩ => rfl)
theorem same_program : Cert.Kernel26.defs (F := Bits) = Cert.Kernel26Ideal.defs (F := Bits) := congrArg (Pipeline.defs _) same_table
theorem frame_kernel : Cert.quiescent_Kernel26 := fun m g _ => by
  rw [same_program]
  exact Cert.Kernel26Ideal.Gen.frame (F := Bits) m g
theorem preserves : Cert.preserves_Kernel26_Kernel26Ideal := trivial
theorem frame_ideal : Cert.quiescent_Kernel26Ideal := fun m g _ => Cert.Kernel26Ideal.Gen.frame m g
theorem frame_reference : Cert.quiescent_Reference26Ideal := fun m g _ =>
  (θ_run Cert.Reference26Ideal.defs _ _).mono (fun r h => ⟨fun c => (h c).2, sem_eq_zero_of_no_sems (by decide) r.2⟩)
    (Cert.Reference26Ideal.Value.run (F := Ideal) m g)

theorem values : Cert.algebraic_Kernel26Ideal_Reference26Ideal := by
  intro m g m' g' _ hm
  refine ⟨fun c => result m c, ?_, ?_⟩
  · exact (θ_run Cert.Kernel26Ideal.defs _ _).mono (fun r h c => ⟨((h.1 c).1 2).trans (array m c), h.2 c⟩) (θ_run_and (run_main m g) (unchanged m g))
  · refine (θ_run Cert.Reference26Ideal.defs _ _).mono (fun r h c => ⟨?_, (h c).2⟩) (Cert.Reference26Ideal.Value.run (F := Ideal) m' g')
    obtain ⟨e0, e1⟩ := hm c
    refine (h c).1.trans ((Cert.Reference26Ideal.Read.val_main_v2_eq ..).trans ?_)
    rw [e0, e1]
    exact funext fun i => reference _ _ i

end Cert.ForgetDx
-- ==== Proof.ForgetDw.lean ====
module

public import proofs.«01_k».proof.Defs
public import proofs.«01_k».proof.Proof.Products
public import proofs.«01_k».proof.Proof.Gen.Kernel27
public import proofs.«01_k».proof.Proof.Gen.Kernel27Ideal.Frame
public import proofs.«01_k».proof.Proof.Gen.Reference27Ideal.Run
public import proofs.«01_k».proof.Proof.Gen.Reference27Ideal.Read

/-! The gradient of the forget gate's projection: the normed rows and the gate's gradient, one half of the tokens at a point. -/

@[expose] public section

noncomputable section

namespace Cert.ForgetDw

open Idealize.ShloMosaic Idealize.ShloMosaic.TcCoe Idealize.SL.Sem Cert.Kernel27Ideal Cert.Kernel27Ideal.Gen Cert.Products

/-! ## One point -/

theorem first_sum (a : Vec Ideal S1024x1024 .bf16) (w : Vec Ideal S1024x128 .bf16) : k0_pay2 a w = addCols a w (fun _ => 0) := by
  funext i
  pointwise [k0_pay2, k0_pay1, addCols]
theorem next_sum (a : Vec Ideal S1024x1024 .bf16) (w : Vec Ideal S1024x128 .bf16) (p : Vec Ideal S1024x128 .f32) :
    k0_pay4 (k0_pay3 a w p) = addCols a w p := by
  funext i
  pointwise [k0_pay4, k0_pay3, k0_pay1, addCols]

section
variable (m : (ℓ : Loc nD τ sig) → Buf (Elt Ideal) ℓ) (c : Dev nD) (t : Fin cfg0.N)

/-- The partial sums the point before left. -/
abbrev before : S1024x128.Idx → EReal := (outsAt0 m c (t.val - 1) (Nat.lt_of_le_of_lt (Nat.sub_le _ _) t.isLt)).2

/-- The first half of the rows goes to the partial sums. -/
theorem sums (h : t.val % 2 = 0) : (outsAt0 m c t.val t.isLt).2 = addCols (iblk m c 0 t) (iblk m c 1 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_1 t)]
  exact first_sum _ _

/-- The second half is added to them and the block is written. -/
theorem written (h : t.val % 2 = 1) :
    (outsAt0 m c t.val t.isLt).1 = addCols (iblk m c 0 t) (iblk m c 1 t) (before m c t) := by
  rw [outsAt0_B m c t] <;> try omega
  dsimp only
  unfold out0_B_2; rw [View.read_writes_eq_canon _ _ _ fun y => cover0_B_2 (y := y) ..]
  unfold kernelRun0_B
  dsimp only
  sl_unfold_words
  rw [stored2, View.readCov_unit_zero (S := S1024x128) _ origin2, load2 (hs0_0 t), load2 (hs0_1 t), load2 (Memref.isWhole_whole cc0_scratch0)]
  exact next_sum _ _ _
end

/-! ## The array -/

theorem points : cfg0.N = 2 := by decide

/-- The point that takes half `k` of the rows for the `a`-th block of the gradient; the block's rows. -/
def point (a : Fin 1) (k : Fin 2) : Fin cfg0.N := ⟨2 * a.val + k.val, by have := points; omega⟩
def place_of (a : Fin 1) (r : Fin 1024) : Fin 1024 := ⟨1024 * a.val + r.val, by omega⟩

theorem left_index : ∀ (a : Fin 1) (k : Fin 2), win0_0.index (point a k) = ![k.val, a.val] := by decide +kernel
theorem right_index : ∀ (a : Fin 1) (k : Fin 2), win0_1.index (point a k) = ![k.val, 0] := by decide +kernel
theorem out_index : ∀ (a : Fin 1) (k : Fin 2), win0_2.index (point a k) = ![a.val, 0] := by decide +kernel

section
variable (m : (ℓ : Loc nD τ sig) → Buf (Elt Ideal) ℓ) (c : Dev nD)

/-- The arguments, and the product entry by entry. -/
def left : S2048x1024.Idx → EReal := m (c.tc.loc main_arg0)
def right : S2048x128.Idx → EReal := m (c.tc.loc main_arg1)
def result : S1024x128.Idx → EReal := fun i => ∑ e : Fin 2048, left m c (ix2 e (i 0)) * right m c (ix2 e (i 1))

theorem left_at (a : Fin 1) (k : Fin 2) (e : Fin 1024) (r : Fin 1024) : iblk m c 0 (point a k) (ix2 e r) = left m c (ix2 (halfRow k e) (place_of a r)) :=
  same2 (left m c) _ _ _ (place (congrFun (left_index a k) 0)) (place (congrFun (left_index a k) 1))
theorem right_at (a : Fin 1) (k : Fin 2) (e : Fin 1024) (x : Fin 128) : iblk m c 1 (point a k) (ix2 e x) = right m c (ix2 (halfRow k e) x) :=
  same2 (right m c) _ _ _ (place (congrFun (right_index a k) 0)) (place0 (congrFun (right_index a k) 1))

theorem half (a : Fin 1) (k : Fin 2) (r : Fin 1024) (x : Fin 128) (p : S1024x128.Idx → EReal) :
    addCols (iblk m c 0 (point a k)) (iblk m c 1 (point a k)) p (ix2 r x)
      = p (ix2 r x) + ∑ e : Fin 1024, left m c (ix2 (halfRow k e) (place_of a r)) * right m c (ix2 (halfRow k e) x) :=
  congrArg (fun s : EReal => p (ix2 r x) + s)
    (Finset.sum_congr rfl fun e _ => congrArg₂ (fun x y : EReal => x * y) (left_at m c a k e r) (right_at m c a k e x))

theorem written_at (a : Fin 1) (r : Fin 1024) (x : Fin 128) :
    (outsAt0 m c (point a 1).val (point a 1).isLt).1 (ix2 r x) = result m c (ix2 (place_of a r) x) := by
  refine (congrFun (written m c (point a 1) (by show (2 * a.val + 1) % 2 = 1; omega)) _).trans ?_
  refine (half m c a 1 r x _).trans (Eq.trans ?_ (two_halves fun e => left m c (ix2 e (place_of a r)) * right m c (ix2 e x)))
  exact congrArg (fun s : EReal => s + _) ((congrFun (sums m c (point a 0) (by show (2 * a.val + 0) % 2 = 0; omega)) (ix2 r x)).trans
    ((half m c a 0 r x _).trans (zero_add _)))

theorem flushed (a : Fin 1) : (cfg0.win 2).flush (point a 1) = true := (flush0_2 _).2 (by show (2 * a.val + 1) % 2 = 1; omega)

theorem covered (i : S1024x128.Idx) : ∃ t : Fin cfg0.N, (cfg0.win 2).flush t = true ∧ i ∈ ((cfg0.win 2).blk t).view.set := by
  have h0 : (i 0 : ℕ) < 1024 := (i 0).isLt
  have h1 : (i 1 : ℕ) < 128 := (i 1).isLt
  obtain ⟨a, ha⟩ : ∃ a : Fin 1, a.val = (i 0 : ℕ) / 1024 := ⟨⟨(i 0 : ℕ) / 1024, by omega⟩, rfl⟩
  refine ⟨point a 1, flushed a, ?_⟩
  show i ∈ ((View.whole main_v0).slice (win0_2.rect (point a 1))).set
  rw [View.set_slice_whole, Rect.mem_set_unit]
  exact fun d => match d with
  | ⟨0, _⟩ => within (i 0) (congrFun (out_index a 1) 0) ha (by show 0 < 1024; decide)
  | ⟨1, _⟩ => within (i 1) (congrFun (out_index a 1) 1) (by show 0 = (i 1 : ℕ) / 128; omega) (by show 0 < 128; decide)

theorem point_of (t : Fin cfg0.N) (h : t.val % 2 = 1) : ∃ a : Fin 1, t = point a 1 :=
  ⟨⟨t.val / 2, by have := t.isLt; have := points; omega⟩, Fin.ext (by show t.val = 2 * (t.val / 2) + 1; omega)⟩

theorem array : (dats m 0 c).arrAt 2 cfg0.N = result m c := by
  refine (dats m 0 c).arrAt_eq_of_cover 2 (result m c) (fun t h => ?_) covered
  obtain ⟨a, rfl⟩ := point_of t ((flush0_2 t).1 h)
  show (cfg0.win 2).cut (grid0.coords _) ((dats m 0 c).after 2 _) = _
  rw [after0_2]
  funext y
  obtain ⟨r, x, rfl⟩ : ∃ (r : Fin 1024) (x : Fin 128), y = ix2 r x := ⟨y 0, y 1, eq_ix2 y⟩
  refine (written_at m c a r x).trans ?_
  exact (same2 (result m c) _ _ _ (place (congrFun (out_index a 1) 0)) (place0 (congrFun (out_index a 1) 1))).symm
end

/-! ## The reference -/

section
open Cert.Reference27Ideal.Read
variable (x0 : S2048x1024.Idx → EReal) (x1 : S2048x128.Idx → EReal)

theorem reference (i : S1024x128.Idx) :
    val_main_v1 (F := Ideal) x0 x1 i = ∑ e : Fin 2048, x0 (ix2 e (i 0)) * x1 (ix2 e (i 1)) := by
  refine (val_main_v1_apply ..).trans ((val_main_v0_apply ..).trans (Finset.sum_congr rfl fun e _ => ?_))
  exact congrArg₂ (· * ·) (same2 x0 _ e (i 0) rfl rfl) ((same2 x1 _ e (i 1) rfl rfl))
end

/-! ## The claims -/

/-- The kernel and its idealisation are the same program, so one run is both programs' frame. -/
theorem same_body : @Cert.Kernel27.cc0_mm_in_f_dw Bits _ _ = @Cert.Kernel27Ideal.cc0_mm_in_f_dw Bits _ _ := rfl
theorem same_table : Cert.Kernel27.defs₀ (F := Bits) = Cert.Kernel27Ideal.defs₀ (F := Bits) :=
  congrArg _ (funext fun a => match a with | 0 => funext fun ⟨_, _⟩ => rfl)
theorem same_program : Cert.Kernel27.defs (F := Bits) = Cert.Kernel27Ideal.defs (F := Bits) := congrArg (Pipeline.defs _) same_table
theorem frame_kernel : Cert.quiescent_Kernel27 := fun m g _ => by
  rw [same_program]
  exact Cert.Kernel27Ideal.Gen.frame (F := Bits) m g
theorem preserves : Cert.preserves_Kernel27_Kernel27Ideal := trivial
theorem frame_ideal : Cert.quiescent_Kernel27Ideal := fun m g _ => Cert.Kernel27Ideal.Gen.frame m g
theorem frame_reference : Cert.quiescent_Reference27Ideal := fun m g _ =>
  (θ_run Cert.Reference27Ideal.defs _ _).mono (fun r h => ⟨fun c => (h c).2, sem_eq_zero_of_no_sems (by decide) r.2⟩)
    (Cert.Reference27Ideal.Value.run (F := Ideal) m g)

theorem values : Cert.algebraic_Kernel27Ideal_Reference27Ideal := by
  intro m g m' g' _ hm
  refine ⟨fun c => result m c, ?_, ?_⟩
  · exact (θ_run Cert.Kernel27Ideal.defs _ _).mono (fun r h c => ⟨((h.1 c).1 2).trans (array m c), h.2 c⟩) (θ_run_and (run_main m g) (unchanged m g))
  · refine (θ_run Cert.Reference27Ideal.defs _ _).mono (fun r h c => ⟨?_, (h c).2⟩) (Cert.Reference27Ideal.Value.run (F := Ideal) m' g')
    obtain ⟨e0, e1⟩ := hm c
    refine (h c).1.trans ((Cert.Reference27Ideal.Read.val_main_v1_eq ..).trans ?_)
    rw [e0, e1]
    exact funext fun i => reference _ _ i

end Cert.ForgetDw
-- ==== Proof.CrossOut.lean ====
module

public import proofs.«01_k».proof.Defs
public import proofs.«01_k».proof.Proof.Products
public import proofs.«01_k».proof.Proof.Gen.Kernel28
public import proofs.«01_k».proof.Proof.Gen.Kernel28Ideal.Frame
public import proofs.«01_k».proof.Proof.Gen.Reference28Ideal.Run
public import proofs.«01_k».proof.Proof.Gen.Reference28Ideal.Read

/-! The cross attention's output product, added to the layer's rows: the attention's rows times the four parts of the output weights, one
block of 1024 rows and one part of 256 columns at a point. -/

@[expose] public section

noncomputable section

namespace Cert.CrossOut

open Idealize.ShloMosaic Idealize.ShloMosaic.TcCoe Idealize.SL.Sem Cert.Kernel28Ideal Cert.Kernel28Ideal.Gen Cert.Products

/-! ## One point -/

theorem first_part (a : Vec Ideal S1024x512 .bf16) (w : Vec Ideal S1x512x256 .bf16) (p : Vec Ideal S1024x256 .f32) :
    k0_pay1 a w p = fun i => block a (fun i : S512x256.Idx => w (ix3 0 (i 0) (i 1))) i + p i := by
  funext i
  pointwise [k0_pay1, block]
theorem other_part (a : Vec Ideal S1024x512 .bf16) (w : Vec Ideal S1x512x256 .bf16) (p : Vec Ideal S1024x256 .f32) :
    k0_pay2 a w p = k0_pay1 a w p ∧ k0_pay3 a w p = k0_pay1 a w p ∧ k0_pay4 a w p = k0_pay1 a w p := ⟨rfl, rfl, rfl⟩

section
variable (m : (ℓ : Loc nD τ sig) → Buf (Elt Ideal) ℓ) (c : Dev nD) (t : Fin cfg0.N)

/-- Part `k` of the weights, as a point is given it. -/
def weight (k : Fin 4) : S512x256.Idx → EReal := fun i => match k with
  | ⟨0, _⟩ => iblk m c 1 t (ix3 0 (i 0) (i 1))
  | ⟨1, _⟩ => iblk m c 2 t (ix3 0 (i 0) (i 1))
  | ⟨2, _⟩ => iblk m c 3 t (ix3 0 (i 0) (i 1))
  | ⟨3, _⟩ => iblk m c 4 t (ix3 0 (i 0) (i 1))

/-- The block of the rows added to. -/
abbrev given : S1024x256.Idx → EReal := iblk m c 5 t

theorem written0 (h : t.val % 4 = 0) : outsAt0 m c t.val t.isLt = fun i => block (iblk m c 0 t) (weight m c t 0) i + given m c t i := by
  rw [outsAt0_A m c t] <;> try omega
  unfold out0_A_6; rw [View.read_writes_eq_canon _ _ _ fun y => cover0_A_6 (y := y) ..]
  unfold kernelRun0_A
  dsimp only
  rw [stored2, load2 (hs0_0 t), load3 (hs0_1 t), load2 (hs0_5 t)]
  exact first_part _ _ _

theorem written1 (h : t.val % 4 = 1) : outsAt0 m c t.val t.isLt = fun i => block (iblk m c 0 t) (weight m c t 1) i + given m c t i := by
  rw [outsAt0_B m c t] <;> try omega
  unfold out0_B_6; rw [View.read_writes_eq_canon _ _ _ fun y => cover0_B_6 (y := y) ..]
  unfold kernelRun0_B
  dsimp only
  rw [stored2, load2 (hs0_0 t), load3 (hs0_2 t), load2 (hs0_5 t)]
  exact (other_part _ _ _).1.trans (first_part _ _ _)

theorem written2 (h : t.val % 4 = 2) : outsAt0 m c t.val t.isLt = fun i => block (iblk m c 0 t) (weight m c t 2) i + given m c t i := by
  rw [outsAt0_C m c t] <;> try omega
  unfold out0_C_6; rw [View.read_writes_eq_canon _ _ _ fun y => cover0_C_6 (y := y) ..]
  unfold kernelRun0_C
  dsimp only
  rw [stored2, load2 (hs0_0 t), load3 (hs0_3 t), load2 (hs0_5 t)]
  exact (other_part _ _ _).2.1.trans (first_part _ _ _)

theorem written3 (h : t.val % 4 = 3) : outsAt0 m c t.val t.isLt = fun i => block (iblk m c 0 t) (weight m c t 3) i + given m c t i := by
  rw [outsAt0_D m c t] <;> try omega
  unfold out0_D_6; rw [View.read_writes_eq_canon _ _ _ fun y => cover0_D_6 (y := y) ..]
  unfold kernelRun0_D
  dsimp only
  rw [stored2, load2 (hs0_0 t), load3 (hs0_4 t), load2 (hs0_5 t)]
  exact (other_part _ _ _).2.2.trans (first_part _ _ _)

theorem written (k : Fin 4) : t.val % 4 = k.val → outsAt0 m c t.val t.isLt = fun i => block (iblk m c 0 t) (weight m c t k) i + given m c t i :=
  match k with
  | ⟨0, _⟩ => fun h => written0 m c t h
  | ⟨1, _⟩ => fun h => written1 m c t h
  | ⟨2, _⟩ => fun h => written2 m c t h
  | ⟨3, _⟩ => fun h => written3 m c t h
end

/-! ## The array -/

theorem points : cfg0.N = 8 := by decide

/-- The point of the `a`-th block of rows and part `k`; the block's rows, the part's columns. -/
def point (a : Fin 2) (k : Fin 4) : Fin cfg0.N := ⟨4 * a.val + k.val, by have := points; omega⟩
def row (a : Fin 2) (r : Fin 1024) : Fin 2048 := ⟨1024 * a.val + r.val, by omega⟩
def col (k : Fin 4) (x : Fin 256) : Fin 1024 := ⟨256 * k.val + x.val, by omega⟩
/-- The part a column lies in, and its place there. -/
def part (x : Fin 1024) : Fin 4 := ⟨x.val / 256, by omega⟩
def inside (x : Fin 1024) : Fin 256 := ⟨x.val % 256, by omega⟩
theorem part_col (k : Fin 4) (x : Fin 256) : part (col k x) = k := Fin.ext (by show (256 * k.val + x.val) / 256 = k.val; omega)
theorem inside_col (k : Fin 4) (x : Fin 256) : inside (col k x) = x := Fin.ext (by show (256 * k.val + x.val) % 256 = x.val; omega)

def weightIndex : Fin 4 → Fin grid0.N → Fin 3 → ℕ := ![win0_1.index, win0_2.index, win0_3.index, win0_4.index]
theorem rows_index : ∀ (a : Fin 2) (k : Fin 4), win0_0.index (point a k) = ![a.val, 0] := by decide +kernel
theorem weight_index : ∀ (a : Fin 2) (k : Fin 4), weightIndex k (point a k) = ![k.val, 0, 0] := by decide +kernel
theorem added_index : ∀ (a : Fin 2) (k : Fin 4), win0_5.index (point a k) = ![a.val, k.val] := by decide +kernel
theorem out_index : ∀ (a : Fin 2) (k : Fin 4), win0_6.index (point a k) = ![a.val, k.val] := by decide +kernel

section
variable (m : (ℓ : Loc nD τ sig) → Buf (Elt Ideal) ℓ) (c : Dev nD)

/-- The arguments, and the product entry by entry. -/
def rows : S2048x512.Idx → EReal := m (c.tc.loc main_arg0)
def weights : S4x512x256.Idx → EReal := m (c.tc.loc main_arg1)
def added : S2048x1024.Idx → EReal := m (c.tc.loc main_arg2)
def result : S2048x1024.Idx → EReal := fun i =>
  (∑ e : Fin 512, rows m c (ix2 (i 0) e) * weights m c (ix3 (part (i 1)) e (inside (i 1)))) + added m c i

theorem rows_at (a : Fin 2) (k : Fin 4) (r : Fin 1024) (e : Fin 512) : iblk m c 0 (point a k) (ix2 r e) = rows m c (ix2 (row a r) e) :=
  same2 (rows m c) _ _ _ (place (congrFun (rows_index a k) 0)) (place0 (congrFun (rows_index a k) 1))

theorem added_at (a : Fin 2) (k : Fin 4) (r : Fin 1024) (x : Fin 256) : given m c (point a k) (ix2 r x) = added m c (ix2 (row a r) (col k x)) :=
  same2 (added m c) _ _ _ (place (congrFun (added_index a k) 0)) (place (congrFun (added_index a k) 1))

theorem weight_at (a : Fin 2) (k : Fin 4) (e : Fin 512) (x : Fin 256) :
    weight m c (point a k) k (ix2 e x) = weights m c (ix3 (part (col k x)) e (inside (col k x))) := by
  rw [part_col, inside_col]
  exact (match k with
  | ⟨0, _⟩ => fun h0 h1 h2 => same3 (weights m c) _ _ _ _ (place1 h0) (place0 h1) (place0 h2)
  | ⟨1, _⟩ => fun h0 h1 h2 => same3 (weights m c) _ _ _ _ (place1 h0) (place0 h1) (place0 h2)
  | ⟨2, _⟩ => fun h0 h1 h2 => same3 (weights m c) _ _ _ _ (place1 h0) (place0 h1) (place0 h2)
  | ⟨3, _⟩ => fun h0 h1 h2 => same3 (weights m c) _ _ _ _ (place1 h0) (place0 h1) (place0 h2)
  : weightIndex k (point a k) 0 = k.val → weightIndex k (point a k) 1 = 0 → weightIndex k (point a k) 2 = 0 →
    weight m c (point a k) k (ix2 e x) = weights m c (ix3 k e x))
    (congrFun (weight_index a k) 0) (congrFun (weight_index a k) 1) (congrFun (weight_index a k) 2)

theorem written_at (a : Fin 2) (k : Fin 4) (r : Fin 1024) (x : Fin 256) :
    outsAt0 m c (point a k).val (point a k).isLt (ix2 r x) = result m c (ix2 (row a r) (col k x)) :=
  (congrFun (written m c (point a k) k (by show (4 * a.val + k.val) % 4 = k.val; omega)) _).trans
    (congrArg₂ (fun x y : EReal => x + y)
      (Finset.sum_congr rfl fun e _ => congrArg₂ (fun x y : EReal => x * y) (rows_at m c a k r e) (weight_at m c a k e x)) (added_at m c a k r x))

theorem covered (i : S2048x1024.Idx) : ∃ t : Fin cfg0.N, (cfg0.win 6).flush t = true ∧ i ∈ ((cfg0.win 6).blk t).view.set := by
  have h0 : (i 0 : ℕ) < 2048 := (i 0).isLt
  have h1 : (i 1 : ℕ) < 1024 := (i 1).isLt
  obtain ⟨a, ha⟩ : ∃ a : Fin 2, a.val = (i 0 : ℕ) / 1024 := ⟨⟨(i 0 : ℕ) / 1024, by omega⟩, rfl⟩
  obtain ⟨k, hk⟩ : ∃ k : Fin 4, k.val = (i 1 : ℕ) / 256 := ⟨⟨(i 1 : ℕ) / 256, by omega⟩, rfl⟩
  refine ⟨point a k, flush0_6 _, ?_⟩
  show i ∈ ((View.whole main_v0).slice (win0_6.rect (point a k))).set
  rw [View.set_slice_whole, Rect.mem_set_unit]
  exact fun d => match d with
  | ⟨0, _⟩ => within (i 0) (congrFun (out_index a k) 0) ha (by show 0 < 1024; decide)
  | ⟨1, _⟩ => within (i 1) (congrFun (out_index a k) 1) hk (by show 0 < 256; decide)

theorem point_of (t : Fin cfg0.N) : ∃ (a : Fin 2) (k : Fin 4), t = point a k :=
  ⟨⟨t.val / 4, by have := t.isLt; have := points; omega⟩, ⟨t.val % 4, by omega⟩, Fin.ext (by show t.val = 4 * (t.val / 4) + t.val % 4; omega)⟩

theorem array : (dats m 0 c).arrAt 6 cfg0.N = result m c := by
  refine (dats m 0 c).arrAt_eq_of_cover 6 (result m c) (fun t _ => ?_) covered
  obtain ⟨a, k, rfl⟩ := point_of t
  show (cfg0.win 6).cut (grid0.coords _) ((dats m 0 c).after 6 _) = _
  rw [after0_6]
  funext y
  obtain ⟨r, x, rfl⟩ : ∃ (r : Fin 1024) (x : Fin 256), y = ix2 r x := ⟨y 0, y 1, eq_ix2 y⟩
  refine (written_at m c a k r x).trans ?_
  exact (same2 (result m c) _ _ _ (place (congrFun (out_index a k) 0)) (place (congrFun (out_index a k) 1))).symm
end

/-! ## The reference -/

section
open Cert.Reference28Ideal.Read
variable (x0 : S2048x512.Idx → EReal) (x1 : S4x512x256.Idx → EReal) (x2 : S2048x1024.Idx → EReal)

theorem joined (e : Fin 512) (x : Fin 1024) (i : Cert.Reference28Ideal.S512x1024.Idx) (h0 : (i 0).val = e.val) (h1 : (i 1).val = x.val) :
    val_main_v1 (F := Ideal) x1 i = x1 (ix3 (part x) e (inside x)) := by
  refine (val_main_v1_apply ..).trans ((val_main_v0_apply ..).trans (same3 x1 _ (part x) e (inside x) ?_ ?_ ?_))
  all_goals simp [idx_main_v0, idx_main_v1, part, inside, h0, h1]
  all_goals omega

theorem reference (i : S2048x1024.Idx) :
    val_main_v5 (F := Ideal) x0 x1 x2 i = (∑ e : Fin 512, x0 (ix2 (i 0) e) * x1 (ix3 (part (i 1)) e (inside (i 1)))) + x2 i := by
  refine (val_main_v5_apply ..).trans ((congrArg (fun s : EReal => x2 i + s) ?_).trans (add_comm _ _))
  refine (val_main_v4_apply ..).trans ((val_main_v3_apply ..).trans ((val_main_v2_apply ..).trans (Finset.sum_congr rfl fun e _ => ?_)))
  exact congrArg₂ (· * ·) (same2 x0 _ (i 0) e rfl rfl) (joined x1 e (i 1) _ rfl rfl)
end

/-! ## The claims -/

/-- The kernel and its idealisation are the same program, so one run is both programs' frame. -/
theorem same_body : @Cert.Kernel28.cc0_mm_xo Bits _ _ = @Cert.Kernel28Ideal.cc0_mm_xo Bits _ _ := rfl
theorem same_table : Cert.Kernel28.defs₀ (F := Bits) = Cert.Kernel28Ideal.defs₀ (F := Bits) :=
  congrArg _ (funext fun a => match a with | 0 => funext fun ⟨_, _⟩ => rfl)
theorem same_program : Cert.Kernel28.defs (F := Bits) = Cert.Kernel28Ideal.defs (F := Bits) := congrArg (Pipeline.defs _) same_table
theorem frame_kernel : Cert.quiescent_Kernel28 := fun m g _ => by
  rw [same_program]
  exact Cert.Kernel28Ideal.Gen.frame (F := Bits) m g
theorem preserves : Cert.preserves_Kernel28_Kernel28Ideal := trivial
theorem frame_ideal : Cert.quiescent_Kernel28Ideal := fun m g _ => Cert.Kernel28Ideal.Gen.frame m g
theorem frame_reference : Cert.quiescent_Reference28Ideal := fun m g _ =>
  (θ_run Cert.Reference28Ideal.defs _ _).mono (fun r h => ⟨fun c => (h c).2, sem_eq_zero_of_no_sems (by decide) r.2⟩)
    (Cert.Reference28Ideal.Value.run (F := Ideal) m g)

theorem values : Cert.algebraic_Kernel28Ideal_Reference28Ideal := by
  intro m g m' g' _ hm
  refine ⟨fun c => result m c, ?_, ?_⟩
  · exact (θ_run Cert.Kernel28Ideal.defs _ _).mono (fun r h c => ⟨((h.1 c).1 6).trans (array m c), h.2 c⟩) (θ_run_and (run_main m g) (unchanged m g))
  · refine (θ_run Cert.Reference28Ideal.defs _ _).mono (fun r h c => ⟨?_, (h c).2⟩) (Cert.Reference28Ideal.Value.run (F := Ideal) m' g')
    obtain ⟨e0, e1, e2⟩ := hm c
    refine (h c).1.trans ((Cert.Reference28Ideal.Read.val_main_v5_eq ..).trans ?_)
    rw [e0, e1, e2]
    exact funext fun i => reference _ _ _ i

end Cert.CrossOut
-- ==== Proof.CrossQuery.lean ====
module

public import proofs.«01_k».proof.Defs
public import proofs.«01_k».proof.Proof.Products
public import proofs.«01_k».proof.Proof.Gen.Kernel29
public import proofs.«01_k».proof.Proof.Gen.Kernel29Ideal.Frame
public import proofs.«01_k».proof.Proof.Gen.Reference29Ideal.Run
public import proofs.«01_k».proof.Proof.Gen.Reference29Ideal.Read

/-! The cross attention's queries: 1024 rows at a point. -/

@[expose] public section

noncomputable section

namespace Cert.CrossQuery

open Idealize.ShloMosaic Idealize.ShloMosaic.TcCoe Idealize.SL.Sem Cert.Kernel29Ideal Cert.Kernel29Ideal.Gen Cert.Products

/-- What a point writes. -/
theorem written (a : Vec Ideal S1024x1024 .bf16) (w : Vec Ideal S1024x512 .bf16) : out0_2 a w = block a w := by
  unfold out0_2
  rw [stored2, whole2, whole2]
  funext i
  pointwise [k0_pay1, block]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem out_index : ∀ a : Fin 2, win0_2.index (point a) = ![a.val, 0] := by decide +kernel

section
variable (m : (ℓ : Loc nD τ sig) → Buf (Elt Ideal) ℓ) (c : Dev nD)

/-- The arguments, and the result entry by entry. -/
def rows : S2048x1024.Idx → EReal := m (c.tc.loc main_arg0)
def weights : S1024x512.Idx → EReal := m (c.tc.loc main_arg1)
def result : S2048x512.Idx → EReal := fun i => ∑ e : Fin 1024, rows m c (ix2 (i 0) e) * weights m c (ix2 e (i 1))

theorem rows_at (a : Fin 2) (r : Fin 1024) (e : Fin 1024) : iblk m c 0 (point a) (ix2 r e) = rows m c (ix2 (row a r) e) :=
  same2 (rows m c) _ _ _ (place (congrFun (rows_index a) 0)) (place0 (congrFun (rows_index a) 1))
theorem weight_at (a : Fin 2) (p : Fin 1024) (q : Fin 512) : iblk m c 1 (point a) (ix2 p q) = weights m c (ix2 p q) :=
  same2 (weights m c) _ _ _ (place0 (congrFun (weight_index a) 0)) (place0 (congrFun (weight_index a) 1))

theorem written_at (a : Fin 2) (r : Fin 1024) (x : Fin 512) :
    out0_2 (iblk m c 0 (point a)) (iblk m c 1 (point a)) (ix2 r x) = result m c (ix2 (row a r) x) :=
  (congrFun (written _ _) _).trans ((Finset.sum_congr rfl fun e _ =>
    congrArg₂ (fun x y : EReal => x * y) (rows_at m c a r e) (weight_at m c a e x)))

theorem covered (i : S2048x512.Idx) : ∃ t : Fin cfg0.N, (cfg0.win 2).flush t = true ∧ i ∈ ((cfg0.win 2).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 512; decide)

theorem point_of (t : Fin cfg0.N) : ∃ a : Fin 2, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 1024) (x : Fin 512), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference29Ideal.Read in
theorem reference (x0 : S2048x1024.Idx → EReal) (x1 : S1024x512.Idx → EReal) (i : S2048x512.Idx) :
    val_main_v1 (F := Ideal) x0 x1 i = ∑ e : Fin 1024, x0 (ix2 (i 0) e) * x1 (ix2 e (i 1)) := by
  refine (val_main_v1_apply ..).trans ((val_main_v0_apply ..).trans ?_)
  exact Finset.sum_congr rfl fun e _ => congrArg₂ (· * ·) (same2 x0 _ (i 0) e rfl rfl) (same2 x1 _ e (i 1) rfl rfl)

/-! ## The claims -/

/-- The kernel and its idealisation are the same program, so one run is both programs' frame. -/
theorem same_body : @Cert.Kernel29.cc0_mm_xq Bits _ _ = @Cert.Kernel29Ideal.cc0_mm_xq Bits _ _ := rfl
theorem same_table : Cert.Kernel29.defs₀ (F := Bits) = Cert.Kernel29Ideal.defs₀ (F := Bits) :=
  congrArg _ (funext fun a => match a with | 0 => funext fun ⟨_, _⟩ => rfl)
theorem same_program : Cert.Kernel29.defs (F := Bits) = Cert.Kernel29Ideal.defs (F := Bits) := congrArg (Pipeline.defs _) same_table
theorem frame_kernel : Cert.quiescent_Kernel29 := fun m g _ => by
  rw [same_program]
  exact Cert.Kernel29Ideal.Gen.frame (F := Bits) m g
theorem preserves : Cert.preserves_Kernel29_Kernel29Ideal := trivial
theorem frame_ideal : Cert.quiescent_Kernel29Ideal := fun m g _ => Cert.Kernel29Ideal.Gen.frame m g
theorem frame_reference : Cert.quiescent_Reference29Ideal := fun m g _ =>
  (θ_run Cert.Reference29Ideal.defs _ _).mono (fun r h => ⟨fun c => (h c).2, sem_eq_zero_of_no_sems (by decide) r.2⟩)
    (Cert.Reference29Ideal.Value.run (F := Ideal) m g)

theorem values : Cert.algebraic_Kernel29Ideal_Reference29Ideal := by
  intro m g m' g' _ hm
  refine ⟨fun c => result m c, ?_, ?_⟩
  · exact (θ_run Cert.Kernel29Ideal.defs _ _).mono (fun r h c => ⟨((h.1 c).1 2).trans (array m c), h.2 c⟩) (θ_run_and (run_main m g) (unchanged m g))
  · refine (θ_run Cert.Reference29Ideal.defs _ _).mono (fun r h c => ⟨?_, (h c).2⟩) (Cert.Reference29Ideal.Value.run (F := Ideal) m' g')
    obtain ⟨e0, e1⟩ := hm c
    refine (h c).1.trans ((Cert.Reference29Ideal.Read.val_main_v1_eq ..).trans ?_)
    rw [e0, e1]
    exact funext fun i => reference _ _ i

end Cert.CrossQuery
-- ==== Proof.CrossMemory.lean ====
module

public import proofs.«01_k».proof.Defs
public import proofs.«01_k».proof.Proof.Products
public import proofs.«01_k».proof.Proof.Gen.Kernel30
public import proofs.«01_k».proof.Proof.Gen.Kernel30Ideal.Frame
public import proofs.«01_k».proof.Proof.Gen.Reference30Ideal.Run
public import proofs.«01_k».proof.Proof.Gen.Reference30Ideal.Read

/-! The cross attention's keys and values: the normed memory times their weights, at one point. -/

@[expose] public section

noncomputable section

namespace Cert.CrossMemory

open Idealize.ShloMosaic Idealize.ShloMosaic.TcCoe Idealize.SL.Sem Cert.Kernel30Ideal Cert.Kernel30Ideal.Gen Cert.Products

/-- What a point writes. -/
theorem written (a : Vec Ideal S256x1024 .bf16) (w : Vec Ideal S1024x1024 .bf16) : out0_2 a w = block a w := by
  unfold out0_2
  rw [stored2, whole2, whole2]
  funext i
  pointwise [k0_pay1, block]

theorem points : cfg0.N = 1 := by decide

/-- The point of the `a`-th block of rows, and its rows. -/
def point (a : Fin 1) : Fin cfg0.N := ⟨a.val, by have := points; omega⟩
def row (a : Fin 1) (r : Fin 256) : Fin 256 := ⟨256 * a.val + r.val, by omega⟩

theorem rows_index : ∀ a : Fin 1, win0_0.index (point a) = ![a.val, 0] := by decide +kernel
theorem weight_index : ∀ a : Fin 1, win0_1.index (point a) = ![0, 0] := by decide +kernel
theorem out_index : ∀ a : Fin 1, win0_2.index (point a) = ![a.val, 0] := by decide +kernel

section
variable (m : (ℓ : Loc nD τ sig) → Buf (Elt Ideal) ℓ) (c : Dev nD)

/-- The arguments, and the result entry by entry. -/
def rows : S256x1024.Idx → EReal := m (c.tc.loc main_arg0)
def weights : S1024x1024.Idx → EReal := m (c.tc.loc main_arg1)
def result : S256x1024.Idx → EReal := fun i => ∑ e : Fin 1024, rows m c (ix2 (i 0) e) * weights m c (ix2 e (i 1))

theorem rows_at (a : Fin 1) (r : Fin 256) (e : Fin 1024) : iblk m c 0 (point a) (ix2 r e) = rows m c (ix2 (row a r) e) :=
  same2 (rows m c) _ _ _ (place (congrFun (rows_index a) 0)) (place0 (congrFun (rows_index a) 1))
theorem weight_at (a : Fin 1) (p : Fin 1024) (q : Fin 1024) : iblk m c 1 (point a) (ix2 p q) = weights m c (ix2 p q) :=
  same2 (weights m c) _ _ _ (place0 (congrFun (weight_index a) 0)) (place0 (congrFun (weight_index a) 1))

theorem written_at (a : Fin 1) (r : Fin 256) (x : Fin 1024) :
    out0_2 (iblk m c 0 (point a)) (iblk m c 1 (point a)) (ix2 r x) = result m c (ix2 (row a r) x) :=
  (congrFun (written _ _) _).trans ((Finset.sum_congr rfl fun e _ =>
    congrArg₂ (fun x y : EReal => x * y) (rows_at m c a r e) (weight_at m c a e x)))

theorem covered (i : S256x1024.Idx) : ∃ t : Fin cfg0.N, (cfg0.win 2).flush t = true ∧ i ∈ ((cfg0.win 2).blk t).view.set := by
  have h0 : (i 0 : ℕ) < 256 := (i 0).isLt
  obtain ⟨a, ha⟩ : ∃ a : Fin 1, a.val = (i 0 : ℕ) / 256 := ⟨⟨(i 0 : ℕ) / 256, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 256; decide)
  | ⟨1, _⟩ => within (i 1) (congrFun (out_index a) 1) (Nat.div_eq_of_lt (i 1).isLt).symm (by show 0 < 1024; decide)

theorem point_of (t : Fin cfg0.N) : ∃ a : Fin 1, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 256) (x : Fin 1024), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference30Ideal.Read in
theorem reference (x0 : S256x1024.Idx → EReal) (x1 : S1024x1024.Idx → EReal) (i : S256x1024.Idx) :
    val_main_v1 (F := Ideal) x0 x1 i = ∑ e : Fin 1024, x0 (ix2 (i 0) e) * x1 (ix2 e (i 1)) := by
  refine (val_main_v1_apply ..).trans ((val_main_v0_apply ..).trans ?_)
  exact Finset.sum_congr rfl fun e _ => congrArg₂ (· * ·) (same2 x0 _ (i 0) e rfl rfl) (same2 x1 _ e (i 1) rfl rfl)

/-! ## The claims -/

/-- The kernel and its idealisation are the same program, so one run is both programs' frame. -/
theorem same_body : @Cert.Kernel30.cc0_mm_xkv Bits _ _ = @Cert.Kernel30Ideal.cc0_mm_xkv Bits _ _ := rfl
theorem same_table : Cert.Kernel30.defs₀ (F := Bits) = Cert.Kernel30Ideal.defs₀ (F := Bits) :=
  congrArg _ (funext fun a => match a with | 0 => funext fun ⟨_, _⟩ => rfl)
theorem same_program : Cert.Kernel30.defs (F := Bits) = Cert.Kernel30Ideal.defs (F := Bits) := congrArg (Pipeline.defs _) same_table
theorem frame_kernel : Cert.quiescent_Kernel30 := fun m g _ => by
  rw [same_program]
  exact Cert.Kernel30Ideal.Gen.frame (F := Bits) m g
theorem preserves : Cert.preserves_Kernel30_Kernel30Ideal := trivial
theorem frame_ideal : Cert.quiescent_Kernel30Ideal := fun m g _ => Cert.Kernel30Ideal.Gen.frame m g
theorem frame_reference : Cert.quiescent_Reference30Ideal := fun m g _ =>
  (θ_run Cert.Reference30Ideal.defs _ _).mono (fun r h => ⟨fun c => (h c).2, sem_eq_zero_of_no_sems (by decide) r.2⟩)
    (Cert.Reference30Ideal.Value.run (F := Ideal) m g)

theorem values : Cert.algebraic_Kernel30Ideal_Reference30Ideal := by
  intro m g m' g' _ hm
  refine ⟨fun c => result m c, ?_, ?_⟩
  · exact (θ_run Cert.Kernel30Ideal.defs _ _).mono (fun r h c => ⟨((h.1 c).1 2).trans (array m c), h.2 c⟩) (θ_run_and (run_main m g) (unchanged m g))
  · refine (θ_run Cert.Reference30Ideal.defs _ _).mono (fun r h c => ⟨?_, (h c).2⟩) (Cert.Reference30Ideal.Value.run (F := Ideal) m' g')
    obtain ⟨e0, e1⟩ := hm c
    refine (h c).1.trans ((Cert.Reference30Ideal.Read.val_main_v1_eq ..).trans ?_)
    rw [e0, e1]
    exact funext fun i => reference _ _ i

end Cert.CrossMemory
-- ==== Proof.Forget.lean ====
module

public import proofs.«01_k».proof.Defs
public import proofs.«01_k».proof.Proof.Products
public import proofs.«01_k».proof.Proof.Gen.Kernel31
public import proofs.«01_k».proof.Proof.Gen.Kernel31Ideal.Frame
public import proofs.«01_k».proof.Proof.Gen.Reference31Ideal.Run
public import proofs.«01_k».proof.Proof.Gen.Reference31Ideal.Read

/-! The forget gate's projection: 1024 rows at a point. -/

@[expose] public section

noncomputable section

namespace Cert.Forget

open Idealize.ShloMosaic Idealize.ShloMosaic.TcCoe Idealize.SL.Sem Cert.Kernel31Ideal Cert.Kernel31Ideal.Gen Cert.Products

/-- What a point writes. -/
theorem written (a : Vec Ideal S1024x1024 .bf16) (w : Vec Ideal S1024x128 .bf16) : out0_2 a w = block a w := by
  unfold out0_2
  rw [stored2, whole2, whole2]
  funext i
  pointwise [k0_pay1, block]

theorem points : cfg0.N = 2 := by decide

/-- The point of the `a`-th block of rows, and its rows. -/
def point (a : Fin 2) : Fin cfg0.N := ⟨a.val, by have := points; omega⟩
def row (a : Fin 2) (r : Fin 1024) : Fin 2048 := ⟨1024 * a.val + r.val, by omega⟩

theorem rows_index : ∀ a : Fin 2, win0_0.index (point a) = ![a.val, 0] := by decide +kernel
theorem weight_index : ∀ a : Fin 2, win0_1.index (point a) = ![0, 0] := by decide +kernel
theorem out_index : ∀ a : Fin 2, win0_2.index (point a) = ![a.val, 0] := by decide +kernel

section
variable (m : (ℓ : Loc nD τ sig) → Buf (Elt Ideal) ℓ) (c : Dev nD)

/-- The arguments, and the result entry by entry. -/
def rows : S2048x1024.Idx → EReal := m (c.tc.loc main_arg0)
def weights : S1024x128.Idx → EReal := m (c.tc.loc main_arg1)
def result : S2048x128.Idx → EReal := fun i => ∑ e : Fin 1024, rows m c (ix2 (i 0) e) * weights m c (ix2 e (i 1))

theorem rows_at (a : Fin 2) (r : Fin 1024) (e : Fin 1024) : iblk m c 0 (point a) (ix2 r e) = rows m c (ix2 (row a r) e) :=
  same2 (rows m c) _ _ _ (place (congrFun (rows_index a) 0)) (place0 (congrFun (rows_index a) 1))
theorem weight_at (a : Fin 2) (p : Fin 1024) (q : Fin 128) : iblk m c 1 (point a) (ix2 p q) = weights m c (ix2 p q) :=
  same2 (weights m c) _ _ _ (place0 (congrFun (weight_index a) 0)) (place0 (congrFun (weight_index a) 1))

theorem written_at (a : Fin 2) (r : Fin 1024) (x : Fin 128) :
    out0_2 (iblk m c 0 (point a)) (iblk m c 1 (point a)) (ix2 r x) = result m c (ix2 (row a r) x) :=
  (congrFun (written _ _) _).trans ((Finset.sum_congr rfl fun e _ =>
    congrArg₂ (fun x y : EReal => x * y) (rows_at m c a r e) (weight_at m c a e x)))

theorem covered (i : S2048x128.Idx) : ∃ t : Fin cfg0.N, (cfg0.win 2).flush t = true ∧ i ∈ ((cfg0.win 2).blk t).view.set := by
  have h0 : (i 0 : ℕ) < 2048 := (i 0).isLt
  obtain ⟨a, ha⟩ : ∃ a : Fin 2, a.val = (i 0 : ℕ) / 1024 := ⟨⟨(i 0 : ℕ) / 1024, by omega⟩, rfl⟩
  refine ⟨point a, flush0_2 _, ?_⟩
  show i ∈ ((View.whole main_v0).slice (win0_2.rect (point a))).set
  rw [View.set_slice_whole, Rect.mem_set_unit]
  exact fun k => match k with
  | ⟨0, _⟩ => within (i 0) (congrFun (out_index a) 0) ha (by show 0 < 1024; decide)
  | ⟨1, _⟩ => within (i 1) (congrFun (out_index a) 1) (Nat.div_eq_of_lt (i 1).isLt).symm (by show 0 < 128; decide)

theorem point_of (t : Fin cfg0.N) : ∃ a : Fin 2, t = point a := ⟨⟨t.val, by have := t.isLt; have := points; omega⟩, rfl⟩

theorem array : (dats m 0 c).arrAt 2 cfg0.N = result m c := by
  refine (dats m 0 c).arrAt_eq_of_cover 2 (result m c) (fun t _ => ?_) covered
  obtain ⟨a, rfl⟩ := point_of t
  show (cfg0.win 2).cut (grid0.coords _) ((dats m 0 c).after 2 _) = _
  rw [after0_2]
  funext y
  obtain ⟨r, x, rfl⟩ : ∃ (r : Fin 1024) (x : Fin 128), y = ix2 r x := ⟨y 0, y 1, eq_ix2 y⟩
  refine (written_at m c a r x).trans ?_
  exact (same2 (result m c) _ _ _ (place (congrFun (out_index a) 0)) (place0 (congrFun (out_index a) 1))).symm
end

/-! ## The reference -/

open Cert.Reference31Ideal.Read in
theorem reference (x0 : S2048x1024.Idx → EReal) (x1 : S1024x128.Idx → EReal) (i : S2048x128.Idx) :
    val_main_v2 (F := Ideal) x0 x1 i = ∑ e : Fin 1024, x0 (ix2 (i 0) e) * x1 (ix2 e (i 1)) := by
  refine (val_main_v2_apply ..).trans ((val_main_v1_apply ..).trans ((val_main_v0_apply ..).trans ?_))
  exact Finset.sum_congr rfl fun e _ => congrArg₂ (· * ·) (same2 x0 _ (i 0) e rfl rfl) (same2 x1 _ e (i 1) rfl rfl)

/-! ## The claims -/

/-- The kernel and its idealisation are the same program, so one run is both programs' frame. -/
theorem same_body : @Cert.Kernel31.cc0_mm_in_f Bits _ _ = @Cert.Kernel31Ideal.cc0_mm_in_f Bits _ _ := rfl
theorem same_table : Cert.Kernel31.defs₀ (F := Bits) = Cert.Kernel31Ideal.defs₀ (F := Bits) :=
  congrArg _ (funext fun a => match a with | 0 => funext fun ⟨_, _⟩ => rfl)
theorem same_program : Cert.Kernel31.defs (F := Bits) = Cert.Kernel31Ideal.defs (F := Bits) := congrArg (Pipeline.defs _) same_table
theorem frame_kernel : Cert.quiescent_Kernel31 := fun m g _ => by
  rw [same_program]
  exact Cert.Kernel31Ideal.Gen.frame (F := Bits) m g
theorem preserves : Cert.preserves_Kernel31_Kernel31Ideal := trivial
theorem frame_ideal : Cert.quiescent_Kernel31Ideal := fun m g _ => Cert.Kernel31Ideal.Gen.frame m g
theorem frame_reference : Cert.quiescent_Reference31Ideal := fun m g _ =>
  (θ_run Cert.Reference31Ideal.defs _ _).mono (fun r h => ⟨fun c => (h c).2, sem_eq_zero_of_no_sems (by decide) r.2⟩)
    (Cert.Reference31Ideal.Value.run (F := Ideal) m g)

theorem values : Cert.algebraic_Kernel31Ideal_Reference31Ideal := by
  intro m g m' g' _ hm
  refine ⟨fun c => result m c, ?_, ?_⟩
  · exact (θ_run Cert.Kernel31Ideal.defs _ _).mono (fun r h c => ⟨((h.1 c).1 2).trans (array m c), h.2 c⟩) (θ_run_and (run_main m g) (unchanged m g))
  · refine (θ_run Cert.Reference31Ideal.defs _ _).mono (fun r h c => ⟨?_, (h c).2⟩) (Cert.Reference31Ideal.Value.run (F := Ideal) m' g')
    obtain ⟨e0, e1⟩ := hm c
    refine (h c).1.trans ((Cert.Reference31Ideal.Read.val_main_v2_eq ..).trans ?_)
    rw [e0, e1]
    exact funext fun i => reference _ _ i

end Cert.Forget
-- ==== Proof.LastMemoryDx.lean ====
module

public import proofs.«01_k».proof.Defs
public import proofs.«01_k».proof.Proof.Products
public import proofs.«01_k».proof.Proof.Gen.Kernel32
public import proofs.«01_k».proof.Proof.Gen.Kernel32Ideal.Frame
public import proofs.«01_k».proof.Proof.Gen.Reference32Ideal.Run
public import proofs.«01_k».proof.Proof.Gen.Reference32Ideal.Read

/-! The gradient of the normed memory in the last layer: the gradients of the keys and of the values times their weights, one of the two
at a point. -/

@[expose] public section

noncomputable section

namespace Cert.LastMemoryDx

open Idealize.ShloMosaic Idealize.ShloMosaic.TcCoe Idealize.SL.Sem Cert.Kernel32Ideal Cert.Kernel32Ideal.Gen Cert.Products

/-! ## One point -/

theorem first_sum (a : Vec Ideal S256x512 .f32) (w : Vec Ideal S1024x512 .bf16) : k0_pay2 a w = addRows a w (fun _ => 0) := by
  funext i
  pointwise [k0_pay2, k0_pay1, addRows]
theorem next_sum (a : Vec Ideal S256x512 .f32) (w : Vec Ideal S1024x512 .bf16) (p : Vec Ideal S256x1024 .f32) : k0_pay6 a w p = addRows a w p := by
  funext i
  pointwise [k0_pay6, k0_pay4, addRows]

section
variable (m : (ℓ : Loc nD τ sig) → Buf (Elt Ideal) ℓ) (c : Dev nD) (t : Fin cfg0.N)

/-- The partial sums the point before left. -/
abbrev before : S256x1024.Idx → EReal := (outsAt0 m c (t.val - 1) (Nat.lt_of_le_of_lt (Nat.sub_le _ _) t.isLt)).2

/-! The first part goes to the partial sums; with the second the result is written. -/

theorem sums (h : t.val % 2 = 0) : (outsAt0 m c t.val t.isLt).2 = addRows (iblk m c 0 t) (iblk m c 2 t) (fun _ => 0) := by
  rw [outsAt0_A m c t] <;> try omega
  dsimp only
  unfold sout0_A_0; rw [View.read_writes_eq_canon _ _ _ fun y => scover0_A_0 (y := y) ..]
  unfold kernelRun0_A
  dsimp only
  rw [stored2, load2 (hs0_0 t), load2 (hs0_2 t)]
  exact first_sum _ _

theorem written (h : t.val % 2 = 1) : (outsAt0 m c t.val t.isLt).1 =
    addRows (iblk m c 1 t) (iblk m c 2 t) (before m c t) := by
  rw [outsAt0_B m c t] <;> try omega
  dsimp only
  unfold out0_B_3; rw [View.read_writes_eq_canon _ _ _ fun y => cover0_B_3 (y := y) ..]
  unfold kernelRun0_B
  dsimp only
  sl_unfold_words
  rw [stored2, View.readCov_unit_zero (S := S256x1024) _ origin2, load2 (hs0_1 t), load2 (hs0_2 t), load2 (Memref.isWhole_whole cc0_scratch0)]
  exact next_sum _ _ _
end

/-! ## The array -/

theorem points : cfg0.N = 2 := by decide

/-- The point that takes part `k`; the columns of that part. -/
def point (k : Fin 2) : Fin cfg0.N := ⟨k.val, by have := points; omega⟩
def col (k : Fin 2) (e : Fin 512) : Fin 1024 := ⟨512 * k.val + e.val, by omega⟩

theorem first_index : win0_0.index (point 0) = ![0, 0] := by decide +kernel
theorem second_index : win0_1.index (point 1) = ![0, 0] := by decide +kernel
theorem weight_index : ∀ k : Fin 2, win0_2.index (point k) = ![0, k.val] := by decide +kernel
theorem out_index : win0_3.index (point 1) = ![0, 0] := by decide +kernel

section
variable (m : (ℓ : Loc nD τ sig) → Buf (Elt Ideal) ℓ) (c : Dev nD)

/-- The arguments, and the result entry by entry. -/
def keys : S256x512.Idx → EReal := m (c.tc.loc main_arg0)
def vals : S256x512.Idx → EReal := m (c.tc.loc main_arg1)
def weights : S1024x1024.Idx → EReal := m (c.tc.loc main_arg2)
def result : S256x1024.Idx → EReal := fun i =>
  ∑ e : Fin 512, keys m c (ix2 (i 0) e) * weights m c (ix2 (i 1) (col 0 e)) + ∑ e : Fin 512, vals m c (ix2 (i 0) e) * weights m c (ix2 (i 1) (col 1 e))

theorem keys_at (r : Fin 256) (e : Fin 512) : iblk m c 0 (point 0) (ix2 r e) = keys m c (ix2 r e) :=
  same2 (keys m c) _ _ _ (place0 (congrFun first_index 0)) (place0 (congrFun first_index 1))
theorem vals_at (r : Fin 256) (e : Fin 512) : iblk m c 1 (point 1) (ix2 r e) = vals m c (ix2 r e) :=
  same2 (vals m c) _ _ _ (place0 (congrFun second_index 0)) (place0 (congrFun second_index 1))
theorem weight_at (k : Fin 2) (x : Fin 1024) (e : Fin 512) : iblk m c 2 (point k) (ix2 x e) = weights m c (ix2 x (col k e)) :=
  same2 (weights m c) _ _ _ (place0 (congrFun (weight_index k) 0)) (place (congrFun (weight_index k) 1))

theorem written_at (r : Fin 256) (x : Fin 1024) : (outsAt0 m c (point 1).val (point 1).isLt).1 (ix2 r x) = result m c (ix2 r x) :=
  (congrFun (written m c (point 1) rfl) _).trans (congrArg₂ (fun x y : EReal => x + y)
    ((congrFun (sums m c (point 0) rfl) (ix2 r x)).trans ((zero_add _).trans (Finset.sum_congr rfl fun e _ =>
      congrArg₂ (fun x y : EReal => x * y) (keys_at m c r e) (weight_at m c 0 x e))))
    (Finset.sum_congr rfl fun e _ => congrArg₂ (fun x y : EReal => x * y) (vals_at m c r e) (weight_at m c 1 x e)))

theorem covered (i : S256x1024.Idx) : ∃ t : Fin cfg0.N, (cfg0.win 3).flush t = true ∧ i ∈ ((cfg0.win 3).blk t).view.set := by
  refine ⟨point 1, (flush0_3 _).mpr rfl, ?_⟩
  show i ∈ ((View.whole main_v0).slice (win0_3.rect (point 1))).set
  rw [View.set_slice_whole, Rect.mem_set_unit]
  exact fun d => match d with
  | ⟨0, _⟩ => within (i 0) (congrFun out_index 0) (Nat.div_eq_of_lt (i 0).isLt).symm (by show 0 < 256; decide)
  | ⟨1, _⟩ => within (i 1) (congrFun out_index 1) (Nat.div_eq_of_lt (i 1).isLt).symm (by show 0 < 1024; decide)

theorem array : (dats m 0 c).arrAt 3 cfg0.N = result m c := by
  refine (dats m 0 c).arrAt_eq_of_cover 3 (result m c) (fun t h => ?_) covered
  obtain rfl : t = point 1 := Fin.ext (by have := (flush0_3 t).mp h; have := t.isLt; have := points; show t.val = 1; omega)
  show (cfg0.win 3).cut (grid0.coords _) ((dats m 0 c).after 3 _) = _
  rw [after0_3]
  funext y
  obtain ⟨r, x, rfl⟩ : ∃ (r : Fin 256) (x : Fin 1024), y = ix2 r x := ⟨y 0, y 1, eq_ix2 y⟩
  exact (written_at m c r x).trans (same2 (result m c) _ _ _ (place0 (congrFun out_index 0)) (place0 (congrFun out_index 1))).symm
end

/-! ## The reference -/

section
open Cert.Reference32Ideal.Read
variable (x0 x1 : S256x512.Idx → EReal) (x2 : S1024x1024.Idx → EReal)

/-- Column `512 k + e` of the joined gradients is column `e` of part `k`. -/
theorem joined (r : Fin 256) (k : Fin 2) (e : Fin 512) (i : S256x1024.Idx) (h0 : (i 0).val = r.val) (h1 : (i 1).val = 512 * k.val + e.val) :
    val_main_v0 (F := Ideal) x0 x1 i = (![x0, x1] : Fin 2 → S256x512.Idx → EReal) k (ix2 r e) :=
  concatenate_ofFn_apply (t := S256x1024) (s₁ := S256x512) 1 ![x0, x1] _ rfl 512 rfl i k
    (by rw [h1]; omega) (ix2 r e)
    (by rw [h1]; show e.val = (512 * k.val + e.val) % 512; omega)
    (fun b hb => match b with
      | ⟨0, _⟩ => h0.symm
      | ⟨1, _⟩ => absurd rfl hb)

theorem product (i : S256x1024.Idx) : val_main_v2 (F := Ideal) x0 x1 x2 i =
    ∑ e : Fin 512, x0 (ix2 (i 0) e) * x2 (ix2 (i 1) (col 0 e)) + ∑ e : Fin 512, x1 (ix2 (i 0) e) * x2 (ix2 (i 1) (col 1 e)) := by
  refine (val_main_v2_apply ..).trans ((sum_parts (n := 2) (w := 512) (by decide) _
    (fun k e => (![x0, x1] : Fin 2 → S256x512.Idx → EReal) k (ix2 (i 0) e) * x2 (ix2 (i 1) (col k e))) fun k e hk => ?_).trans (Fin.sum_univ_two _))
  exact congrArg₂ (· * ·) ((val_main_v1_apply ..).trans (joined x0 x1 (i 0) k e _ rfl rfl)) (same2 x2 _ (i 1) (col k e) rfl rfl)

theorem reference (i : S256x1024.Idx) : val_main_v4 (F := Ideal) x0 x1 x2 i =
    ∑ e : Fin 512, x0 (ix2 (i 0) e) * x2 (ix2 (i 1) (col 0 e)) + ∑ e : Fin 512, x1 (ix2 (i 0) e) * x2 (ix2 (i 1) (col 1 e)) :=
  (val_main_v4_apply ..).trans ((val_main_v3_apply ..).trans (product x0 x1 x2 i))
end

/-! ## The claims -/

/-- The kernel and its idealisation are the same program, so one run is both programs' frame. -/
theorem same_body : @Cert.Kernel32.cc0_mm_xkv_dx Bits _ _ = @Cert.Kernel32Ideal.cc0_mm_xkv_dx Bits _ _ := rfl
theorem same_table : Cert.Kernel32.defs₀ (F := Bits) = Cert.Kernel32Ideal.defs₀ (F := Bits) :=
  congrArg _ (funext fun a => match a with | 0 => funext fun ⟨_, _⟩ => rfl)
theorem same_program : Cert.Kernel32.defs (F := Bits) = Cert.Kernel32Ideal.defs (F := Bits) := congrArg (Pipeline.defs _) same_table
theorem frame_kernel : Cert.quiescent_Kernel32 := fun m g _ => by
  rw [same_program]
  exact Cert.Kernel32Ideal.Gen.frame (F := Bits) m g
theorem preserves : Cert.preserves_Kernel32_Kernel32Ideal := trivial
theorem frame_ideal : Cert.quiescent_Kernel32Ideal := fun m g _ => Cert.Kernel32Ideal.Gen.frame m g
theorem frame_reference : Cert.quiescent_Reference32Ideal := fun m g _ =>
  (θ_run Cert.Reference32Ideal.defs _ _).mono (fun r h => ⟨fun c => (h c).2, sem_eq_zero_of_no_sems (by decide) r.2⟩)
    (Cert.Reference32Ideal.Value.run (F := Ideal) m g)

theorem values : Cert.algebraic_Kernel32Ideal_Reference32Ideal := by
  intro m g m' g' _ hm
  refine ⟨fun c => result m c, ?_, ?_⟩
  · exact (θ_run Cert.Kernel32Ideal.defs _ _).mono (fun r h c => ⟨((h.1 c).1 3).trans (array m c), h.2 c⟩) (θ_run_and (run_main m g) (unchanged m g))
  · refine (θ_run Cert.Reference32Ideal.defs _ _).mono (fun r h c => ⟨?_, (h c).2⟩) (Cert.Reference32Ideal.Value.run (F := Ideal) m' g')
    obtain ⟨e0, e1, e2⟩ := hm c
    refine (h c).1.trans ((Cert.Reference32Ideal.Read.val_main_v4_eq ..).trans ?_)
    rw [e0, e1, e2]
    exact funext fun i => reference _ _ _ i

end Cert.LastMemoryDx
-- ==== Proof.GateDx.lean ====
module

public import proofs.«01_k».proof.Defs
public import proofs.«01_k».proof.Proof.Products
public import proofs.«01_k».proof.Proof.Gen.Kernel33
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Reference33Ideal.Read

/-! The gradient of the feed-forward network's gate `g σ(g) u`, entry by entry: `d u σ(g) + g d u σ(g) (1 - σ(g))` for `g`, and
`g σ(g) d` for `u`. -/

@[expose] public section

noncomputable section

namespace Cert.GateDx

open Idealize.ShloMosaic Idealize.ShloMosaic.TcCoe Idealize.SL.Sem Cert.Kernel33Ideal Cert.Kernel33Ideal.Gen Cert.Products

/-! ## One entry -/

/-- The two gradients of an entry, given the entries of `g`, `u` and the gradient of the gate. -/
def towardG (g u d : EReal) : EReal :=
  d * u * Ideal.logistic g + g * (d * u) * (Ideal.logistic g * (1 - Ideal.logistic g))
def towardU (g d : EReal) : EReal := g * Ideal.logistic g * d

def gateCol (x : Fin 2816) : Fin 5632 := ⟨x.val, by omega⟩
def upCol (x : Fin 2816) : Fin 5632 := ⟨2816 + x.val, by omega⟩

section
variable (gu : S2048x5632.Idx → EReal) (d : S2048x2816.Idx → EReal)

def resultG : S2048x2816.Idx → EReal := fun i => towardG (gu (ix2 (i 0) (gateCol (i 1)))) (gu (ix2 (i 0) (upCol (i 1)))) (d i)
def resultU : S2048x2816.Idx → EReal := fun i => towardU (gu (ix2 (i 0) (gateCol (i 1)))) (d i)

theorem kernel_g : Value.G3 (F := Ideal) gu gu d = resultG gu d := by
  funext i
  have hg : Value.inIdx3_0 i = ix2 (i 0) (gateCol (i 1)) := (eq_ix2 _).trans (by congr 1)
  have hu : Value.inIdx3_1 i = ix2 (i 0) (upCol (i 1)) := (eq_ix2 _).trans (by congr 1; exact Fin.ext (Nat.add_comm _ _))
  show Value.G3 (F := Ideal) gu gu d i = towardG _ _ _
  unfold Value.G3 towardG
  rw [hg, hu]
  pointwise []

theorem kernel_u : Value.G4 (F := Ideal) gu d = resultU gu d := by
  funext i
  have hg : Value.inIdx4_0 i = ix2 (i 0) (gateCol (i 1)) := (eq_ix2 _).trans (by congr 1)
  show Value.G4 (F := Ideal) gu d i = towardU _ _
  unfold Value.G4 towardU
  rw [hg]
  pointwise []

open Cert.Reference33Ideal.Read

theorem g_at (i : S2048x2816.Idx) : val_main_v1 (F := Ideal) gu i = gu (ix2 (i 0) (gateCol (i 1))) :=
  (val_main_v1_apply ..).trans (same2 gu _ _ _ (by simp [idx_main_v1]) (by simp [idx_main_v1, gateCol]))
theorem u_at (i : S2048x2816.Idx) : val_main_v2 (F := Ideal) gu i = gu (ix2 (i 0) (upCol (i 1))) :=
  (val_main_v2_apply ..).trans (same2 gu _ _ _ (by simp [idx_main_v2]) (by simp [idx_main_v2, upCol]))

theorem logistic_at (i : S2048x2816.Idx) : val_main_v3_2 (F := Ideal) gu i = Ideal.logistic (gu (ix2 (i 0) (gateCol (i 1)))) := by
  refine Eq.trans ?_ (congrArg Ideal.logistic (g_at gu i))
  pointwise [val_main_v3_2_apply, val_main_call0_v4_apply, val_main_call0_cst_0_apply, val_main_call0_v3_apply, val_main_call0_v2_apply,
    val_main_call0_cst_apply, val_main_call0_v1_apply, val_main_call0_v0_apply, Ideal.logistic]

theorem reference_g : val_main_v8 (F := Ideal) gu d = resultG gu d := by
  funext i
  have h : val_main_v8 (F := Ideal) gu d i = d i * val_main_v2 (F := Ideal) gu i * val_main_v3_2 (F := Ideal) gu i
      + val_main_v1 (F := Ideal) gu i * (d i * val_main_v2 (F := Ideal) gu i) * (val_main_v3_2 (F := Ideal) gu i * (1 - val_main_v3_2 (F := Ideal) gu i)) := by
    pointwise [val_main_v8_apply, val_main_v7_apply, val_main_call1_v1_apply, val_main_call1_v2_apply, val_main_call1_v0_apply,
      val_main_v6_apply, val_main_v3_1_apply, val_main_call0_v7_apply, val_main_call0_v6_apply, val_main_call0_cst_1_apply]
  rw [h, g_at, u_at, logistic_at]
  rfl

theorem reference_u : val_main_v9 (F := Ideal) gu d = resultU gu d := by
  funext i
  have h : val_main_v9 (F := Ideal) gu d i = val_main_v1 (F := Ideal) gu i * val_main_v3_2 (F := Ideal) gu i * d i := by
    pointwise [val_main_v9_apply, val_main_v5_apply, val_main_v3_0_apply]
  rw [h, g_at, logistic_at]
  rfl
end

/-! ## The claims -/

/-- The kernel and its idealisation are the same program, so one run is both programs' frame. -/
theorem same_body : @Cert.Kernel33.cc0_swiglu_bwd Bits _ _ = @Cert.Kernel33Ideal.cc0_swiglu_bwd Bits _ _ := rfl
theorem same_table : Cert.Kernel33.defs₀ (F := Bits) = Cert.Kernel33Ideal.defs₀ (F := Bits) :=
  congrArg _ (funext fun a => match a with | 0 => funext fun ⟨_, _⟩ => rfl)
theorem same_program : Cert.Kernel33.defs (F := Bits) = Cert.Kernel33Ideal.defs (F := Bits) := congrArg (Pipeline.defs _) same_table
theorem frame_kernel : Cert.quiescent_Kernel33 := fun m g _ => by
  rw [same_program]
  exact Cert.Kernel33Ideal.Gen.frame (F := Bits) m g
theorem preserves : Cert.preserves_Kernel33_Kernel33Ideal := trivial
theorem frame_ideal : Cert.quiescent_Kernel33Ideal := fun m g _ => Cert.Kernel33Ideal.Gen.frame m g
theorem frame_reference : Cert.quiescent_Reference33Ideal := fun m g _ =>
  (θ_run Cert.Reference33Ideal.defs _ _).mono (fun r h => ⟨fun c => (h c).2.2, sem_eq_zero_of_no_sems (by decide) r.2⟩)
    (Cert.Reference33Ideal.Value.run (F := Ideal) m g)

theorem values : Cert.algebraic_Kernel33Ideal_Reference33Ideal := by
  intro m g m' g' _ hm
  refine ⟨fun c => resultG (m (c.tc.loc main_arg0)) (m (c.tc.loc main_arg1)), fun c => resultU (m (c.tc.loc main_arg0)) (m (c.tc.loc main_arg1)), ?_, ?_⟩
  · exact (θ_run Cert.Kernel33Ideal.defs _ _).mono
      (fun r h c => ⟨(h c).1.trans (kernel_g _ _), (h c).2.1.trans (kernel_u _ _), (h c).2.2⟩) (Cert.Kernel33Ideal.Value.run (F := Ideal) m g)
  · refine (θ_run Cert.Reference33Ideal.defs _ _).mono (fun r h c => ⟨?_, ?_, (h c).2.2⟩) (Cert.Reference33Ideal.Value.run (F := Ideal) m' g')
    · obtain ⟨e0, e1⟩ := hm c
      refine (h c).1.trans ((Cert.Reference33Ideal.Read.val_main_v8_eq ..).trans ?_)
      rw [e0, e1]
      exact reference_g _ _
    · obtain ⟨e0, e1⟩ := hm c
      refine (h c).2.1.trans ((Cert.Reference33Ideal.Read.val_main_v9_eq ..).trans ?_)
      rw [e0, e1]
      exact reference_u _ _

end Cert.GateDx
-- ==== Proof.Norms.lean ====
module

public import proofs.«01_k».proof.Proof.Products

/-! The gradient of the norm `x / sqrt (mean x² + ε) · gain` of a row of 1024 entries, and the sums over rows that its gain takes. -/

@[expose] public section

noncomputable section

namespace Cert.Norms

open Idealize.ShloMosaic Cert.Products

/-- The row's mean square and ε, by whose root the norm divides. -/
def meanSquare (v : Fin 1024 → EReal) : EReal := Ideal.div (∑ e, v e * v e) (Ideal.ofBits .f32 0x44800000#32) + Ideal.ofBits .f32 0x358637BD#32

/-- What one entry of the row takes, through the mean, of the gradient `w` of the row divided by its root. -/
def meanPart (v w : Fin 1024 → EReal) : EReal :=
  Ideal.div ((∑ e, v e * w e) * (Ideal.ofBits .f32 0xBF000000#32 * Ideal.div (Ideal.rsqrt (meanSquare v)) (meanSquare v)))
    (Ideal.ofBits .f32 0x44800000#32)

/-- The gradient of a row. -/
def rowGradient (v w : Fin 1024 → EReal) (e : Fin 1024) : EReal := w e * Ideal.rsqrt (meanSquare v) + v e * meanPart v w + meanPart v w * v e

/-- What a row adds to the gain's gradient. -/
def gainTerm (v : Fin 1024 → EReal) (e : Fin 1024) (d : EReal) : EReal := v e * Ideal.rsqrt (meanSquare v) * d

/-! ## The arrays -/

/-- Row `r` of an array, and the product of a gradient's row with the gain. -/
def rowOf {n : ℕ} (x : (⟨2, ![n, 1024]⟩ : Shape).Idx → EReal) (r : Fin n) : Fin 1024 → EReal := fun e => x (ix2 r e)
def scaled {n : ℕ} (d : (⟨2, ![n, 1024]⟩ : Shape).Idx → EReal) (g : (⟨2, ![1, 1024]⟩ : Shape).Idx → EReal) (r : Fin n) : Fin 1024 → EReal :=
  fun e => d (ix2 r e) * g (ix2 0 e)

/-- The gradient of the rows, added to `a`; the gradient of the gain. -/
def rowsGradient {n : ℕ} (x d a : (⟨2, ![n, 1024]⟩ : Shape).Idx → EReal) (g : (⟨2, ![1, 1024]⟩ : Shape).Idx → EReal) :
    (⟨2, ![n, 1024]⟩ : Shape).Idx → EReal := fun i => rowGradient (rowOf x (i 0)) (scaled d g (i 0)) (i 1) + a i
def gainGradient {n : ℕ} (x d : (⟨2, ![n, 1024]⟩ : Shape).Idx → EReal) : (⟨2, ![1, 1024]⟩ : Shape).Idx → EReal :=
  fun i => ∑ r, gainTerm (rowOf x r) (i 1) (d (ix2 r (i 1)))

/-- Row `r` of the `b`-th block of 256 rows. -/
def rowIn (b : Fin 8) (r : Fin 256) : Fin 2048 := ⟨256 * b.val + r.val, by omega⟩

/-- Sums that start with the first block's and take one block's more at each point end at the sum over all rows. -/
theorem eight_blocks (f : Fin 2048 → EReal) (s : Fin 8 → EReal) (h0 : s 0 = ∑ r, f (rowIn 0 r))
    (hs : ∀ b : Fin 7, s b.succ = s b.castSucc + ∑ r, f (rowIn b.succ r)) : s 7 = ∑ j, f j :=
  (accumulate s (fun b => ∑ r, f (rowIn b r)) h0 hs).trans
    (sum_parts (n := 8) (w := 256) rfl f (fun b r => f (rowIn b r)) fun _ _ _ => rfl).symm

/-- A position by its coordinates. -/
theorem at2 {n0 n1 : ℕ} (i : (⟨2, ![n0, n1]⟩ : Shape).Idx) (a : Fin n0) (b : Fin n1) (h0 : (i 0).val = a.val) (h1 : (i 1).val = b.val) : i = ix2 a b :=
  funext fun k => Fin.ext (by match k with | ⟨0, _⟩ => exact h0 | ⟨1, _⟩ => exact h1)

/-- A sum of one term. -/
theorem one_term (f : Fin 1 → EReal) : ∑ k, f k = f 0 := Fin.sum_univ_one f

end Cert.Norms
-- ==== Proof.FfnNormDx.lean ====
module

public import proofs.«01_k».proof.Defs
public import proofs.«01_k».proof.Proof.Norms
public import proofs.«01_k».proof.Proof.Gen.Kernel34
public import proofs.«01_k».proof.Proof.Gen.Kernel34Ideal.Frame
public import proofs.«01_k».proof.Proof.Gen.Reference34Ideal.Run
public import proofs.«01_k».proof.Proof.Gen.Reference34Ideal.Read

/-! The gradient of the feed-forward network's norm: one block of 256 rows at a point, the gain's gradient summed from point to point. -/

@[expose] public section

noncomputable section

namespace Cert.FfnNormDx

open Idealize.ShloMosaic Idealize.ShloMosaic.TcCoe Idealize.SL.Sem Cert.Kernel34Ideal Cert.Kernel34Ideal.Gen Cert.Products Cert.Norms

/-! ## One point -/

theorem mean_square (x : Vec Ideal S256x1024 .f32) (r : Fin 256) (k : Fin 1) : k0_pay3 (F := Ideal) x (ix2 r k) = meanSquare (rowOf x r) := by
  pointwise [k0_pay3, meanSquare, rowOf]

theorem block_rows (x d a : Vec Ideal S256x1024 .f32) (g : Vec Ideal S1x1024 .f32) : k0_pay6 (F := Ideal) x g d a = rowsGradient x d a g := by
  funext i
  obtain ⟨r, e, rfl⟩ : ∃ (r : Fin 256) (e : Fin 1024), i = ix2 r e := ⟨i 0, i 1, eq_ix2 i⟩
  pointwise [k0_pay6, k0_pay4, mean_square, one_term, rowsGradient, rowGradient, meanPart, scaled, rowOf]

theorem block_gain (x d : Vec Ideal S256x1024 .f32) (p : Vec Ideal S1x1024 .f32) (i : S1x1024.Idx) :
    k0_pay2 (F := Ideal) (k0_pay5 x d) p i = p i + gainGradient x d i := by
  obtain ⟨r, e, rfl⟩ : ∃ (r : Fin 1) (e : Fin 1024), i = ix2 r e := ⟨i 0, i 1, eq_ix2 i⟩
  pointwise [k0_pay2, k0_pay5, k0_pay4, mean_square, gainGradient, gainTerm, rowOf]

section
variable (m : (ℓ : Loc nD τ sig) → Buf (Elt Ideal) ℓ) (c : Dev nD) (t : Fin cfg0.N)

theorem rows_written : (outsAt0 m c t.val t.isLt).1 = rowsGradient (iblk m c 0 t) (iblk m c 2 t) (iblk m c 3 t) (iblk m c 1 t) := by
  rcases eq_or_ne (t.val % 8) 0 with h | h
  · rw [outsAt0_A m c t h]
    dsimp only
    unfold out0_A_4; rw [View.read_writes_eq_canon _ _ _ fun y => cover0_A_4 (y := y) ..]
    unfold kernelRun0_A
    dsimp only
    rw [stored2, load2 (hs0_0 t), load2 (hs0_1 t), load2 (hs0_2 t), load2 (hs0_3 t)]
    exact block_rows _ _ _ _
  · rw [outsAt0_B m c t h]
    dsimp only
    unfold out0_B_4; rw [View.read_writes_eq_canon _ _ _ fun y => cover0_B_4 (y := y) ..]
    unfold kernelRun0_B
    dsimp only
    rw [stored2, load2 (hs0_0 t), load2 (hs0_1 t), load2 (hs0_2 t), load2 (hs0_3 t)]
    exact block_rows _ _ _ _

theorem gain_first (h : t.val % 8 = 0) (i : S1x1024.Idx) :
    (outsAt0 m c t.val t.isLt).2 i = gainGradient (n := 256) (iblk m c 0 t) (iblk m c 2 t) i := by
  rw [outsAt0_A m c t h]
  dsimp only
  unfold out0_A_5; rw [View.read_writes_eq_canon _ _ _ fun y => cover0_A_5 (y := y) ..]
  unfold kernelRun0_A
  dsimp only
  rw [View.canon_cons_unit_zero (S := S1x1024) origin2]
  sl_unfold_words
  rw [View.readCov_unit_zero (S := S1x1024) _ origin2, load2 (hs0_0 t), load2 (hs0_2 t)]
  refine (block_gain _ _ _ i).trans ?_
  pointwise [k0_pay1]

theorem gain_next (h : ¬t.val % 8 = 0) (i : S1x1024.Idx) : (outsAt0 m c t.val t.isLt).2 i =
    (outsAt0 m c (t.val - 1) (Nat.lt_of_le_of_lt (Nat.sub_le _ _) t.isLt)).2 i + gainGradient (n := 256) (iblk m c 0 t) (iblk m c 2 t) i := by
  rw [outsAt0_B m c t h]
  dsimp only
  unfold out0_B_5; rw [View.read_writes_eq_canon _ _ _ fun y => cover0_B_5 (y := y) ..]
  unfold kernelRun0_B
  dsimp only
  sl_unfold_words
  rw [stored2, load2 (hs0_0 t), load2 (hs0_2 t), load2 (hs0_5 t)]
  exact block_gain _ _ _ i
end

/-! ## The arrays -/

theorem points : cfg0.N = 8 := by decide
def point (b : Fin 8) : Fin cfg0.N := ⟨b.val, by have := points; omega⟩

theorem x_index : ∀ b : Fin 8, win0_0.index (point b) = ![b.val, 0] := by decide +kernel
theorem gain_index : ∀ b : Fin 8, win0_1.index (point b) = ![0, 0] := by decide +kernel
theorem d_index : ∀ b : Fin 8, win0_2.index (point b) = ![b.val, 0] := by decide +kernel
theorem added_index : ∀ b : Fin 8, win0_3.index (point b) = ![b.val, 0] := by decide +kernel
theorem rows_index : ∀ b : Fin 8, win0_4.index (point b) = ![b.val, 0] := by decide +kernel
theorem total_index : ∀ b : Fin 8, win0_5.index (point b) = ![0, 0] := by decide +kernel

section
variable (m : (ℓ : Loc nD τ sig) → Buf (Elt Ideal) ℓ) (c : Dev nD)

/-- The arguments. -/
def xs : S2048x1024.Idx → EReal := m (c.tc.loc main_arg0)
def gain : S1x1024.Idx → EReal := m (c.tc.loc main_arg1)
def ds : S2048x1024.Idx → EReal := m (c.tc.loc main_arg2)
def added : S2048x1024.Idx → EReal := m (c.tc.loc main_arg3)

theorem x_at (b : Fin 8) (r : Fin 256) (e : Fin 1024) : iblk m c 0 (point b) (ix2 r e) = xs m c (ix2 (rowIn b r) e) :=
  same2 (xs m c) _ _ _ (place (congrFun (x_index b) 0)) (place0 (congrFun (x_index b) 1))
theorem gain_at (b : Fin 8) (k : Fin 1) (e : Fin 1024) : iblk m c 1 (point b) (ix2 k e) = gain m c (ix2 k e) :=
  same2 (gain m c) _ _ _ (place0 (congrFun (gain_index b) 0)) (place0 (congrFun (gain_index b) 1))
theorem d_at (b : Fin 8) (r : Fin 256) (e : Fin 1024) : iblk m c 2 (point b) (ix2 r e) = ds m c (ix2 (rowIn b r) e) :=
  same2 (ds m c) _ _ _ (place (congrFun (d_index b) 0)) (place0 (congrFun (d_index b) 1))
theorem added_at (b : Fin 8) (r : Fin 256) (e : Fin 1024) : iblk m c 3 (point b) (ix2 r e) = added m c (ix2 (rowIn b r) e) :=
  same2 (added m c) _ _ _ (place (congrFun (added_index b) 0)) (place0 (congrFun (added_index b) 1))

theorem row_at (b : Fin 8) (r : Fin 256) : rowOf (n := 256) (iblk m c 0 (point b)) r = rowOf (xs m c) (rowIn b r) := funext fun e => x_at m c b r e
theorem scaled_at (b : Fin 8) (r : Fin 256) : scaled (n := 256) (iblk m c 2 (point b)) (iblk m c 1 (point b)) r = scaled (ds m c) (gain m c) (rowIn b r) :=
  funext fun e => congrArg₂ (fun x y : EReal => x * y) (d_at m c b r e) (gain_at m c b 0 e)

/-- The two results. -/
abbrev rows : S2048x1024.Idx → EReal := rowsGradient (xs m c) (ds m c) (added m c) (gain m c)
abbrev total : S1x1024.Idx → EReal := gainGradient (xs m c) (ds m c)

theorem point_of (t : Fin cfg0.N) : ∃ b : Fin 8, t = point b := ⟨⟨t.val, by have := t.isLt; have := points; omega⟩, rfl⟩

theorem rows_at (b : Fin 8) (r : Fin 256) (e : Fin 1024) :
    (outsAt0 m c (point b).val (point b).isLt).1 (ix2 r e) = rows m c (ix2 (rowIn b r) e) := by
  refine (congrFun (rows_written m c (point b)) _).trans ?_
  show rowGradient (rowOf (n := 256) (iblk m c 0 (point b)) r) (scaled (n := 256) (iblk m c 2 (point b)) (iblk m c 1 (point b)) r) e
    + iblk m c 3 (point b) (ix2 r e) = rowGradient (rowOf (xs m c) (rowIn b r)) (scaled (ds m c) (gain m c) (rowIn b r)) e + added m c (ix2 (rowIn b r) e)
  rw [row_at, scaled_at]
  exact congrArg (fun y : EReal => _ + y) (added_at m c b r e)

/-- What the gain's gradient takes of row `j`. -/
def term (e : Fin 1024) (j : Fin 2048) : EReal := gainTerm (rowOf (xs m c) j) e (ds m c (ix2 j e))
theorem part_at (b : Fin 8) (i : S1x1024.Idx) : gainGradient (n := 256) (iblk m c 0 (point b)) (iblk m c 2 (point b)) i = ∑ r, term m c (i 1) (rowIn b r) :=
  Finset.sum_congr rfl fun r _ => congrArg₂ (fun v d => gainTerm v (i 1) d) (row_at m c b r) (d_at m c b r (i 1))

theorem total_at (i : S1x1024.Idx) : (outsAt0 m c (point 7).val (point 7).isLt).2 i = total m c i :=
  eight_blocks (term m c (i 1)) (fun b => (outsAt0 m c (point b).val (point b).isLt).2 i)
    ((gain_first m c (point 0) rfl i).trans (part_at m c 0 i))
    (fun b => (gain_next m c (point b.succ) (by show ¬(b.val + 1) % 8 = 0; omega) i).trans (congrArg (fun y : EReal => _ + y) (part_at m c b.succ i)))

theorem rows_covered (i : S2048x1024.Idx) : ∃ t : Fin cfg0.N, (cfg0.win 4).flush t = true ∧ i ∈ ((cfg0.win 4).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_4 _, ?_⟩
  show i ∈ ((View.whole main_v0_0).slice (win0_4.rect (point b))).set
  rw [View.set_slice_whole, Rect.mem_set_unit]
  exact fun d => match d with
  | ⟨0, _⟩ => within (i 0) (congrFun (rows_index b) 0) hb (by show 0 < 256; decide)
  | ⟨1, _⟩ => within (i 1) (congrFun (rows_index b) 1) (by show 0 = (i 1 : ℕ) / 1024; omega) (by show 0 < 1024; decide)

theorem total_covered (i : S1x1024.Idx) : ∃ t : Fin cfg0.N, (cfg0.win 5).flush t = true ∧ i ∈ ((cfg0.win 5).blk t).view.set := by
  have h0 : (i 0 : ℕ) < 1 := (i 0).isLt
  have h1 : (i 1 : ℕ) < 1024 := (i 1).isLt
  refine ⟨point 7, (flush0_5 _).mpr rfl, ?_⟩
  show i ∈ ((View.whole main_v0_1).slice (win0_5.rect (point 7))).set
  rw [View.set_slice_whole, Rect.mem_set_unit]
  exact fun d => match d with
  | ⟨0, _⟩ => within (i 0) (congrFun (total_index 7) 0) (by show 0 = (i 0 : ℕ) / 1; omega) (by show 0 < 1; decide)
  | ⟨1, _⟩ => within (i 1) (congrFun (total_index 7) 1) (by show 0 = (i 1 : ℕ) / 1024; omega) (by show 0 < 1024; decide)

theorem rows_array : (dats m 0 c).arrAt 4 cfg0.N = rows m c := by
  refine (dats m 0 c).arrAt_eq_of_cover 4 (rows m c) (fun t _ => ?_) rows_covered
  obtain ⟨b, rfl⟩ := point_of t
  show (cfg0.win 4).cut (grid0.coords _) ((dats m 0 c).after 4 _) = _
  rw [after0_4]
  funext y
  obtain ⟨r, e, rfl⟩ : ∃ (r : Fin 256) (e : Fin 1024), y = ix2 r e := ⟨y 0, y 1, eq_ix2 y⟩
  exact (rows_at m c b r e).trans (same2 (rows m c) _ _ _ (place (congrFun (rows_index b) 0)) (place0 (congrFun (rows_index b) 1))).symm

theorem total_array : (dats m 0 c).arrAt 5 cfg0.N = total m c := by
  refine (dats m 0 c).arrAt_eq_of_cover 5 (total m c) (fun t ht => ?_) total_covered
  obtain rfl : t = point 7 := Fin.ext (by have := (flush0_5 t).mp ht; have := t.isLt; have := points; show t.val = 7; omega)
  show (cfg0.win 5).cut (grid0.coords _) ((dats m 0 c).after 5 _) = _
  rw [after0_5]
  funext y
  obtain ⟨r, e, rfl⟩ : ∃ (r : Fin 1) (e : Fin 1024), y = ix2 r e := ⟨y 0, y 1, eq_ix2 y⟩
  exact (total_at m c (ix2 r e)).trans (same2 (total m c) _ _ _ (place0 (congrFun (total_index 7) 0)) (place0 (congrFun (total_index 7) 1))).symm
end

/-! ## The reference -/

section
open Cert.Reference34Ideal.Read
variable (x0 x2 x3 : S2048x1024.Idx → EReal) (x1 : S1x1024.Idx → EReal)

theorem mean_square_at (r : Fin 2048) (k : Fin 1) : val_main_v6 (F := Ideal) x0 (ix2 r k) = meanSquare (rowOf x0 r) := by
  pointwise [val_main_v6_apply, val_main_v4_apply, val_main_v3_apply, val_main_v5_apply, val_main_v2_apply, val_main_v1_apply, val_main_v0_apply,
    val_main_cst_apply, val_main_cst_0_apply, val_main_cst_1_apply, meanSquare, rowOf]
  exact congrArg (fun s => Ideal.div s _ + _) (Finset.sum_congr rfl fun e _ => congrArg₂ (· * ·) (same2 x0 _ r e rfl rfl) (same2 x0 _ r e rfl rfl))

theorem meanPart_at (r : Fin 2048) (e : Fin 1024) : val_main_v29 (F := Ideal) x0 x1 x2 (ix2 r e) = meanPart (rowOf x0 r) (scaled x2 x1 r) := by
  pointwise [val_main_v29_apply, val_main_v28_apply, val_main_v27_apply, val_main_v26_apply, val_main_v25_apply, val_main_v22_apply,
    val_main_v21_apply, val_main_v20_apply, val_main_v19_apply, val_main_v18_apply, val_main_v10_apply, val_main_v9_apply, val_main_v8_apply,
    val_main_v7_apply, val_main_cst_2_apply, val_main_cst_4_apply, val_main_cst_5_apply, val_main_cst_6_apply, one_term]
  have h0 : idx_main_v28 (idx_main_v29 (ix2 r e)) 0 = ix2 r 0 := at2 _ _ _ rfl rfl
  have h1 : ∀ k, idx_main_v21 (idx_main_v22 (ix2 r 0)) k = ix2 r k := fun k => at2 _ _ _ (by simp [idx_main_v21, idx_main_v22]) rfl
  have h2 : ∀ k, idx_main_v18 (ix2 r k) = ix2 0 k := fun k => at2 _ _ _ rfl rfl
  simp only [h0, h1, h2, mean_square_at]
  rfl
theorem reference_rows (i : S2048x1024.Idx) : val_main_v34 (F := Ideal) x0 x1 x2 x3 i = rowsGradient x0 x2 x3 x1 i := by
  obtain ⟨r, e, rfl⟩ : ∃ (r : Fin 2048) (e : Fin 1024), i = ix2 r e := ⟨i 0, i 1, eq_ix2 i⟩
  pointwise [val_main_v34_apply, val_main_v33_apply, val_main_v32_apply, val_main_v31_apply, val_main_v30_apply, val_main_v24_apply,
    val_main_v23_apply, val_main_v19_apply, val_main_v18_apply, val_main_v7_apply, meanPart_at, rowsGradient, rowGradient]
  have h0 : idx_main_v23 (ix2 r e) = ix2 r 0 := at2 _ _ _ rfl rfl
  have h1 : idx_main_v18 (ix2 r e) = ix2 0 e := at2 _ _ _ rfl rfl
  rw [h0, h1, mean_square_at]
  exact add_comm _ _
theorem reference_gain (i : S1x1024.Idx) : val_main_v17 (F := Ideal) x0 x2 i = gainGradient x0 x2 i := by
  obtain ⟨r, e, rfl⟩ : ∃ (r : Fin 1) (e : Fin 1024), i = ix2 r e := ⟨i 0, i 1, eq_ix2 i⟩
  pointwise [val_main_v17_apply, val_main_v16_apply, val_main_v15_apply, val_main_v12_apply, val_main_v11_apply, val_main_v7_apply,
    val_main_cst_3_apply, gainGradient, gainTerm]
  have h0 : ∀ k, idx_main_v16 (idx_main_v17 (ix2 r e)) k = ix2 k e := fun k => at2 _ _ _ rfl (by simp [idx_main_v16, idx_main_v17])
  have h1 : ∀ k, idx_main_v11 (ix2 k e) = ix2 k 0 := fun k => at2 _ _ _ rfl rfl
  simp only [h0, h1, mean_square_at]
  rfl
end

/-! ## The claims -/

/-- The kernel and its idealisation are the same program, so one run is both programs' frame. -/
theorem same_body : @Cert.Kernel34.cc0_rms_ffn_bwd Bits _ _ = @Cert.Kernel34Ideal.cc0_rms_ffn_bwd Bits _ _ := rfl
theorem same_table : Cert.Kernel34.defs₀ (F := Bits) = Cert.Kernel34Ideal.defs₀ (F := Bits) :=
  congrArg _ (funext fun a => match a with | 0 => funext fun ⟨_, _⟩ => rfl)
theorem same_program : Cert.Kernel34.defs (F := Bits) = Cert.Kernel34Ideal.defs (F := Bits) := congrArg (Pipeline.defs _) same_table
theorem frame_kernel : Cert.quiescent_Kernel34 := fun m g _ => by
  rw [same_program]
  exact Cert.Kernel34Ideal.Gen.frame (F := Bits) m g
theorem preserves : Cert.preserves_Kernel34_Kernel34Ideal := trivial
theorem frame_ideal : Cert.quiescent_Kernel34Ideal := fun m g _ => Cert.Kernel34Ideal.Gen.frame m g
theorem frame_reference : Cert.quiescent_Reference34Ideal := fun m g _ =>
  (θ_run Cert.Reference34Ideal.defs _ _).mono (fun r h => ⟨fun c => (h c).2.2, sem_eq_zero_of_no_sems (by decide) r.2⟩)
    (Cert.Reference34Ideal.Value.run (F := Ideal) m g)

theorem values : Cert.algebraic_Kernel34Ideal_Reference34Ideal := by
  intro m g m' g' _ hm
  refine ⟨fun c => rows m c, fun c => total m c, ?_, ?_⟩
  · exact (θ_run Cert.Kernel34Ideal.defs _ _).mono
      (fun r h c => ⟨((h.1 c).1 4).trans (rows_array m c), ((h.1 c).1 5).trans (total_array m c), h.2 c⟩) (θ_run_and (run_main m g) (unchanged m g))
  · refine (θ_run Cert.Reference34Ideal.defs _ _).mono (fun r h c => ⟨?_, ?_, (h c).2.2⟩) (Cert.Reference34Ideal.Value.run (F := Ideal) m' g')
    · obtain ⟨e0, e1, e2, e3⟩ := hm c
      refine (h c).1.trans ((Cert.Reference34Ideal.Read.val_main_v34_eq ..).trans ?_)
      rw [e0, e1, e2, e3]
      exact funext fun i => reference_rows _ _ _ _ i
    · obtain ⟨e0, e1, e2, e3⟩ := hm c
      refine (h c).2.1.trans ((Cert.Reference34Ideal.Read.val_main_v17_eq ..).trans ?_)
      rw [e0, e2]
      exact funext fun i => reference_gain _ _ i

end Cert.FfnNormDx
-- ==== Proof.BranchMergeDx.lean ====
module

public import proofs.«01_k».proof.Defs
public import proofs.«01_k».proof.Proof.Norms
public import proofs.«01_k».proof.Proof.Gen.Kernel35
public import proofs.«01_k».proof.Proof.Gen.Kernel35Ideal.Frame
public import proofs.«01_k».proof.Proof.Gen.Reference35Ideal.Run
public import proofs.«01_k».proof.Proof.Gen.Reference35Ideal.Read

/-! The gradient of the merge `σ(ga + ba) ya + σ(gb + bb) yb + σ(gc + bc) yc` of the three branches: the gradients of each branch's gate and result, one
block of 256 rows at a point, and that of each gate's bias, summed from point to point. -/

@[expose] public section

noncomputable section

namespace Cert.BranchMergeDx

open Idealize.ShloMosaic Idealize.ShloMosaic.TcCoe Idealize.SL.Sem Cert.Kernel35Ideal Cert.Kernel35Ideal.Gen Cert.Products Cert.Norms

/-! ## One branch -/

/-- The gradient of an entry of the gate, and that of an entry of the branch. -/
def gateEntry (g b y d : EReal) : EReal := d * y * (Ideal.logistic (g + b) * (1 - Ideal.logistic (g + b)))
def branchEntry (g b d : EReal) : EReal := Ideal.logistic (g + b) * d

section
variable {n : ℕ} (g y d : (⟨2, ![n, 1024]⟩ : Shape).Idx → EReal) (b : (⟨2, ![1, 1024]⟩ : Shape).Idx → EReal)

def gateGradient : (⟨2, ![n, 1024]⟩ : Shape).Idx → EReal := fun i => gateEntry (g i) (b (ix2 0 (i 1))) (y i) (d i)
def branchGradient : (⟨2, ![n, 1024]⟩ : Shape).Idx → EReal := fun i => branchEntry (g i) (b (ix2 0 (i 1))) (d i)
def biasGradient : (⟨2, ![1, 1024]⟩ : Shape).Idx → EReal := fun i => ∑ r, gateGradient g y d b (ix2 r (i 1))
end

/-! ## One point -/

section
variable (g : Vec Ideal S256x1024 .bf16) (y d : Vec Ideal S256x1024 .f32) (b p : Vec Ideal S1x1024 .f32)

theorem gate_a : k0_pay18 (F := Ideal) y (k0_pay6 g b) (k0_pay10 d) = gateGradient g y d b := by
  funext i
  obtain ⟨r, e, rfl⟩ : ∃ (r : Fin 256) (e : Fin 1024), i = ix2 r e := ⟨i 0, i 1, eq_ix2 i⟩
  pointwise [k0_pay18, k0_pay17, k0_pay6, k0_pay5, k0_pay10, gateGradient, gateEntry]
theorem branch_a : k0_pay21 (F := Ideal) (k0_pay5 g b) (k0_pay10 d) = branchGradient g d b := by
  funext i
  obtain ⟨r, e, rfl⟩ : ∃ (r : Fin 256) (e : Fin 1024), i = ix2 r e := ⟨i 0, i 1, eq_ix2 i⟩
  pointwise [k0_pay21, k0_pay5, k0_pay10, branchGradient, branchEntry]
theorem bias_a (i : S1x1024.Idx) : k0_pay25 (F := Ideal) y (k0_pay6 g b) (k0_pay10 d) p i = p i + biasGradient g y d b i := by
  obtain ⟨r, e, rfl⟩ : ∃ (r : Fin 1) (e : Fin 1024), i = ix2 r e := ⟨i 0, i 1, eq_ix2 i⟩
  pointwise [k0_pay25, k0_pay17, k0_pay6, k0_pay5, k0_pay10, biasGradient, gateGradient, gateEntry]

theorem gate_b : k0_pay19 (F := Ideal) y (k0_pay8 g b) (k0_pay10 d) = gateGradient g y d b := by
  funext i
  obtain ⟨r, e, rfl⟩ : ∃ (r : Fin 256) (e : Fin 1024), i = ix2 r e := ⟨i 0, i 1, eq_ix2 i⟩
  pointwise [k0_pay19, k0_pay15, k0_pay8, k0_pay7, k0_pay10, gateGradient, gateEntry]
theorem branch_b : k0_pay22 (F := Ideal) (k0_pay7 g b) (k0_pay10 d) = branchGradient g d b := by
  funext i
  obtain ⟨r, e, rfl⟩ : ∃ (r : Fin 256) (e : Fin 1024), i = ix2 r e := ⟨i 0, i 1, eq_ix2 i⟩
  pointwise [k0_pay22, k0_pay7, k0_pay10, branchGradient, branchEntry]
theorem bias_b (i : S1x1024.Idx) : k0_pay2 (F := Ideal) (k0_pay16 y (k0_pay8 g b) (k0_pay10 d)) p i = p i + biasGradient g y d b i := by
  obtain ⟨r, e, rfl⟩ : ∃ (r : Fin 1) (e : Fin 1024), i = ix2 r e := ⟨i 0, i 1, eq_ix2 i⟩
  pointwise [k0_pay2, k0_pay16, k0_pay15, k0_pay8, k0_pay7, k0_pay10, biasGradient, gateGradient, gateEntry]

theorem gate_c : k0_pay20 (F := Ideal) (k0_pay13 g y b d) = gateGradient g y d b := by
  funext i
  obtain ⟨r, e, rfl⟩ : ∃ (r : Fin 256) (e : Fin 1024), i = ix2 r e := ⟨i 0, i 1, eq_ix2 i⟩
  pointwise [k0_pay20, k0_pay13, k0_pay9, k0_pay11, gateGradient, gateEntry]
theorem branch_c : k0_pay23 (F := Ideal) (k0_pay12 g b d) = branchGradient g d b := by
  funext i
  obtain ⟨r, e, rfl⟩ : ∃ (r : Fin 256) (e : Fin 1024), i = ix2 r e := ⟨i 0, i 1, eq_ix2 i⟩
  pointwise [k0_pay23, k0_pay12, k0_pay9, k0_pay11, branchGradient, branchEntry]
theorem bias_c (i : S1x1024.Idx) : k0_pay4 (F := Ideal) (k0_pay14 (k0_pay13 g y b d)) p i = p i + biasGradient g y d b i := by
  obtain ⟨r, e, rfl⟩ : ∃ (r : Fin 1) (e : Fin 1024), i = ix2 r e := ⟨i 0, i 1, eq_ix2 i⟩
  pointwise [k0_pay4, k0_pay14, k0_pay13, k0_pay9, k0_pay11, biasGradient, gateGradient, gateEntry]

end

section
variable (m : (ℓ : Loc nD τ sig) → Buf (Elt Ideal) ℓ) (c : Dev nD) (t : Fin cfg0.N)

theorem gate_a_written : (outsAt0 m c t.val t.isLt).1 = gateGradient (n := 256) (iblk m c 0 t) (iblk m c 3 t) (iblk m c 9 t) (iblk m c 6 t) := by
  rcases eq_or_ne (t.val % 8) 0 with h | h
  · rw [outsAt0_A m c t h h h]
    dsimp only
    unfold out0_A_10; rw [View.read_writes_eq_canon _ _ _ fun y => cover0_A_10 (y := y) ..]
    unfold kernelRun0_A
    dsimp only
    sl_unfold_words
    rw [stored2, load2 (hs0_0 t), load2 (hs0_3 t), load2 (hs0_6 t), load2 (hs0_9 t)]
    exact gate_a _ _ _ _
  · rw [outsAt0_B m c t h h h]
    dsimp only
    unfold out0_B_10; rw [View.read_writes_eq_canon _ _ _ fun y => cover0_B_10 (y := y) ..]
    unfold kernelRun0_B
    dsimp only
    sl_unfold_words
    rw [stored2, load2 (hs0_0 t), load2 (hs0_3 t), load2 (hs0_6 t), load2 (hs0_9 t)]
    exact gate_a _ _ _ _

theorem branch_a_written : (outsAt0 m c t.val t.isLt).2.2.2.1 = branchGradient (n := 256) (iblk m c 0 t) (iblk m c 9 t) (iblk m c 6 t) := by
  rcases eq_or_ne (t.val % 8) 0 with h | h
  · rw [outsAt0_A m c t h h h]
    dsimp only
    unfold out0_A_13; rw [View.read_writes_eq_canon _ _ _ fun y => cover0_A_13 (y := y) ..]
    unfold kernelRun0_A
    dsimp only
    sl_unfold_words
    rw [stored2, load2 (hs0_0 t), load2 (hs0_6 t), load2 (hs0_9 t)]
    exact branch_a _ _ _
  · rw [outsAt0_B m c t h h h]
    dsimp only
    unfold out0_B_13; rw [View.read_writes_eq_canon _ _ _ fun y => cover0_B_13 (y := y) ..]
    unfold kernelRun0_B
    dsimp only
    sl_unfold_words
    rw [stored2, load2 (hs0_0 t), load2 (hs0_6 t), load2 (hs0_9 t)]
    exact branch_a _ _ _

/-- What a block adds to the gradient of the bias of gate a. -/
def blockA (i : S1x1024.Idx) : EReal := biasGradient (n := 256) (iblk m c 0 t) (iblk m c 3 t) (iblk m c 9 t) (iblk m c 6 t) i
theorem bias_a_first (h : t.val % 8 = 0) (i : S1x1024.Idx) : (outsAt0 m c t.val t.isLt).2.2.2.2.2.2.1 i = blockA m c t i := by
  rw [outsAt0_A m c t h h h]
  dsimp only
  unfold out0_A_16; rw [View.read_writes_eq_canon _ _ _ fun y => cover0_A_16 (y := y) ..]
  unfold kernelRun0_A
  dsimp only
  rw [View.canon_cons_unit_zero (S := S1x1024) origin2]
  sl_unfold_words
  rw [View.readCov_unit_zero (S := S1x1024) _ origin2, load2 (hs0_0 t), load2 (hs0_3 t), load2 (hs0_6 t), load2 (hs0_9 t)]
  refine (bias_a _ _ _ _ _ i).trans ?_
  pointwise [k0_pay24, blockA]
theorem bias_a_next (h : ¬t.val % 8 = 0) (i : S1x1024.Idx) : (outsAt0 m c t.val t.isLt).2.2.2.2.2.2.1 i =
    (outsAt0 m c (t.val - 1) (Nat.lt_of_le_of_lt (Nat.sub_le _ _) t.isLt)).2.2.2.2.2.2.1 i + blockA m c t i := by
  rw [outsAt0_B m c t h h h]
  dsimp only
  unfold out0_B_16; rw [View.read_writes_eq_canon _ _ _ fun y => cover0_B_16 (y := y) ..]
  unfold kernelRun0_B
  dsimp only
  sl_unfold_words
  rw [stored2, load2 (hs0_0 t), load2 (hs0_3 t), load2 (hs0_6 t), load2 (hs0_9 t), load2 (hs0_16 t)]
  exact bias_a _ _ _ _ _ i

theorem gate_b_written : (outsAt0 m c t.val t.isLt).2.1 = gateGradient (n := 256) (iblk m c 1 t) (iblk m c 4 t) (iblk m c 9 t) (iblk m c 7 t) := by
  rcases eq_or_ne (t.val % 8) 0 with h | h
  · rw [outsAt0_A m c t h h h]
    dsimp only
    unfold out0_A_11; rw [View.read_writes_eq_canon _ _ _ fun y => cover0_A_11 (y := y) ..]
    unfold kernelRun0_A
    dsimp only
    sl_unfold_words
    rw [stored2, load2 (hs0_1 t), load2 (hs0_4 t), load2 (hs0_7 t), load2 (hs0_9 t)]
    exact gate_b _ _ _ _
  · rw [outsAt0_B m c t h h h]
    dsimp only
    unfold out0_B_11; rw [View.read_writes_eq_canon _ _ _ fun y => cover0_B_11 (y := y) ..]
    unfold kernelRun0_B
    dsimp only
    sl_unfold_words
    rw [stored2, load2 (hs0_1 t), load2 (hs0_4 t), load2 (hs0_7 t), load2 (hs0_9 t)]
    exact gate_b _ _ _ _

theorem branch_b_written : (outsAt0 m c t.val t.isLt).2.2.2.2.1 = branchGradient (n := 256) (iblk m c 1 t) (iblk m c 9 t) (iblk m c 7 t) := by
  rcases eq_or_ne (t.val % 8) 0 with h | h
  · rw [outsAt0_A m c t h h h]
    dsimp only
    unfold out0_A_14; rw [View.read_writes_eq_canon _ _ _ fun y => cover0_A_14 (y := y) ..]
    unfold kernelRun0_A
    dsimp only
    sl_unfold_words
    rw [stored2, load2 (hs0_1 t), load2 (hs0_7 t), load2 (hs0_9 t)]
    exact branch_b _ _ _
  · rw [outsAt0_B m c t h h h]
    dsimp only
    unfold out0_B_14; rw [View.read_writes_eq_canon _ _ _ fun y => cover0_B_14 (y := y) ..]
    unfold kernelRun0_B
    dsimp only
    sl_unfold_words
    rw [stored2, load2 (hs0_1 t), load2 (hs0_7 t), load2 (hs0_9 t)]
    exact branch_b _ _ _

/-- What a block adds to the gradient of the bias of gate b. -/
def blockB (i : S1x1024.Idx) : EReal := biasGradient (n := 256) (iblk m c 1 t) (iblk m c 4 t) (iblk m c 9 t) (iblk m c 7 t) i
theorem bias_b_first (h : t.val % 8 = 0) (i : S1x1024.Idx) : (outsAt0 m c t.val t.isLt).2.2.2.2.2.2.2.1 i = blockB m c t i := by
  rw [outsAt0_A m c t h h h]
  dsimp only
  unfold out0_A_17; rw [View.read_writes_eq_canon _ _ _ fun y => cover0_A_17 (y := y) ..]
  unfold kernelRun0_A
  dsimp only
  rw [View.canon_cons_unit_zero (S := S1x1024) origin2]
  sl_unfold_words
  rw [View.readCov_unit_zero (S := S1x1024) _ origin2, load2 (hs0_1 t), load2 (hs0_4 t), load2 (hs0_7 t), load2 (hs0_9 t)]
  refine (bias_b _ _ _ _ _ i).trans ?_
  pointwise [k0_pay1, blockB]
theorem bias_b_next (h : ¬t.val % 8 = 0) (i : S1x1024.Idx) : (outsAt0 m c t.val t.isLt).2.2.2.2.2.2.2.1 i =
    (outsAt0 m c (t.val - 1) (Nat.lt_of_le_of_lt (Nat.sub_le _ _) t.isLt)).2.2.2.2.2.2.2.1 i + blockB m c t i := by
  rw [outsAt0_B m c t h h h]
  dsimp only
  unfold out0_B_17; rw [View.read_writes_eq_canon _ _ _ fun y => cover0_B_17 (y := y) ..]
  unfold kernelRun0_B
  dsimp only
  sl_unfold_words
  rw [stored2, load2 (hs0_1 t), load2 (hs0_4 t), load2 (hs0_7 t), load2 (hs0_9 t), load2 (hs0_17 t)]
  exact bias_b _ _ _ _ _ i

theorem gate_c_written : (outsAt0 m c t.val t.isLt).2.2.1 = gateGradient (n := 256) (iblk m c 2 t) (iblk m c 5 t) (iblk m c 9 t) (iblk m c 8 t) := by
  rcases eq_or_ne (t.val % 8) 0 with h | h
  · rw [outsAt0_A m c t h h h]
    dsimp only
    unfold out0_A_12; rw [View.read_writes_eq_canon _ _ _ fun y => cover0_A_12 (y := y) ..]
    unfold kernelRun0_A
    dsimp only
    sl_unfold_words
    rw [stored2, load2 (hs0_2 t), load2 (hs0_5 t), load2 (hs0_8 t), load2 (hs0_9 t)]
    exact gate_c _ _ _ _
  · rw [outsAt0_B m c t h h h]
    dsimp only
    unfold out0_B_12; rw [View.read_writes_eq_canon _ _ _ fun y => cover0_B_12 (y := y) ..]
    unfold kernelRun0_B
    dsimp only
    sl_unfold_words
    rw [stored2, load2 (hs0_2 t), load2 (hs0_5 t), load2 (hs0_8 t), load2 (hs0_9 t)]
    exact gate_c _ _ _ _

theorem branch_c_written : (outsAt0 m c t.val t.isLt).2.2.2.2.2.1 = branchGradient (n := 256) (iblk m c 2 t) (iblk m c 9 t) (iblk m c 8 t) := by
  rcases eq_or_ne (t.val % 8) 0 with h | h
  · rw [outsAt0_A m c t h h h]
    dsimp only
    unfold out0_A_15; rw [View.read_writes_eq_canon _ _ _ fun y => cover0_A_15 (y := y) ..]
    unfold kernelRun0_A
    dsimp only
    sl_unfold_words
    rw [stored2, load2 (hs0_2 t), load2 (hs0_8 t), load2 (hs0_9 t)]
    exact branch_c _ _ _
  · rw [outsAt0_B m c t h h h]
    dsimp only
    unfold out0_B_15; rw [View.read_writes_eq_canon _ _ _ fun y => cover0_B_15 (y := y) ..]
    unfold kernelRun0_B
    dsimp only
    sl_unfold_words
    rw [stored2, load2 (hs0_2 t), load2 (hs0_8 t), load2 (hs0_9 t)]
    exact branch_c _ _ _

/-- What a block adds to the gradient of the bias of gate c. -/
def blockC (i : S1x1024.Idx) : EReal := biasGradient (n := 256) (iblk m c 2 t) (iblk m c 5 t) (iblk m c 9 t) (iblk m c 8 t) i
theorem bias_c_first (h : t.val % 8 = 0) (i : S1x1024.Idx) : (outsAt0 m c t.val t.isLt).2.2.2.2.2.2.2.2 i = blockC m c t i := by
  rw [outsAt0_A m c t h h h]
  dsimp only
  unfold out0_A_18; rw [View.read_writes_eq_canon _ _ _ fun y => cover0_A_18 (y := y) ..]
  unfold kernelRun0_A
  dsimp only
  rw [View.canon_cons_unit_zero (S := S1x1024) origin2]
  sl_unfold_words
  rw [View.readCov_unit_zero (S := S1x1024) _ origin2, load2 (hs0_2 t), load2 (hs0_5 t), load2 (hs0_8 t), load2 (hs0_9 t)]
  refine (bias_c _ _ _ _ _ i).trans ?_
  pointwise [k0_pay3, blockC]
theorem bias_c_next (h : ¬t.val % 8 = 0) (i : S1x1024.Idx) : (outsAt0 m c t.val t.isLt).2.2.2.2.2.2.2.2 i =
    (outsAt0 m c (t.val - 1) (Nat.lt_of_le_of_lt (Nat.sub_le _ _) t.isLt)).2.2.2.2.2.2.2.2 i + blockC m c t i := by
  rw [outsAt0_B m c t h h h]
  dsimp only
  unfold out0_B_18; rw [View.read_writes_eq_canon _ _ _ fun y => cover0_B_18 (y := y) ..]
  unfold kernelRun0_B
  dsimp only
  sl_unfold_words
  rw [stored2, load2 (hs0_2 t), load2 (hs0_5 t), load2 (hs0_8 t), load2 (hs0_9 t), load2 (hs0_18 t)]
  exact bias_c _ _ _ _ _ i

end

/-! ## The arrays -/

theorem points : cfg0.N = 8 := by decide
def point (b : Fin 8) : Fin cfg0.N := ⟨b.val, by have := points; omega⟩
theorem point_of (t : Fin cfg0.N) : ∃ b : Fin 8, t = point b := ⟨⟨t.val, by have := t.isLt; have := points; omega⟩, rfl⟩

theorem index_0 : ∀ b : Fin 8, win0_0.index (point b) = ![b.val, 2] := by decide +kernel
theorem index_1 : ∀ b : Fin 8, win0_1.index (point b) = ![b.val, 3] := by decide +kernel
theorem index_2 : ∀ b : Fin 8, win0_2.index (point b) = ![b.val, 4] := by decide +kernel
theorem index_3 : ∀ b : Fin 8, win0_3.index (point b) = ![b.val, 0] := by decide +kernel
theorem index_4 : ∀ b : Fin 8, win0_4.index (point b) = ![b.val, 0] := by decide +kernel
theorem index_5 : ∀ b : Fin 8, win0_5.index (point b) = ![b.val, 0] := by decide +kernel
theorem index_6 : ∀ b : Fin 8, win0_6.index (point b) = ![0, 0] := by decide +kernel
theorem index_7 : ∀ b : Fin 8, win0_7.index (point b) = ![0, 0] := by decide +kernel
theorem index_8 : ∀ b : Fin 8, win0_8.index (point b) = ![0, 0] := by decide +kernel
theorem index_9 : ∀ b : Fin 8, win0_9.index (point b) = ![b.val, 0] := by decide +kernel
theorem index_10 : ∀ b : Fin 8, win0_10.index (point b) = ![b.val, 0] := by decide +kernel
theorem index_11 : ∀ b : Fin 8, win0_11.index (point b) = ![b.val, 0] := by decide +kernel
theorem index_12 : ∀ b : Fin 8, win0_12.index (point b) = ![b.val, 0] := by decide +kernel
theorem index_13 : ∀ b : Fin 8, win0_13.index (point b) = ![b.val, 0] := by decide +kernel
theorem index_14 : ∀ b : Fin 8, win0_14.index (point b) = ![b.val, 0] := by decide +kernel
theorem index_15 : ∀ b : Fin 8, win0_15.index (point b) = ![b.val, 0] := by decide +kernel
theorem index_16 : ∀ b : Fin 8, win0_16.index (point b) = ![0, 0] := by decide +kernel
theorem index_17 : ∀ b : Fin 8, win0_17.index (point b) = ![0, 0] := by decide +kernel
theorem index_18 : ∀ b : Fin 8, win0_18.index (point b) = ![0, 0] := by decide +kernel

/-- Column `e` of gate `k`. -/
def gateCol (k : Fin 3) (e : Fin 1024) : Fin 5120 := ⟨1024 * (k.val + 2) + e.val, by omega⟩
def gateOf (z : S2048x5120.Idx → EReal) (k : Fin 3) : S2048x1024.Idx → EReal := fun i => z (ix2 (i 0) (gateCol k (i 1)))

section
variable (m : (ℓ : Loc nD τ sig) → Buf (Elt Ideal) ℓ) (c : Dev nD)

/-- The arguments: the first product, the three branches, the three biases, the gradient given. -/
def zs : S2048x5120.Idx → EReal := m (c.tc.loc main_arg0)
def ya : S2048x1024.Idx → EReal := m (c.tc.loc main_arg1)
def yb : S2048x1024.Idx → EReal := m (c.tc.loc main_arg2)
def yc : S2048x1024.Idx → EReal := m (c.tc.loc main_arg3)
def ba : S1x1024.Idx → EReal := m (c.tc.loc main_arg4)
def bb : S1x1024.Idx → EReal := m (c.tc.loc main_arg5)
def bc : S1x1024.Idx → EReal := m (c.tc.loc main_arg6)
def ds : S2048x1024.Idx → EReal := m (c.tc.loc main_arg7)

theorem d_at (b : Fin 8) (r : Fin 256) (e : Fin 1024) : iblk m c 9 (point b) (ix2 r e) = ds m c (ix2 (rowIn b r) e) :=
  same2 (ds m c) _ _ _ (place (congrFun (index_9 b) 0)) (place0 (congrFun (index_9 b) 1))

theorem ga_at (b : Fin 8) (r : Fin 256) (e : Fin 1024) : iblk m c 0 (point b) (ix2 r e) = gateOf (zs m c) 0 (ix2 (rowIn b r) e) :=
  same2 (zs m c) _ _ _ (place (congrFun (index_0 b) 0)) (place (congrFun (index_0 b) 1))
theorem ya_at (b : Fin 8) (r : Fin 256) (e : Fin 1024) : iblk m c 3 (point b) (ix2 r e) = ya m c (ix2 (rowIn b r) e) :=
  same2 (ya m c) _ _ _ (place (congrFun (index_3 b) 0)) (place0 (congrFun (index_3 b) 1))
theorem ba_at (b : Fin 8) (k : Fin 1) (e : Fin 1024) : iblk m c 6 (point b) (ix2 k e) = ba m c (ix2 k e) :=
  same2 (ba m c) _ _ _ (place0 (congrFun (index_6 b) 0)) (place0 (congrFun (index_6 b) 1))

/-- The results of branch a. -/
abbrev gateA : S2048x1024.Idx → EReal := gateGradient (gateOf (zs m c) 0) (ya m c) (ds m c) (ba m c)
abbrev branchA : S2048x1024.Idx → EReal := branchGradient (gateOf (zs m c) 0) (ds m c) (ba m c)
abbrev biasA : S1x1024.Idx → EReal := biasGradient (gateOf (zs m c) 0) (ya m c) (ds m c) (ba m c)

theorem gate_a_at (b : Fin 8) (r : Fin 256) (e : Fin 1024) :
    gateGradient (n := 256) (iblk m c 0 (point b)) (iblk m c 3 (point b)) (iblk m c 9 (point b)) (iblk m c 6 (point b)) (ix2 r e) = gateA m c (ix2 (rowIn b r) e) := by
  show gateEntry (iblk m c 0 (point b) (ix2 r e)) (iblk m c 6 (point b) (ix2 0 e)) (iblk m c 3 (point b) (ix2 r e)) (iblk m c 9 (point b) (ix2 r e)) = _
  rw [ga_at, ba_at, ya_at, d_at]
  rfl
theorem branch_a_at (b : Fin 8) (r : Fin 256) (e : Fin 1024) :
    branchGradient (n := 256) (iblk m c 0 (point b)) (iblk m c 9 (point b)) (iblk m c 6 (point b)) (ix2 r e) = branchA m c (ix2 (rowIn b r) e) := by
  show branchEntry (iblk m c 0 (point b) (ix2 r e)) (iblk m c 6 (point b) (ix2 0 e)) (iblk m c 9 (point b) (ix2 r e)) = _
  rw [ga_at, ba_at, d_at]
  rfl

def termA (e : Fin 1024) (j : Fin 2048) : EReal := gateA m c (ix2 j e)
theorem part_a (b : Fin 8) (i : S1x1024.Idx) : blockA m c (point b) i = ∑ r, termA m c (i 1) (rowIn b r) := by
  unfold blockA
  exact Finset.sum_congr rfl fun r _ => gate_a_at m c b r (i 1)
theorem bias_a_at (i : S1x1024.Idx) : (outsAt0 m c (point 7).val (point 7).isLt).2.2.2.2.2.2.1 i = biasA m c i :=
  eight_blocks (termA m c (i 1)) (fun b => (outsAt0 m c (point b).val (point b).isLt).2.2.2.2.2.2.1 i)
    ((bias_a_first m c (point 0) rfl i).trans (part_a m c 0 i))
    (fun b => (bias_a_next m c (point b.succ) (by show ¬(b.val + 1) % 8 = 0; omega) i).trans (congrArg (fun y : EReal => _ + y) (part_a m c b.succ i)))

theorem gate_a_covered (i : S2048x1024.Idx) : ∃ t : Fin cfg0.N, (cfg0.win 10).flush t = true ∧ i ∈ ((cfg0.win 10).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_10 _, ?_⟩
  show i ∈ ((View.whole main_v0_0).slice (win0_10.rect (point b))).set
  rw [View.set_slice_whole, Rect.mem_set_unit]
  exact fun d => match d with
  | ⟨0, _⟩ => within (i 0) (congrFun (index_10 b) 0) hb (by show 0 < 256; decide)
  | ⟨1, _⟩ => within (i 1) (congrFun (index_10 b) 1) (by show 0 = (i 1 : ℕ) / 1024; omega) (by show 0 < 1024; decide)
theorem gate_a_array : (dats m 0 c).arrAt 10 cfg0.N = gateA m c := by
  refine (dats m 0 c).arrAt_eq_of_cover 10 (gateA m c) (fun t _ => ?_) gate_a_covered
  obtain ⟨b, rfl⟩ := point_of t
  show (cfg0.win 10).cut (grid0.coords _) ((dats m 0 c).after 10 _) = _
  rw [after0_10, gate_a_written]
  funext y
  obtain ⟨r, e, rfl⟩ : ∃ (r : Fin 256) (e : Fin 1024), y = ix2 r e := ⟨y 0, y 1, eq_ix2 y⟩
  exact (gate_a_at m c b r e).trans (same2 (gateA m c) _ _ _ (place (congrFun (index_10 b) 0)) (place0 (congrFun (index_10 b) 1))).symm

theorem branch_a_covered (i : S2048x1024.Idx) : ∃ t : Fin cfg0.N, (cfg0.win 13).flush t = true ∧ i ∈ ((cfg0.win 13).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_13 _, ?_⟩
  show i ∈ ((View.whole main_v0_3).slice (win0_13.rect (point b))).set
  rw [View.set_slice_whole, Rect.mem_set_unit]
  exact fun d => match d with
  | ⟨0, _⟩ => within (i 0) (congrFun (index_13 b) 0) hb (by show 0 < 256; decide)
  | ⟨1, _⟩ => within (i 1) (congrFun (index_13 b) 1) (by show 0 = (i 1 : ℕ) / 1024; omega) (by show 0 < 1024; decide)
theorem branch_a_array : (dats m 0 c).arrAt 13 cfg0.N = branchA m c := by
  refine (dats m 0 c).arrAt_eq_of_cover 13 (branchA m c) (fun t _ => ?_) branch_a_covered
  obtain ⟨b, rfl⟩ := point_of t
  show (cfg0.win 13).cut (grid0.coords _) ((dats m 0 c).after 13 _) = _
  rw [after0_13, branch_a_written]
  funext y
  obtain ⟨r, e, rfl⟩ : ∃ (r : Fin 256) (e : Fin 1024), y = ix2 r e := ⟨y 0, y 1, eq_ix2 y⟩
  exact (branch_a_at m c b r e).trans (same2 (branchA m c) _ _ _ (place (congrFun (index_13 b) 0)) (place0 (congrFun (index_13 b) 1))).symm

theorem bias_a_covered (i : S1x1024.Idx) : ∃ t : Fin cfg0.N, (cfg0.win 16).flush t = true ∧ i ∈ ((cfg0.win 16).blk t).view.set := by
  have h0 : (i 0 : ℕ) < 1 := (i 0).isLt
  have h1 : (i 1 : ℕ) < 1024 := (i 1).isLt
  refine ⟨point 7, (flush0_16 _).mpr rfl, ?_⟩
  show i ∈ ((View.whole main_v0_6).slice (win0_16.rect (point 7))).set
  rw [View.set_slice_whole, Rect.mem_set_unit]
  exact fun d => match d with
  | ⟨0, _⟩ => within (i 0) (congrFun (index_16 7) 0) (by show 0 = (i 0 : ℕ) / 1; omega) (by show 0 < 1; decide)
  | ⟨1, _⟩ => within (i 1) (congrFun (index_16 7) 1) (by show 0 = (i 1 : ℕ) / 1024; omega) (by show 0 < 1024; decide)
theorem bias_a_array : (dats m 0 c).arrAt 16 cfg0.N = biasA m c := by
  refine (dats m 0 c).arrAt_eq_of_cover 16 (biasA m c) (fun t ht => ?_) bias_a_covered
  obtain rfl : t = point 7 := Fin.ext (by have := (flush0_16 t).mp ht; have := t.isLt; have := points; show t.val = 7; omega)
  show (cfg0.win 16).cut (grid0.coords _) ((dats m 0 c).after 16 _) = _
  rw [after0_16]
  funext y
  obtain ⟨r, e, rfl⟩ : ∃ (r : Fin 1) (e : Fin 1024), y = ix2 r e := ⟨y 0, y 1, eq_ix2 y⟩
  exact (bias_a_at m c (ix2 r e)).trans (same2 (biasA m c) _ _ _ (place0 (congrFun (index_16 7) 0)) (place0 (congrFun (index_16 7) 1))).symm

theorem gb_at (b : Fin 8) (r : Fin 256) (e : Fin 1024) : iblk m c 1 (point b) (ix2 r e) = gateOf (zs m c) 1 (ix2 (rowIn b r) e) :=
  same2 (zs m c) _ _ _ (place (congrFun (index_1 b) 0)) (place (congrFun (index_1 b) 1))
theorem yb_at (b : Fin 8) (r : Fin 256) (e : Fin 1024) : iblk m c 4 (point b) (ix2 r e) = yb m c (ix2 (rowIn b r) e) :=
  same2 (yb m c) _ _ _ (place (congrFun (index_4 b) 0)) (place0 (congrFun (index_4 b) 1))
theorem bb_at (b : Fin 8) (k : Fin 1) (e : Fin 1024) : iblk m c 7 (point b) (ix2 k e) = bb m c (ix2 k e) :=
  same2 (bb m c) _ _ _ (place0 (congrFun (index_7 b) 0)) (place0 (congrFun (index_7 b) 1))

/-- The results of branch b. -/
abbrev gateB : S2048x1024.Idx → EReal := gateGradient (gateOf (zs m c) 1) (yb m c) (ds m c) (bb m c)
abbrev branchB : S2048x1024.Idx → EReal := branchGradient (gateOf (zs m c) 1) (ds m c) (bb m c)
abbrev biasB : S1x1024.Idx → EReal := biasGradient (gateOf (zs m c) 1) (yb m c) (ds m c) (bb m c)

theorem gate_b_at (b : Fin 8) (r : Fin 256) (e : Fin 1024) :
    gateGradient (n := 256) (iblk m c 1 (point b)) (iblk m c 4 (point b)) (iblk m c 9 (point b)) (iblk m c 7 (point b)) (ix2 r e) = gateB m c (ix2 (rowIn b r) e) := by
  show gateEntry (iblk m c 1 (point b) (ix2 r e)) (iblk m c 7 (point b) (ix2 0 e)) (iblk m c 4 (point b) (ix2 r e)) (iblk m c 9 (point b) (ix2 r e)) = _
  rw [gb_at, bb_at, yb_at, d_at]
  rfl
theorem branch_b_at (b : Fin 8) (r : Fin 256) (e : Fin 1024) :
    branchGradient (n := 256) (iblk m c 1 (point b)) (iblk m c 9 (point b)) (iblk m c 7 (point b)) (ix2 r e) = branchB m c (ix2 (rowIn b r) e) := by
  show branchEntry (iblk m c 1 (point b) (ix2 r e)) (iblk m c 7 (point b) (ix2 0 e)) (iblk m c 9 (point b) (ix2 r e)) = _
  rw [gb_at, bb_at, d_at]
  rfl

def termB (e : Fin 1024) (j : Fin 2048) : EReal := gateB m c (ix2 j e)
theorem part_b (b : Fin 8) (i : S1x1024.Idx) : blockB m c (point b) i = ∑ r, termB m c (i 1) (rowIn b r) := by
  unfold blockB
  exact Finset.sum_congr rfl fun r _ => gate_b_at m c b r (i 1)
theorem bias_b_at (i : S1x1024.Idx) : (outsAt0 m c (point 7).val (point 7).isLt).2.2.2.2.2.2.2.1 i = biasB m c i :=
  eight_blocks (termB m c (i 1)) (fun b => (outsAt0 m c (point b).val (point b).isLt).2.2.2.2.2.2.2.1 i)
    ((bias_b_first m c (point 0) rfl i).trans (part_b m c 0 i))
    (fun b => (bias_b_next m c (point b.succ) (by show ¬(b.val + 1) % 8 = 0; omega) i).trans (congrArg (fun y : EReal => _ + y) (part_b m c b.succ i)))

theorem gate_b_covered (i : S2048x1024.Idx) : ∃ t : Fin cfg0.N, (cfg0.win 11).flush t = true ∧ i ∈ ((cfg0.win 11).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_11 _, ?_⟩
  show i ∈ ((View.whole main_v0_1).slice (win0_11.rect (point b))).set
  rw [View.set_slice_whole, Rect.mem_set_unit]
  exact fun d => match d with
  | ⟨0, _⟩ => within (i 0) (congrFun (index_11 b) 0) hb (by show 0 < 256; decide)
  | ⟨1, _⟩ => within (i 1) (congrFun (index_11 b) 1) (by show 0 = (i 1 : ℕ) / 1024; omega) (by show 0 < 1024; decide)
theorem gate_b_array : (dats m 0 c).arrAt 11 cfg0.N = gateB m c := by
  refine (dats m 0 c).arrAt_eq_of_cover 11 (gateB m c) (fun t _ => ?_) gate_b_covered
  obtain ⟨b, rfl⟩ := point_of t
  show (cfg0.win 11).cut (grid0.coords _) ((dats m 0 c).after 11 _) = _
  rw [after0_11, gate_b_written]
  funext y
  obtain ⟨r, e, rfl⟩ : ∃ (r : Fin 256) (e : Fin 1024), y = ix2 r e := ⟨y 0, y 1, eq_ix2 y⟩
  exact (gate_b_at m c b r e).trans (same2 (gateB m c) _ _ _ (place (congrFun (index_11 b) 0)) (place0 (congrFun (index_11 b) 1))).symm

theorem branch_b_covered (i : S2048x1024.Idx) : ∃ t : Fin cfg0.N, (cfg0.win 14).flush t = true ∧ i ∈ ((cfg0.win 14).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_14 _, ?_⟩
  show i ∈ ((View.whole main_v0_4).slice (win0_14.rect (point b))).set
  rw [View.set_slice_whole, Rect.mem_set_unit]
  exact fun d => match d with
  | ⟨0, _⟩ => within (i 0) (congrFun (index_14 b) 0) hb (by show 0 < 256; decide)
  | ⟨1, _⟩ => within (i 1) (congrFun (index_14 b) 1) (by show 0 = (i 1 : ℕ) / 1024; omega) (by show 0 < 1024; decide)
theorem branch_b_array : (dats m 0 c).arrAt 14 cfg0.N = branchB m c := by
  refine (dats m 0 c).arrAt_eq_of_cover 14 (branchB m c) (fun t _ => ?_) branch_b_covered
  obtain ⟨b, rfl⟩ := point_of t
  show (cfg0.win 14).cut (grid0.coords _) ((dats m 0 c).after 14 _) = _
  rw [after0_14, branch_b_written]
  funext y
  obtain ⟨r, e, rfl⟩ : ∃ (r : Fin 256) (e : Fin 1024), y = ix2 r e := ⟨y 0, y 1, eq_ix2 y⟩
  exact (branch_b_at m c b r e).trans (same2 (branchB m c) _ _ _ (place (congrFun (index_14 b) 0)) (place0 (congrFun (index_14 b) 1))).symm

theorem bias_b_covered (i : S1x1024.Idx) : ∃ t : Fin cfg0.N, (cfg0.win 17).flush t = true ∧ i ∈ ((cfg0.win 17).blk t).view.set := by
  have h0 : (i 0 : ℕ) < 1 := (i 0).isLt
  have h1 : (i 1 : ℕ) < 1024 := (i 1).isLt
  refine ⟨point 7, (flush0_17 _).mpr rfl, ?_⟩
  show i ∈ ((View.whole main_v0_7).slice (win0_17.rect (point 7))).set
  rw [View.set_slice_whole, Rect.mem_set_unit]
  exact fun d => match d with
  | ⟨0, _⟩ => within (i 0) (congrFun (index_17 7) 0) (by show 0 = (i 0 : ℕ) / 1; omega) (by show 0 < 1; decide)
  | ⟨1, _⟩ => within (i 1) (congrFun (index_17 7) 1) (by show 0 = (i 1 : ℕ) / 1024; omega) (by show 0 < 1024; decide)
theorem bias_b_array : (dats m 0 c).arrAt 17 cfg0.N = biasB m c := by
  refine (dats m 0 c).arrAt_eq_of_cover 17 (biasB m c) (fun t ht => ?_) bias_b_covered
  obtain rfl : t = point 7 := Fin.ext (by have := (flush0_17 t).mp ht; have := t.isLt; have := points; show t.val = 7; omega)
  show (cfg0.win 17).cut (grid0.coords _) ((dats m 0 c).after 17 _) = _
  rw [after0_17]
  funext y
  obtain ⟨r, e, rfl⟩ : ∃ (r : Fin 1) (e : Fin 1024), y = ix2 r e := ⟨y 0, y 1, eq_ix2 y⟩
  exact (bias_b_at m c (ix2 r e)).trans (same2 (biasB m c) _ _ _ (place0 (congrFun (index_17 7) 0)) (place0 (congrFun (index_17 7) 1))).symm

theorem gc_at (b : Fin 8) (r : Fin 256) (e : Fin 1024) : iblk m c 2 (point b) (ix2 r e) = gateOf (zs m c) 2 (ix2 (rowIn b r) e) :=
  same2 (zs m c) _ _ _ (place (congrFun (index_2 b) 0)) (place (congrFun (index_2 b) 1))
theorem yc_at (b : Fin 8) (r : Fin 256) (e : Fin 1024) : iblk m c 5 (point b) (ix2 r e) = yc m c (ix2 (rowIn b r) e) :=
  same2 (yc m c) _ _ _ (place (congrFun (index_5 b) 0)) (place0 (congrFun (index_5 b) 1))
theorem bc_at (b : Fin 8) (k : Fin 1) (e : Fin 1024) : iblk m c 8 (point b) (ix2 k e) = bc m c (ix2 k e) :=
  same2 (bc m c) _ _ _ (place0 (congrFun (index_8 b) 0)) (place0 (congrFun (index_8 b) 1))

/-- The results of branch c. -/
abbrev gateC : S2048x1024.Idx → EReal := gateGradient (gateOf (zs m c) 2) (yc m c) (ds m c) (bc m c)
abbrev branchC : S2048x1024.Idx → EReal := branchGradient (gateOf (zs m c) 2) (ds m c) (bc m c)
abbrev biasC : S1x1024.Idx → EReal := biasGradient (gateOf (zs m c) 2) (yc m c) (ds m c) (bc m c)

theorem gate_c_at (b : Fin 8) (r : Fin 256) (e : Fin 1024) :
    gateGradient (n := 256) (iblk m c 2 (point b)) (iblk m c 5 (point b)) (iblk m c 9 (point b)) (iblk m c 8 (point b)) (ix2 r e) = gateC m c (ix2 (rowIn b r) e) := by
  show gateEntry (iblk m c 2 (point b) (ix2 r e)) (iblk m c 8 (point b) (ix2 0 e)) (iblk m c 5 (point b) (ix2 r e)) (iblk m c 9 (point b) (ix2 r e)) = _
  rw [gc_at, bc_at, yc_at, d_at]
  rfl
theorem branch_c_at (b : Fin 8) (r : Fin 256) (e : Fin 1024) :
    branchGradient (n := 256) (iblk m c 2 (point b)) (iblk m c 9 (point b)) (iblk m c 8 (point b)) (ix2 r e) = branchC m c (ix2 (rowIn b r) e) := by
  show branchEntry (iblk m c 2 (point b) (ix2 r e)) (iblk m c 8 (point b) (ix2 0 e)) (iblk m c 9 (point b) (ix2 r e)) = _
  rw [gc_at, bc_at, d_at]
  rfl

def termC (e : Fin 1024) (j : Fin 2048) : EReal := gateC m c (ix2 j e)
theorem part_c (b : Fin 8) (i : S1x1024.Idx) : blockC m c (point b) i = ∑ r, termC m c (i 1) (rowIn b r) := by
  unfold blockC
  exact Finset.sum_congr rfl fun r _ => gate_c_at m c b r (i 1)
theorem bias_c_at (i : S1x1024.Idx) : (outsAt0 m c (point 7).val (point 7).isLt).2.2.2.2.2.2.2.2 i = biasC m c i :=
  eight_blocks (termC m c (i 1)) (fun b => (outsAt0 m c (point b).val (point b).isLt).2.2.2.2.2.2.2.2 i)
    ((bias_c_first m c (point 0) rfl i).trans (part_c m c 0 i))
    (fun b => (bias_c_next m c (point b.succ) (by show ¬(b.val + 1) % 8 = 0; omega) i).trans (congrArg (fun y : EReal => _ + y) (part_c m c b.succ i)))

theorem gate_c_covered (i : S2048x1024.Idx) : ∃ t : Fin cfg0.N, (cfg0.win 12).flush t = true ∧ i ∈ ((cfg0.win 12).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_12 _, ?_⟩
  show i ∈ ((View.whole main_v0_2).slice (win0_12.rect (point b))).set
  rw [View.set_slice_whole, Rect.mem_set_unit]
  exact fun d => match d with
  | ⟨0, _⟩ => within (i 0) (congrFun (index_12 b) 0) hb (by show 0 < 256; decide)
  | ⟨1, _⟩ => within (i 1) (congrFun (index_12 b) 1) (by show 0 = (i 1 : ℕ) / 1024; omega) (by show 0 < 1024; decide)
theorem gate_c_array : (dats m 0 c).arrAt 12 cfg0.N = gateC m c := by
  refine (dats m 0 c).arrAt_eq_of_cover 12 (gateC m c) (fun t _ => ?_) gate_c_covered
  obtain ⟨b, rfl⟩ := point_of t
  show (cfg0.win 12).cut (grid0.coords _) ((dats m 0 c).after 12 _) = _
  rw [after0_12, gate_c_written]
  funext y
  obtain ⟨r, e, rfl⟩ : ∃ (r : Fin 256) (e : Fin 1024), y = ix2 r e := ⟨y 0, y 1, eq_ix2 y⟩
  exact (gate_c_at m c b r e).trans (same2 (gateC m c) _ _ _ (place (congrFun (index_12 b) 0)) (place0 (congrFun (index_12 b) 1))).symm

theorem branch_c_covered (i : S2048x1024.Idx) : ∃ t : Fin cfg0.N, (cfg0.win 15).flush t = true ∧ i ∈ ((cfg0.win 15).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_15 _, ?_⟩
  show i ∈ ((View.whole main_v0_5).slice (win0_15.rect (point b))).set
  rw [View.set_slice_whole, Rect.mem_set_unit]
  exact fun d => match d with
  | ⟨0, _⟩ => within (i 0) (congrFun (index_15 b) 0) hb (by show 0 < 256; decide)
  | ⟨1, _⟩ => within (i 1) (congrFun (index_15 b) 1) (by show 0 = (i 1 : ℕ) / 1024; omega) (by show 0 < 1024; decide)
theorem branch_c_array : (dats m 0 c).arrAt 15 cfg0.N = branchC m c := by
  refine (dats m 0 c).arrAt_eq_of_cover 15 (branchC m c) (fun t _ => ?_) branch_c_covered
  obtain ⟨b, rfl⟩ := point_of t
  show (cfg0.win 15).cut (grid0.coords _) ((dats m 0 c).after 15 _) = _
  rw [after0_15, branch_c_written]
  funext y
  obtain ⟨r, e, rfl⟩ : ∃ (r : Fin 256) (e : Fin 1024), y = ix2 r e := ⟨y 0, y 1, eq_ix2 y⟩
  exact (branch_c_at m c b r e).trans (same2 (branchC m c) _ _ _ (place (congrFun (index_15 b) 0)) (place0 (congrFun (index_15 b) 1))).symm

theorem bias_c_covered (i : S1x1024.Idx) : ∃ t : Fin cfg0.N, (cfg0.win 18).flush t = true ∧ i ∈ ((cfg0.win 18).blk t).view.set := by
  have h0 : (i 0 : ℕ) < 1 := (i 0).isLt
  have h1 : (i 1 : ℕ) < 1024 := (i 1).isLt
  refine ⟨point 7, (flush0_18 _).mpr rfl, ?_⟩
  show i ∈ ((View.whole main_v0_8).slice (win0_18.rect (point 7))).set
  rw [View.set_slice_whole, Rect.mem_set_unit]
  exact fun d => match d with
  | ⟨0, _⟩ => within (i 0) (congrFun (index_18 7) 0) (by show 0 = (i 0 : ℕ) / 1; omega) (by show 0 < 1; decide)
  | ⟨1, _⟩ => within (i 1) (congrFun (index_18 7) 1) (by show 0 = (i 1 : ℕ) / 1024; omega) (by show 0 < 1024; decide)
theorem bias_c_array : (dats m 0 c).arrAt 18 cfg0.N = biasC m c := by
  refine (dats m 0 c).arrAt_eq_of_cover 18 (biasC m c) (fun t ht => ?_) bias_c_covered
  obtain rfl : t = point 7 := Fin.ext (by have := (flush0_18 t).mp ht; have := t.isLt; have := points; show t.val = 7; omega)
  show (cfg0.win 18).cut (grid0.coords _) ((dats m 0 c).after 18 _) = _
  rw [after0_18]
  funext y
  obtain ⟨r, e, rfl⟩ : ∃ (r : Fin 1) (e : Fin 1024), y = ix2 r e := ⟨y 0, y 1, eq_ix2 y⟩
  exact (bias_c_at m c (ix2 r e)).trans (same2 (biasC m c) _ _ _ (place0 (congrFun (index_18 7) 0)) (place0 (congrFun (index_18 7) 1))).symm

end

/-! ## The reference -/

section
open Cert.Reference35Ideal.Read
variable (x0 : S2048x5120.Idx → EReal) (x1 x2 x3 x7 : S2048x1024.Idx → EReal) (x4 x5 x6 : S1x1024.Idx → EReal)

theorem logistic_a (r : Fin 2048) (e : Fin 1024) :
    val_main_v13 (F := Ideal) x0 x4 (ix2 r e) = Ideal.logistic (gateOf x0 0 (ix2 r e) + x4 (ix2 0 e)) := by
  have h0 : idx_main_v0 (ix2 r e) = ix2 r (gateCol 0 e) := at2 _ _ _ (by simp [idx_main_v0]) (by simp [idx_main_v0, gateCol])
  have h1 : idx_main_v6 (ix2 r e) = ix2 0 e := at2 _ _ _ rfl rfl
  pointwise [val_main_v13_apply, val_main_v12_apply, val_main_v11_apply, val_main_v10_apply, val_main_v9_apply, val_main_v8_apply, val_main_v7_apply, val_main_v6_apply, val_main_v1_apply, val_main_v0_apply, val_main_cst_apply, val_main_cst_0_apply, gateOf]
  rw [h0, h1]
  rfl
theorem given_a (r : Fin 2048) (e : Fin 1024) : val_main_v44 (F := Ideal) x7 (ix2 r e) = x7 (ix2 r e) :=
  (val_main_v44_apply ..).trans (same2 x7 _ r e (by show (r.val * 1024 + e.val) / 1024 = r.val; omega) (by show (r.val * 1024 + e.val) % 1024 = e.val; omega))
theorem gate_a_inner (r : Fin 2048) (e : Fin 1024) :
    val_main_v58 (F := Ideal) x0 x1 x4 x7 (ix2 r e) = gateGradient (gateOf x0 0) x1 x7 x4 (ix2 r e) := by
  pointwise [val_main_v58_apply, val_main_v57_apply, val_main_v16_apply, val_main_v15_apply, val_main_v14_apply, val_main_cst_1_apply, logistic_a, given_a, gateGradient, gateEntry]
theorem gate_a_reference (i : S2048x1024.Idx) : val_main_v61 (F := Ideal) x0 x1 x4 x7 i = gateGradient (gateOf x0 0) x1 x7 x4 i := by
  obtain ⟨r, e, rfl⟩ : ∃ (r : Fin 2048) (e : Fin 1024), i = ix2 r e := ⟨i 0, i 1, eq_ix2 i⟩
  exact (val_main_v61_apply ..).trans (gate_a_inner _ _ _ _ r e)
theorem branch_a_reference (i : S2048x1024.Idx) : val_main_v64 (F := Ideal) x0 x4 x7 i = branchGradient (gateOf x0 0) x7 x4 i := by
  obtain ⟨r, e, rfl⟩ : ∃ (r : Fin 2048) (e : Fin 1024), i = ix2 r e := ⟨i 0, i 1, eq_ix2 i⟩
  pointwise [val_main_v64_apply, val_main_v56_apply, logistic_a, given_a, branchGradient, branchEntry]
theorem bias_a_reference (i : S1x1024.Idx) : val_main_v60 (F := Ideal) x0 x1 x4 x7 i = biasGradient (gateOf x0 0) x1 x7 x4 i := by
  obtain ⟨r, e, rfl⟩ : ∃ (r : Fin 1) (e : Fin 1024), i = ix2 r e := ⟨i 0, i 1, eq_ix2 i⟩
  pointwise [val_main_v60_apply, val_main_v59_apply, val_main_cst_10_apply, biasGradient]
  have h : ∀ k, idx_main_v59 (idx_main_v60 (ix2 r e)) k = ix2 k e := fun k => at2 _ _ _ rfl (by simp [idx_main_v59, idx_main_v60])
  simp only [h, gate_a_inner]

theorem logistic_b (r : Fin 2048) (e : Fin 1024) :
    val_main_v25 (F := Ideal) x0 x5 (ix2 r e) = Ideal.logistic (gateOf x0 1 (ix2 r e) + x5 (ix2 0 e)) := by
  have h0 : idx_main_v2 (ix2 r e) = ix2 r (gateCol 1 e) := at2 _ _ _ (by simp [idx_main_v2]) (by simp [idx_main_v2, gateCol])
  have h1 : idx_main_v18 (ix2 r e) = ix2 0 e := at2 _ _ _ rfl rfl
  pointwise [val_main_v25_apply, val_main_v24_apply, val_main_v23_apply, val_main_v22_apply, val_main_v21_apply, val_main_v20_apply, val_main_v19_apply, val_main_v18_apply, val_main_v3_apply, val_main_v2_apply, val_main_cst_2_apply, val_main_cst_3_apply, gateOf]
  rw [h0, h1]
  rfl
theorem given_b (r : Fin 2048) (e : Fin 1024) : val_main_v44 (F := Ideal) x7 (ix2 r e) = x7 (ix2 r e) :=
  (val_main_v44_apply ..).trans (same2 x7 _ r e (by show (r.val * 1024 + e.val) / 1024 = r.val; omega) (by show (r.val * 1024 + e.val) % 1024 = e.val; omega))
theorem gate_b_inner (r : Fin 2048) (e : Fin 1024) :
    val_main_v53 (F := Ideal) x0 x2 x5 x7 (ix2 r e) = gateGradient (gateOf x0 1) x2 x7 x5 (ix2 r e) := by
  pointwise [val_main_v53_apply, val_main_v52_apply, val_main_v28_apply, val_main_v27_apply, val_main_v26_apply, val_main_cst_4_apply, logistic_b, given_b, gateGradient, gateEntry]
theorem gate_b_reference (i : S2048x1024.Idx) : val_main_v62 (F := Ideal) x0 x2 x5 x7 i = gateGradient (gateOf x0 1) x2 x7 x5 i := by
  obtain ⟨r, e, rfl⟩ : ∃ (r : Fin 2048) (e : Fin 1024), i = ix2 r e := ⟨i 0, i 1, eq_ix2 i⟩
  exact (val_main_v62_apply ..).trans (gate_b_inner _ _ _ _ r e)
theorem branch_b_reference (i : S2048x1024.Idx) : val_main_v65 (F := Ideal) x0 x5 x7 i = branchGradient (gateOf x0 1) x7 x5 i := by
  obtain ⟨r, e, rfl⟩ : ∃ (r : Fin 2048) (e : Fin 1024), i = ix2 r e := ⟨i 0, i 1, eq_ix2 i⟩
  pointwise [val_main_v65_apply, val_main_v51_apply, logistic_b, given_b, branchGradient, branchEntry]
theorem bias_b_reference (i : S1x1024.Idx) : val_main_v55 (F := Ideal) x0 x2 x5 x7 i = biasGradient (gateOf x0 1) x2 x7 x5 i := by
  obtain ⟨r, e, rfl⟩ : ∃ (r : Fin 1) (e : Fin 1024), i = ix2 r e := ⟨i 0, i 1, eq_ix2 i⟩
  pointwise [val_main_v55_apply, val_main_v54_apply, val_main_cst_9_apply, biasGradient]
  have h : ∀ k, idx_main_v54 (idx_main_v55 (ix2 r e)) k = ix2 k e := fun k => at2 _ _ _ rfl (by simp [idx_main_v54, idx_main_v55])
  simp only [h, gate_b_inner]

theorem logistic_c (r : Fin 2048) (e : Fin 1024) :
    val_main_v38 (F := Ideal) x0 x6 (ix2 r e) = Ideal.logistic (gateOf x0 2 (ix2 r e) + x6 (ix2 0 e)) := by
  have h0 : idx_main_v4 (ix2 r e) = ix2 r (gateCol 2 e) := at2 _ _ _ (by simp [idx_main_v4]) (by simp [idx_main_v4, gateCol])
  have h1 : idx_main_v31 (ix2 r e) = ix2 0 e := at2 _ _ _ rfl rfl
  pointwise [val_main_v38_apply, val_main_v37_apply, val_main_v36_apply, val_main_v35_apply, val_main_v34_apply, val_main_v33_apply, val_main_v32_apply, val_main_v31_apply, val_main_v5_apply, val_main_v4_apply, val_main_cst_5_apply, val_main_cst_6_apply, gateOf]
  rw [h0, h1]
  rfl
theorem given_c (r : Fin 2048) (e : Fin 1024) : val_main_v45 (F := Ideal) x7 (ix2 r e) = x7 (ix2 r e) :=
  (val_main_v45_apply ..).trans (same2 x7 _ r e (by show (r.val * 1024 + e.val) / 1024 = r.val; omega) (by show (r.val * 1024 + e.val) % 1024 = e.val; omega))
theorem gate_c_inner (r : Fin 2048) (e : Fin 1024) :
    val_main_v48 (F := Ideal) x0 x3 x6 x7 (ix2 r e) = gateGradient (gateOf x0 2) x3 x7 x6 (ix2 r e) := by
  pointwise [val_main_v48_apply, val_main_v47_apply, val_main_v41_apply, val_main_v40_apply, val_main_v39_apply, val_main_cst_7_apply, logistic_c, given_c, gateGradient, gateEntry]
theorem gate_c_reference (i : S2048x1024.Idx) : val_main_v63 (F := Ideal) x0 x3 x6 x7 i = gateGradient (gateOf x0 2) x3 x7 x6 i := by
  obtain ⟨r, e, rfl⟩ : ∃ (r : Fin 2048) (e : Fin 1024), i = ix2 r e := ⟨i 0, i 1, eq_ix2 i⟩
  exact (val_main_v63_apply ..).trans (gate_c_inner _ _ _ _ r e)
theorem branch_c_reference (i : S2048x1024.Idx) : val_main_v66 (F := Ideal) x0 x6 x7 i = branchGradient (gateOf x0 2) x7 x6 i := by
  obtain ⟨r, e, rfl⟩ : ∃ (r : Fin 2048) (e : Fin 1024), i = ix2 r e := ⟨i 0, i 1, eq_ix2 i⟩
  pointwise [val_main_v66_apply, val_main_v46_apply, logistic_c, given_c, branchGradient, branchEntry]
theorem bias_c_reference (i : S1x1024.Idx) : val_main_v50 (F := Ideal) x0 x3 x6 x7 i = biasGradient (gateOf x0 2) x3 x7 x6 i := by
  obtain ⟨r, e, rfl⟩ : ∃ (r : Fin 1) (e : Fin 1024), i = ix2 r e := ⟨i 0, i 1, eq_ix2 i⟩
  pointwise [val_main_v50_apply, val_main_v49_apply, val_main_cst_8_apply, biasGradient]
  have h : ∀ k, idx_main_v49 (idx_main_v50 (ix2 r e)) k = ix2 k e := fun k => at2 _ _ _ rfl (by simp [idx_main_v49, idx_main_v50])
  simp only [h, gate_c_inner]

end

/-! ## The claims -/

/-- The kernel and its idealisation are the same program, so one run is both programs' frame. -/
theorem same_body : @Cert.Kernel35.cc0_merge_bwd Bits _ _ = @Cert.Kernel35Ideal.cc0_merge_bwd Bits _ _ := rfl
theorem same_table : Cert.Kernel35.defs₀ (F := Bits) = Cert.Kernel35Ideal.defs₀ (F := Bits) :=
  congrArg _ (funext fun a => match a with | 0 => funext fun ⟨_, _⟩ => rfl)
theorem same_program : Cert.Kernel35.defs (F := Bits) = Cert.Kernel35Ideal.defs (F := Bits) := congrArg (Pipeline.defs _) same_table
theorem frame_kernel : Cert.quiescent_Kernel35 := fun m g _ => by
  rw [same_program]
  exact Cert.Kernel35Ideal.Gen.frame (F := Bits) m g
theorem preserves : Cert.preserves_Kernel35_Kernel35Ideal := trivial
theorem frame_ideal : Cert.quiescent_Kernel35Ideal := fun m g _ => Cert.Kernel35Ideal.Gen.frame m g
theorem frame_reference : Cert.quiescent_Reference35Ideal := fun m g _ =>
  (θ_run Cert.Reference35Ideal.defs _ _).mono (fun r h => ⟨fun c => (h c).2.2.2.2.2.2.2.2.2, sem_eq_zero_of_no_sems (by decide) r.2⟩)
    (Cert.Reference35Ideal.Value.run (F := Ideal) m g)

theorem values : Cert.algebraic_Kernel35Ideal_Reference35Ideal := by
  intro m g m' g' _ hm
  refine ⟨fun c => gateA m c, fun c => gateB m c, fun c => gateC m c, fun c => branchA m c, fun c => branchB m c, fun c => branchC m c, fun c => biasA m c, fun c => biasB m c, fun c => biasC m c, ?_, ?_⟩
  · exact (θ_run Cert.Kernel35Ideal.defs _ _).mono
      (fun r h c => ⟨((h.1 c).1 10).trans (gate_a_array m c), ((h.1 c).1 11).trans (gate_b_array m c), ((h.1 c).1 12).trans (gate_c_array m c), ((h.1 c).1 13).trans (branch_a_array m c), ((h.1 c).1 14).trans (branch_b_array m c), ((h.1 c).1 15).trans (branch_c_array m c), ((h.1 c).1 16).trans (bias_a_array m c), ((h.1 c).1 17).trans (bias_b_array m c), ((h.1 c).1 18).trans (bias_c_array m c), h.2 c⟩)
      (θ_run_and (run_main m g) (unchanged m g))
  · refine (θ_run Cert.Reference35Ideal.defs _ _).mono (fun r h c => ⟨?_, ?_, ?_, ?_, ?_, ?_, ?_, ?_, ?_, (h c).2.2.2.2.2.2.2.2.2⟩) (Cert.Reference35Ideal.Value.run (F := Ideal) m' g')
    · obtain ⟨e0, e1, e2, e3, e4, e5, e6, e7⟩ := hm c
      refine (h c).1.trans ((Cert.Reference35Ideal.Read.val_main_v61_eq ..).trans ?_)
      rw [e0, e1, e4, e7]
      exact funext fun i => gate_a_reference _ _ _ _ i
    · obtain ⟨e0, e1, e2, e3, e4, e5, e6, e7⟩ := hm c
      refine (h c).2.1.trans ((Cert.Reference35Ideal.Read.val_main_v62_eq ..).trans ?_)
      rw [e0, e2, e5, e7]
      exact funext fun i => gate_b_reference _ _ _ _ i
    · obtain ⟨e0, e1, e2, e3, e4, e5, e6, e7⟩ := hm c
      refine (h c).2.2.1.trans ((Cert.Reference35Ideal.Read.val_main_v63_eq ..).trans ?_)
      rw [e0, e3, e6, e7]
      exact funext fun i => gate_c_reference _ _ _ _ i
    · obtain ⟨e0, e1, e2, e3, e4, e5, e6, e7⟩ := hm c
      refine (h c).2.2.2.1.trans ((Cert.Reference35Ideal.Read.val_main_v64_eq ..).trans ?_)
      rw [e0, e4, e7]
      exact funext fun i => branch_a_reference _ _ _ i
    · obtain ⟨e0, e1, e2, e3, e4, e5, e6, e7⟩ := hm c
      refine (h c).2.2.2.2.1.trans ((Cert.Reference35Ideal.Read.val_main_v65_eq ..).trans ?_)
      rw [e0, e5, e7]
      exact funext fun i => branch_b_reference _ _ _ i
    · obtain ⟨e0, e1, e2, e3, e4, e5, e6, e7⟩ := hm c
      refine (h c).2.2.2.2.2.1.trans ((Cert.Reference35Ideal.Read.val_main_v66_eq ..).trans ?_)
      rw [e0, e6, e7]
      exact funext fun i => branch_c_reference _ _ _ i
    · obtain ⟨e0, e1, e2, e3, e4, e5, e6, e7⟩ := hm c
      refine (h c).2.2.2.2.2.2.1.trans ((Cert.Reference35Ideal.Read.val_main_v60_eq ..).trans ?_)
      rw [e0, e1, e4, e7]
      exact funext fun i => bias_a_reference _ _ _ _ i
    · obtain ⟨e0, e1, e2, e3, e4, e5, e6, e7⟩ := hm c
      refine (h c).2.2.2.2.2.2.2.1.trans ((Cert.Reference35Ideal.Read.val_main_v55_eq ..).trans ?_)
      rw [e0, e2, e5, e7]
      exact funext fun i => bias_b_reference _ _ _ _ i
    · obtain ⟨e0, e1, e2, e3, e4, e5, e6, e7⟩ := hm c
      refine (h c).2.2.2.2.2.2.2.2.1.trans ((Cert.Reference35Ideal.Read.val_main_v50_eq ..).trans ?_)
      rw [e0, e3, e6, e7]
      exact funext fun i => bias_c_reference _ _ _ _ i

end Cert.BranchMergeDx
-- ==== Proof.CrossNormDx.lean ====
module

public import proofs.«01_k».proof.Defs
public import proofs.«01_k».proof.Proof.Norms
public import proofs.«01_k».proof.Proof.Gen.Kernel36
public import proofs.«01_k».proof.Proof.Gen.Kernel36Ideal.Frame
public import proofs.«01_k».proof.Proof.Gen.Reference36Ideal.Run
public import proofs.«01_k».proof.Proof.Gen.Reference36Ideal.Read

/-! The gradient of the norm before the cross attention: one block of 256 rows at a point, the gain's gradient summed from point to point. -/

@[expose] public section

noncomputable section

namespace Cert.CrossNormDx

open Idealize.ShloMosaic Idealize.ShloMosaic.TcCoe Idealize.SL.Sem Cert.Kernel36Ideal Cert.Kernel36Ideal.Gen Cert.Products Cert.Norms

/-! ## One point -/

theorem mean_square (x : Vec Ideal S256x1024 .f32) (r : Fin 256) (k : Fin 1) : k0_pay3 (F := Ideal) x (ix2 r k) = meanSquare (rowOf x r) := by
  pointwise [k0_pay3, meanSquare, rowOf]

theorem block_rows (x d a : Vec Ideal S256x1024 .f32) (g : Vec Ideal S1x1024 .f32) : k0_pay6 (F := Ideal) x g d a = rowsGradient x d a g := by
  funext i
  obtain ⟨r, e, rfl⟩ : ∃ (r : Fin 256) (e : Fin 1024), i = ix2 r e := ⟨i 0, i 1, eq_ix2 i⟩
  pointwise [k0_pay6, k0_pay4, mean_square, one_term, rowsGradient, rowGradient, meanPart, scaled, rowOf]

theorem block_gain (x d : Vec Ideal S256x1024 .f32) (p : Vec Ideal S1x1024 .f32) (i : S1x1024.Idx) :
    k0_pay2 (F := Ideal) (k0_pay5 x d) p i = p i + gainGradient x d i := by
  obtain ⟨r, e, rfl⟩ : ∃ (r : Fin 1) (e : Fin 1024), i = ix2 r e := ⟨i 0, i 1, eq_ix2 i⟩
  pointwise [k0_pay2, k0_pay5, k0_pay4, mean_square, gainGradient, gainTerm, rowOf]

section
variable (m : (ℓ : Loc nD τ sig) → Buf (Elt Ideal) ℓ) (c : Dev nD) (t : Fin cfg0.N)

theorem rows_written : (outsAt0 m c t.val t.isLt).1 = rowsGradient (iblk m c 0 t) (iblk m c 2 t) (iblk m c 3 t) (iblk m c 1 t) := by
  rcases eq_or_ne (t.val % 8) 0 with h | h
  · rw [outsAt0_A m c t h]
    dsimp only
    unfold out0_A_4; rw [View.read_writes_eq_canon _ _ _ fun y => cover0_A_4 (y := y) ..]
    unfold kernelRun0_A
    dsimp only
    rw [stored2, load2 (hs0_0 t), load2 (hs0_1 t), load2 (hs0_2 t), load2 (hs0_3 t)]
    exact block_rows _ _ _ _
  · rw [outsAt0_B m c t h]
    dsimp only
    unfold out0_B_4; rw [View.read_writes_eq_canon _ _ _ fun y => cover0_B_4 (y := y) ..]
    unfold kernelRun0_B
    dsimp only
    rw [stored2, load2 (hs0_0 t), load2 (hs0_1 t), load2 (hs0_2 t), load2 (hs0_3 t)]
    exact block_rows _ _ _ _

theorem gain_first (h : t.val % 8 = 0) (i : S1x1024.Idx) :
    (outsAt0 m c t.val t.isLt).2 i = gainGradient (n := 256) (iblk m c 0 t) (iblk m c 2 t) i := by
  rw [outsAt0_A m c t h]
  dsimp only
  unfold out0_A_5; rw [View.read_writes_eq_canon _ _ _ fun y => cover0_A_5 (y := y) ..]
  unfold kernelRun0_A
  dsimp only
  rw [View.canon_cons_unit_zero (S := S1x1024) origin2]
  sl_unfold_words
  rw [View.readCov_unit_zero (S := S1x1024) _ origin2, load2 (hs0_0 t), load2 (hs0_2 t)]
  refine (block_gain _ _ _ i).trans ?_
  pointwise [k0_pay1]

theorem gain_next (h : ¬t.val % 8 = 0) (i : S1x1024.Idx) : (outsAt0 m c t.val t.isLt).2 i =
    (outsAt0 m c (t.val - 1) (Nat.lt_of_le_of_lt (Nat.sub_le _ _) t.isLt)).2 i + gainGradient (n := 256) (iblk m c 0 t) (iblk m c 2 t) i := by
  rw [outsAt0_B m c t h]
  dsimp only
  unfold out0_B_5; rw [View.read_writes_eq_canon _ _ _ fun y => cover0_B_5 (y := y) ..]
  unfold kernelRun0_B
  dsimp only
  sl_unfold_words
  rw [stored2, load2 (hs0_0 t), load2 (hs0_2 t), load2 (hs0_5 t)]
  exact block_gain _ _ _ i
end

/-! ## The arrays -/

theorem points : cfg0.N = 8 := by decide
def point (b : Fin 8) : Fin cfg0.N := ⟨b.val, by have := points; omega⟩

theorem x_index : ∀ b : Fin 8, win0_0.index (point b) = ![b.val, 0] := by decide +kernel
theorem gain_index : ∀ b : Fin 8, win0_1.index (point b) = ![0, 0] := by decide +kernel
theorem d_index : ∀ b : Fin 8, win0_2.index (point b) = ![b.val, 0] := by decide +kernel
theorem added_index : ∀ b : Fin 8, win0_3.index (point b) = ![b.val, 0] := by decide +kernel
theorem rows_index : ∀ b : Fin 8, win0_4.index (point b) = ![b.val, 0] := by decide +kernel
theorem total_index : ∀ b : Fin 8, win0_5.index (point b) = ![0, 0] := by decide +kernel

section
variable (m : (ℓ : Loc nD τ sig) → Buf (Elt Ideal) ℓ) (c : Dev nD)

/-- The arguments. -/
def xs : S2048x1024.Idx → EReal := m (c.tc.loc main_arg0)
def gain : S1x1024.Idx → EReal := m (c.tc.loc main_arg1)
def ds : S2048x1024.Idx → EReal := m (c.tc.loc main_arg2)
def added : S2048x1024.Idx → EReal := m (c.tc.loc main_arg3)

theorem x_at (b : Fin 8) (r : Fin 256) (e : Fin 1024) : iblk m c 0 (point b) (ix2 r e) = xs m c (ix2 (rowIn b r) e) :=
  same2 (xs m c) _ _ _ (place (congrFun (x_index b) 0)) (place0 (congrFun (x_index b) 1))
theorem gain_at (b : Fin 8) (k : Fin 1) (e : Fin 1024) : iblk m c 1 (point b) (ix2 k e) = gain m c (ix2 k e) :=
  same2 (gain m c) _ _ _ (place0 (congrFun (gain_index b) 0)) (place0 (congrFun (gain_index b) 1))
theorem d_at (b : Fin 8) (r : Fin 256) (e : Fin 1024) : iblk m c 2 (point b) (ix2 r e) = ds m c (ix2 (rowIn b r) e) :=
  same2 (ds m c) _ _ _ (place (congrFun (d_index b) 0)) (place0 (congrFun (d_index b) 1))
theorem added_at (b : Fin 8) (r : Fin 256) (e : Fin 1024) : iblk m c 3 (point b) (ix2 r e) = added m c (ix2 (rowIn b r) e) :=
  same2 (added m c) _ _ _ (place (congrFun (added_index b) 0)) (place0 (congrFun (added_index b) 1))

theorem row_at (b : Fin 8) (r : Fin 256) : rowOf (n := 256) (iblk m c 0 (point b)) r = rowOf (xs m c) (rowIn b r) := funext fun e => x_at m c b r e
theorem scaled_at (b : Fin 8) (r : Fin 256) : scaled (n := 256) (iblk m c 2 (point b)) (iblk m c 1 (point b)) r = scaled (ds m c) (gain m c) (rowIn b r) :=
  funext fun e => congrArg₂ (fun x y : EReal => x * y) (d_at m c b r e) (gain_at m c b 0 e)

/-- The two results. -/
abbrev rows : S2048x1024.Idx → EReal := rowsGradient (xs m c) (ds m c) (added m c) (gain m c)
abbrev total : S1x1024.Idx → EReal := gainGradient (xs m c) (ds m c)

theorem point_of (t : Fin cfg0.N) : ∃ b : Fin 8, t = point b := ⟨⟨t.val, by have := t.isLt; have := points; omega⟩, rfl⟩

theorem rows_at (b : Fin 8) (r : Fin 256) (e : Fin 1024) :
    (outsAt0 m c (point b).val (point b).isLt).1 (ix2 r e) = rows m c (ix2 (rowIn b r) e) := by
  refine (congrFun (rows_written m c (point b)) _).trans ?_
  show rowGradient (rowOf (n := 256) (iblk m c 0 (point b)) r) (scaled (n := 256) (iblk m c 2 (point b)) (iblk m c 1 (point b)) r) e
    + iblk m c 3 (point b) (ix2 r e) = rowGradient (rowOf (xs m c) (rowIn b r)) (scaled (ds m c) (gain m c) (rowIn b r)) e + added m c (ix2 (rowIn b r) e)
  rw [row_at, scaled_at]
  exact congrArg (fun y : EReal => _ + y) (added_at m c b r e)

/-- What the gain's gradient takes of row `j`. -/
def term (e : Fin 1024) (j : Fin 2048) : EReal := gainTerm (rowOf (xs m c) j) e (ds m c (ix2 j e))
theorem part_at (b : Fin 8) (i : S1x1024.Idx) : gainGradient (n := 256) (iblk m c 0 (point b)) (iblk m c 2 (point b)) i = ∑ r, term m c (i 1) (rowIn b r) :=
  Finset.sum_congr rfl fun r _ => congrArg₂ (fun v d => gainTerm v (i 1) d) (row_at m c b r) (d_at m c b r (i 1))

theorem total_at (i : S1x1024.Idx) : (outsAt0 m c (point 7).val (point 7).isLt).2 i = total m c i :=
  eight_blocks (term m c (i 1)) (fun b => (outsAt0 m c (point b).val (point b).isLt).2 i)
    ((gain_first m c (point 0) rfl i).trans (part_at m c 0 i))
    (fun b => (gain_next m c (point b.succ) (by show ¬(b.val + 1) % 8 = 0; omega) i).trans (congrArg (fun y : EReal => _ + y) (part_at m c b.succ i)))

theorem rows_covered (i : S2048x1024.Idx) : ∃ t : Fin cfg0.N, (cfg0.win 4).flush t = true ∧ i ∈ ((cfg0.win 4).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_4 _, ?_⟩
  show i ∈ ((View.whole main_v0_0).slice (win0_4.rect (point b))).set
  rw [View.set_slice_whole, Rect.mem_set_unit]
  exact fun d => match d with
  | ⟨0, _⟩ => within (i 0) (congrFun (rows_index b) 0) hb (by show 0 < 256; decide)
  | ⟨1, _⟩ => within (i 1) (congrFun (rows_index b) 1) (by show 0 = (i 1 : ℕ) / 1024; omega) (by show 0 < 1024; decide)

theorem total_covered (i : S1x1024.Idx) : ∃ t : Fin cfg0.N, (cfg0.win 5).flush t = true ∧ i ∈ ((cfg0.win 5).blk t).view.set := by
  have h0 : (i 0 : ℕ) < 1 := (i 0).isLt
  have h1 : (i 1 : ℕ) < 1024 := (i 1).isLt
  refine ⟨point 7, (flush0_5 _).mpr rfl, ?_⟩
  show i ∈ ((View.whole main_v0_1).slice (win0_5.rect (point 7))).set
  rw [View.set_slice_whole, Rect.mem_set_unit]
  exact fun d => match d with
  | ⟨0, _⟩ => within (i 0) (congrFun (total_index 7) 0) (by show 0 = (i 0 : ℕ) / 1; omega) (by show 0 < 1; decide)
  | ⟨1, _⟩ => within (i 1) (congrFun (total_index 7) 1) (by show 0 = (i 1 : ℕ) / 1024; omega) (by show 0 < 1024; decide)

theorem rows_array : (dats m 0 c).arrAt 4 cfg0.N = rows m c := by
  refine (dats m 0 c).arrAt_eq_of_cover 4 (rows m c) (fun t _ => ?_) rows_covered
  obtain ⟨b, rfl⟩ := point_of t
  show (cfg0.win 4).cut (grid0.coords _) ((dats m 0 c).after 4 _) = _
  rw [after0_4]
  funext y
  obtain ⟨r, e, rfl⟩ : ∃ (r : Fin 256) (e : Fin 1024), y = ix2 r e := ⟨y 0, y 1, eq_ix2 y⟩
  exact (rows_at m c b r e).trans (same2 (rows m c) _ _ _ (place (congrFun (rows_index b) 0)) (place0 (congrFun (rows_index b) 1))).symm

theorem total_array : (dats m 0 c).arrAt 5 cfg0.N = total m c := by
  refine (dats m 0 c).arrAt_eq_of_cover 5 (total m c) (fun t ht => ?_) total_covered
  obtain rfl : t = point 7 := Fin.ext (by have := (flush0_5 t).mp ht; have := t.isLt; have := points; show t.val = 7; omega)
  show (cfg0.win 5).cut (grid0.coords _) ((dats m 0 c).after 5 _) = _
  rw [after0_5]
  funext y
  obtain ⟨r, e, rfl⟩ : ∃ (r : Fin 1) (e : Fin 1024), y = ix2 r e := ⟨y 0, y 1, eq_ix2 y⟩
  exact (total_at m c (ix2 r e)).trans (same2 (total m c) _ _ _ (place0 (congrFun (total_index 7) 0)) (place0 (congrFun (total_index 7) 1))).symm
end

/-! ## The reference -/

section
open Cert.Reference36Ideal.Read
variable (x0 x2 x3 : S2048x1024.Idx → EReal) (x1 : S1x1024.Idx → EReal)

theorem mean_square_at (r : Fin 2048) (k : Fin 1) : val_main_v6 (F := Ideal) x0 (ix2 r k) = meanSquare (rowOf x0 r) := by
  pointwise [val_main_v6_apply, val_main_v4_apply, val_main_v3_apply, val_main_v5_apply, val_main_v2_apply, val_main_v1_apply, val_main_v0_apply,
    val_main_cst_apply, val_main_cst_0_apply, val_main_cst_1_apply, meanSquare, rowOf]
  exact congrArg (fun s => Ideal.div s _ + _) (Finset.sum_congr rfl fun e _ => congrArg₂ (· * ·) (same2 x0 _ r e rfl rfl) (same2 x0 _ r e rfl rfl))

theorem meanPart_at (r : Fin 2048) (e : Fin 1024) : val_main_v29 (F := Ideal) x0 x1 x2 (ix2 r e) = meanPart (rowOf x0 r) (scaled x2 x1 r) := by
  pointwise [val_main_v29_apply, val_main_v28_apply, val_main_v27_apply, val_main_v26_apply, val_main_v25_apply, val_main_v22_apply,
    val_main_v21_apply, val_main_v20_apply, val_main_v19_apply, val_main_v18_apply, val_main_v10_apply, val_main_v9_apply, val_main_v8_apply,
    val_main_v7_apply, val_main_cst_2_apply, val_main_cst_4_apply, val_main_cst_5_apply, val_main_cst_6_apply, one_term]
  have h0 : idx_main_v28 (idx_main_v29 (ix2 r e)) 0 = ix2 r 0 := at2 _ _ _ rfl rfl
  have h1 : ∀ k, idx_main_v21 (idx_main_v22 (ix2 r 0)) k = ix2 r k := fun k => at2 _ _ _ (by simp [idx_main_v21, idx_main_v22]) rfl
  have h2 : ∀ k, idx_main_v18 (ix2 r k) = ix2 0 k := fun k => at2 _ _ _ rfl rfl
  simp only [h0, h1, h2, mean_square_at]
  rfl
theorem reference_rows (i : S2048x1024.Idx) : val_main_v34 (F := Ideal) x0 x1 x2 x3 i = rowsGradient x0 x2 x3 x1 i := by
  obtain ⟨r, e, rfl⟩ : ∃ (r : Fin 2048) (e : Fin 1024), i = ix2 r e := ⟨i 0, i 1, eq_ix2 i⟩
  pointwise [val_main_v34_apply, val_main_v33_apply, val_main_v32_apply, val_main_v31_apply, val_main_v30_apply, val_main_v24_apply,
    val_main_v23_apply, val_main_v19_apply, val_main_v18_apply, val_main_v7_apply, meanPart_at, rowsGradient, rowGradient]
  have h0 : idx_main_v23 (ix2 r e) = ix2 r 0 := at2 _ _ _ rfl rfl
  have h1 : idx_main_v18 (ix2 r e) = ix2 0 e := at2 _ _ _ rfl rfl
  rw [h0, h1, mean_square_at]
  exact add_comm _ _
theorem reference_gain (i : S1x1024.Idx) : val_main_v17 (F := Ideal) x0 x2 i = gainGradient x0 x2 i := by
  obtain ⟨r, e, rfl⟩ : ∃ (r : Fin 1) (e : Fin 1024), i = ix2 r e := ⟨i 0, i 1, eq_ix2 i⟩
  pointwise [val_main_v17_apply, val_main_v16_apply, val_main_v15_apply, val_main_v12_apply, val_main_v11_apply, val_main_v7_apply,
    val_main_cst_3_apply, gainGradient, gainTerm]
  have h0 : ∀ k, idx_main_v16 (idx_main_v17 (ix2 r e)) k = ix2 k e := fun k => at2 _ _ _ rfl (by simp [idx_main_v16, idx_main_v17])
  have h1 : ∀ k, idx_main_v11 (ix2 k e) = ix2 k 0 := fun k => at2 _ _ _ rfl rfl
  simp only [h0, h1, mean_square_at]
  rfl
end

/-! ## The claims -/

/-- The kernel and its idealisation are the same program, so one run is both programs' frame. -/
theorem same_body : @Cert.Kernel36.cc0_rms_x_bwd Bits _ _ = @Cert.Kernel36Ideal.cc0_rms_x_bwd Bits _ _ := rfl
theorem same_table : Cert.Kernel36.defs₀ (F := Bits) = Cert.Kernel36Ideal.defs₀ (F := Bits) :=
  congrArg _ (funext fun a => match a with | 0 => funext fun ⟨_, _⟩ => rfl)
theorem same_program : Cert.Kernel36.defs (F := Bits) = Cert.Kernel36Ideal.defs (F := Bits) := congrArg (Pipeline.defs _) same_table
theorem frame_kernel : Cert.quiescent_Kernel36 := fun m g _ => by
  rw [same_program]
  exact Cert.Kernel36Ideal.Gen.frame (F := Bits) m g
theorem preserves : Cert.preserves_Kernel36_Kernel36Ideal := trivial
theorem frame_ideal : Cert.quiescent_Kernel36Ideal := fun m g _ => Cert.Kernel36Ideal.Gen.frame m g
theorem frame_reference : Cert.quiescent_Reference36Ideal := fun m g _ =>
  (θ_run Cert.Reference36Ideal.defs _ _).mono (fun r h => ⟨fun c => (h c).2.2, sem_eq_zero_of_no_sems (by decide) r.2⟩)
    (Cert.Reference36Ideal.Value.run (F := Ideal) m g)

theorem values : Cert.algebraic_Kernel36Ideal_Reference36Ideal := by
  intro m g m' g' _ hm
  refine ⟨fun c => rows m c, fun c => total m c, ?_, ?_⟩
  · exact (θ_run Cert.Kernel36Ideal.defs _ _).mono
      (fun r h c => ⟨((h.1 c).1 4).trans (rows_array m c), ((h.1 c).1 5).trans (total_array m c), h.2 c⟩) (θ_run_and (run_main m g) (unchanged m g))
  · refine (θ_run Cert.Reference36Ideal.defs _ _).mono (fun r h c => ⟨?_, ?_, (h c).2.2⟩) (Cert.Reference36Ideal.Value.run (F := Ideal) m' g')
    · obtain ⟨e0, e1, e2, e3⟩ := hm c
      refine (h c).1.trans ((Cert.Reference36Ideal.Read.val_main_v34_eq ..).trans ?_)
      rw [e0, e1, e2, e3]
      exact funext fun i => reference_rows _ _ _ _ i
    · obtain ⟨e0, e1, e2, e3⟩ := hm c
      refine (h c).2.1.trans ((Cert.Reference36Ideal.Read.val_main_v17_eq ..).trans ?_)
      rw [e0, e2]
      exact funext fun i => reference_gain _ _ i

end Cert.CrossNormDx
-- ==== Proof.MixNormDx.lean ====
module

public import proofs.«01_k».proof.Defs
public import proofs.«01_k».proof.Proof.Norms
public import proofs.«01_k».proof.Proof.Gen.Kernel37
public import proofs.«01_k».proof.Proof.Gen.Kernel37Ideal.Frame
public import proofs.«01_k».proof.Proof.Gen.Reference37Ideal.Run
public import proofs.«01_k».proof.Proof.Gen.Reference37Ideal.Read

/-! The gradient of the norm before the branches: one block of 256 rows at a point, the gain's gradient summed from point to point. -/

@[expose] public section

noncomputable section

namespace Cert.MixNormDx

open Idealize.ShloMosaic Idealize.ShloMosaic.TcCoe Idealize.SL.Sem Cert.Kernel37Ideal Cert.Kernel37Ideal.Gen Cert.Products Cert.Norms

/-! ## One point -/

theorem mean_square (x : Vec Ideal S256x1024 .f32) (r : Fin 256) (k : Fin 1) : k0_pay3 (F := Ideal) x (ix2 r k) = meanSquare (rowOf x r) := by
  pointwise [k0_pay3, meanSquare, rowOf]

theorem block_rows (x d a : Vec Ideal S256x1024 .f32) (g : Vec Ideal S1x1024 .f32) : k0_pay6 (F := Ideal) x g d a = rowsGradient x d a g := by
  funext i
  obtain ⟨r, e, rfl⟩ : ∃ (r : Fin 256) (e : Fin 1024), i = ix2 r e := ⟨i 0, i 1, eq_ix2 i⟩
  pointwise [k0_pay6, k0_pay4, mean_square, one_term, rowsGradient, rowGradient, meanPart, scaled, rowOf]

theorem block_gain (x d : Vec Ideal S256x1024 .f32) (p : Vec Ideal S1x1024 .f32) (i : S1x1024.Idx) :
    k0_pay2 (F := Ideal) (k0_pay5 x d) p i = p i + gainGradient x d i := by
  obtain ⟨r, e, rfl⟩ : ∃ (r : Fin 1) (e : Fin 1024), i = ix2 r e := ⟨i 0, i 1, eq_ix2 i⟩
  pointwise [k0_pay2, k0_pay5, k0_pay4, mean_square, gainGradient, gainTerm, rowOf]

section
variable (m : (ℓ : Loc nD τ sig) → Buf (Elt Ideal) ℓ) (c : Dev nD) (t : Fin cfg0.N)

theorem rows_written : (outsAt0 m c t.val t.isLt).1 = rowsGradient (iblk m c 0 t) (iblk m c 2 t) (iblk m c 3 t) (iblk m c 1 t) := by
  rcases eq_or_ne (t.val % 8) 0 with h | h
  · rw [outsAt0_A m c t h]
    dsimp only
    unfold out0_A_4; rw [View.read_writes_eq_canon _ _ _ fun y => cover0_A_4 (y := y) ..]
    unfold kernelRun0_A
    dsimp only
    rw [stored2, load2 (hs0_0 t), load2 (hs0_1 t), load2 (hs0_2 t), load2 (hs0_3 t)]
    exact block_rows _ _ _ _
  · rw [outsAt0_B m c t h]
    dsimp only
    unfold out0_B_4; rw [View.read_writes_eq_canon _ _ _ fun y => cover0_B_4 (y := y) ..]
    unfold kernelRun0_B
    dsimp only
    rw [stored2, load2 (hs0_0 t), load2 (hs0_1 t), load2 (hs0_2 t), load2 (hs0_3 t)]
    exact block_rows _ _ _ _

theorem gain_first (h : t.val % 8 = 0) (i : S1x1024.Idx) :
    (outsAt0 m c t.val t.isLt).2 i = gainGradient (n := 256) (iblk m c 0 t) (iblk m c 2 t) i := by
  rw [outsAt0_A m c t h]
  dsimp only
  unfold out0_A_5; rw [View.read_writes_eq_canon _ _ _ fun y => cover0_A_5 (y := y) ..]
  unfold kernelRun0_A
  dsimp only
  rw [View.canon_cons_unit_zero (S := S1x1024) origin2]
  sl_unfold_words
  rw [View.readCov_unit_zero (S := S1x1024) _ origin2, load2 (hs0_0 t), load2 (hs0_2 t)]
  refine (block_gain _ _ _ i).trans ?_
  pointwise [k0_pay1]

theorem gain_next (h : ¬t.val % 8 = 0) (i : S1x1024.Idx) : (outsAt0 m c t.val t.isLt).2 i =
    (outsAt0 m c (t.val - 1) (Nat.lt_of_le_of_lt (Nat.sub_le _ _) t.isLt)).2 i + gainGradient (n := 256) (iblk m c 0 t) (iblk m c 2 t) i := by
  rw [outsAt0_B m c t h]
  dsimp only
  unfold out0_B_5; rw [View.read_writes_eq_canon _ _ _ fun y => cover0_B_5 (y := y) ..]
  unfold kernelRun0_B
  dsimp only
  sl_unfold_words
  rw [stored2, load2 (hs0_0 t), load2 (hs0_2 t), load2 (hs0_5 t)]
  exact block_gain _ _ _ i
end

/-! ## The arrays -/

theorem points : cfg0.N = 8 := by decide
def point (b : Fin 8) : Fin cfg0.N := ⟨b.val, by have := points; omega⟩

theorem x_index : ∀ b : Fin 8, win0_0.index (point b) = ![b.val, 0] := by decide +kernel
theorem gain_index : ∀ b : Fin 8, win0_1.index (point b) = ![0, 0] := by decide +kernel
theorem d_index : ∀ b : Fin 8, win0_2.index (point b) = ![b.val, 0] := by decide +kernel
theorem added_index : ∀ b : Fin 8, win0_3.index (point b) = ![b.val, 0] := by decide +kernel
theorem rows_index : ∀ b : Fin 8, win0_4.index (point b) = ![b.val, 0] := by decide +kernel
theorem total_index : ∀ b : Fin 8, win0_5.index (point b) = ![0, 0] := by decide +kernel

section
variable (m : (ℓ : Loc nD τ sig) → Buf (Elt Ideal) ℓ) (c : Dev nD)

/-- The arguments. -/
def xs : S2048x1024.Idx → EReal := m (c.tc.loc main_arg0)
def gain : S1x1024.Idx → EReal := m (c.tc.loc main_arg1)
def ds : S2048x1024.Idx → EReal := m (c.tc.loc main_arg2)
def added : S2048x1024.Idx → EReal := m (c.tc.loc main_arg3)

theorem x_at (b : Fin 8) (r : Fin 256) (e : Fin 1024) : iblk m c 0 (point b) (ix2 r e) = xs m c (ix2 (rowIn b r) e) :=
  same2 (xs m c) _ _ _ (place (congrFun (x_index b) 0)) (place0 (congrFun (x_index b) 1))
theorem gain_at (b : Fin 8) (k : Fin 1) (e : Fin 1024) : iblk m c 1 (point b) (ix2 k e) = gain m c (ix2 k e) :=
  same2 (gain m c) _ _ _ (place0 (congrFun (gain_index b) 0)) (place0 (congrFun (gain_index b) 1))
theorem d_at (b : Fin 8) (r : Fin 256) (e : Fin 1024) : iblk m c 2 (point b) (ix2 r e) = ds m c (ix2 (rowIn b r) e) :=
  same2 (ds m c) _ _ _ (place (congrFun (d_index b) 0)) (place0 (congrFun (d_index b) 1))
theorem added_at (b : Fin 8) (r : Fin 256) (e : Fin 1024) : iblk m c 3 (point b) (ix2 r e) = added m c (ix2 (rowIn b r) e) :=
  same2 (added m c) _ _ _ (place (congrFun (added_index b) 0)) (place0 (congrFun (added_index b) 1))

theorem row_at (b : Fin 8) (r : Fin 256) : rowOf (n := 256) (iblk m c 0 (point b)) r = rowOf (xs m c) (rowIn b r) := funext fun e => x_at m c b r e
theorem scaled_at (b : Fin 8) (r : Fin 256) : scaled (n := 256) (iblk m c 2 (point b)) (iblk m c 1 (point b)) r = scaled (ds m c) (gain m c) (rowIn b r) :=
  funext fun e => congrArg₂ (fun x y : EReal => x * y) (d_at m c b r e) (gain_at m c b 0 e)

/-- The two results. -/
abbrev rows : S2048x1024.Idx → EReal := rowsGradient (xs m c) (ds m c) (added m c) (gain m c)
abbrev total : S1x1024.Idx → EReal := gainGradient (xs m c) (ds m c)

theorem point_of (t : Fin cfg0.N) : ∃ b : Fin 8, t = point b := ⟨⟨t.val, by have := t.isLt; have := points; omega⟩, rfl⟩

theorem rows_at (b : Fin 8) (r : Fin 256) (e : Fin 1024) :
    (outsAt0 m c (point b).val (point b).isLt).1 (ix2 r e) = rows m c (ix2 (rowIn b r) e) := by
  refine (congrFun (rows_written m c (point b)) _).trans ?_
  show rowGradient (rowOf (n := 256) (iblk m c 0 (point b)) r) (scaled (n := 256) (iblk m c 2 (point b)) (iblk m c 1 (point b)) r) e
    + iblk m c 3 (point b) (ix2 r e) = rowGradient (rowOf (xs m c) (rowIn b r)) (scaled (ds m c) (gain m c) (rowIn b r)) e + added m c (ix2 (rowIn b r) e)
  rw [row_at, scaled_at]
  exact congrArg (fun y : EReal => _ + y) (added_at m c b r e)

/-- What the gain's gradient takes of row `j`. -/
def term (e : Fin 1024) (j : Fin 2048) : EReal := gainTerm (rowOf (xs m c) j) e (ds m c (ix2 j e))
theorem part_at (b : Fin 8) (i : S1x1024.Idx) : gainGradient (n := 256) (iblk m c 0 (point b)) (iblk m c 2 (point b)) i = ∑ r, term m c (i 1) (rowIn b r) :=
  Finset.sum_congr rfl fun r _ => congrArg₂ (fun v d => gainTerm v (i 1) d) (row_at m c b r) (d_at m c b r (i 1))

theorem total_at (i : S1x1024.Idx) : (outsAt0 m c (point 7).val (point 7).isLt).2 i = total m c i :=
  eight_blocks (term m c (i 1)) (fun b => (outsAt0 m c (point b).val (point b).isLt).2 i)
    ((gain_first m c (point 0) rfl i).trans (part_at m c 0 i))
    (fun b => (gain_next m c (point b.succ) (by show ¬(b.val + 1) % 8 = 0; omega) i).trans (congrArg (fun y : EReal => _ + y) (part_at m c b.succ i)))

theorem rows_covered (i : S2048x1024.Idx) : ∃ t : Fin cfg0.N, (cfg0.win 4).flush t = true ∧ i ∈ ((cfg0.win 4).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_4 _, ?_⟩
  show i ∈ ((View.whole main_v0_0).slice (win0_4.rect (point b))).set
  rw [View.set_slice_whole, Rect.mem_set_unit]
  exact fun d => match d with
  | ⟨0, _⟩ => within (i 0) (congrFun (rows_index b) 0) hb (by show 0 < 256; decide)
  | ⟨1, _⟩ => within (i 1) (congrFun (rows_index b) 1) (by show 0 = (i 1 : ℕ) / 1024; omega) (by show 0 < 1024; decide)

theorem total_covered (i : S1x1024.Idx) : ∃ t : Fin cfg0.N, (cfg0.win 5).flush t = true ∧ i ∈ ((cfg0.win 5).blk t).view.set := by
  have h0 : (i 0 : ℕ) < 1 := (i 0).isLt
  have h1 : (i 1 : ℕ) < 1024 := (i 1).isLt
  refine ⟨point 7, (flush0_5 _).mpr rfl, ?_⟩
  show i ∈ ((View.whole main_v0_1).slice (win0_5.rect (point 7))).set
  rw [View.set_slice_whole, Rect.mem_set_unit]
  exact fun d => match d with
  | ⟨0, _⟩ => within (i 0) (congrFun (total_index 7) 0) (by show 0 = (i 0 : ℕ) / 1; omega) (by show 0 < 1; decide)
  | ⟨1, _⟩ => within (i 1) (congrFun (total_index 7) 1) (by show 0 = (i 1 : ℕ) / 1024; omega) (by show 0 < 1024; decide)

theorem rows_array : (dats m 0 c).arrAt 4 cfg0.N = rows m c := by
  refine (dats m 0 c).arrAt_eq_of_cover 4 (rows m c) (fun t _ => ?_) rows_covered
  obtain ⟨b, rfl⟩ := point_of t
  show (cfg0.win 4).cut (grid0.coords _) ((dats m 0 c).after 4 _) = _
  rw [after0_4]
  funext y
  obtain ⟨r, e, rfl⟩ : ∃ (r : Fin 256) (e : Fin 1024), y = ix2 r e := ⟨y 0, y 1, eq_ix2 y⟩
  exact (rows_at m c b r e).trans (same2 (rows m c) _ _ _ (place (congrFun (rows_index b) 0)) (place0 (congrFun (rows_index b) 1))).symm

theorem total_array : (dats m 0 c).arrAt 5 cfg0.N = total m c := by
  refine (dats m 0 c).arrAt_eq_of_cover 5 (total m c) (fun t ht => ?_) total_covered
  obtain rfl : t = point 7 := Fin.ext (by have := (flush0_5 t).mp ht; have := t.isLt; have := points; show t.val = 7; omega)
  show (cfg0.win 5).cut (grid0.coords _) ((dats m 0 c).after 5 _) = _
  rw [after0_5]
  funext y
  obtain ⟨r, e, rfl⟩ : ∃ (r : Fin 1) (e : Fin 1024), y = ix2 r e := ⟨y 0, y 1, eq_ix2 y⟩
  exact (total_at m c (ix2 r e)).trans (same2 (total m c) _ _ _ (place0 (congrFun (total_index 7) 0)) (place0 (congrFun (total_index 7) 1))).symm
end

/-! ## The reference -/

section
open Cert.Reference37Ideal.Read
variable (x0 x2 x3 : S2048x1024.Idx → EReal) (x1 : S1x1024.Idx → EReal)

theorem mean_square_at (r : Fin 2048) (k : Fin 1) : val_main_v6 (F := Ideal) x0 (ix2 r k) = meanSquare (rowOf x0 r) := by
  pointwise [val_main_v6_apply, val_main_v4_apply, val_main_v3_apply, val_main_v5_apply, val_main_v2_apply, val_main_v1_apply, val_main_v0_apply,
    val_main_cst_apply, val_main_cst_0_apply, val_main_cst_1_apply, meanSquare, rowOf]
  exact congrArg (fun s => Ideal.div s _ + _) (Finset.sum_congr rfl fun e _ => congrArg₂ (· * ·) (same2 x0 _ r e rfl rfl) (same2 x0 _ r e rfl rfl))

theorem meanPart_at (r : Fin 2048) (e : Fin 1024) : val_main_v29 (F := Ideal) x0 x1 x2 (ix2 r e) = meanPart (rowOf x0 r) (scaled x2 x1 r) := by
  pointwise [val_main_v29_apply, val_main_v28_apply, val_main_v27_apply, val_main_v26_apply, val_main_v25_apply, val_main_v22_apply,
    val_main_v21_apply, val_main_v20_apply, val_main_v19_apply, val_main_v18_apply, val_main_v10_apply, val_main_v9_apply, val_main_v8_apply,
    val_main_v7_apply, val_main_cst_2_apply, val_main_cst_4_apply, val_main_cst_5_apply, val_main_cst_6_apply, one_term]
  have h0 : idx_main_v28 (idx_main_v29 (ix2 r e)) 0 = ix2 r 0 := at2 _ _ _ rfl rfl
  have h1 : ∀ k, idx_main_v21 (idx_main_v22 (ix2 r 0)) k = ix2 r k := fun k => at2 _ _ _ (by simp [idx_main_v21, idx_main_v22]) rfl
  have h2 : ∀ k, idx_main_v18 (ix2 r k) = ix2 0 k := fun k => at2 _ _ _ rfl rfl
  simp only [h0, h1, h2, mean_square_at]
  rfl
theorem reference_rows (i : S2048x1024.Idx) : val_main_v34 (F := Ideal) x0 x1 x2 x3 i = rowsGradient x0 x2 x3 x1 i := by
  obtain ⟨r, e, rfl⟩ : ∃ (r : Fin 2048) (e : Fin 1024), i = ix2 r e := ⟨i 0, i 1, eq_ix2 i⟩
  pointwise [val_main_v34_apply, val_main_v33_apply, val_main_v32_apply, val_main_v31_apply, val_main_v30_apply, val_main_v24_apply,
    val_main_v23_apply, val_main_v19_apply, val_main_v18_apply, val_main_v7_apply, meanPart_at, rowsGradient, rowGradient]
  have h0 : idx_main_v23 (ix2 r e) = ix2 r 0 := at2 _ _ _ rfl rfl
  have h1 : idx_main_v18 (ix2 r e) = ix2 0 e := at2 _ _ _ rfl rfl
  rw [h0, h1, mean_square_at]
  exact add_comm _ _
theorem reference_gain (i : S1x1024.Idx) : val_main_v17 (F := Ideal) x0 x2 i = gainGradient x0 x2 i := by
  obtain ⟨r, e, rfl⟩ : ∃ (r : Fin 1) (e : Fin 1024), i = ix2 r e := ⟨i 0, i 1, eq_ix2 i⟩
  pointwise [val_main_v17_apply, val_main_v16_apply, val_main_v15_apply, val_main_v12_apply, val_main_v11_apply, val_main_v7_apply,
    val_main_cst_3_apply, gainGradient, gainTerm]
  have h0 : ∀ k, idx_main_v16 (idx_main_v17 (ix2 r e)) k = ix2 k e := fun k => at2 _ _ _ rfl (by simp [idx_main_v16, idx_main_v17])
  have h1 : ∀ k, idx_main_v11 (ix2 k e) = ix2 k 0 := fun k => at2 _ _ _ rfl rfl
  simp only [h0, h1, mean_square_at]
  rfl
end

/-! ## The claims -/

/-- The kernel and its idealisation are the same program, so one run is both programs' frame. -/
theorem same_body : @Cert.Kernel37.cc0_rms_mix_bwd Bits _ _ = @Cert.Kernel37Ideal.cc0_rms_mix_bwd Bits _ _ := rfl
theorem same_table : Cert.Kernel37.defs₀ (F := Bits) = Cert.Kernel37Ideal.defs₀ (F := Bits) :=
  congrArg _ (funext fun a => match a with | 0 => funext fun ⟨_, _⟩ => rfl)
theorem same_program : Cert.Kernel37.defs (F := Bits) = Cert.Kernel37Ideal.defs (F := Bits) := congrArg (Pipeline.defs _) same_table
theorem frame_kernel : Cert.quiescent_Kernel37 := fun m g _ => by
  rw [same_program]
  exact Cert.Kernel37Ideal.Gen.frame (F := Bits) m g
theorem preserves : Cert.preserves_Kernel37_Kernel37Ideal := trivial
theorem frame_ideal : Cert.quiescent_Kernel37Ideal := fun m g _ => Cert.Kernel37Ideal.Gen.frame m g
theorem frame_reference : Cert.quiescent_Reference37Ideal := fun m g _ =>
  (θ_run Cert.Reference37Ideal.defs _ _).mono (fun r h => ⟨fun c => (h c).2.2, sem_eq_zero_of_no_sems (by decide) r.2⟩)
    (Cert.Reference37Ideal.Value.run (F := Ideal) m g)

theorem values : Cert.algebraic_Kernel37Ideal_Reference37Ideal := by
  intro m g m' g' _ hm
  refine ⟨fun c => rows m c, fun c => total m c, ?_, ?_⟩
  · exact (θ_run Cert.Kernel37Ideal.defs _ _).mono
      (fun r h c => ⟨((h.1 c).1 4).trans (rows_array m c), ((h.1 c).1 5).trans (total_array m c), h.2 c⟩) (θ_run_and (run_main m g) (unchanged m g))
  · refine (θ_run Cert.Reference37Ideal.defs _ _).mono (fun r h c => ⟨?_, ?_, (h c).2.2⟩) (Cert.Reference37Ideal.Value.run (F := Ideal) m' g')
    · obtain ⟨e0, e1, e2, e3⟩ := hm c
      refine (h c).1.trans ((Cert.Reference37Ideal.Read.val_main_v34_eq ..).trans ?_)
      rw [e0, e1, e2, e3]
      exact funext fun i => reference_rows _ _ _ _ i
    · obtain ⟨e0, e1, e2, e3⟩ := hm c
      refine (h c).2.1.trans ((Cert.Reference37Ideal.Read.val_main_v17_eq ..).trans ?_)
      rw [e0, e2]
      exact funext fun i => reference_gain _ _ i

end Cert.MixNormDx
-- ==== Proof.MemNormDx.lean ====
module

public import proofs.«01_k».proof.Defs
public import proofs.«01_k».proof.Proof.Norms
public import proofs.«01_k».proof.Proof.Gen.Kernel38
public import proofs.«01_k».proof.Proof.Gen.Kernel38Ideal.Frame
public import proofs.«01_k».proof.Proof.Gen.Reference38Ideal.Run
public import proofs.«01_k».proof.Proof.Gen.Reference38Ideal.Read

/-! The gradient of the memory's norm's gain: the memory's 256 rows are one block. -/

@[expose] public section

noncomputable section

namespace Cert.MemNormDx

open Idealize.ShloMosaic Idealize.ShloMosaic.TcCoe Idealize.SL.Sem Cert.Kernel38Ideal Cert.Kernel38Ideal.Gen Cert.Products Cert.Norms

/-! ## The point -/

theorem block_gain (x d : Vec Ideal S256x1024 .f32) (p : Vec Ideal S1x1024 .f32) (i : S1x1024.Idx) :
    k0_pay2 (F := Ideal) x d p i = p i + gainGradient x d i := by
  obtain ⟨r, e, rfl⟩ : ∃ (r : Fin 1) (e : Fin 1024), i = ix2 r e := ⟨i 0, i 1, eq_ix2 i⟩
  pointwise [k0_pay2, gainGradient, gainTerm, meanSquare, rowOf]

section
variable (m : (ℓ : Loc nD τ sig) → Buf (Elt Ideal) ℓ) (c : Dev nD) (t : Fin cfg0.N)

theorem gain_written (i : S1x1024.Idx) : outsAt0 m c t i = gainGradient (n := 256) (iblk m c 0 t) (iblk m c 2 t) i := by
  unfold outsAt0
  unfold out0_A_3; rw [View.read_writes_eq_canon _ _ _ fun y => cover0_A_3 (y := y) ..]
  unfold kernelRun0_A
  dsimp only
  rw [View.canon_cons_unit_zero (S := S1x1024) origin2]
  sl_unfold_words
  rw [View.readCov_unit_zero (S := S1x1024) _ origin2, load2 (hs0_0 t), load2 (hs0_2 t)]
  refine (block_gain _ _ _ i).trans ?_
  pointwise [k0_pay1]
end

/-! ## The arrays -/

def first : Fin cfg0.N := ⟨0, by decide⟩

theorem x_index : ∀ t : Fin cfg0.N, win0_0.index t = ![0, 0] := by decide +kernel
theorem d_index : ∀ t : Fin cfg0.N, win0_2.index t = ![0, 0] := by decide +kernel
theorem total_index : ∀ t : Fin cfg0.N, win0_3.index t = ![0, 0] := by decide +kernel

section
variable (m : (ℓ : Loc nD τ sig) → Buf (Elt Ideal) ℓ) (c : Dev nD)

/-- The arguments: the memory, and its normalised rows' gradient. -/
def xs : S256x1024.Idx → EReal := m (c.tc.loc main_arg0)
def ds : S256x1024.Idx → EReal := m (c.tc.loc main_arg2)

theorem x_at (t : Fin cfg0.N) (r : Fin 256) (e : Fin 1024) : iblk m c 0 t (ix2 r e) = xs m c (ix2 r e) :=
  same2 (xs m c) _ _ _ (place0 (congrFun (x_index t) 0)) (place0 (congrFun (x_index t) 1))
theorem d_at (t : Fin cfg0.N) (r : Fin 256) (e : Fin 1024) : iblk m c 2 t (ix2 r e) = ds m c (ix2 r e) :=
  same2 (ds m c) _ _ _ (place0 (congrFun (d_index t) 0)) (place0 (congrFun (d_index t) 1))

/-- The result. -/
abbrev total : S1x1024.Idx → EReal := gainGradient (xs m c) (ds m c)

theorem total_at (t : Fin cfg0.N) (i : S1x1024.Idx) : outsAt0 m c t i = total m c i :=
  (gain_written m c t i).trans (Finset.sum_congr rfl fun r _ =>
    congrArg₂ (fun v d => gainTerm v (i 1) d) (funext fun e => x_at m c t r e) (d_at m c t r (i 1)))

theorem total_covered (i : S1x1024.Idx) : ∃ t : Fin cfg0.N, (cfg0.win 3).flush t = true ∧ i ∈ ((cfg0.win 3).blk t).view.set := by
  have h0 : (i 0 : ℕ) < 1 := (i 0).isLt
  have h1 : (i 1 : ℕ) < 1024 := (i 1).isLt
  refine ⟨first, flush0_3 _, ?_⟩
  show i ∈ ((View.whole main_v0).slice (win0_3.rect first)).set
  rw [View.set_slice_whole, Rect.mem_set_unit]
  exact fun d => match d with
  | ⟨0, _⟩ => within (i 0) (congrFun (total_index _) 0) (by show 0 = (i 0 : ℕ) / 1; omega) (by show 0 < 1; decide)
  | ⟨1, _⟩ => within (i 1) (congrFun (total_index _) 1) (by show 0 = (i 1 : ℕ) / 1024; omega) (by show 0 < 1024; decide)

theorem total_array : (dats m 0 c).arrAt 3 cfg0.N = total m c := by
  refine (dats m 0 c).arrAt_eq_of_cover 3 (total m c) (fun t _ => ?_) total_covered
  show (cfg0.win 3).cut (grid0.coords _) ((dats m 0 c).after 3 _) = _
  rw [after0_3]
  funext y
  obtain ⟨r, e, rfl⟩ : ∃ (r : Fin 1) (e : Fin 1024), y = ix2 r e := ⟨y 0, y 1, eq_ix2 y⟩
  exact (total_at m c t (ix2 r e)).trans (same2 (total m c) _ _ _ (place0 (congrFun (total_index t) 0)) (place0 (congrFun (total_index t) 1))).symm
end

/-! ## The reference -/

section
open Cert.Reference38Ideal.Read
variable (x0 x2 : S256x1024.Idx → EReal)

theorem mean_square_at (r : Fin 256) (k : Fin 1) : val_main_v6 (F := Ideal) x0 (ix2 r k) = meanSquare (rowOf x0 r) := by
  pointwise [val_main_v6_apply, val_main_v4_apply, val_main_v3_apply, val_main_v5_apply, val_main_v2_apply, val_main_v1_apply, val_main_v0_apply,
    val_main_cst_apply, val_main_cst_0_apply, val_main_cst_1_apply, meanSquare, rowOf]
  exact congrArg (fun s => Ideal.div s _ + _) (Finset.sum_congr rfl fun e _ => congrArg₂ (· * ·) (same2 x0 _ r e rfl rfl) (same2 x0 _ r e rfl rfl))
theorem reference_gain (i : S1x1024.Idx) : val_main_v14 (F := Ideal) x0 x2 i = gainGradient x0 x2 i := by
  obtain ⟨r, e, rfl⟩ : ∃ (r : Fin 1) (e : Fin 1024), i = ix2 r e := ⟨i 0, i 1, eq_ix2 i⟩
  pointwise [val_main_v14_apply, val_main_v13_apply, val_main_v12_apply, val_main_v9_apply, val_main_v8_apply, val_main_v7_apply,
    val_main_cst_2_apply, gainGradient, gainTerm]
  have h0 : ∀ k, idx_main_v13 (idx_main_v14 (ix2 r e)) k = ix2 k e := fun k => at2 _ _ _ rfl (by simp [idx_main_v13, idx_main_v14])
  have h1 : ∀ k, idx_main_v8 (ix2 k e) = ix2 k 0 := fun k => at2 _ _ _ rfl rfl
  simp only [h0, h1, mean_square_at]
  rfl
end

/-! ## The claims -/

/-- The kernel and its idealisation are the same program, so one run is both programs' frame. -/
theorem same_body : @Cert.Kernel38.cc0_rms_mem_bwd Bits _ _ = @Cert.Kernel38Ideal.cc0_rms_mem_bwd Bits _ _ := rfl
theorem same_table : Cert.Kernel38.defs₀ (F := Bits) = Cert.Kernel38Ideal.defs₀ (F := Bits) :=
  congrArg _ (funext fun a => match a with | 0 => funext fun ⟨_, _⟩ => rfl)
theorem same_program : Cert.Kernel38.defs (F := Bits) = Cert.Kernel38Ideal.defs (F := Bits) := congrArg (Pipeline.defs _) same_table
theorem frame_kernel : Cert.quiescent_Kernel38 := fun m g _ => by
  rw [same_program]
  exact Cert.Kernel38Ideal.Gen.frame (F := Bits) m g
theorem preserves : Cert.preserves_Kernel38_Kernel38Ideal := trivial
theorem frame_ideal : Cert.quiescent_Kernel38Ideal := fun m g _ => Cert.Kernel38Ideal.Gen.frame m g
theorem frame_reference : Cert.quiescent_Reference38Ideal := fun m g _ =>
  (θ_run Cert.Reference38Ideal.defs _ _).mono (fun r h => ⟨fun c => (h c).2, sem_eq_zero_of_no_sems (by decide) r.2⟩)
    (Cert.Reference38Ideal.Value.run (F := Ideal) m g)

theorem values : Cert.algebraic_Kernel38Ideal_Reference38Ideal := by
  intro m g m' g' _ hm
  refine ⟨fun c => total m c, ?_, ?_⟩
  · exact (θ_run Cert.Kernel38Ideal.defs _ _).mono
      (fun r h c => ⟨((h.1 c).1 3).trans (total_array m c), h.2 c⟩) (θ_run_and (run_main m g) (unchanged m g))
  · refine (θ_run Cert.Reference38Ideal.defs _ _).mono (fun r h c => ⟨?_, (h c).2⟩) (Cert.Reference38Ideal.Value.run (F := Ideal) m' g')
    obtain ⟨e0, e1, e2⟩ := hm c
    refine (h c).1.trans ((Cert.Reference38Ideal.Read.val_main_v14_eq ..).trans ?_)
    rw [e0, e2]
    exact funext fun i => reference_gain _ _ i

end Cert.MemNormDx
-- ==== Proof.LayerNormDx.lean ====
module

public import proofs.«01_k».proof.Defs
public import proofs.«01_k».proof.Proof.Norms
public import proofs.«01_k».proof.Proof.Gen.Kernel39
public import proofs.«01_k».proof.Proof.Gen.Kernel39Ideal.Frame
public import proofs.«01_k».proof.Proof.Gen.Reference39Ideal.Run
public import proofs.«01_k».proof.Proof.Gen.Reference39Ideal.Read

/-! The gradient of the convolution branch's norm, which centres its rows, and of the activation `p · logistic p` after it: one block of 256 rows at a
    point, the gradients of the gain and of the offset summed from point to point. -/

@[expose] public section

noncomputable section

namespace Cert.LayerNormDx

open Idealize.ShloMosaic Idealize.ShloMosaic.TcCoe Idealize.SL.Sem Cert.Kernel39Ideal Cert.Kernel39Ideal.Gen Cert.Products Cert.Norms

/-! ## A row -/

/-- The row less its mean. -/
def centred (v : Fin 1024 → EReal) (e : Fin 1024) : EReal := v e - Ideal.div (∑ k, v k) (Ideal.ofBits .f32 0x44800000#32)

/-- What the activation at `p` passes down of `d`. -/
def passed (p d : EReal) : EReal := d * Ideal.logistic p + p * d * (Ideal.logistic p * (1 - Ideal.logistic p))

/-- The gradient of a row whose centred gradient is `w`. -/
def centredGradient (v w : Fin 1024 → EReal) (e : Fin 1024) : EReal := rowGradient (centred v) w e
  + Ideal.div (∑ k, -rowGradient (centred v) w k) (Ideal.ofBits .f32 0x44800000#32)

section
variable {n : ℕ} (x d : (⟨2, ![n, 1024]⟩ : Shape).Idx → EReal) (g b : (⟨2, ![1, 1024]⟩ : Shape).Idx → EReal)

/-- The centred rows; what the activation reads; what it passes to the norm. -/
def centredRows : (⟨2, ![n, 1024]⟩ : Shape).Idx → EReal := fun i => centred (rowOf x (i 0)) (i 1)
def read (r : Fin n) (e : Fin 1024) : EReal := centred (rowOf x r) e * Ideal.rsqrt (meanSquare (centred (rowOf x r))) * g (ix2 0 e) + b (ix2 0 e)
def slopes : (⟨2, ![n, 1024]⟩ : Shape).Idx → EReal := fun i => passed (read x g b (i 0) (i 1)) (d i)

/-- The gradients of the rows and of the offset. -/
def centredRowsGradient : (⟨2, ![n, 1024]⟩ : Shape).Idx → EReal := fun i => centredGradient (rowOf x (i 0)) (scaled (slopes x d g b) g (i 0)) (i 1)
def offsetGradient : (⟨2, ![1, 1024]⟩ : Shape).Idx → EReal := fun i => ∑ r, slopes x d g b (ix2 r (i 1))
end

/-! ## One point -/

section
variable (x d : Vec Ideal S256x1024 .f32) (g b : Vec Ideal S1x1024 .f32)

theorem block_centred (r : Fin 256) (e : Fin 1024) : k0_pay1 (F := Ideal) x (ix2 r e) = centred (rowOf x r) e := by
  pointwise [k0_pay1, centred, rowOf]
theorem mean_square (r : Fin 256) (k : Fin 1) : k0_pay2 (F := Ideal) x (ix2 r k) = meanSquare (centred (rowOf x r)) := by
  pointwise [k0_pay2, block_centred, meanSquare]
theorem block_slopes (r : Fin 256) (e : Fin 1024) : k0_pay6 (F := Ideal) x g b d (ix2 r e) = slopes x d g b (ix2 r e) := by
  pointwise [k0_pay6, k0_pay5, k0_pay3, block_centred, mean_square, slopes, read, passed]
theorem block_scaled (r : Fin 256) (e : Fin 1024) : k0_pay9 (F := Ideal) x g b d (ix2 r e) = scaled (slopes x d g b) g r e := by
  pointwise [k0_pay9, block_slopes, scaled]

theorem block_rows : k0_pay10 (F := Ideal) (k0_pay1 x) (k0_pay3 x) (k0_pay4 x) (k0_pay9 x g b d) = centredRowsGradient x d g b := by
  funext i
  obtain ⟨r, e, rfl⟩ : ∃ (r : Fin 256) (e : Fin 1024), i = ix2 r e := ⟨i 0, i 1, eq_ix2 i⟩
  pointwise [k0_pay10, k0_pay3, k0_pay4, block_centred, mean_square, block_scaled, one_term, centredRowsGradient, centredGradient, rowGradient, meanPart]
  simp only [zero_sub]

theorem block_gain (p : Vec Ideal S1x1024 .f32) (i : S1x1024.Idx) :
    k0_pay12 (F := Ideal) (k0_pay8 x g b d) p i = p i + gainGradient (centredRows x) (slopes x d g b) i := by
  obtain ⟨r, e, rfl⟩ : ∃ (r : Fin 1) (e : Fin 1024), i = ix2 r e := ⟨i 0, i 1, eq_ix2 i⟩
  pointwise [k0_pay12, k0_pay8, k0_pay5, k0_pay3, block_centred, mean_square, block_slopes, gainGradient, gainTerm]
  rfl

theorem block_offset (p : Vec Ideal S1x1024 .f32) (i : S1x1024.Idx) :
    k0_pay14 (F := Ideal) (k0_pay7 x g b d) p i = p i + offsetGradient x d g b i := by
  obtain ⟨r, e, rfl⟩ : ∃ (r : Fin 1) (e : Fin 1024), i = ix2 r e := ⟨i 0, i 1, eq_ix2 i⟩
  pointwise [k0_pay14, k0_pay7, block_slopes, offsetGradient]
end

section
variable (m : (ℓ : Loc nD τ sig) → Buf (Elt Ideal) ℓ) (c : Dev nD) (t : Fin cfg0.N)

theorem rows_written : (outsAt0 m c t.val t.isLt).1 = centredRowsGradient (n := 256) (iblk m c 0 t) (iblk m c 3 t) (iblk m c 1 t) (iblk m c 2 t) := by
  rcases eq_or_ne (t.val % 8) 0 with h | h
  · rw [outsAt0_A m c t h h]
    dsimp only
    unfold out0_A_4; rw [View.read_writes_eq_canon _ _ _ fun y => cover0_A_4 (y := y) ..]
    unfold kernelRun0_A
    dsimp only
    sl_unfold_words
    rw [stored2, load2 (hs0_0 t), load2 (hs0_1 t), load2 (hs0_2 t), load2 (hs0_3 t)]
    exact block_rows _ _ _ _
  · rw [outsAt0_B m c t h h]
    dsimp only
    unfold out0_B_4; rw [View.read_writes_eq_canon _ _ _ fun y => cover0_B_4 (y := y) ..]
    unfold kernelRun0_B
    dsimp only
    sl_unfold_words
    rw [stored2, load2 (hs0_0 t), load2 (hs0_1 t), load2 (hs0_2 t), load2 (hs0_3 t)]
    exact block_rows _ _ _ _

/-- What a block adds to the gain's gradient. -/
def blockGain (i : S1x1024.Idx) : EReal := gainGradient (n := 256) (centredRows (n := 256) (iblk m c 0 t)) (slopes (n := 256) (iblk m c 0 t) (iblk m c 3 t) (iblk m c 1 t) (iblk m c 2 t)) i

theorem gain_first (h : t.val % 8 = 0) (i : S1x1024.Idx) : (outsAt0 m c t.val t.isLt).2.1 i = blockGain m c t i := by
  rw [outsAt0_A m c t h h]
  dsimp only
  unfold out0_A_5; rw [View.read_writes_eq_canon _ _ _ fun y => cover0_A_5 (y := y) ..]
  unfold kernelRun0_A
  dsimp only
  rw [View.canon_cons_unit_zero (S := S1x1024) origin2]
  sl_unfold_words
  rw [View.readCov_unit_zero (S := S1x1024) _ origin2, load2 (hs0_0 t), load2 (hs0_1 t), load2 (hs0_2 t), load2 (hs0_3 t)]
  refine (block_gain _ _ _ _ _ i).trans ?_
  pointwise [k0_pay11, blockGain]

theorem gain_next (h : ¬t.val % 8 = 0) (i : S1x1024.Idx) : (outsAt0 m c t.val t.isLt).2.1 i =
    (outsAt0 m c (t.val - 1) (Nat.lt_of_le_of_lt (Nat.sub_le _ _) t.isLt)).2.1 i + blockGain m c t i := by
  rw [outsAt0_B m c t h h]
  dsimp only
  unfold out0_B_5; rw [View.read_writes_eq_canon _ _ _ fun y => cover0_B_5 (y := y) ..]
  unfold kernelRun0_B
  dsimp only
  sl_unfold_words
  rw [stored2, load2 (hs0_0 t), load2 (hs0_1 t), load2 (hs0_2 t), load2 (hs0_3 t), load2 (hs0_5 t)]
  exact block_gain _ _ _ _ _ i

/-- What a block adds to the offset's gradient. -/
def blockOffset (i : S1x1024.Idx) : EReal := offsetGradient (n := 256) (iblk m c 0 t) (iblk m c 3 t) (iblk m c 1 t) (iblk m c 2 t) i

theorem offset_first (h : t.val % 8 = 0) (i : S1x1024.Idx) : (outsAt0 m c t.val t.isLt).2.2 i = blockOffset m c t i := by
  rw [outsAt0_A m c t h h]
  dsimp only
  unfold out0_A_6; rw [View.read_writes_eq_canon _ _ _ fun y => cover0_A_6 (y := y) ..]
  unfold kernelRun0_A
  dsimp only
  rw [View.canon_cons_unit_zero (S := S1x1024) origin2]
  sl_unfold_words
  rw [View.readCov_unit_zero (S := S1x1024) _ origin2, load2 (hs0_0 t), load2 (hs0_1 t), load2 (hs0_2 t), load2 (hs0_3 t)]
  refine (block_offset _ _ _ _ _ i).trans ?_
  pointwise [k0_pay13, blockOffset]

theorem offset_next (h : ¬t.val % 8 = 0) (i : S1x1024.Idx) : (outsAt0 m c t.val t.isLt).2.2 i =
    (outsAt0 m c (t.val - 1) (Nat.lt_of_le_of_lt (Nat.sub_le _ _) t.isLt)).2.2 i + blockOffset m c t i := by
  rw [outsAt0_B m c t h h]
  dsimp only
  unfold out0_B_6; rw [View.read_writes_eq_canon _ _ _ fun y => cover0_B_6 (y := y) ..]
  unfold kernelRun0_B
  dsimp only
  sl_unfold_words
  rw [stored2, load2 (hs0_0 t), load2 (hs0_1 t), load2 (hs0_2 t), load2 (hs0_3 t), load2 (hs0_6 t)]
  exact block_offset _ _ _ _ _ i
end

/-! ## The arrays -/

theorem points : cfg0.N = 8 := by decide
def point (b : Fin 8) : Fin cfg0.N := ⟨b.val, by have := points; omega⟩

theorem x_index : ∀ b : Fin 8, win0_0.index (point b) = ![b.val, 0] := by decide +kernel
theorem gain_index : ∀ b : Fin 8, win0_1.index (point b) = ![0, 0] := by decide +kernel
theorem offset_index : ∀ b : Fin 8, win0_2.index (point b) = ![0, 0] := by decide +kernel
theorem d_index : ∀ b : Fin 8, win0_3.index (point b) = ![b.val, 0] := by decide +kernel
theorem rows_index : ∀ b : Fin 8, win0_4.index (point b) = ![b.val, 0] := by decide +kernel
theorem total_index : ∀ b : Fin 8, win0_5.index (point b) = ![0, 0] := by decide +kernel
theorem sum_index : ∀ b : Fin 8, win0_6.index (point b) = ![0, 0] := by decide +kernel

section
variable (m : (ℓ : Loc nD τ sig) → Buf (Elt Ideal) ℓ) (c : Dev nD)

/-- The arguments: the rows, the gain, the offset, the gradient given. -/
def xs : S2048x1024.Idx → EReal := m (c.tc.loc main_arg0)
def gain : S1x1024.Idx → EReal := m (c.tc.loc main_arg1)
def offset : S1x1024.Idx → EReal := m (c.tc.loc main_arg2)
def ds : S2048x1024.Idx → EReal := m (c.tc.loc main_arg3)

theorem x_at (b : Fin 8) (r : Fin 256) (e : Fin 1024) : iblk m c 0 (point b) (ix2 r e) = xs m c (ix2 (rowIn b r) e) :=
  same2 (xs m c) _ _ _ (place (congrFun (x_index b) 0)) (place0 (congrFun (x_index b) 1))
theorem gain_at (b : Fin 8) (k : Fin 1) (e : Fin 1024) : iblk m c 1 (point b) (ix2 k e) = gain m c (ix2 k e) :=
  same2 (gain m c) _ _ _ (place0 (congrFun (gain_index b) 0)) (place0 (congrFun (gain_index b) 1))
theorem offset_at (b : Fin 8) (k : Fin 1) (e : Fin 1024) : iblk m c 2 (point b) (ix2 k e) = offset m c (ix2 k e) :=
  same2 (offset m c) _ _ _ (place0 (congrFun (offset_index b) 0)) (place0 (congrFun (offset_index b) 1))
theorem d_at (b : Fin 8) (r : Fin 256) (e : Fin 1024) : iblk m c 3 (point b) (ix2 r e) = ds m c (ix2 (rowIn b r) e) :=
  same2 (ds m c) _ _ _ (place (congrFun (d_index b) 0)) (place0 (congrFun (d_index b) 1))

theorem row_at (b : Fin 8) (r : Fin 256) : rowOf (n := 256) (iblk m c 0 (point b)) r = rowOf (xs m c) (rowIn b r) := funext fun e => x_at m c b r e
theorem slopes_at (b : Fin 8) (r : Fin 256) (e : Fin 1024) :
    slopes (n := 256) (iblk m c 0 (point b)) (iblk m c 3 (point b)) (iblk m c 1 (point b)) (iblk m c 2 (point b)) (ix2 r e)
      = slopes (xs m c) (ds m c) (gain m c) (offset m c) (ix2 (rowIn b r) e) := by
  show passed (read (n := 256) (iblk m c 0 (point b)) (iblk m c 1 (point b)) (iblk m c 2 (point b)) r e) (iblk m c 3 (point b) (ix2 r e))
    = passed (read (xs m c) (gain m c) (offset m c) (rowIn b r) e) (ds m c (ix2 (rowIn b r) e))
  unfold read
  rw [row_at, gain_at, offset_at, d_at]

/-- The three results: the gradients of the rows, of the gain and of the offset. -/
abbrev rows : S2048x1024.Idx → EReal := centredRowsGradient (xs m c) (ds m c) (gain m c) (offset m c)
abbrev total : S1x1024.Idx → EReal := gainGradient (centredRows (xs m c)) (slopes (xs m c) (ds m c) (gain m c) (offset m c))
abbrev sum : S1x1024.Idx → EReal := offsetGradient (xs m c) (ds m c) (gain m c) (offset m c)

theorem point_of (t : Fin cfg0.N) : ∃ b : Fin 8, t = point b := ⟨⟨t.val, by have := t.isLt; have := points; omega⟩, rfl⟩

theorem rows_at (b : Fin 8) (r : Fin 256) (e : Fin 1024) :
    (outsAt0 m c (point b).val (point b).isLt).1 (ix2 r e) = rows m c (ix2 (rowIn b r) e) :=
  (congrFun (rows_written m c (point b)) _).trans (congrArg₂ (fun v w => centredGradient v w e) (row_at m c b r)
    (funext fun k => congrArg₂ (fun x y : EReal => x * y) (slopes_at m c b r k) (gain_at m c b 0 k)))

/-- What the gain's gradient takes of row `j`, and what the offset's does. -/
def term (e : Fin 1024) (j : Fin 2048) : EReal :=
  gainTerm (centred (rowOf (xs m c) j)) e (slopes (xs m c) (ds m c) (gain m c) (offset m c) (ix2 j e))
def plain (e : Fin 1024) (j : Fin 2048) : EReal := slopes (xs m c) (ds m c) (gain m c) (offset m c) (ix2 j e)
theorem gain_part (b : Fin 8) (i : S1x1024.Idx) : blockGain m c (point b) i = ∑ r, term m c (i 1) (rowIn b r) := by
  unfold blockGain
  exact Finset.sum_congr rfl fun r _ => congrArg₂ (fun v d => gainTerm (centred v) (i 1) d) (row_at m c b r) (slopes_at m c b r (i 1))
theorem offset_part (b : Fin 8) (i : S1x1024.Idx) : blockOffset m c (point b) i = ∑ r, plain m c (i 1) (rowIn b r) := by
  unfold blockOffset
  exact Finset.sum_congr rfl fun r _ => slopes_at m c b r (i 1)
theorem total_at (i : S1x1024.Idx) : (outsAt0 m c (point 7).val (point 7).isLt).2.1 i = total m c i :=
  eight_blocks (term m c (i 1)) (fun b => (outsAt0 m c (point b).val (point b).isLt).2.1 i)
    ((gain_first m c (point 0) rfl i).trans (gain_part m c 0 i))
    (fun b => (gain_next m c (point b.succ) (by show ¬(b.val + 1) % 8 = 0; omega) i).trans (congrArg (fun y : EReal => _ + y) (gain_part m c b.succ i)))
theorem sum_at (i : S1x1024.Idx) : (outsAt0 m c (point 7).val (point 7).isLt).2.2 i = sum m c i :=
  eight_blocks (plain m c (i 1)) (fun b => (outsAt0 m c (point b).val (point b).isLt).2.2 i)
    ((offset_first m c (point 0) rfl i).trans (offset_part m c 0 i))
    (fun b => (offset_next m c (point b.succ) (by show ¬(b.val + 1) % 8 = 0; omega) i).trans (congrArg (fun y : EReal => _ + y) (offset_part m c b.succ i)))

theorem rows_covered (i : S2048x1024.Idx) : ∃ t : Fin cfg0.N, (cfg0.win 4).flush t = true ∧ i ∈ ((cfg0.win 4).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_4 _, ?_⟩
  show i ∈ ((View.whole main_v0_0).slice (win0_4.rect (point b))).set
  rw [View.set_slice_whole, Rect.mem_set_unit]
  exact fun d => match d with
  | ⟨0, _⟩ => within (i 0) (congrFun (rows_index b) 0) hb (by show 0 < 256; decide)
  | ⟨1, _⟩ => within (i 1) (congrFun (rows_index b) 1) (by show 0 = (i 1 : ℕ) / 1024; omega) (by show 0 < 1024; decide)

theorem total_covered (i : S1x1024.Idx) : ∃ t : Fin cfg0.N, (cfg0.win 5).flush t = true ∧ i ∈ ((cfg0.win 5).blk t).view.set := by
  have h0 : (i 0 : ℕ) < 1 := (i 0).isLt
  have h1 : (i 1 : ℕ) < 1024 := (i 1).isLt
  refine ⟨point 7, (flush0_5 _).mpr rfl, ?_⟩
  show i ∈ ((View.whole main_v0_1).slice (win0_5.rect (point 7))).set
  rw [View.set_slice_whole, Rect.mem_set_unit]
  exact fun d => match d with
  | ⟨0, _⟩ => within (i 0) (congrFun (total_index 7) 0) (by show 0 = (i 0 : ℕ) / 1; omega) (by show 0 < 1; decide)
  | ⟨1, _⟩ => within (i 1) (congrFun (total_index 7) 1) (by show 0 = (i 1 : ℕ) / 1024; omega) (by show 0 < 1024; decide)

theorem sum_covered (i : S1x1024.Idx) : ∃ t : Fin cfg0.N, (cfg0.win 6).flush t = true ∧ i ∈ ((cfg0.win 6).blk t).view.set := by
  have h0 : (i 0 : ℕ) < 1 := (i 0).isLt
  have h1 : (i 1 : ℕ) < 1024 := (i 1).isLt
  refine ⟨point 7, (flush0_6 _).mpr rfl, ?_⟩
  show i ∈ ((View.whole main_v0_2).slice (win0_6.rect (point 7))).set
  rw [View.set_slice_whole, Rect.mem_set_unit]
  exact fun d => match d with
  | ⟨0, _⟩ => within (i 0) (congrFun (sum_index 7) 0) (by show 0 = (i 0 : ℕ) / 1; omega) (by show 0 < 1; decide)
  | ⟨1, _⟩ => within (i 1) (congrFun (sum_index 7) 1) (by show 0 = (i 1 : ℕ) / 1024; omega) (by show 0 < 1024; decide)

theorem rows_array : (dats m 0 c).arrAt 4 cfg0.N = rows m c := by
  refine (dats m 0 c).arrAt_eq_of_cover 4 (rows m c) (fun t _ => ?_) rows_covered
  obtain ⟨b, rfl⟩ := point_of t
  show (cfg0.win 4).cut (grid0.coords _) ((dats m 0 c).after 4 _) = _
  rw [after0_4]
  funext y
  obtain ⟨r, e, rfl⟩ : ∃ (r : Fin 256) (e : Fin 1024), y = ix2 r e := ⟨y 0, y 1, eq_ix2 y⟩
  exact (rows_at m c b r e).trans (same2 (rows m c) _ _ _ (place (congrFun (rows_index b) 0)) (place0 (congrFun (rows_index b) 1))).symm

theorem total_array : (dats m 0 c).arrAt 5 cfg0.N = total m c := by
  refine (dats m 0 c).arrAt_eq_of_cover 5 (total m c) (fun t ht => ?_) total_covered
  obtain rfl : t = point 7 := Fin.ext (by have := (flush0_5 t).mp ht; have := t.isLt; have := points; show t.val = 7; omega)
  show (cfg0.win 5).cut (grid0.coords _) ((dats m 0 c).after 5 _) = _
  rw [after0_5]
  funext y
  obtain ⟨r, e, rfl⟩ : ∃ (r : Fin 1) (e : Fin 1024), y = ix2 r e := ⟨y 0, y 1, eq_ix2 y⟩
  exact (total_at m c (ix2 r e)).trans (same2 (total m c) _ _ _ (place0 (congrFun (total_index 7) 0)) (place0 (congrFun (total_index 7) 1))).symm
theorem sum_array : (dats m 0 c).arrAt 6 cfg0.N = sum m c := by
  refine (dats m 0 c).arrAt_eq_of_cover 6 (sum m c) (fun t ht => ?_) sum_covered
  obtain rfl : t = point 7 := Fin.ext (by have := (flush0_6 t).mp ht; have := t.isLt; have := points; show t.val = 7; omega)
  show (cfg0.win 6).cut (grid0.coords _) ((dats m 0 c).after 6 _) = _
  rw [after0_6]
  funext y
  obtain ⟨r, e, rfl⟩ : ∃ (r : Fin 1) (e : Fin 1024), y = ix2 r e := ⟨y 0, y 1, eq_ix2 y⟩
  exact (sum_at m c (ix2 r e)).trans (same2 (sum m c) _ _ _ (place0 (congrFun (sum_index 7) 0)) (place0 (congrFun (sum_index 7) 1))).symm
end

/-! ## The reference -/

section
open Cert.Reference39Ideal.Read
variable (x0 x3 : S2048x1024.Idx → EReal) (x1 x2 : S1x1024.Idx → EReal)

theorem centred_at (r : Fin 2048) (e : Fin 1024) : val_main_v5 (F := Ideal) x0 (ix2 r e) = centred (rowOf x0 r) e := by
  pointwise [val_main_v5_apply, val_main_v4_apply, val_main_v3_apply, val_main_v2_apply, val_main_v1_apply, val_main_v0_apply,
    val_main_cst_apply, val_main_cst_0_apply, centred]
  exact congrArg (fun s => x0 (ix2 r e) - Ideal.div s _) (Finset.sum_congr rfl fun k _ => same2 x0 _ r k rfl rfl)
theorem mean_square_at (r : Fin 2048) (k : Fin 1) : val_main_v12 (F := Ideal) x0 (ix2 r k) = meanSquare (centred (rowOf x0 r)) := by
  pointwise [val_main_v12_apply, val_main_v11_apply, val_main_v10_apply, val_main_v9_apply, val_main_v8_apply, val_main_v7_apply, val_main_v6_apply,
    val_main_cst_1_apply, val_main_cst_2_apply, val_main_cst_3_apply, meanSquare]
  have h : ∀ e, idx_main_v7 (idx_main_v8 (ix2 r k)) e = ix2 r e := fun e => at2 _ _ _ (by simp [idx_main_v7, idx_main_v8]) rfl
  simp only [h, centred_at]
theorem normal_at (r : Fin 2048) (e : Fin 1024) :
    val_main_v18 (F := Ideal) x0 (ix2 r e) = centred (rowOf x0 r) e * Ideal.rsqrt (meanSquare (centred (rowOf x0 r))) := by
  pointwise [val_main_v18_apply, val_main_v17_apply, val_main_v13_apply, centred_at]
  have h : idx_main_v17 (ix2 r e) = ix2 r 0 := at2 _ _ _ rfl rfl
  rw [h, mean_square_at]
theorem read_at (r : Fin 2048) (e : Fin 1024) : val_main_v22 (F := Ideal) x0 x1 x2 (ix2 r e) = read x0 x1 x2 r e := by
  pointwise [val_main_v22_apply, val_main_v21_apply, val_main_v20_apply, val_main_v19_apply, normal_at, read]
  have h0 : idx_main_v19 (ix2 r e) = ix2 0 e := at2 _ _ _ rfl rfl
  have h1 : idx_main_v21 (ix2 r e) = ix2 0 e := at2 _ _ _ rfl rfl
  rw [h0, h1]
theorem slopes_reference (r : Fin 2048) (e : Fin 1024) : val_main_v24 (F := Ideal) x0 x1 x2 x3 (ix2 r e) = slopes x0 x3 x1 x2 (ix2 r e) := by
  pointwise [val_main_v24_apply, val_main_call1_v2_apply, val_main_call1_v1_apply, val_main_call1_v0_apply, val_main_v23_1_apply, val_main_v23_2_apply,
    val_main_call0_v7_apply, val_main_call0_v6_apply, val_main_call0_v4_apply, val_main_call0_v3_apply, val_main_call0_v2_apply,
    val_main_call0_v1_apply, val_main_call0_v0_apply, val_main_call0_cst_apply, val_main_call0_cst_0_apply, val_main_call0_cst_1_apply, read_at,
    slopes, passed]
  rfl
theorem scaled_at (r : Fin 2048) (e : Fin 1024) : val_main_v31 (F := Ideal) x0 x1 x2 x3 (ix2 r e) = scaled (slopes x0 x3 x1 x2) x1 r e := by
  pointwise [val_main_v31_apply, val_main_v30_apply, slopes_reference, scaled]
  have h : idx_main_v30 (ix2 r e) = ix2 0 e := at2 _ _ _ rfl rfl
  rw [h]
theorem meanPart_at (r : Fin 2048) (e : Fin 1024) :
    val_main_v41 (F := Ideal) x0 x1 x2 x3 (ix2 r e) = meanPart (centred (rowOf x0 r)) (scaled (slopes x0 x3 x1 x2) x1 r) := by
  pointwise [val_main_v41_apply, val_main_v40_apply, val_main_v39_apply, val_main_v38_apply, val_main_v37_apply, val_main_v34_apply,
    val_main_v33_apply, val_main_v32_apply, val_main_v16_apply, val_main_v15_apply, val_main_v14_apply,
    val_main_v13_apply, val_main_cst_4_apply, val_main_cst_7_apply, val_main_cst_8_apply, val_main_cst_9_apply, one_term]
  have h0 : idx_main_v40 (idx_main_v41 (ix2 r e)) 0 = ix2 r 0 := at2 _ _ _ rfl rfl
  have h1 : ∀ k, idx_main_v33 (idx_main_v34 (ix2 r 0)) k = ix2 r k := fun k => at2 _ _ _ (by simp [idx_main_v33, idx_main_v34]) rfl
  simp only [h0, h1, mean_square_at, scaled_at, centred_at]
  rfl
theorem inner_at (r : Fin 2048) (e : Fin 1024) :
    val_main_v45 (F := Ideal) x0 x1 x2 x3 (ix2 r e) = rowGradient (centred (rowOf x0 r)) (scaled (slopes x0 x3 x1 x2) x1 r) e := by
  pointwise [val_main_v45_apply, val_main_v44_apply, val_main_v43_apply, val_main_v42_apply, val_main_v36_apply,
    val_main_v35_apply, val_main_v13_apply, meanPart_at, scaled_at, centred_at, rowGradient]
  have h0 : idx_main_v35 (ix2 r e) = ix2 r 0 := at2 _ _ _ rfl rfl
  rw [h0, mean_square_at]
theorem reference_rows (i : S2048x1024.Idx) : val_main_v53 (F := Ideal) x0 x1 x2 x3 i = centredRowsGradient x0 x3 x1 x2 i := by
  obtain ⟨r, e, rfl⟩ : ∃ (r : Fin 2048) (e : Fin 1024), i = ix2 r e := ⟨i 0, i 1, eq_ix2 i⟩
  pointwise [val_main_v53_apply, val_main_v52_apply, val_main_v51_apply, val_main_v50_apply, val_main_v49_apply, val_main_v48_apply,
    val_main_v47_apply, val_main_v46_apply, val_main_cst_10_apply, val_main_cst_11_apply, val_main_cst_12_apply, one_term, inner_at]
  have h0 : idx_main_v51 (idx_main_v52 (ix2 r e)) 0 = ix2 r 0 := at2 _ _ _ rfl rfl
  have h1 : ∀ k, idx_main_v47 (idx_main_v48 (ix2 r 0)) k = ix2 r k := fun k => at2 _ _ _ (by simp [idx_main_v47, idx_main_v48]) rfl
  simp only [h0, h1, inner_at]
  rfl
theorem reference_gain (i : S1x1024.Idx) : val_main_v29 (F := Ideal) x0 x1 x2 x3 i = gainGradient (centredRows x0) (slopes x0 x3 x1 x2) i := by
  obtain ⟨r, e, rfl⟩ : ∃ (r : Fin 1) (e : Fin 1024), i = ix2 r e := ⟨i 0, i 1, eq_ix2 i⟩
  pointwise [val_main_v29_apply, val_main_v28_apply, val_main_v27_apply, val_main_cst_6_apply, gainGradient, gainTerm]
  have h0 : ∀ k, idx_main_v28 (idx_main_v29 (ix2 r e)) k = ix2 k e := fun k => at2 _ _ _ rfl (by simp [idx_main_v28, idx_main_v29])
  simp only [h0, normal_at, slopes_reference]
  rfl
theorem reference_offset (i : S1x1024.Idx) : val_main_v26 (F := Ideal) x0 x1 x2 x3 i = offsetGradient x0 x3 x1 x2 i := by
  obtain ⟨r, e, rfl⟩ : ∃ (r : Fin 1) (e : Fin 1024), i = ix2 r e := ⟨i 0, i 1, eq_ix2 i⟩
  pointwise [val_main_v26_apply, val_main_v25_apply, val_main_cst_5_apply, offsetGradient]
  have h0 : ∀ k, idx_main_v25 (idx_main_v26 (ix2 r e)) k = ix2 k e := fun k => at2 _ _ _ rfl (by simp [idx_main_v25, idx_main_v26])
  simp only [h0, slopes_reference]
end

/-! ## The claims -/

/-- The kernel and its idealisation are the same program, so one run is both programs' frame. -/
theorem same_body : @Cert.Kernel39.cc0_ln_silu_bwd Bits _ _ = @Cert.Kernel39Ideal.cc0_ln_silu_bwd Bits _ _ := rfl
theorem same_table : Cert.Kernel39.defs₀ (F := Bits) = Cert.Kernel39Ideal.defs₀ (F := Bits) :=
  congrArg _ (funext fun a => match a with | 0 => funext fun ⟨_, _⟩ => rfl)
theorem same_program : Cert.Kernel39.defs (F := Bits) = Cert.Kernel39Ideal.defs (F := Bits) := congrArg (Pipeline.defs _) same_table
theorem frame_kernel : Cert.quiescent_Kernel39 := fun m g _ => by
  rw [same_program]
  exact Cert.Kernel39Ideal.Gen.frame (F := Bits) m g
theorem preserves : Cert.preserves_Kernel39_Kernel39Ideal := trivial
theorem frame_ideal : Cert.quiescent_Kernel39Ideal := fun m g _ => Cert.Kernel39Ideal.Gen.frame m g
theorem frame_reference : Cert.quiescent_Reference39Ideal := fun m g _ =>
  (θ_run Cert.Reference39Ideal.defs _ _).mono (fun r h => ⟨fun c => (h c).2.2.2, sem_eq_zero_of_no_sems (by decide) r.2⟩)
    (Cert.Reference39Ideal.Value.run (F := Ideal) m g)

theorem values : Cert.algebraic_Kernel39Ideal_Reference39Ideal := by
  intro m g m' g' _ hm
  refine ⟨fun c => rows m c, fun c => total m c, fun c => sum m c, ?_, ?_⟩
  · exact (θ_run Cert.Kernel39Ideal.defs _ _).mono
      (fun r h c => ⟨((h.1 c).1 4).trans (rows_array m c), ((h.1 c).1 5).trans (total_array m c), ((h.1 c).1 6).trans (sum_array m c), h.2 c⟩)
      (θ_run_and (run_main m g) (unchanged m g))
  · refine (θ_run Cert.Reference39Ideal.defs _ _).mono (fun r h c => ⟨?_, ?_, ?_, (h c).2.2.2⟩) (Cert.Reference39Ideal.Value.run (F := Ideal) m' g')
    · obtain ⟨e0, e1, e2, e3⟩ := hm c
      refine (h c).1.trans ((Cert.Reference39Ideal.Read.val_main_v53_eq ..).trans ?_)
      rw [e0, e1, e2, e3]
      exact funext fun i => reference_rows _ _ _ _ i
    · obtain ⟨e0, e1, e2, e3⟩ := hm c
      refine (h c).2.1.trans ((Cert.Reference39Ideal.Read.val_main_v29_eq ..).trans ?_)
      rw [e0, e1, e2, e3]
      exact funext fun i => reference_gain _ _ _ _ i
    · obtain ⟨e0, e1, e2, e3⟩ := hm c
      refine (h c).2.2.1.trans ((Cert.Reference39Ideal.Read.val_main_v26_eq ..).trans ?_)
      rw [e0, e1, e2, e3]
      exact funext fun i => reference_offset _ _ _ _ i

end Cert.LayerNormDx
-- ==== Proof.LossHead.lean ====
module

public import proofs.«01_k».proof.Defs
public import proofs.«01_k».proof.Proof.Norms
public import proofs.«01_k».proof.Proof.Gen.Kernel40
public import proofs.«01_k».proof.Proof.Gen.Kernel40Ideal.Frame
public import proofs.«01_k».proof.Proof.Gen.Reference40Ideal.Run
public import proofs.«01_k».proof.Proof.Gen.Reference40Ideal.Read

/-! The loss and its gradient: half the sum, over the rows, of the mean square of a row's error, through the last norm. -/

@[expose] public section

noncomputable section

namespace Cert.LossHead

open Idealize.ShloMosaic Idealize.ShloMosaic.TcCoe Idealize.SL.Sem Cert.Kernel40Ideal Cert.Kernel40Ideal.Gen Cert.Products Cert.Norms

/-! ## The errors -/

section
variable {n : ℕ} (x y : (⟨2, ![n, 1024]⟩ : Shape).Idx → EReal) (g : (⟨2, ![1, 1024]⟩ : Shape).Idx → EReal)

/-- The normalised row less its target. -/
def err (r : Fin n) (e : Fin 1024) : EReal := x (ix2 r e) * Ideal.rsqrt (meanSquare (rowOf x r)) * g (ix2 0 e) - y (ix2 r e)

/-- The gradient of the loss in the normalised rows. -/
def slopes : (⟨2, ![n, 1024]⟩ : Shape).Idx → EReal := fun i => err x y g (i 0) (i 1) * Ideal.ofBits .f32 0x3A800000#32

/-- What a row adds to the loss, twice. -/
def rowLoss (r : Fin n) : EReal := Ideal.div (∑ e, err x y g r e * err x y g r e) (Ideal.ofBits .f32 0x44800000#32)

/-- The gradient of the rows. -/
def lossRows : (⟨2, ![n, 1024]⟩ : Shape).Idx → EReal := fun i => rowGradient (rowOf x (i 0)) (scaled (slopes x y g) g (i 0)) (i 1)
end

/-! ## Halves -/

theorem half_word : Ideal.ofBits .f32 0x3F000000#32 = ((1 / 2 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem width_word : Ideal.ofBits .f32 0x44800000#32 = ((1024 : ℝ) : EReal) := by
  simp [Ideal.ofBits, Ideal.ieee, -EReal.coe_mul]; norm_num
theorem share_word : Ideal.ofBits .f32 0x3A800000#32 = ((1 / 1024 : ℝ) : EReal) := by
  simp [Ideal.ofBits, Ideal.ieee, -EReal.coe_mul]; norm_num

/-- Half of a sum is the sum of the halves. -/
theorem half_sum {n : ℕ} (f : Fin n → EReal) : Ideal.ofBits .f32 0x3F000000#32 * ∑ j, f j = ∑ j, Ideal.ofBits .f32 0x3F000000#32 * f j := by
  rw [half_word]
  induction n with
  | zero => simp
  | succ n ih =>
    rw [Fin.sum_univ_castSucc, Fin.sum_univ_castSucc,
      EReal.left_distrib_of_nonneg_of_ne_top (EReal.coe_nonneg.mpr (by norm_num)) (EReal.coe_ne_top _), ih]

/-- The derivative of half a mean square: a half, over the width, times twice the error. -/
theorem slope_share (a : EReal) :
    Ideal.div (Ideal.ofBits .f32 0x3F000000#32) (Ideal.ofBits .f32 0x44800000#32) * (Ideal.ofBits .f32 0x40000000#32 * a)
      = a * Ideal.ofBits .f32 0x3A800000#32 := by
  rw [half_word, two_word, width_word, share_word, Ideal.div, if_neg (by exact_mod_cast (by norm_num : (1024 : ℝ) ≠ 0)), ← EReal.coe_inv,
    ← mul_assoc, ← EReal.coe_mul, ← EReal.coe_mul, mul_comm]
  norm_num

/-! ## One point -/

theorem mean_square (x : Vec Ideal S256x1024 .f32) (r : Fin 256) (k : Fin 1) : k0_pay6 (F := Ideal) x (ix2 r k) = meanSquare (rowOf x r) := by
  pointwise [k0_pay6, meanSquare, rowOf]

section
variable (x y : Vec Ideal S256x1024 .f32) (g : Vec Ideal S1x1024 .f32)

theorem block_error (r : Fin 256) (e : Fin 1024) : k0_pay9 (F := Ideal) x g y (ix2 r e) = err x y g r e := by
  pointwise [k0_pay9, k0_pay8, k0_pay7, mean_square, err]
theorem block_slope (r : Fin 256) (e : Fin 1024) : k0_pay11 (F := Ideal) x g y (ix2 r e) = slopes x y g (ix2 r e) := by
  pointwise [k0_pay11, block_error, slopes]
theorem block_scaled (r : Fin 256) (e : Fin 1024) : k0_pay13 (F := Ideal) x g y (ix2 r e) = scaled (slopes x y g) g r e := by
  pointwise [k0_pay13, block_slope, scaled]

theorem block_rows : k0_pay1 (F := Ideal) x (k0_pay14 x g y) (k0_pay15 x g y) = lossRows x y g := by
  funext i
  obtain ⟨r, e, rfl⟩ : ∃ (r : Fin 256) (e : Fin 1024), i = ix2 r e := ⟨i 0, i 1, eq_ix2 i⟩
  pointwise [k0_pay1, k0_pay14, k0_pay15, k0_pay7, mean_square, block_scaled, one_term, lossRows, rowGradient, meanPart, rowOf]

theorem block_gain (p : Vec Ideal S1x1024 .f32) (i : S1x1024.Idx) :
    k0_pay5 (F := Ideal) (k0_pay12 x g y) p i = p i + gainGradient x (slopes x y g) i := by
  obtain ⟨r, e, rfl⟩ : ∃ (r : Fin 1) (e : Fin 1024), i = ix2 r e := ⟨i 0, i 1, eq_ix2 i⟩
  pointwise [k0_pay5, k0_pay12, k0_pay8, k0_pay7, mean_square, block_slope, gainGradient, gainTerm, rowOf]

theorem block_loss : k0_pay10 (F := Ideal) x g y = Ideal.ofBits .f32 0x3F000000#32 * ∑ r, rowLoss x y g r := by
  pointwise [k0_pay10, block_error, one_term, rowLoss]
theorem block_total (p : Vec Ideal S1x128 .f32) (i : S1x128.Idx) :
    k0_pay4 (F := Ideal) (k0_pay10 x g y) p i = p i + Ideal.ofBits .f32 0x3F000000#32 * ∑ r, rowLoss x y g r := by
  obtain ⟨r, e, rfl⟩ : ∃ (r : Fin 1) (e : Fin 128), i = ix2 r e := ⟨i 0, i 1, eq_ix2 i⟩
  pointwise [k0_pay4, block_loss]
end

section
variable (m : (ℓ : Loc nD τ sig) → Buf (Elt Ideal) ℓ) (c : Dev nD) (t : Fin cfg0.N)

theorem rows_written : (outsAt0 m c t.val t.isLt).2.1 = lossRows (n := 256) (iblk m c 0 t) (iblk m c 1 t) (iblk m c 2 t) := by
  rcases eq_or_ne (t.val % 8) 0 with h | h
  · rw [outsAt0_A m c t h]
    dsimp only
    unfold out0_A_4; rw [View.read_writes_eq_canon _ _ _ fun y => cover0_A_4 (y := y) ..]
    unfold kernelRun0_A
    dsimp only
    sl_unfold_words
    rw [stored2, load2 (hs0_0 t), load2 (hs0_1 t), load2 (hs0_2 t)]
    exact block_rows _ _ _
  · rw [outsAt0_B m c t h]
    dsimp only
    unfold out0_B_4; rw [View.read_writes_eq_canon _ _ _ fun y => cover0_B_4 (y := y) ..]
    unfold kernelRun0_B
    dsimp only
    sl_unfold_words
    rw [stored2, load2 (hs0_0 t), load2 (hs0_1 t), load2 (hs0_2 t)]
    exact block_rows _ _ _

/-- What a block adds to the loss. -/
def blockLoss : EReal := Ideal.ofBits .f32 0x3F000000#32 * ∑ r, rowLoss (n := 256) (iblk m c 0 t) (iblk m c 1 t) (iblk m c 2 t) r

theorem loss_first (h : t.val % 8 = 0) (i : S1x128.Idx) : (outsAt0 m c t.val t.isLt).1 i = blockLoss m c t := by
  rw [outsAt0_A m c t h]
  dsimp only
  unfold out0_A_3; rw [View.read_writes_eq_canon _ _ _ fun y => cover0_A_3 (y := y) ..]
  unfold kernelRun0_A
  dsimp only
  rw [View.canon_cons_unit_zero (S := S1x128) origin2]
  sl_unfold_words
  rw [View.readCov_unit_zero (S := S1x128) _ origin2, load2 (hs0_0 t), load2 (hs0_1 t), load2 (hs0_2 t)]
  refine (block_total _ _ _ _ i).trans ?_
  pointwise [k0_pay2, blockLoss]

theorem loss_next (h : ¬t.val % 8 = 0) (i : S1x128.Idx) : (outsAt0 m c t.val t.isLt).1 i =
    (outsAt0 m c (t.val - 1) (Nat.lt_of_le_of_lt (Nat.sub_le _ _) t.isLt)).1 i + blockLoss m c t := by
  rw [outsAt0_B m c t h]
  dsimp only
  unfold out0_B_3; rw [View.read_writes_eq_canon _ _ _ fun y => cover0_B_3 (y := y) ..]
  unfold kernelRun0_B
  dsimp only
  sl_unfold_words
  rw [stored2, load2 (hs0_0 t), load2 (hs0_1 t), load2 (hs0_2 t), load2 (hs0_3 t)]
  exact block_total _ _ _ _ i

/-- What a block adds to the gain's gradient. -/
def blockGain (i : S1x1024.Idx) : EReal :=
  gainGradient (n := 256) (iblk m c 0 t) (slopes (n := 256) (iblk m c 0 t) (iblk m c 1 t) (iblk m c 2 t)) i

theorem gain_first (h : t.val % 8 = 0) (i : S1x1024.Idx) : (outsAt0 m c t.val t.isLt).2.2 i = blockGain m c t i := by
  rw [outsAt0_A m c t h]
  dsimp only
  unfold out0_A_5; rw [View.read_writes_eq_canon _ _ _ fun y => cover0_A_5 (y := y) ..]
  unfold kernelRun0_A
  dsimp only
  rw [View.canon_cons_unit_zero (S := S1x1024) origin2]
  sl_unfold_words
  rw [View.readCov_unit_zero (S := S1x1024) _ origin2, load2 (hs0_0 t), load2 (hs0_1 t), load2 (hs0_2 t)]
  refine (block_gain _ _ _ _ i).trans ?_
  pointwise [k0_pay3, blockGain]

theorem gain_next (h : ¬t.val % 8 = 0) (i : S1x1024.Idx) : (outsAt0 m c t.val t.isLt).2.2 i =
    (outsAt0 m c (t.val - 1) (Nat.lt_of_le_of_lt (Nat.sub_le _ _) t.isLt)).2.2 i + blockGain m c t i := by
  rw [outsAt0_B m c t h]
  dsimp only
  unfold out0_B_5; rw [View.read_writes_eq_canon _ _ _ fun y => cover0_B_5 (y := y) ..]
  unfold kernelRun0_B
  dsimp only
  sl_unfold_words
  rw [stored2, load2 (hs0_0 t), load2 (hs0_1 t), load2 (hs0_2 t), load2 (hs0_5 t)]
  exact block_gain _ _ _ _ i
end

/-! ## The arrays -/

theorem points : cfg0.N = 8 := by decide
def point (b : Fin 8) : Fin cfg0.N := ⟨b.val, by have := points; omega⟩

theorem x_index : ∀ b : Fin 8, win0_0.index (point b) = ![b.val, 0] := by decide +kernel
theorem y_index : ∀ b : Fin 8, win0_1.index (point b) = ![b.val, 0] := by decide +kernel
theorem gain_index : ∀ b : Fin 8, win0_2.index (point b) = ![0, 0] := by decide +kernel
theorem loss_index : ∀ b : Fin 8, win0_3.index (point b) = ![0, 0] := by decide +kernel
theorem rows_index : ∀ b : Fin 8, win0_4.index (point b) = ![b.val, 0] := by decide +kernel
theorem total_index : ∀ b : Fin 8, win0_5.index (point b) = ![0, 0] := by decide +kernel

section
variable (m : (ℓ : Loc nD τ sig) → Buf (Elt Ideal) ℓ) (c : Dev nD)

/-- The arguments: the rows, their targets, the gain. -/
def xs : S2048x1024.Idx → EReal := m (c.tc.loc main_arg0)
def ys : S2048x1024.Idx → EReal := m (c.tc.loc main_arg1)
def gain : S1x1024.Idx → EReal := m (c.tc.loc main_arg2)

theorem x_at (b : Fin 8) (r : Fin 256) (e : Fin 1024) : iblk m c 0 (point b) (ix2 r e) = xs m c (ix2 (rowIn b r) e) :=
  same2 (xs m c) _ _ _ (place (congrFun (x_index b) 0)) (place0 (congrFun (x_index b) 1))
theorem y_at (b : Fin 8) (r : Fin 256) (e : Fin 1024) : iblk m c 1 (point b) (ix2 r e) = ys m c (ix2 (rowIn b r) e) :=
  same2 (ys m c) _ _ _ (place (congrFun (y_index b) 0)) (place0 (congrFun (y_index b) 1))
theorem gain_at (b : Fin 8) (k : Fin 1) (e : Fin 1024) : iblk m c 2 (point b) (ix2 k e) = gain m c (ix2 k e) :=
  same2 (gain m c) _ _ _ (place0 (congrFun (gain_index b) 0)) (place0 (congrFun (gain_index b) 1))

theorem row_at (b : Fin 8) (r : Fin 256) : rowOf (n := 256) (iblk m c 0 (point b)) r = rowOf (xs m c) (rowIn b r) := funext fun e => x_at m c b r e
theorem err_at (b : Fin 8) (r : Fin 256) (e : Fin 1024) :
    err (n := 256) (iblk m c 0 (point b)) (iblk m c 1 (point b)) (iblk m c 2 (point b)) r e = err (xs m c) (ys m c) (gain m c) (rowIn b r) e := by
  unfold err
  rw [row_at, x_at, y_at, gain_at]
theorem slopes_at (b : Fin 8) (r : Fin 256) (e : Fin 1024) :
    slopes (n := 256) (iblk m c 0 (point b)) (iblk m c 1 (point b)) (iblk m c 2 (point b)) (ix2 r e)
      = slopes (xs m c) (ys m c) (gain m c) (ix2 (rowIn b r) e) := congrArg (fun s : EReal => s * _) (err_at m c b r e)

/-- The three results: the loss along a row, the rows' gradient, the gain's gradient. -/
abbrev loss : S1x128.Idx → EReal := fun _ => Ideal.ofBits .f32 0x3F000000#32 * ∑ j, rowLoss (xs m c) (ys m c) (gain m c) j
abbrev rows : S2048x1024.Idx → EReal := lossRows (xs m c) (ys m c) (gain m c)
abbrev total : S1x1024.Idx → EReal := gainGradient (xs m c) (slopes (xs m c) (ys m c) (gain m c))

theorem point_of (t : Fin cfg0.N) : ∃ b : Fin 8, t = point b := ⟨⟨t.val, by have := t.isLt; have := points; omega⟩, rfl⟩

theorem rows_at (b : Fin 8) (r : Fin 256) (e : Fin 1024) :
    (outsAt0 m c (point b).val (point b).isLt).2.1 (ix2 r e) = rows m c (ix2 (rowIn b r) e) :=
  (congrFun (rows_written m c (point b)) _).trans (congrArg₂ (fun v w => rowGradient v w e) (row_at m c b r)
    (funext fun k => congrArg₂ (fun x y : EReal => x * y) (slopes_at m c b r k) (gain_at m c b 0 k)))

theorem loss_part (b : Fin 8) : blockLoss m c (point b) = ∑ r, Ideal.ofBits .f32 0x3F000000#32 * rowLoss (xs m c) (ys m c) (gain m c) (rowIn b r) :=
  (half_sum _).trans (Finset.sum_congr rfl fun r _ => congrArg (fun s => _ * Ideal.div s _)
    (Finset.sum_congr rfl fun e _ => congrArg₂ (fun x y : EReal => x * y) (err_at m c b r e) (err_at m c b r e)))
theorem loss_at (i : S1x128.Idx) : (outsAt0 m c (point 7).val (point 7).isLt).1 i = loss m c i :=
  (eight_blocks (fun j => Ideal.ofBits .f32 0x3F000000#32 * rowLoss (xs m c) (ys m c) (gain m c) j)
    (fun b => (outsAt0 m c (point b).val (point b).isLt).1 i)
    ((loss_first m c (point 0) rfl i).trans (loss_part m c 0))
    (fun b => (loss_next m c (point b.succ) (by show ¬(b.val + 1) % 8 = 0; omega) i).trans
      (congrArg (fun y : EReal => _ + y) (loss_part m c b.succ)))).trans (half_sum _).symm

/-- What the gain's gradient takes of row `j`. -/
def term (e : Fin 1024) (j : Fin 2048) : EReal := gainTerm (rowOf (xs m c) j) e (slopes (xs m c) (ys m c) (gain m c) (ix2 j e))
theorem gain_part (b : Fin 8) (i : S1x1024.Idx) : blockGain m c (point b) i = ∑ r, term m c (i 1) (rowIn b r) := by
  unfold blockGain
  exact Finset.sum_congr rfl fun r _ => congrArg₂ (fun v d => gainTerm v (i 1) d) (row_at m c b r) (slopes_at m c b r (i 1))
theorem total_at (i : S1x1024.Idx) : (outsAt0 m c (point 7).val (point 7).isLt).2.2 i = total m c i :=
  eight_blocks (term m c (i 1)) (fun b => (outsAt0 m c (point b).val (point b).isLt).2.2 i)
    ((gain_first m c (point 0) rfl i).trans (gain_part m c 0 i))
    (fun b => (gain_next m c (point b.succ) (by show ¬(b.val + 1) % 8 = 0; omega) i).trans (congrArg (fun y : EReal => _ + y) (gain_part m c b.succ i)))

theorem loss_covered (i : S1x128.Idx) : ∃ t : Fin cfg0.N, (cfg0.win 3).flush t = true ∧ i ∈ ((cfg0.win 3).blk t).view.set := by
  have h0 : (i 0 : ℕ) < 1 := (i 0).isLt
  have h1 : (i 1 : ℕ) < 128 := (i 1).isLt
  refine ⟨point 7, (flush0_3 _).mpr rfl, ?_⟩
  show i ∈ ((View.whole main_v0_0).slice (win0_3.rect (point 7))).set
  rw [View.set_slice_whole, Rect.mem_set_unit]
  exact fun d => match d with
  | ⟨0, _⟩ => within (i 0) (congrFun (loss_index 7) 0) (by show 0 = (i 0 : ℕ) / 1; omega) (by show 0 < 1; decide)
  | ⟨1, _⟩ => within (i 1) (congrFun (loss_index 7) 1) (by show 0 = (i 1 : ℕ) / 128; omega) (by show 0 < 128; decide)

theorem rows_covered (i : S2048x1024.Idx) : ∃ t : Fin cfg0.N, (cfg0.win 4).flush t = true ∧ i ∈ ((cfg0.win 4).blk t).view.set := by
  have h0 : (i 0 : ℕ) < 2048 := (i 0).isLt
  have h1 : (i 1 : ℕ) < 1024 := (i 1).isLt
  obtain ⟨b, hb⟩ : ∃ b : Fin 8, b.val = (i 0 : ℕ) / 256 := ⟨⟨(i 0 : ℕ) / 256, by omega⟩, rfl⟩
  refine ⟨point b, flush0_4 _, ?_⟩
  show i ∈ ((View.whole main_v0_1).slice (win0_4.rect (point b))).set
  rw [View.set_slice_whole, Rect.mem_set_unit]
  exact fun d => match d with
  | ⟨0, _⟩ => within (i 0) (congrFun (rows_index b) 0) hb (by show 0 < 256; decide)
  | ⟨1, _⟩ => within (i 1) (congrFun (rows_index b) 1) (by show 0 = (i 1 : ℕ) / 1024; omega) (by show 0 < 1024; decide)

theorem total_covered (i : S1x1024.Idx) : ∃ t : Fin cfg0.N, (cfg0.win 5).flush t = true ∧ i ∈ ((cfg0.win 5).blk t).view.set := by
  have h0 : (i 0 : ℕ) < 1 := (i 0).isLt
  have h1 : (i 1 : ℕ) < 1024 := (i 1).isLt
  refine ⟨point 7, (flush0_5 _).mpr rfl, ?_⟩
  show i ∈ ((View.whole main_v0_2).slice (win0_5.rect (point 7))).set
  rw [View.set_slice_whole, Rect.mem_set_unit]
  exact fun d => match d with
  | ⟨0, _⟩ => within (i 0) (congrFun (total_index 7) 0) (by show 0 = (i 0 : ℕ) / 1; omega) (by show 0 < 1; decide)
  | ⟨1, _⟩ => within (i 1) (congrFun (total_index 7) 1) (by show 0 = (i 1 : ℕ) / 1024; omega) (by show 0 < 1024; decide)

theorem loss_array : (dats m 0 c).arrAt 3 cfg0.N = loss m c := by
  refine (dats m 0 c).arrAt_eq_of_cover 3 (loss m c) (fun t ht => ?_) loss_covered
  obtain rfl : t = point 7 := Fin.ext (by have := (flush0_3 t).mp ht; have := t.isLt; have := points; show t.val = 7; omega)
  show (cfg0.win 3).cut (grid0.coords _) ((dats m 0 c).after 3 _) = _
  rw [after0_3]
  exact funext fun y => loss_at m c y

theorem rows_array : (dats m 0 c).arrAt 4 cfg0.N = rows m c := by
  refine (dats m 0 c).arrAt_eq_of_cover 4 (rows m c) (fun t _ => ?_) rows_covered
  obtain ⟨b, rfl⟩ := point_of t
  show (cfg0.win 4).cut (grid0.coords _) ((dats m 0 c).after 4 _) = _
  rw [after0_4]
  funext y
  obtain ⟨r, e, rfl⟩ : ∃ (r : Fin 256) (e : Fin 1024), y = ix2 r e := ⟨y 0, y 1, eq_ix2 y⟩
  exact (rows_at m c b r e).trans (same2 (rows m c) _ _ _ (place (congrFun (rows_index b) 0)) (place0 (congrFun (rows_index b) 1))).symm

theorem total_array : (dats m 0 c).arrAt 5 cfg0.N = total m c := by
  refine (dats m 0 c).arrAt_eq_of_cover 5 (total m c) (fun t ht => ?_) total_covered
  obtain rfl : t = point 7 := Fin.ext (by have := (flush0_5 t).mp ht; have := t.isLt; have := points; show t.val = 7; omega)
  show (cfg0.win 5).cut (grid0.coords _) ((dats m 0 c).after 5 _) = _
  rw [after0_5]
  funext y
  obtain ⟨r, e, rfl⟩ : ∃ (r : Fin 1) (e : Fin 1024), y = ix2 r e := ⟨y 0, y 1, eq_ix2 y⟩
  exact (total_at m c (ix2 r e)).trans (same2 (total m c) _ _ _ (place0 (congrFun (total_index 7) 0)) (place0 (congrFun (total_index 7) 1))).symm
end

/-! ## The reference -/

section
open Cert.Reference40Ideal.Read
variable (x0 x1 : S2048x1024.Idx → EReal) (x2 : S1x1024.Idx → EReal)

theorem mean_square_at (r : Fin 2048) (k : Fin 1) : val_main_v6 (F := Ideal) x0 (ix2 r k) = meanSquare (rowOf x0 r) := by
  pointwise [val_main_v6_apply, val_main_v4_apply, val_main_v3_apply, val_main_v5_apply, val_main_v2_apply, val_main_v1_apply, val_main_v0_apply,
    val_main_cst_apply, val_main_cst_0_apply, val_main_cst_1_apply, meanSquare, rowOf]
  exact congrArg (fun s => Ideal.div s _ + _) (Finset.sum_congr rfl fun e _ => congrArg₂ (· * ·) (same2 x0 _ r e rfl rfl) (same2 x0 _ r e rfl rfl))
theorem normal_at (r : Fin 2048) (e : Fin 1024) : val_main_v12 (F := Ideal) x0 (ix2 r e) = x0 (ix2 r e) * Ideal.rsqrt (meanSquare (rowOf x0 r)) := by
  pointwise [val_main_v12_apply, val_main_v11_apply, val_main_v7_apply]
  have h : idx_main_v11 (ix2 r e) = ix2 r 0 := at2 _ _ _ rfl rfl
  rw [h, mean_square_at]
theorem error_at (r : Fin 2048) (e : Fin 1024) : val_main_v15 (F := Ideal) x0 x1 x2 (ix2 r e) = err x0 x1 x2 r e := by
  pointwise [val_main_v15_apply, val_main_v14_apply, val_main_v13_apply, normal_at, err]
  have h : idx_main_v13 (ix2 r e) = ix2 0 e := at2 _ _ _ rfl rfl
  rw [h]
theorem slope_at (r : Fin 2048) (e : Fin 1024) : val_main_v29 (F := Ideal) x0 x1 x2 (ix2 r e) = slopes x0 x1 x2 (ix2 r e) := by
  pointwise [val_main_v29_apply, val_main_v28_apply, val_main_v27_apply, val_main_v26_apply, val_main_v25_apply, val_main_v24_apply,
    val_main_v18_apply, val_main_v17_apply, val_main_cst_3_apply, val_main_cst_8_apply, val_main_cst_9_apply, val_main_cst_10_apply, error_at]
  exact slope_share _
theorem scaled_at (r : Fin 2048) (e : Fin 1024) : val_main_v34 (F := Ideal) x0 x1 x2 (ix2 r e) = scaled (slopes x0 x1 x2) x2 r e := by
  pointwise [val_main_v34_apply, val_main_v33_apply, slope_at, scaled]
  have h : idx_main_v33 (ix2 r e) = ix2 0 e := at2 _ _ _ rfl rfl
  rw [h]
theorem meanPart_at (r : Fin 2048) (e : Fin 1024) :
    val_main_v44 (F := Ideal) x0 x1 x2 (ix2 r e) = meanPart (rowOf x0 r) (scaled (slopes x0 x1 x2) x2 r) := by
  pointwise [val_main_v44_apply, val_main_v43_apply, val_main_v42_apply, val_main_v41_apply, val_main_v40_apply, val_main_v37_apply,
    val_main_v36_apply, val_main_v35_apply, val_main_v10_apply, val_main_v9_apply, val_main_v8_apply,
    val_main_v7_apply, val_main_cst_2_apply, val_main_cst_12_apply, val_main_cst_13_apply, val_main_cst_14_apply, one_term]
  have h0 : idx_main_v43 (idx_main_v44 (ix2 r e)) 0 = ix2 r 0 := at2 _ _ _ rfl rfl
  have h1 : ∀ k, idx_main_v36 (idx_main_v37 (ix2 r 0)) k = ix2 r k := fun k => at2 _ _ _ (by simp [idx_main_v36, idx_main_v37]) rfl
  simp only [h0, h1, mean_square_at, scaled_at]
  rfl
theorem reference_rows (i : S2048x1024.Idx) : val_main_v48 (F := Ideal) x0 x1 x2 i = lossRows x0 x1 x2 i := by
  obtain ⟨r, e, rfl⟩ : ∃ (r : Fin 2048) (e : Fin 1024), i = ix2 r e := ⟨i 0, i 1, eq_ix2 i⟩
  pointwise [val_main_v48_apply, val_main_v47_apply, val_main_v46_apply, val_main_v45_apply, val_main_v39_apply,
    val_main_v38_apply, val_main_v7_apply, meanPart_at, scaled_at, lossRows, rowGradient]
  have h0 : idx_main_v38 (ix2 r e) = ix2 r 0 := at2 _ _ _ rfl rfl
  rw [h0, mean_square_at]
  rfl
theorem reference_gain (i : S1x1024.Idx) : val_main_v32 (F := Ideal) x0 x1 x2 i = gainGradient x0 (slopes x0 x1 x2) i := by
  obtain ⟨r, e, rfl⟩ : ∃ (r : Fin 1) (e : Fin 1024), i = ix2 r e := ⟨i 0, i 1, eq_ix2 i⟩
  pointwise [val_main_v32_apply, val_main_v31_apply, val_main_v30_apply, val_main_cst_11_apply, gainGradient, gainTerm]
  have h0 : ∀ k, idx_main_v31 (idx_main_v32 (ix2 r e)) k = ix2 k e := fun k => at2 _ _ _ rfl (by simp [idx_main_v31, idx_main_v32])
  simp only [h0, normal_at, slope_at]
  rfl
theorem reference_loss (i : S1x128.Idx) : val_main_v49 (F := Ideal) x0 x1 x2 i = Ideal.ofBits .f32 0x3F000000#32 * ∑ j, rowLoss x0 x1 x2 j := by
  pointwise [val_main_v49_apply, val_main_v23_apply, val_main_v22_apply, val_main_v21_apply, val_main_v20_apply, val_main_v19_apply,
    val_main_v16_apply, val_main_cst_4_apply, val_main_cst_5_apply, val_main_cst_6_apply, val_main_cst_7_apply, rowLoss]
  have h0 : ∀ j k, idx_main_v19 (ix1 j) k = ix2 j k := fun j k => at2 _ _ _ rfl rfl
  rw [sum_idx1]
  simp only [h0, error_at]
end

/-! ## The claims -/

/-- The kernel and its idealisation are the same program, so one run is both programs' frame. -/
theorem same_body : @Cert.Kernel40.cc0_loss_head Bits _ _ = @Cert.Kernel40Ideal.cc0_loss_head Bits _ _ := rfl
theorem same_table : Cert.Kernel40.defs₀ (F := Bits) = Cert.Kernel40Ideal.defs₀ (F := Bits) :=
  congrArg _ (funext fun a => match a with | 0 => funext fun ⟨_, _⟩ => rfl)
theorem same_program : Cert.Kernel40.defs (F := Bits) = Cert.Kernel40Ideal.defs (F := Bits) := congrArg (Pipeline.defs _) same_table
theorem frame_kernel : Cert.quiescent_Kernel40 := fun m g _ => by
  rw [same_program]
  exact Cert.Kernel40Ideal.Gen.frame (F := Bits) m g
theorem preserves : Cert.preserves_Kernel40_Kernel40Ideal := trivial
theorem frame_ideal : Cert.quiescent_Kernel40Ideal := fun m g _ => Cert.Kernel40Ideal.Gen.frame m g
theorem frame_reference : Cert.quiescent_Reference40Ideal := fun m g _ =>
  (θ_run Cert.Reference40Ideal.defs _ _).mono (fun r h => ⟨fun c => (h c).2.2.2, sem_eq_zero_of_no_sems (by decide) r.2⟩)
    (Cert.Reference40Ideal.Value.run (F := Ideal) m g)

theorem values : Cert.algebraic_Kernel40Ideal_Reference40Ideal := by
  intro m g m' g' _ hm
  refine ⟨fun c => loss m c, fun c => rows m c, fun c => total m c, ?_, ?_⟩
  · exact (θ_run Cert.Kernel40Ideal.defs _ _).mono
      (fun r h c => ⟨((h.1 c).1 3).trans (loss_array m c), ((h.1 c).1 4).trans (rows_array m c), ((h.1 c).1 5).trans (total_array m c), h.2 c⟩)
      (θ_run_and (run_main m g) (unchanged m g))
  · refine (θ_run Cert.Reference40Ideal.defs _ _).mono (fun r h c => ⟨?_, ?_, ?_, (h c).2.2.2⟩) (Cert.Reference40Ideal.Value.run (F := Ideal) m' g')
    · obtain ⟨e0, e1, e2⟩ := hm c
      refine (h c).1.trans ((Cert.Reference40Ideal.Read.val_main_v49_eq ..).trans ?_)
      rw [e0, e1, e2]
      exact funext fun i => reference_loss _ _ _ i
    · obtain ⟨e0, e1, e2⟩ := hm c
      refine (h c).2.1.trans ((Cert.Reference40Ideal.Read.val_main_v48_eq ..).trans ?_)
      rw [e0, e1, e2]
      exact funext fun i => reference_rows _ _ _ i
    · obtain ⟨e0, e1, e2⟩ := hm c
      refine (h c).2.2.1.trans ((Cert.Reference40Ideal.Read.val_main_v32_eq ..).trans ?_)
      rw [e0, e1, e2]
      exact funext fun i => reference_gain _ _ _ i

end Cert.LossHead
-- ==== Proof.lean ====
/- The certificate: the gradient of the forgetting attention's last query block; the products of the layer, forward and backward; the gradients
   of the gates, of the norms and of the loss. Every program runs and leaves its arguments as they were. The attention kernel's mask constant
   stands for minus infinity; where it writes, its four results are its reference's, over the extended reals and for finite arguments. Every
   other call is its reference's, for all arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.On_written
public import proofs.«01_k».proof.Proof.LastClaim
public import proofs.«01_k».proof.Proof.InDx
public import proofs.«01_k».proof.Proof.InDwLo
public import proofs.«01_k».proof.Proof.InDwHi
public import proofs.«01_k».proof.Proof.GateUpDx
public import proofs.«01_k».proof.Proof.GateUpDw
public import proofs.«01_k».proof.Proof.DownDx
public import proofs.«01_k».proof.Proof.DownDw
public import proofs.«01_k».proof.Proof.InA
public import proofs.«01_k».proof.Proof.InQkv
public import proofs.«01_k».proof.Proof.InCg
public import proofs.«01_k».proof.Proof.GateUp
public import proofs.«01_k».proof.Proof.Down
public import proofs.«01_k».proof.Proof.OutDx
public import proofs.«01_k».proof.Proof.MergeDx
public import proofs.«01_k».proof.Proof.OutDw
public import proofs.«01_k».proof.Proof.MergeDw
public import proofs.«01_k».proof.Proof.Out
public import proofs.«01_k».proof.Proof.Merge
public import proofs.«01_k».proof.Proof.CrossOutDx
public import proofs.«01_k».proof.Proof.CrossOutDw
public import proofs.«01_k».proof.Proof.CrossQueryDx
public import proofs.«01_k».proof.Proof.CrossQueryDw
public import proofs.«01_k».proof.Proof.CrossMemoryDx
public import proofs.«01_k».proof.Proof.CrossMemoryDw
public import proofs.«01_k».proof.Proof.ForgetDx
public import proofs.«01_k».proof.Proof.ForgetDw
public import proofs.«01_k».proof.Proof.CrossOut
public import proofs.«01_k».proof.Proof.CrossQuery
public import proofs.«01_k».proof.Proof.CrossMemory
public import proofs.«01_k».proof.Proof.Forget
public import proofs.«01_k».proof.Proof.LastMemoryDx
public import proofs.«01_k».proof.Proof.GateDx
public import proofs.«01_k».proof.Proof.FfnNormDx
public import proofs.«01_k».proof.Proof.BranchMergeDx
public import proofs.«01_k».proof.Proof.CrossNormDx
public import proofs.«01_k».proof.Proof.MixNormDx
public import proofs.«01_k».proof.Proof.MemNormDx
public import proofs.«01_k».proof.Proof.LayerNormDx
public import proofs.«01_k».proof.Proof.LossHead
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Pre_finite.Gen.facts, Cert.On_written.Gen.facts,
  Cert.LastClaim.frame_kernel, Cert.LastClaim.frame_ideal, Cert.LastClaim.frame_ideal_finite, Cert.LastClaim.frame_reference,
  Cert.LastClaim.frame_reference_finite,
  Cert.InDx.frame_kernel, Cert.InDx.frame_ideal, Cert.InDx.frame_reference,
  Cert.InDwLo.frame_kernel, Cert.InDwLo.frame_ideal, Cert.InDwLo.frame_reference,
  Cert.InDwHi.frame_kernel, Cert.InDwHi.frame_ideal, Cert.InDwHi.frame_reference,
  Cert.GateUpDx.frame_kernel, Cert.GateUpDx.frame_ideal, Cert.GateUpDx.frame_reference,
  Cert.GateUpDw.frame_kernel, Cert.GateUpDw.frame_ideal, Cert.GateUpDw.frame_reference,
  Cert.DownDx.frame_kernel, Cert.DownDx.frame_ideal, Cert.DownDx.frame_reference,
  Cert.DownDw.frame_kernel, Cert.DownDw.frame_ideal, Cert.DownDw.frame_reference,
  Cert.InA.frame_kernel, Cert.InA.frame_ideal, Cert.InA.frame_reference,
  Cert.InQkv.frame_kernel, Cert.InQkv.frame_ideal, Cert.InQkv.frame_reference,
  Cert.InCg.frame_kernel, Cert.InCg.frame_ideal, Cert.InCg.frame_reference,
  Cert.GateUp.frame_kernel, Cert.GateUp.frame_ideal, Cert.GateUp.frame_reference,
  Cert.Down.frame_kernel, Cert.Down.frame_ideal, Cert.Down.frame_reference,
  Cert.OutDx.frame_kernel, Cert.OutDx.frame_ideal, Cert.OutDx.frame_reference,
  Cert.MergeDx.frame_kernel, Cert.MergeDx.frame_ideal, Cert.MergeDx.frame_reference,
  Cert.OutDw.frame_kernel, Cert.OutDw.frame_ideal, Cert.OutDw.frame_reference,
  Cert.MergeDw.frame_kernel, Cert.MergeDw.frame_ideal, Cert.MergeDw.frame_reference,
  Cert.Out.frame_kernel, Cert.Out.frame_ideal, Cert.Out.frame_reference,
  Cert.Merge.frame_kernel, Cert.Merge.frame_ideal, Cert.Merge.frame_reference,
  Cert.CrossOutDx.frame_kernel, Cert.CrossOutDx.frame_ideal, Cert.CrossOutDx.frame_reference,
  Cert.CrossOutDw.frame_kernel, Cert.CrossOutDw.frame_ideal, Cert.CrossOutDw.frame_reference,
  Cert.CrossQueryDx.frame_kernel, Cert.CrossQueryDx.frame_ideal, Cert.CrossQueryDx.frame_reference,
  Cert.CrossQueryDw.frame_kernel, Cert.CrossQueryDw.frame_ideal, Cert.CrossQueryDw.frame_reference,
  Cert.CrossMemoryDx.frame_kernel, Cert.CrossMemoryDx.frame_ideal, Cert.CrossMemoryDx.frame_reference,
  Cert.CrossMemoryDw.frame_kernel, Cert.CrossMemoryDw.frame_ideal, Cert.CrossMemoryDw.frame_reference,
  Cert.ForgetDx.frame_kernel, Cert.ForgetDx.frame_ideal, Cert.ForgetDx.frame_reference,
  Cert.ForgetDw.frame_kernel, Cert.ForgetDw.frame_ideal, Cert.ForgetDw.frame_reference,
  Cert.CrossOut.frame_kernel, Cert.CrossOut.frame_ideal, Cert.CrossOut.frame_reference,
  Cert.CrossQuery.frame_kernel, Cert.CrossQuery.frame_ideal, Cert.CrossQuery.frame_reference,
  Cert.CrossMemory.frame_kernel, Cert.CrossMemory.frame_ideal, Cert.CrossMemory.frame_reference,
  Cert.Forget.frame_kernel, Cert.Forget.frame_ideal, Cert.Forget.frame_reference,
  Cert.LastMemoryDx.frame_kernel, Cert.LastMemoryDx.frame_ideal, Cert.LastMemoryDx.frame_reference,
  Cert.GateDx.frame_kernel, Cert.GateDx.frame_ideal, Cert.GateDx.frame_reference,
  Cert.FfnNormDx.frame_kernel, Cert.FfnNormDx.frame_ideal, Cert.FfnNormDx.frame_reference,
  Cert.BranchMergeDx.frame_kernel, Cert.BranchMergeDx.frame_ideal, Cert.BranchMergeDx.frame_reference,
  Cert.CrossNormDx.frame_kernel, Cert.CrossNormDx.frame_ideal, Cert.CrossNormDx.frame_reference,
  Cert.MixNormDx.frame_kernel, Cert.MixNormDx.frame_ideal, Cert.MixNormDx.frame_reference,
  Cert.MemNormDx.frame_kernel, Cert.MemNormDx.frame_ideal, Cert.MemNormDx.frame_reference,
  Cert.LayerNormDx.frame_kernel, Cert.LayerNormDx.frame_ideal, Cert.LayerNormDx.frame_reference,
  Cert.LossHead.frame_kernel, Cert.LossHead.frame_ideal, Cert.LossHead.frame_reference,
  Cert.LastClaim.mask_is_minus_infinity, Cert.LastClaim.values,
  Cert.InDx.preserves, Cert.InDx.values,
  Cert.InDwLo.preserves, Cert.InDwLo.values,
  Cert.InDwHi.preserves, Cert.InDwHi.values,
  Cert.GateUpDx.preserves, Cert.GateUpDx.values,
  Cert.GateUpDw.preserves, Cert.GateUpDw.values,
  Cert.DownDx.preserves, Cert.DownDx.values,
  Cert.DownDw.preserves, Cert.DownDw.values,
  Cert.InA.preserves, Cert.InA.values,
  Cert.InQkv.preserves, Cert.InQkv.values,
  Cert.InCg.preserves, Cert.InCg.values,
  Cert.GateUp.preserves, Cert.GateUp.values,
  Cert.Down.preserves, Cert.Down.values,
  Cert.OutDx.preserves, Cert.OutDx.values,
  Cert.MergeDx.preserves, Cert.MergeDx.values,
  Cert.OutDw.preserves, Cert.OutDw.values,
  Cert.MergeDw.preserves, Cert.MergeDw.values,
  Cert.Out.preserves, Cert.Out.values,
  Cert.Merge.preserves, Cert.Merge.values,
  Cert.CrossOutDx.preserves, Cert.CrossOutDx.values,
  Cert.CrossOutDw.preserves, Cert.CrossOutDw.values,
  Cert.CrossQueryDx.preserves, Cert.CrossQueryDx.values,
  Cert.CrossQueryDw.preserves, Cert.CrossQueryDw.values,
  Cert.CrossMemoryDx.preserves, Cert.CrossMemoryDx.values,
  Cert.CrossMemoryDw.preserves, Cert.CrossMemoryDw.values,
  Cert.ForgetDx.preserves, Cert.ForgetDx.values,
  Cert.ForgetDw.preserves, Cert.ForgetDw.values,
  Cert.CrossOut.preserves, Cert.CrossOut.values,
  Cert.CrossQuery.preserves, Cert.CrossQuery.values,
  Cert.CrossMemory.preserves, Cert.CrossMemory.values,
  Cert.Forget.preserves, Cert.Forget.values,
  Cert.LastMemoryDx.preserves, Cert.LastMemoryDx.values,
  Cert.GateDx.preserves, Cert.GateDx.values,
  Cert.FfnNormDx.preserves, Cert.FfnNormDx.values,
  Cert.BranchMergeDx.preserves, Cert.BranchMergeDx.values,
  Cert.CrossNormDx.preserves, Cert.CrossNormDx.values,
  Cert.MixNormDx.preserves, Cert.MixNormDx.values,
  Cert.MemNormDx.preserves, Cert.MemNormDx.values,
  Cert.LayerNormDx.preserves, Cert.LayerNormDx.values,
  Cert.LossHead.preserves, Cert.LossHead.values⟩

end Cert.Proof

end
